-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x200x200 : Shape := ⟨4, ![1, 256, 200, 200]⟩
abbrev S1024x4 : Shape := ⟨2, ![1024, 4]⟩
abbrev S4 : Shape := ⟨1, ![4]⟩
abbrev S1x4 : Shape := ⟨2, ![1, 4]⟩
abbrev S1024x1 : Shape := ⟨2, ![1024, 1]⟩
abbrev S1024 : Shape := ⟨1, ![1024]⟩
abbrev S_ : Shape := ⟨0, ![]⟩
abbrev S7 : Shape := ⟨1, ![7]⟩
abbrev S1x7 : Shape := ⟨2, ![1, 7]⟩
abbrev S1024x7 : Shape := ⟨2, ![1024, 7]⟩
abbrev S1024x7x1 : Shape := ⟨3, ![1024, 7, 1]⟩
abbrev S1024x1x7 : Shape := ⟨3, ![1024, 1, 7]⟩
abbrev S1024x7x7 : Shape := ⟨3, ![1024, 7, 7]⟩
abbrev S1024x7x7x1 : Shape := ⟨4, ![1024, 7, 7, 1]⟩
abbrev S1024x7x7x4 : Shape := ⟨4, ![1024, 7, 7, 4]⟩
abbrev S1024x1x196 : Shape := ⟨3, ![1024, 1, 196]⟩
abbrev S1024x7x7x256 : Shape := ⟨4, ![1024, 7, 7, 256]⟩
abbrev S64x1x196 : Shape := ⟨3, ![64, 1, 196]⟩
abbrev S64x7x7x256 : Shape := ⟨4, ![64, 7, 7, 256]⟩
abbrev S40401x1x256 : Shape := ⟨3, ![40401, 1, 256]⟩
abbrev S201x256 : Shape := ⟨2, ![201, 256]⟩
abbrev S129x128 : Shape := ⟨2, ![129, 128]⟩
abbrev S73x72 : Shape := ⟨2, ![73, 72]⟩
abbrev S2x256x8x200 : Shape := ⟨4, ![2, 256, 8, 200]⟩
abbrev S2 : Shape := ⟨1, ![2]⟩
abbrev S1 : Shape := ⟨1, ![1]⟩
abbrev S1x256x8x200 : Shape := ⟨4, ![1, 256, 8, 200]⟩
abbrev S256x8x200 : Shape := ⟨3, ![256, 8, 200]⟩
abbrev S201x1x256 : Shape := ⟨3, ![201, 1, 256]⟩
abbrev S1x256x1x128 : Shape := ⟨4, ![1, 256, 1, 128]⟩
abbrev S256x128 : Shape := ⟨2, ![256, 128]⟩
abbrev S1x256x1x72 : Shape := ⟨4, ![1, 256, 1, 72]⟩
abbrev S256x72 : Shape := ⟨2, ![256, 72]⟩
abbrev S129x256 : Shape := ⟨2, ![129, 256]⟩
abbrev S73x256 : Shape := ⟨2, ![73, 256]⟩
abbrev S128x256 : Shape := ⟨2, ![128, 256]⟩
abbrev S1x256 : Shape := ⟨2, ![1, 256]⟩
abbrev S1x1x1 : Shape := ⟨3, ![1, 1, 1]⟩
abbrev S1x1x256 : Shape := ⟨3, ![1, 1, 256]⟩
abbrev S256 : Shape := ⟨1, ![256]⟩
abbrev S1x1x1x256 : Shape := ⟨4, ![1, 1, 1, 256]⟩
abbrev S1024x256x7x7 : Shape := ⟨4, ![1024, 256, 7, 7]⟩
abbrev S1024x1x7x7 : Shape := ⟨4, ![1024, 1, 7, 7]⟩

abbrev nBuf : Space → Nat
  | .hbm => 231
  | .vmem => 7
  | .smem => 2
  | _ => 0

abbrev hbmTy0_0 (i : Nat) : BufTy := match i % 128 with
  | 0 => ⟨S1x256x200x200, .f32⟩
  | 1 => ⟨S1024x4, .f32⟩
  | 2 => ⟨S4, .f32⟩
  | 3 => ⟨S1x4, .f32⟩
  | 4 => ⟨S1024x4, .f32⟩
  | 5 => ⟨S1024x4, .f32⟩
  | 6 => ⟨S1024x4, .f32⟩
  | 7 => ⟨S1024x4, .i32⟩
  | 8 => ⟨S1024x1, .i32⟩
  | 9 => ⟨S1024, .i32⟩
  | 10 => ⟨S_, .i32⟩
  | 11 => ⟨S_, .i32⟩
  | 12 => ⟨S_, .i32⟩
  | 13 => ⟨S1024, .i32⟩
  | 14 => ⟨S1024, .i32⟩
  | 15 => ⟨S_, .i32⟩
  | 16 => ⟨S1024, .i32⟩
  | 17 => ⟨S1024, .i32⟩
  | 18 => ⟨S1024x1, .i32⟩
  | 19 => ⟨S1024, .i32⟩
  | 20 => ⟨S_, .i32⟩
  | 21 => ⟨S_, .i32⟩
  | 22 => ⟨S_, .i32⟩
  | 23 => ⟨S1024, .i32⟩
  | 24 => ⟨S1024, .i32⟩
  | 25 => ⟨S_, .i32⟩
  | 26 => ⟨S1024, .i32⟩
  | 27 => ⟨S1024, .i32⟩
  | 28 => ⟨S1024x1, .i32⟩
  | 29 => ⟨S1024, .i32⟩
  | 30 => ⟨S_, .i32⟩
  | 31 => ⟨S1024, .i32⟩
  | 32 => ⟨S1024, .i32⟩
  | 33 => ⟨S_, .i32⟩
  | 34 => ⟨S1024, .i32⟩
  | 35 => ⟨S1024, .i32⟩
  | 36 => ⟨S_, .i32⟩
  | 37 => ⟨S1024, .i32⟩
  | 38 => ⟨S_, .i32⟩
  | 39 => ⟨S1024, .i32⟩
  | 40 => ⟨S1024, .i32⟩
  | 41 => ⟨S1024x1, .i32⟩
  | 42 => ⟨S1024, .i32⟩
  | 43 => ⟨S_, .i32⟩
  | 44 => ⟨S1024, .i32⟩
  | 45 => ⟨S1024, .i32⟩
  | 46 => ⟨S_, .i32⟩
  | 47 => ⟨S1024, .i32⟩
  | 48 => ⟨S1024, .i32⟩
  | 49 => ⟨S_, .i32⟩
  | 50 => ⟨S1024, .i32⟩
  | 51 => ⟨S_, .i32⟩
  | 52 => ⟨S1024, .i32⟩
  | 53 => ⟨S1024, .i32⟩
  | 54 => ⟨S1024, .i32⟩
  | 55 => ⟨S1024, .i32⟩
  | 56 => ⟨S7, .i32⟩
  | 57 => ⟨S7, .i32⟩
  | 58 => ⟨S1024x1, .i32⟩
  | 59 => ⟨S1x7, .i32⟩
  | 60 => ⟨S1024x1, .i32⟩
  | 61 => ⟨S1024x7, .i32⟩
  | 62 => ⟨S1024x7, .i32⟩
  | 63 => ⟨S1024x7, .i32⟩
  | 64 => ⟨S_, .i32⟩
  | 65 => ⟨S_, .i32⟩
  | 66 => ⟨S1024x7, .i32⟩
  | 67 => ⟨S1024x7, .i32⟩
  | 68 => ⟨S1024x7, .i32⟩
  | 69 => ⟨S_, .i32⟩
  | 70 => ⟨S1024x7, .i32⟩
  | 71 => ⟨S1024x7, .i1⟩
  | 72 => ⟨S1024x7, .i32⟩
  | 73 => ⟨S1024x7, .i32⟩
  | 74 => ⟨S_, .i32⟩
  | 75 => ⟨S1024x7, .i32⟩
  | 76 => ⟨S1024x7, .i1⟩
  | 77 => ⟨S1024x7, .i1⟩
  | 78 => ⟨S_, .i32⟩
  | 79 => ⟨S1024x7, .i32⟩
  | 80 => ⟨S1024x7, .i32⟩
  | 81 => ⟨S1024x7, .i32⟩
  | 82 => ⟨S1024x7, .i32⟩
  | 83 => ⟨S1024x7, .i32⟩
  | 84 => ⟨S1024x1, .i32⟩
  | 85 => ⟨S1x7, .i32⟩
  | 86 => ⟨S_, .i32⟩
  | 87 => ⟨S1x7, .i32⟩
  | 88 => ⟨S1x7, .i32⟩
  | 89 => ⟨S1024x1, .i32⟩
  | 90 => ⟨S1024x7, .i32⟩
  | 91 => ⟨S1024x7, .i32⟩
  | 92 => ⟨S1024x7, .i32⟩
  | 93 => ⟨S_, .i32⟩
  | 94 => ⟨S1024x7, .i32⟩
  | 95 => ⟨S1024x7, .i32⟩
  | 96 => ⟨S_, .i32⟩
  | 97 => ⟨S1024x7, .i32⟩
  | 98 => ⟨S1024x7, .i32⟩
  | 99 => ⟨S_, .i32⟩
  | 100 => ⟨S_, .i32⟩
  | 101 => ⟨S1024x7, .i32⟩
  | 102 => ⟨S1024x7, .i32⟩
  | 103 => ⟨S1024x7, .i32⟩
  | 104 => ⟨S_, .i32⟩
  | 105 => ⟨S1024x7, .i32⟩
  | 106 => ⟨S1024x7, .i1⟩
  | 107 => ⟨S1024x7, .i32⟩
  | 108 => ⟨S1024x7, .i32⟩
  | 109 => ⟨S_, .i32⟩
  | 110 => ⟨S1024x7, .i32⟩
  | 111 => ⟨S1024x7, .i1⟩
  | 112 => ⟨S1024x7, .i1⟩
  | 113 => ⟨S_, .i32⟩
  | 114 => ⟨S1024x7, .i32⟩
  | 115 => ⟨S1024x7, .i32⟩
  | 116 => ⟨S1024x7, .i32⟩
  | 117 => ⟨S1024x7, .i32⟩
  | 118 => ⟨S1024x7, .i32⟩
  | 119 => ⟨S1024x1, .i32⟩
  | 120 => ⟨S1x7, .i32⟩
  | 121 => ⟨S1024x1, .i32⟩
  | 122 => ⟨S1024x7, .i32⟩
  | 123 => ⟨S1024x7, .i32⟩
  | 124 => ⟨S1024x7, .i32⟩
  | 125 => ⟨S_, .i32⟩
  | 126 => ⟨S_, .i32⟩
  | 127 => ⟨S1024x7, .i32⟩
  | _ => ⟨S1x256x200x200, .f32⟩

abbrev hbmTy0_1 (i : Nat) : BufTy := match i % 128 with
  | 0 => ⟨S1024x7, .i32⟩
  | 1 => ⟨S1024x7, .i32⟩
  | 2 => ⟨S_, .i32⟩
  | 3 => ⟨S1024x7, .i32⟩
  | 4 => ⟨S1024x7, .i1⟩
  | 5 => ⟨S1024x7, .i32⟩
  | 6 => ⟨S1024x7, .i32⟩
  | 7 => ⟨S_, .i32⟩
  | 8 => ⟨S1024x7, .i32⟩
  | 9 => ⟨S1024x7, .i1⟩
  | 10 => ⟨S1024x7, .i1⟩
  | 11 => ⟨S_, .i32⟩
  | 12 => ⟨S1024x7, .i32⟩
  | 13 => ⟨S1024x7, .i32⟩
  | 14 => ⟨S1024x7, .i32⟩
  | 15 => ⟨S1024x7, .i32⟩
  | 16 => ⟨S1024x7, .i32⟩
  | 17 => ⟨S1024x1, .i32⟩
  | 18 => ⟨S1x7, .i32⟩
  | 19 => ⟨S_, .i32⟩
  | 20 => ⟨S1x7, .i32⟩
  | 21 => ⟨S1x7, .i32⟩
  | 22 => ⟨S1024x1, .i32⟩
  | 23 => ⟨S1024x7, .i32⟩
  | 24 => ⟨S1024x7, .i32⟩
  | 25 => ⟨S1024x7, .i32⟩
  | 26 => ⟨S_, .i32⟩
  | 27 => ⟨S1024x7, .i32⟩
  | 28 => ⟨S1024x7, .i32⟩
  | 29 => ⟨S_, .i32⟩
  | 30 => ⟨S1024x7, .i32⟩
  | 31 => ⟨S1024x7, .i32⟩
  | 32 => ⟨S_, .i32⟩
  | 33 => ⟨S_, .i32⟩
  | 34 => ⟨S1024x7, .i32⟩
  | 35 => ⟨S1024x7, .i32⟩
  | 36 => ⟨S1024x7, .i32⟩
  | 37 => ⟨S_, .i32⟩
  | 38 => ⟨S1024x7, .i32⟩
  | 39 => ⟨S1024x7, .i1⟩
  | 40 => ⟨S1024x7, .i32⟩
  | 41 => ⟨S1024x7, .i32⟩
  | 42 => ⟨S_, .i32⟩
  | 43 => ⟨S1024x7, .i32⟩
  | 44 => ⟨S1024x7, .i1⟩
  | 45 => ⟨S1024x7, .i1⟩
  | 46 => ⟨S_, .i32⟩
  | 47 => ⟨S1024x7, .i32⟩
  | 48 => ⟨S1024x7, .i32⟩
  | 49 => ⟨S1024x7, .i32⟩
  | 50 => ⟨S1024x7, .i32⟩
  | 51 => ⟨S1024x7, .i32⟩
  | 52 => ⟨S1024x7x1, .i32⟩
  | 53 => ⟨S_, .i32⟩
  | 54 => ⟨S1024x7x1, .i32⟩
  | 55 => ⟨S1024x7x1, .i32⟩
  | 56 => ⟨S1024x1x7, .i32⟩
  | 57 => ⟨S1024x7x7, .i32⟩
  | 58 => ⟨S1024x7x7, .i32⟩
  | 59 => ⟨S1024x7x7, .i32⟩
  | 60 => ⟨S1024x7x1, .i32⟩
  | 61 => ⟨S_, .i32⟩
  | 62 => ⟨S1024x7x1, .i32⟩
  | 63 => ⟨S1024x7x1, .i32⟩
  | 64 => ⟨S1024x1x7, .i32⟩
  | 65 => ⟨S1024x7x7, .i32⟩
  | 66 => ⟨S1024x7x7, .i32⟩
  | 67 => ⟨S1024x7x7, .i32⟩
  | 68 => ⟨S1024x7x1, .i32⟩
  | 69 => ⟨S_, .i32⟩
  | 70 => ⟨S1024x7x1, .i32⟩
  | 71 => ⟨S1024x7x1, .i32⟩
  | 72 => ⟨S1024x1x7, .i32⟩
  | 73 => ⟨S1024x7x7, .i32⟩
  | 74 => ⟨S1024x7x7, .i32⟩
  | 75 => ⟨S1024x7x7, .i32⟩
  | 76 => ⟨S1024x7x1, .i32⟩
  | 77 => ⟨S_, .i32⟩
  | 78 => ⟨S1024x7x1, .i32⟩
  | 79 => ⟨S1024x7x1, .i32⟩
  | 80 => ⟨S1024x1x7, .i32⟩
  | 81 => ⟨S1024x7x7, .i32⟩
  | 82 => ⟨S1024x7x7, .i32⟩
  | 83 => ⟨S1024x7x7, .i32⟩
  | 84 => ⟨S1024x7x7x1, .i32⟩
  | 85 => ⟨S1024x7x7x1, .i32⟩
  | 86 => ⟨S1024x7x7x1, .i32⟩
  | 87 => ⟨S1024x7x7x1, .i32⟩
  | 88 => ⟨S1024x7x7x4, .i32⟩
  | 89 => ⟨S1024x1x196, .i32⟩
  | 90 => ⟨S1024x7, .i32⟩
  | 91 => ⟨S1024x7x1, .i32⟩
  | 92 => ⟨S1024x7, .i32⟩
  | 93 => ⟨S1024x1x7, .i32⟩
  | 94 => ⟨S1024x7x7, .i32⟩
  | 95 => ⟨S1024x7x7, .i32⟩
  | 96 => ⟨S1024x7x7, .i32⟩
  | 97 => ⟨S1024x7x7, .f32⟩
  | 98 => ⟨S1024x7x7x256, .f32⟩
  | 99 => ⟨S1024x256x7x7, .f32⟩
  | 100 => ⟨S1024x1x7x7, .f32⟩
  | 101 => ⟨S1024x256x7x7, .f32⟩
  | 102 => ⟨S1024x256x7x7, .f32⟩
  | _ => ⟨S1x256x200x200, .f32⟩

abbrev hbmTy (i : Nat) : BufTy := match i / 128 with
  | 0 => hbmTy0_0 i
  | 1 => hbmTy0_1 i
  | _ => ⟨S1x256x200x200, .f32⟩

abbrev bufTy : (tb : Table) → Fin (tcTables nBuf tb) → BufTy
  | .hbm, ⟨i, _⟩ => hbmTy i
  | .local _ .vmem, ⟨0, _⟩ => ⟨S64x7x7x256, .f32⟩
  | .local _ .vmem, ⟨1, _⟩ => ⟨S64x7x7x256, .f32⟩
  | .local _ .vmem, ⟨2, _⟩ => ⟨S40401x1x256, .f32⟩
  | .local _ .vmem, ⟨3, _⟩ => ⟨S201x256, .f32⟩
  | .local _ .vmem, ⟨4, _⟩ => ⟨S129x128, .f32⟩
  | .local _ .vmem, ⟨5, _⟩ => ⟨S73x72, .f32⟩
  | .local _ .vmem, ⟨6, _⟩ => ⟨S2x256x8x200, .f32⟩
  | .local _ .smem, ⟨0, _⟩ => ⟨S64x1x196, .i32⟩
  | .local _ .smem, ⟨1, _⟩ => ⟨S64x1x196, .i32⟩
  | _, _ => ⟨S1x256x200x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_c_2 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_3 : Ref sig .tc := ⟨.hbm, 30, rfl⟩
abbrev main_v13 : Ref sig .tc := ⟨.hbm, 31, rfl⟩
abbrev main_v14 : Ref sig .tc := ⟨.hbm, 32, rfl⟩
abbrev main_c_4 : Ref sig .tc := ⟨.hbm, 33, rfl⟩
abbrev main_v15 : Ref sig .tc := ⟨.hbm, 34, rfl⟩
abbrev main_v16 : Ref sig .tc := ⟨.hbm, 35, rfl⟩
abbrev main_c_5 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_6 : Ref sig .tc := ⟨.hbm, 43, rfl⟩
abbrev main_v20 : Ref sig .tc := ⟨.hbm, 44, rfl⟩
abbrev main_v21 : Ref sig .tc := ⟨.hbm, 45, rfl⟩
abbrev main_c_7 : Ref sig .tc := ⟨.hbm, 46, rfl⟩
abbrev main_v22 : Ref sig .tc := ⟨.hbm, 47, rfl⟩
abbrev main_v23 : Ref sig .tc := ⟨.hbm, 48, rfl⟩
abbrev main_c_8 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_9 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_call4_v3 : Ref sig .tc := ⟨.hbm, 68, rfl⟩
abbrev main_call4_v4 : Ref sig .tc := ⟨.hbm, 69, rfl⟩
abbrev main_call4_v5 : Ref sig .tc := ⟨.hbm, 70, rfl⟩
abbrev main_call4_v6 : Ref sig .tc := ⟨.hbm, 71, rfl⟩
abbrev main_call4_v7 : Ref sig .tc := ⟨.hbm, 72, rfl⟩
abbrev main_call4_v8 : Ref sig .tc := ⟨.hbm, 73, rfl⟩
abbrev main_call4_c : Ref sig .tc := ⟨.hbm, 74, rfl⟩
abbrev main_call4_v9 : Ref sig .tc := ⟨.hbm, 75, rfl⟩
abbrev main_call4_v10 : Ref sig .tc := ⟨.hbm, 76, rfl⟩
abbrev main_call4_v11 : Ref sig .tc := ⟨.hbm, 77, rfl⟩
abbrev main_call4_c_0 : Ref sig .tc := ⟨.hbm, 78, rfl⟩
abbrev main_call4_v12 : Ref sig .tc := ⟨.hbm, 79, rfl⟩
abbrev main_call4_v13 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_c_10 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_c_11 : Ref sig .tc := ⟨.hbm, 93, rfl⟩
abbrev main_v46 : Ref sig .tc := ⟨.hbm, 94, rfl⟩
abbrev main_v47 : Ref sig .tc := ⟨.hbm, 95, rfl⟩
abbrev main_c_12 : Ref sig .tc := ⟨.hbm, 96, rfl⟩
abbrev main_v48 : Ref sig .tc := ⟨.hbm, 97, rfl⟩
abbrev main_v49 : Ref sig .tc := ⟨.hbm, 98, rfl⟩
abbrev main_c_13 : Ref sig .tc := ⟨.hbm, 99, rfl⟩
abbrev main_call5_v0 : Ref sig .tc := ⟨.hbm, 100, rfl⟩
abbrev main_call5_v1 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_call5_v5 : Ref sig .tc := ⟨.hbm, 105, rfl⟩
abbrev main_call5_v6 : Ref sig .tc := ⟨.hbm, 106, rfl⟩
abbrev main_call5_v7 : Ref sig .tc := ⟨.hbm, 107, rfl⟩
abbrev main_call5_v8 : Ref sig .tc := ⟨.hbm, 108, rfl⟩
abbrev main_call5_c : Ref sig .tc := ⟨.hbm, 109, rfl⟩
abbrev main_call5_v9 : Ref sig .tc := ⟨.hbm, 110, rfl⟩
abbrev main_call5_v10 : Ref sig .tc := ⟨.hbm, 111, rfl⟩
abbrev main_call5_v11 : Ref sig .tc := ⟨.hbm, 112, rfl⟩
abbrev main_call5_c_0 : Ref sig .tc := ⟨.hbm, 113, rfl⟩
abbrev main_call5_v12 : Ref sig .tc := ⟨.hbm, 114, rfl⟩
abbrev main_call5_v13 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_c_14 : Ref sig .tc := ⟨.hbm, 125, rfl⟩
abbrev main_call6_v0 : Ref sig .tc := ⟨.hbm, 126, rfl⟩
abbrev main_call6_v1 : Ref sig .tc := ⟨.hbm, 127, rfl⟩
abbrev main_call6_v2 : Ref sig .tc := ⟨.hbm, 128, rfl⟩
abbrev main_call6_v3 : Ref sig .tc := ⟨.hbm, 129, rfl⟩
abbrev main_call6_v4 : Ref sig .tc := ⟨.hbm, 130, rfl⟩
abbrev main_call6_v5 : Ref sig .tc := ⟨.hbm, 131, rfl⟩
abbrev main_call6_v6 : Ref sig .tc := ⟨.hbm, 132, rfl⟩
abbrev main_call6_v7 : Ref sig .tc := ⟨.hbm, 133, rfl⟩
abbrev main_call6_v8 : Ref sig .tc := ⟨.hbm, 134, rfl⟩
abbrev main_call6_c : Ref sig .tc := ⟨.hbm, 135, rfl⟩
abbrev main_call6_v9 : Ref sig .tc := ⟨.hbm, 136, rfl⟩
abbrev main_call6_v10 : Ref sig .tc := ⟨.hbm, 137, rfl⟩
abbrev main_call6_v11 : Ref sig .tc := ⟨.hbm, 138, rfl⟩
abbrev main_call6_c_0 : Ref sig .tc := ⟨.hbm, 139, rfl⟩
abbrev main_call6_v12 : Ref sig .tc := ⟨.hbm, 140, rfl⟩
abbrev main_call6_v13 : Ref sig .tc := ⟨.hbm, 141, rfl⟩
abbrev main_v59 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_c_15 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_c_16 : Ref sig .tc := ⟨.hbm, 154, rfl⟩
abbrev main_v70 : Ref sig .tc := ⟨.hbm, 155, rfl⟩
abbrev main_v71 : Ref sig .tc := ⟨.hbm, 156, rfl⟩
abbrev main_c_17 : Ref sig .tc := ⟨.hbm, 157, rfl⟩
abbrev main_v72 : Ref sig .tc := ⟨.hbm, 158, rfl⟩
abbrev main_v73 : Ref sig .tc := ⟨.hbm, 159, rfl⟩
abbrev main_c_18 : Ref sig .tc := ⟨.hbm, 160, rfl⟩
abbrev main_call7_v0 : Ref sig .tc := ⟨.hbm, 161, rfl⟩
abbrev main_call7_v1 : Ref sig .tc := ⟨.hbm, 162, rfl⟩
abbrev main_call7_v2 : Ref sig .tc := ⟨.hbm, 163, rfl⟩
abbrev main_call7_v3 : Ref sig .tc := ⟨.hbm, 164, rfl⟩
abbrev main_call7_v4 : Ref sig .tc := ⟨.hbm, 165, rfl⟩
abbrev main_call7_v5 : Ref sig .tc := ⟨.hbm, 166, rfl⟩
abbrev main_call7_v6 : Ref sig .tc := ⟨.hbm, 167, rfl⟩
abbrev main_call7_v7 : Ref sig .tc := ⟨.hbm, 168, rfl⟩
abbrev main_call7_v8 : Ref sig .tc := ⟨.hbm, 169, rfl⟩
abbrev main_call7_c : Ref sig .tc := ⟨.hbm, 170, rfl⟩
abbrev main_call7_v9 : Ref sig .tc := ⟨.hbm, 171, rfl⟩
abbrev main_call7_v10 : Ref sig .tc := ⟨.hbm, 172, rfl⟩
abbrev main_call7_v11 : Ref sig .tc := ⟨.hbm, 173, rfl⟩
abbrev main_call7_c_0 : Ref sig .tc := ⟨.hbm, 174, rfl⟩
abbrev main_call7_v12 : Ref sig .tc := ⟨.hbm, 175, rfl⟩
abbrev main_call7_v13 : Ref sig .tc := ⟨.hbm, 176, rfl⟩
abbrev main_v74 : Ref sig .tc := ⟨.hbm, 177, rfl⟩
abbrev main_v75 : Ref sig .tc := ⟨.hbm, 178, rfl⟩
abbrev main_v76 : Ref sig .tc := ⟨.hbm, 179, rfl⟩
abbrev main_v77 : Ref sig .tc := ⟨.hbm, 180, rfl⟩
abbrev main_c_19 : Ref sig .tc := ⟨.hbm, 181, rfl⟩
abbrev main_v78 : Ref sig .tc := ⟨.hbm, 182, rfl⟩
abbrev main_v79 : Ref sig .tc := ⟨.hbm, 183, rfl⟩
abbrev main_v80 : Ref sig .tc := ⟨.hbm, 184, rfl⟩
abbrev main_v81 : Ref sig .tc := ⟨.hbm, 185, rfl⟩
abbrev main_v82 : Ref sig .tc := ⟨.hbm, 186, rfl⟩
abbrev main_v83 : Ref sig .tc := ⟨.hbm, 187, rfl⟩
abbrev main_v84 : Ref sig .tc := ⟨.hbm, 188, rfl⟩
abbrev main_c_20 : Ref sig .tc := ⟨.hbm, 189, rfl⟩
abbrev main_v85 : Ref sig .tc := ⟨.hbm, 190, rfl⟩
abbrev main_v86 : Ref sig .tc := ⟨.hbm, 191, rfl⟩
abbrev main_v87 : Ref sig .tc := ⟨.hbm, 192, rfl⟩
abbrev main_v88 : Ref sig .tc := ⟨.hbm, 193, rfl⟩
abbrev main_v89 : Ref sig .tc := ⟨.hbm, 194, rfl⟩
abbrev main_v90 : Ref sig .tc := ⟨.hbm, 195, rfl⟩
abbrev main_v91 : Ref sig .tc := ⟨.hbm, 196, rfl⟩
abbrev main_c_21 : Ref sig .tc := ⟨.hbm, 197, rfl⟩
abbrev main_v92 : Ref sig .tc := ⟨.hbm, 198, rfl⟩
abbrev main_v93 : Ref sig .tc := ⟨.hbm, 199, rfl⟩
abbrev main_v94 : Ref sig .tc := ⟨.hbm, 200, rfl⟩
abbrev main_v95 : Ref sig .tc := ⟨.hbm, 201, rfl⟩
abbrev main_v96 : Ref sig .tc := ⟨.hbm, 202, rfl⟩
abbrev main_v97 : Ref sig .tc := ⟨.hbm, 203, rfl⟩
abbrev main_v98 : Ref sig .tc := ⟨.hbm, 204, rfl⟩
abbrev main_c_22 : Ref sig .tc := ⟨.hbm, 205, rfl⟩
abbrev main_v99 : Ref sig .tc := ⟨.hbm, 206, rfl⟩
abbrev main_v100 : Ref sig .tc := ⟨.hbm, 207, rfl⟩
abbrev main_v101 : Ref sig .tc := ⟨.hbm, 208, rfl⟩
abbrev main_v102 : Ref sig .tc := ⟨.hbm, 209, rfl⟩
abbrev main_v103 : Ref sig .tc := ⟨.hbm, 210, rfl⟩
abbrev main_v104 : Ref sig .tc := ⟨.hbm, 211, rfl⟩
abbrev main_v105 : Ref sig .tc := ⟨.hbm, 212, rfl⟩
abbrev main_v106 : Ref sig .tc := ⟨.hbm, 213, rfl⟩
abbrev main_v107 : Ref sig .tc := ⟨.hbm, 214, rfl⟩
abbrev main_v108 : Ref sig .tc := ⟨.hbm, 215, rfl⟩
abbrev main_v109 : Ref sig .tc := ⟨.hbm, 216, rfl⟩
abbrev main_v110 : Ref sig .tc := ⟨.hbm, 217, rfl⟩
abbrev main_v111 : Ref sig .tc := ⟨.hbm, 218, rfl⟩
abbrev main_v112 : Ref sig .tc := ⟨.hbm, 219, rfl⟩
abbrev main_v113 : Ref sig .tc := ⟨.hbm, 220, rfl⟩
abbrev main_v114 : Ref sig .tc := ⟨.hbm, 221, rfl⟩
abbrev main_v115 : Ref sig .tc := ⟨.hbm, 222, rfl⟩
abbrev main_v116 : Ref sig .tc := ⟨.hbm, 223, rfl⟩
abbrev main_v117 : Ref sig .tc := ⟨.hbm, 224, rfl⟩
abbrev main_v118 : Ref sig .tc := ⟨.hbm, 225, rfl⟩
abbrev main_v119 : Ref sig .tc := ⟨.hbm, 226, rfl⟩
abbrev main_v120 : Ref sig .tc := ⟨.hbm, 227, rfl⟩
abbrev main_v121 : Ref sig .tc := ⟨.hbm, 228, rfl⟩
abbrev main_v122 : Ref sig .tc := ⟨.hbm, 229, rfl⟩
abbrev main_v123 : Ref sig .tc := ⟨.hbm, 230, rfl⟩
abbrev cc0_stg1_0 : Ref sig .tc := ⟨.vmem, 0, rfl⟩
abbrev cc0_stg1_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_21 : BitVec 32 := 0#32
  let c25_i32 : BitVec 32 := 25#32
  let v32 : BitVec 32 := Scalar.addi c0_i32_21 c25_i32
  let c1_i32_22 : BitVec 32 := 1#32
  ⟨c0_i32_21, v32, c1_i32_22⟩
def k0_off1 (k0_t1 : Fin k0_t1_loop.trips) : Fin 1 → Nat :=
  let c0_i32_21 : BitVec 32 := 0#32
  let c1_i32_22 : BitVec 32 := 1#32
  let arg10 : BitVec 32 := Scf.iv c0_i32_21 c1_i32_22 k0_t1
  let c2_i32 : BitVec 32 := 2#32
  let c0_i32_28 : BitVec 32 := 0#32
  let v37 : BitVec 1 := Scalar.cmpi .eq c2_i32 c0_i32_28
  let c1_i32_29 : BitVec 32 := 1#32
  let v38 : BitVec 32 := Scalar.select v37 c1_i32_29 c2_i32
  let v39 : BitVec 32 := Scalar.remsi arg10 v38
  let c0_i32_31 : BitVec 32 := 0#32
  let v41 : BitVec 1 := Scalar.cmpi .slt v39 c0_i32_31
  let c0_i32_32 : BitVec 32 := 0#32
  let v42 : BitVec 1 := Scalar.cmpi .slt v38 c0_i32_32
  let v43 : BitVec 1 := Scalar.xori v41 v42
  let c0_i32_30 : BitVec 32 := 0#32
  let v40 : BitVec 1 := Scalar.cmpi .ne v39 c0_i32_30
  let v44 : BitVec 1 := Scalar.andi v43 v40
  let v45 : BitVec 32 := Scalar.addi v39 v38
  let v46 : BitVec 32 := Scalar.select v44 v45 v39
  ![v46.toNat]
def k0_off2 (k0_t1 : Fin k0_t1_loop.trips) : Fin 4 → Nat :=
  let c0_i32_21 : BitVec 32 := 0#32
  let c1_i32_22 : BitVec 32 := 1#32
  let arg10 : BitVec 32 := Scf.iv c0_i32_21 c1_i32_22 k0_t1
  let c2_i32 : BitVec 32 := 2#32
  let c0_i32_28 : BitVec 32 := 0#32
  let v37 : BitVec 1 := Scalar.cmpi .eq c2_i32 c0_i32_28
  let c1_i32_29 : BitVec 32 := 1#32
  let v38 : BitVec 32 := Scalar.select v37 c1_i32_29 c2_i32
  let v39 : BitVec 32 := Scalar.remsi arg10 v38
  let c0_i32_31 : BitVec 32 := 0#32
  let v41 : BitVec 1 := Scalar.cmpi .slt v39 c0_i32_31
  let c0_i32_32 : BitVec 32 := 0#32
  let v42 : BitVec 1 := Scalar.cmpi .slt v38 c0_i32_32
  let v43 : BitVec 1 := Scalar.xori v41 v42
  let c0_i32_30 : BitVec 32 := 0#32
  let v40 : BitVec 1 := Scalar.cmpi .ne v39 c0_i32_30
  let v44 : BitVec 1 := Scalar.andi v43 v40
  let v45 : BitVec 32 := Scalar.addi v39 v38
  let v46 : BitVec 32 := Scalar.select v44 v45 v39
  let c0_i32_34 : BitVec 32 := 0#32
  let c0_i32_35 : BitVec 32 := 0#32
  let c0_i32_36 : BitVec 32 := 0#32
  ![v46.toNat, 0, 0, 0]
def k0_off3 (k0_t1 : Fin k0_t1_loop.trips) : Fin 4 → Nat :=
  let c0_i32_33 : BitVec 32 := 0#32
  let c0_i32_37 : BitVec 32 := 0#32
  let c0_i32_21 : BitVec 32 := 0#32
  let c1_i32_22 : BitVec 32 := 1#32
  let arg10 : BitVec 32 := Scf.iv c0_i32_21 c1_i32_22 k0_t1
  let c8_i32 : BitVec 32 := 8#32
  let v47 : BitVec 32 := Scalar.muli arg10 c8_i32
  let c0_i32_38 : BitVec 32 := 0#32
  ![0, 0, v47.toNat, 0]
def k0_cond2 (k0_t1 : Fin k0_t1_loop.trips) : BitVec 1 :=
  let c0_i32_21 : BitVec 32 := 0#32
  let c1_i32_22 : BitVec 32 := 1#32
  let arg10 : BitVec 32 := Scf.iv c0_i32_21 c1_i32_22 k0_t1
  let c1_i32_39 : BitVec 32 := 1#32
  let v54 : BitVec 32 := Scalar.addi arg10 c1_i32_39
  let c25_i32_40 : BitVec 32 := 25#32
  let v55 : BitVec 1 := Scalar.cmpi .slt v54 c25_i32_40
  let v56 : BitVec 32 := Scalar.extui v55
  let c0_i32_41 : BitVec 32 := 0#32
  let v57 : BitVec 1 := Scalar.cmpi .ne v56 c0_i32_41
  v57

def k0_off4 (k0_t1 : Fin k0_t1_loop.trips) : Fin 1 → Nat :=
  let c0_i32_21 : BitVec 32 := 0#32
  let c1_i32_22 : BitVec 32 := 1#32
  let arg10 : BitVec 32 := Scf.iv c0_i32_21 c1_i32_22 k0_t1
  let c1_i32_197 : BitVec 32 := 1#32
  let v268 : BitVec 32 := Scalar.addi arg10 c1_i32_197
  let c2_i32_198 : BitVec 32 := 2#32
  let c0_i32_199 : BitVec 32 := 0#32
  let v269 : BitVec 1 := Scalar.cmpi .eq c2_i32_198 c0_i32_199
  let c1_i32_200 : BitVec 32 := 1#32
  let v270 : BitVec 32 := Scalar.select v269 c1_i32_200 c2_i32_198
  let v271 : BitVec 32 := Scalar.remsi v268 v270
  let c0_i32_202 : BitVec 32 := 0#32
  let v273 : BitVec 1 := Scalar.cmpi .slt v271 c0_i32_202
  let c0_i32_203 : BitVec 32 := 0#32
  let v274 : BitVec 1 := Scalar.cmpi .slt v270 c0_i32_203
  let v275 : BitVec 1 := Scalar.xori v273 v274
  let c0_i32_201 : BitVec 32 := 0#32
  let v272 : BitVec 1 := Scalar.cmpi .ne v271 c0_i32_201
  let v276 : BitVec 1 := Scalar.andi v275 v272
  let v277 : BitVec 32 := Scalar.addi v271 v270
  let v278 : BitVec 32 := Scalar.select v276 v277 v271
  ![v278.toNat]
def k0_off5 (k0_t1 : Fin k0_t1_loop.trips) : Fin 4 → Nat :=
  let c0_i32_21 : BitVec 32 := 0#32
  let c1_i32_22 : BitVec 32 := 1#32
  let arg10 : BitVec 32 := Scf.iv c0_i32_21 c1_i32_22 k0_t1
  let c1_i32_197 : BitVec 32 := 1#32
  let v268 : BitVec 32 := Scalar.addi arg10 c1_i32_197
  let c2_i32_198 : BitVec 32 := 2#32
  let c0_i32_199 : BitVec 32 := 0#32
  let v269 : BitVec 1 := Scalar.cmpi .eq c2_i32_198 c0_i32_199
  let c1_i32_200 : BitVec 32 := 1#32
  let v270 : BitVec 32 := Scalar.select v269 c1_i32_200 c2_i32_198
  let v271 : BitVec 32 := Scalar.remsi v268 v270
  let c0_i32_202 : BitVec 32 := 0#32
  let v273 : BitVec 1 := Scalar.cmpi .slt v271 c0_i32_202
  let c0_i32_203 : BitVec 32 := 0#32
  let v274 : BitVec 1 := Scalar.cmpi .slt v270 c0_i32_203
  let v275 : BitVec 1 := Scalar.xori v273 v274
  let c0_i32_201 : BitVec 32 := 0#32
  let v272 : BitVec 1 := Scalar.cmpi .ne v271 c0_i32_201
  let v276 : BitVec 1 := Scalar.andi v275 v272
  let v277 : BitVec 32 := Scalar.addi v271 v270
  let v278 : BitVec 32 := Scalar.select v276 v277 v271
  let c0_i32_207 : BitVec 32 := 0#32
  let c0_i32_208 : BitVec 32 := 0#32
  let c0_i32_209 : BitVec 32 := 0#32
  ![v278.toNat, 0, 0, 0]
def k0_off6 (k0_t1 : Fin k0_t1_loop.trips) : Fin 4 → Nat :=
  let c0_i32_206 : BitVec 32 := 0#32
  let c0_i32_210 : BitVec 32 := 0#32
  let c0_i32_21 : BitVec 32 := 0#32
  let c1_i32_22 : BitVec 32 := 1#32
  let arg10 : BitVec 32 := Scf.iv c0_i32_21 c1_i32_22 k0_t1
  let c1_i32_204 : BitVec 32 := 1#32
  let v279 : BitVec 32 := Scalar.addi arg10 c1_i32_204
  let c8_i32_205 : BitVec 32 := 8#32
  let v280 : BitVec 32 := Scalar.muli v279 c8_i32_205
  let c0_i32_211 : BitVec 32 := 0#32
  ![0, 0, v280.toNat, 0]
def k0_off7 (k0_t1 : Fin k0_t1_loop.trips) (c0_i32_45 : BitVec 32) : Fin 3 → Nat :=
  let c0_i32_21 : BitVec 32 := 0#32
  let c1_i32_22 : BitVec 32 := 1#32
  let arg10 : BitVec 32 := Scf.iv c0_i32_21 c1_i32_22 k0_t1
  let c8_i32_42 : BitVec 32 := 8#32
  let v58 : BitVec 32 := Scalar.muli arg10 c8_i32_42
  let c201_i32 : BitVec 32 := 201#32
  let v59 : BitVec 32 := Scalar.muli v58 c201_i32
  let v61 : BitVec 32 := Scalar.addi v59 c0_i32_45
  let v62 : Index := Scalar.indexCast v61
  let c0_46 : Index := 0#32
  let c0_47 : Index := 0#32
  ![v62.toNat, 0, 0]
def k0_off8 (k0_t1 : Fin k0_t1_loop.trips) : Fin 4 → Nat :=
  let c0_i32_21 : BitVec 32 := 0#32
  let c1_i32_22 : BitVec 32 := 1#32
  let arg10 : BitVec 32 := Scf.iv c0_i32_21 c1_i32_22 k0_t1
  let c2_i32 : BitVec 32 := 2#32
  let c0_i32_28 : BitVec 32 := 0#32
  let v37 : BitVec 1 := Scalar.cmpi .eq c2_i32 c0_i32_28
  let c1_i32_29 : BitVec 32 := 1#32
  let v38 : BitVec 32 := Scalar.select v37 c1_i32_29 c2_i32
  let v39 : BitVec 32 := Scalar.remsi arg10 v38
  let c0_i32_31 : BitVec 32 := 0#32
  let v41 : BitVec 1 := Scalar.cmpi .slt v39 c0_i32_31
  let c0_i32_32 : BitVec 32 := 0#32
  let v42 : BitVec 1 := Scalar.cmpi .slt v38 c0_i32_32
  let v43 : BitVec 1 := Scalar.xori v41 v42
  let c0_i32_30 : BitVec 32 := 0#32
  let v40 : BitVec 1 := Scalar.cmpi .ne v39 c0_i32_30
  let v44 : BitVec 1 := Scalar.andi v43 v40
  let v45 : BitVec 32 := Scalar.addi v39 v38
  let v46 : BitVec 32 := Scalar.select v44 v45 v39
  let v66 : Index := Scalar.indexCast v46
  let c0_48 : Index := 0#32
  let c0_49 : Index := 0#32
  let c0_50 : Index := 0#32
  ![v66.toNat, 0, 0, 0]
def k0_off9 (k0_t1 : Fin k0_t1_loop.trips) : Fin 4 → Nat :=
  let c0_i32_21 : BitVec 32 := 0#32
  let c1_i32_22 : BitVec 32 := 1#32
  let arg10 : BitVec 32 := Scf.iv c0_i32_21 c1_i32_22 k0_t1
  let c2_i32 : BitVec 32 := 2#32
  let c0_i32_28 : BitVec 32 := 0#32
  let v37 : BitVec 1 := Scalar.cmpi .eq c2_i32 c0_i32_28
  let c1_i32_29 : BitVec 32 := 1#32
  let v38 : BitVec 32 := Scalar.select v37 c1_i32_29 c2_i32
  let v39 : BitVec 32 := Scalar.remsi arg10 v38
  let c0_i32_31 : BitVec 32 := 0#32
  let v41 : BitVec 1 := Scalar.cmpi .slt v39 c0_i32_31
  let c0_i32_32 : BitVec 32 := 0#32
  let v42 : BitVec 1 := Scalar.cmpi .slt v38 c0_i32_32
  let v43 : BitVec 1 := Scalar.xori v41 v42
  let c0_i32_30 : BitVec 32 := 0#32
  let v40 : BitVec 1 := Scalar.cmpi .ne v39 c0_i32_30
  let v44 : BitVec 1 := Scalar.andi v43 v40
  let v45 : BitVec 32 := Scalar.addi v39 v38
  let v46 : BitVec 32 := Scalar.select v44 v45 v39
  let v69 : Index := Scalar.indexCast v46
  let c0_51 : Index := 0#32
  let c0_52 : Index := 0#32
  let c128 : Index := 128#32
  ![v69.toNat, 0, 0, 128]
def k0_off10 (k0_t1 : Fin k0_t1_loop.trips) : Fin 4 → Nat :=
  let c0_i32_21 : BitVec 32 := 0#32
  let c1_i32_22 : BitVec 32 := 1#32
  let arg10 : BitVec 32 := Scf.iv c0_i32_21 c1_i32_22 k0_t1
  let c2_i32 : BitVec 32 := 2#32
  let c0_i32_28 : BitVec 32 := 0#32
  let v37 : BitVec 1 := Scalar.cmpi .eq c2_i32 c0_i32_28
  let c1_i32_29 : BitVec 32 := 1#32
  let v38 : BitVec 32 := Scalar.select v37 c1_i32_29 c2_i32
  let v39 : BitVec 32 := Scalar.remsi arg10 v38
  let c0_i32_31 : BitVec 32 := 0#32
  let v41 : BitVec 1 := Scalar.cmpi .slt v39 c0_i32_31
  let c0_i32_32 : BitVec 32 := 0#32
  let v42 : BitVec 1 := Scalar.cmpi .slt v38 c0_i32_32
  let v43 : BitVec 1 := Scalar.xori v41 v42
  let c0_i32_30 : BitVec 32 := 0#32
  let v40 : BitVec 1 := Scalar.cmpi .ne v39 c0_i32_30
  let v44 : BitVec 1 := Scalar.andi v43 v40
  let v45 : BitVec 32 := Scalar.addi v39 v38
  let v46 : BitVec 32 := Scalar.select v44 v45 v39
  let v92 : Index := Scalar.indexCast v46
  let c0_68 : Index := 0#32
  let c1 : Index := 1#32
  let c0_69 : Index := 0#32
  ![v92.toNat, 0, 1, 0]
def k0_off11 (k0_t1 : Fin k0_t1_loop.trips) : Fin 4 → Nat :=
  let c0_i32_21 : BitVec 32 := 0#32
  let c1_i32_22 : BitVec 32 := 1#32
  let arg10 : BitVec 32 := Scf.iv c0_i32_21 c1_i32_22 k0_t1
  let c2_i32 : BitVec 32 := 2#32
  let c0_i32_28 : BitVec 32 := 0#32
  let v37 : BitVec 1 := Scalar.cmpi .eq c2_i32 c0_i32_28
  let c1_i32_29 : BitVec 32 := 1#32
  let v38 : BitVec 32 := Scalar.select v37 c1_i32_29 c2_i32
  let v39 : BitVec 32 := Scalar.remsi arg10 v38
  let c0_i32_31 : BitVec 32 := 0#32
  let v41 : BitVec 1 := Scalar.cmpi .slt v39 c0_i32_31
  let c0_i32_32 : BitVec 32 := 0#32
  let v42 : BitVec 1 := Scalar.cmpi .slt v38 c0_i32_32
  let v43 : BitVec 1 := Scalar.xori v41 v42
  let c0_i32_30 : BitVec 32 := 0#32
  let v40 : BitVec 1 := Scalar.cmpi .ne v39 c0_i32_30
  let v44 : BitVec 1 := Scalar.andi v43 v40
  let v45 : BitVec 32 := Scalar.addi v39 v38
  let v46 : BitVec 32 := Scalar.select v44 v45 v39
  let v95 : Index := Scalar.indexCast v46
  let c0_70 : Index := 0#32
  let c1_71 : Index := 1#32
  let c128_72 : Index := 128#32
  ![v95.toNat, 0, 1, 128]
def k0_off12 (k0_t1 : Fin k0_t1_loop.trips) : Fin 4 → Nat :=
  let c0_i32_21 : BitVec 32 := 0#32
  let c1_i32_22 : BitVec 32 := 1#32
  let arg10 : BitVec 32 := Scf.iv c0_i32_21 c1_i32_22 k0_t1
  let c2_i32 : BitVec 32 := 2#32
  let c0_i32_28 : BitVec 32 := 0#32
  let v37 : BitVec 1 := Scalar.cmpi .eq c2_i32 c0_i32_28
  let c1_i32_29 : BitVec 32 := 1#32
  let v38 : BitVec 32 := Scalar.select v37 c1_i32_29 c2_i32
  let v39 : BitVec 32 := Scalar.remsi arg10 v38
  let c0_i32_31 : BitVec 32 := 0#32
  let v41 : BitVec 1 := Scalar.cmpi .slt v39 c0_i32_31
  let c0_i32_32 : BitVec 32 := 0#32
  let v42 : BitVec 1 := Scalar.cmpi .slt v38 c0_i32_32
  let v43 : BitVec 1 := Scalar.xori v41 v42
  let c0_i32_30 : BitVec 32 := 0#32
  let v40 : BitVec 1 := Scalar.cmpi .ne v39 c0_i32_30
  let v44 : BitVec 1 := Scalar.andi v43 v40
  let v45 : BitVec 32 := Scalar.addi v39 v38
  let v46 : BitVec 32 := Scalar.select v44 v45 v39
  let v118 : Index := Scalar.indexCast v46
  let c0_87 : Index := 0#32
  let c2 : Index := 2#32
  let c0_88 : Index := 0#32
  ![v118.toNat, 0, 2, 0]
def k0_off13 (k0_t1 : Fin k0_t1_loop.trips) : Fin 4 → Nat :=
  let c0_i32_21 : BitVec 32 := 0#32
  let c1_i32_22 : BitVec 32 := 1#32
  let arg10 : BitVec 32 := Scf.iv c0_i32_21 c1_i32_22 k0_t1
  let c2_i32 : BitVec 32 := 2#32
  let c0_i32_28 : BitVec 32 := 0#32
  let v37 : BitVec 1 := Scalar.cmpi .eq c2_i32 c0_i32_28
  let c1_i32_29 : BitVec 32 := 1#32
  let v38 : BitVec 32 := Scalar.select v37 c1_i32_29 c2_i32
  let v39 : BitVec 32 := Scalar.remsi arg10 v38
  let c0_i32_31 : BitVec 32 := 0#32
  let v41 : BitVec 1 := Scalar.cmpi .slt v39 c0_i32_31
  let c0_i32_32 : BitVec 32 := 0#32
  let v42 : BitVec 1 := Scalar.cmpi .slt v38 c0_i32_32
  let v43 : BitVec 1 := Scalar.xori v41 v42
  let c0_i32_30 : BitVec 32 := 0#32
  let v40 : BitVec 1 := Scalar.cmpi .ne v39 c0_i32_30
  let v44 : BitVec 1 := Scalar.andi v43 v40
  let v45 : BitVec 32 := Scalar.addi v39 v38
  let v46 : BitVec 32 := Scalar.select v44 v45 v39
  let v121 : Index := Scalar.indexCast v46
  let c0_89 : Index := 0#32
  let c2_90 : Index := 2#32
  let c128_91 : Index := 128#32
  ![v121.toNat, 0, 2, 128]
def k0_off14 (k0_t1 : Fin k0_t1_loop.trips) : Fin 4 → Nat :=
  let c0_i32_21 : BitVec 32 := 0#32
  let c1_i32_22 : BitVec 32 := 1#32
  let arg10 : BitVec 32 := Scf.iv c0_i32_21 c1_i32_22 k0_t1
  let c2_i32 : BitVec 32 := 2#32
  let c0_i32_28 : BitVec 32 := 0#32
  let v37 : BitVec 1 := Scalar.cmpi .eq c2_i32 c0_i32_28
  let c1_i32_29 : BitVec 32 := 1#32
  let v38 : BitVec 32 := Scalar.select v37 c1_i32_29 c2_i32
  let v39 : BitVec 32 := Scalar.remsi arg10 v38
  let c0_i32_31 : BitVec 32 := 0#32
  let v41 : BitVec 1 := Scalar.cmpi .slt v39 c0_i32_31
  let c0_i32_32 : BitVec 32 := 0#32
  let v42 : BitVec 1 := Scalar.cmpi .slt v38 c0_i32_32
  let v43 : BitVec 1 := Scalar.xori v41 v42
  let c0_i32_30 : BitVec 32 := 0#32
  let v40 : BitVec 1 := Scalar.cmpi .ne v39 c0_i32_30
  let v44 : BitVec 1 := Scalar.andi v43 v40
  let v45 : BitVec 32 := Scalar.addi v39 v38
  let v46 : BitVec 32 := Scalar.select v44 v45 v39
  let v144 : Index := Scalar.indexCast v46
  let c0_106 : Index := 0#32
  let c3 : Index := 3#32
  let c0_107 : Index := 0#32
  ![v144.toNat, 0, 3, 0]
def k0_off15 (k0_t1 : Fin k0_t1_loop.trips) : Fin 4 → Nat :=
  let c0_i32_21 : BitVec 32 := 0#32
  let c1_i32_22 : BitVec 32 := 1#32
  let arg10 : BitVec 32 := Scf.iv c0_i32_21 c1_i32_22 k0_t1
  let c2_i32 : BitVec 32 := 2#32
  let c0_i32_28 : BitVec 32 := 0#32
  let v37 : BitVec 1 := Scalar.cmpi .eq c2_i32 c0_i32_28
  let c1_i32_29 : BitVec 32 := 1#32
  let v38 : BitVec 32 := Scalar.select v37 c1_i32_29 c2_i32
  let v39 : BitVec 32 := Scalar.remsi arg10 v38
  let c0_i32_31 : BitVec 32 := 0#32
  let v41 : BitVec 1 := Scalar.cmpi .slt v39 c0_i32_31
  let c0_i32_32 : BitVec 32 := 0#32
  let v42 : BitVec 1 := Scalar.cmpi .slt v38 c0_i32_32
  let v43 : BitVec 1 := Scalar.xori v41 v42
  let c0_i32_30 : BitVec 32 := 0#32
  let v40 : BitVec 1 := Scalar.cmpi .ne v39 c0_i32_30
  let v44 : BitVec 1 := Scalar.andi v43 v40
  let v45 : BitVec 32 := Scalar.addi v39 v38
  let v46 : BitVec 32 := Scalar.select v44 v45 v39
  let v147 : Index := Scalar.indexCast v46
  let c0_108 : Index := 0#32
  let c3_109 : Index := 3#32
  let c128_110 : Index := 128#32
  ![v147.toNat, 0, 3, 128]
def k0_off16 (k0_t1 : Fin k0_t1_loop.trips) : Fin 4 → Nat :=
  let c0_i32_21 : BitVec 32 := 0#32
  let c1_i32_22 : BitVec 32 := 1#32
  let arg10 : BitVec 32 := Scf.iv c0_i32_21 c1_i32_22 k0_t1
  let c2_i32 : BitVec 32 := 2#32
  let c0_i32_28 : BitVec 32 := 0#32
  let v37 : BitVec 1 := Scalar.cmpi .eq c2_i32 c0_i32_28
  let c1_i32_29 : BitVec 32 := 1#32
  let v38 : BitVec 32 := Scalar.select v37 c1_i32_29 c2_i32
  let v39 : BitVec 32 := Scalar.remsi arg10 v38
  let c0_i32_31 : BitVec 32 := 0#32
  let v41 : BitVec 1 := Scalar.cmpi .slt v39 c0_i32_31
  let c0_i32_32 : BitVec 32 := 0#32
  let v42 : BitVec 1 := Scalar.cmpi .slt v38 c0_i32_32
  let v43 : BitVec 1 := Scalar.xori v41 v42
  let c0_i32_30 : BitVec 32 := 0#32
  let v40 : BitVec 1 := Scalar.cmpi .ne v39 c0_i32_30
  let v44 : BitVec 1 := Scalar.andi v43 v40
  let v45 : BitVec 32 := Scalar.addi v39 v38
  let v46 : BitVec 32 := Scalar.select v44 v45 v39
  let v170 : Index := Scalar.indexCast v46
  let c0_125 : Index := 0#32
  let c4 : Index := 4#32
  let c0_126 : Index := 0#32
  ![v170.toNat, 0, 4, 0]
def k0_off17 (k0_t1 : Fin k0_t1_loop.trips) : Fin 4 → Nat :=
  let c0_i32_21 : BitVec 32 := 0#32
  let c1_i32_22 : BitVec 32 := 1#32
  let arg10 : BitVec 32 := Scf.iv c0_i32_21 c1_i32_22 k0_t1
  let c2_i32 : BitVec 32 := 2#32
  let c0_i32_28 : BitVec 32 := 0#32
  let v37 : BitVec 1 := Scalar.cmpi .eq c2_i32 c0_i32_28
  let c1_i32_29 : BitVec 32 := 1#32
  let v38 : BitVec 32 := Scalar.select v37 c1_i32_29 c2_i32
  let v39 : BitVec 32 := Scalar.remsi arg10 v38
  let c0_i32_31 : BitVec 32 := 0#32
  let v41 : BitVec 1 := Scalar.cmpi .slt v39 c0_i32_31
  let c0_i32_32 : BitVec 32 := 0#32
  let v42 : BitVec 1 := Scalar.cmpi .slt v38 c0_i32_32
  let v43 : BitVec 1 := Scalar.xori v41 v42
  let c0_i32_30 : BitVec 32 := 0#32
  let v40 : BitVec 1 := Scalar.cmpi .ne v39 c0_i32_30
  let v44 : BitVec 1 := Scalar.andi v43 v40
  let v45 : BitVec 32 := Scalar.addi v39 v38
  let v46 : BitVec 32 := Scalar.select v44 v45 v39
  let v173 : Index := Scalar.indexCast v46
  let c0_127 : Index := 0#32
  let c4_128 : Index := 4#32
  let c128_129 : Index := 128#32
  ![v173.toNat, 0, 4, 128]
def k0_off18 (k0_t1 : Fin k0_t1_loop.trips) : Fin 4 → Nat :=
  let c0_i32_21 : BitVec 32 := 0#32
  let c1_i32_22 : BitVec 32 := 1#32
  let arg10 : BitVec 32 := Scf.iv c0_i32_21 c1_i32_22 k0_t1
  let c2_i32 : BitVec 32 := 2#32
  let c0_i32_28 : BitVec 32 := 0#32
  let v37 : BitVec 1 := Scalar.cmpi .eq c2_i32 c0_i32_28
  let c1_i32_29 : BitVec 32 := 1#32
  let v38 : BitVec 32 := Scalar.select v37 c1_i32_29 c2_i32
  let v39 : BitVec 32 := Scalar.remsi arg10 v38
  let c0_i32_31 : BitVec 32 := 0#32
  let v41 : BitVec 1 := Scalar.cmpi .slt v39 c0_i32_31
  let c0_i32_32 : BitVec 32 := 0#32
  let v42 : BitVec 1 := Scalar.cmpi .slt v38 c0_i32_32
  let v43 : BitVec 1 := Scalar.xori v41 v42
  let c0_i32_30 : BitVec 32 := 0#32
  let v40 : BitVec 1 := Scalar.cmpi .ne v39 c0_i32_30
  let v44 : BitVec 1 := Scalar.andi v43 v40
  let v45 : BitVec 32 := Scalar.addi v39 v38
  let v46 : BitVec 32 := Scalar.select v44 v45 v39
  let v196 : Index := Scalar.indexCast v46
  let c0_144 : Index := 0#32
  let c5 : Index := 5#32
  let c0_145 : Index := 0#32
  ![v196.toNat, 0, 5, 0]
def k0_off19 (k0_t1 : Fin k0_t1_loop.trips) : Fin 4 → Nat :=
  let c0_i32_21 : BitVec 32 := 0#32
  let c1_i32_22 : BitVec 32 := 1#32
  let arg10 : BitVec 32 := Scf.iv c0_i32_21 c1_i32_22 k0_t1
  let c2_i32 : BitVec 32 := 2#32
  let c0_i32_28 : BitVec 32 := 0#32
  let v37 : BitVec 1 := Scalar.cmpi .eq c2_i32 c0_i32_28
  let c1_i32_29 : BitVec 32 := 1#32
  let v38 : BitVec 32 := Scalar.select v37 c1_i32_29 c2_i32
  let v39 : BitVec 32 := Scalar.remsi arg10 v38
  let c0_i32_31 : BitVec 32 := 0#32
  let v41 : BitVec 1 := Scalar.cmpi .slt v39 c0_i32_31
  let c0_i32_32 : BitVec 32 := 0#32
  let v42 : BitVec 1 := Scalar.cmpi .slt v38 c0_i32_32
  let v43 : BitVec 1 := Scalar.xori v41 v42
  let c0_i32_30 : BitVec 32 := 0#32
  let v40 : BitVec 1 := Scalar.cmpi .ne v39 c0_i32_30
  let v44 : BitVec 1 := Scalar.andi v43 v40
  let v45 : BitVec 32 := Scalar.addi v39 v38
  let v46 : BitVec 32 := Scalar.select v44 v45 v39
  let v199 : Index := Scalar.indexCast v46
  let c0_146 : Index := 0#32
  let c5_147 : Index := 5#32
  let c128_148 : Index := 128#32
  ![v199.toNat, 0, 5, 128]
def k0_off20 (k0_t1 : Fin k0_t1_loop.trips) : Fin 4 → Nat :=
  let c0_i32_21 : BitVec 32 := 0#32
  let c1_i32_22 : BitVec 32 := 1#32
  let arg10 : BitVec 32 := Scf.iv c0_i32_21 c1_i32_22 k0_t1
  let c2_i32 : BitVec 32 := 2#32
  let c0_i32_28 : BitVec 32 := 0#32
  let v37 : BitVec 1 := Scalar.cmpi .eq c2_i32 c0_i32_28
  let c1_i32_29 : BitVec 32 := 1#32
  let v38 : BitVec 32 := Scalar.select v37 c1_i32_29 c2_i32
  let v39 : BitVec 32 := Scalar.remsi arg10 v38
  let c0_i32_31 : BitVec 32 := 0#32
  let v41 : BitVec 1 := Scalar.cmpi .slt v39 c0_i32_31
  let c0_i32_32 : BitVec 32 := 0#32
  let v42 : BitVec 1 := Scalar.cmpi .slt v38 c0_i32_32
  let v43 : BitVec 1 := Scalar.xori v41 v42
  let c0_i32_30 : BitVec 32 := 0#32
  let v40 : BitVec 1 := Scalar.cmpi .ne v39 c0_i32_30
  let v44 : BitVec 1 := Scalar.andi v43 v40
  let v45 : BitVec 32 := Scalar.addi v39 v38
  let v46 : BitVec 32 := Scalar.select v44 v45 v39
  let v222 : Index := Scalar.indexCast v46
  let c0_163 : Index := 0#32
  let c6 : Index := 6#32
  let c0_164 : Index := 0#32
  ![v222.toNat, 0, 6, 0]
def k0_off21 (k0_t1 : Fin k0_t1_loop.trips) : Fin 4 → Nat :=
  let c0_i32_21 : BitVec 32 := 0#32
  let c1_i32_22 : BitVec 32 := 1#32
  let arg10 : BitVec 32 := Scf.iv c0_i32_21 c1_i32_22 k0_t1
  let c2_i32 : BitVec 32 := 2#32
  let c0_i32_28 : BitVec 32 := 0#32
  let v37 : BitVec 1 := Scalar.cmpi .eq c2_i32 c0_i32_28
  let c1_i32_29 : BitVec 32 := 1#32
  let v38 : BitVec 32 := Scalar.select v37 c1_i32_29 c2_i32
  let v39 : BitVec 32 := Scalar.remsi arg10 v38
  let c0_i32_31 : BitVec 32 := 0#32
  let v41 : BitVec 1 := Scalar.cmpi .slt v39 c0_i32_31
  let c0_i32_32 : BitVec 32 := 0#32
  let v42 : BitVec 1 := Scalar.cmpi .slt v38 c0_i32_32
  let v43 : BitVec 1 := Scalar.xori v41 v42
  let c0_i32_30 : BitVec 32 := 0#32
  let v40 : BitVec 1 := Scalar.cmpi .ne v39 c0_i32_30
  let v44 : BitVec 1 := Scalar.andi v43 v40
  let v45 : BitVec 32 := Scalar.addi v39 v38
  let v46 : BitVec 32 := Scalar.select v44 v45 v39
  let v225 : Index := Scalar.indexCast v46
  let c0_165 : Index := 0#32
  let c6_166 : Index := 6#32
  let c128_167 : Index := 128#32
  ![v225.toNat, 0, 6, 128]
def k0_off22 (k0_t1 : Fin k0_t1_loop.trips) : Fin 4 → Nat :=
  let c0_i32_21 : BitVec 32 := 0#32
  let c1_i32_22 : BitVec 32 := 1#32
  let arg10 : BitVec 32 := Scf.iv c0_i32_21 c1_i32_22 k0_t1
  let c2_i32 : BitVec 32 := 2#32
  let c0_i32_28 : BitVec 32 := 0#32
  let v37 : BitVec 1 := Scalar.cmpi .eq c2_i32 c0_i32_28
  let c1_i32_29 : BitVec 32 := 1#32
  let v38 : BitVec 32 := Scalar.select v37 c1_i32_29 c2_i32
  let v39 : BitVec 32 := Scalar.remsi arg10 v38
  let c0_i32_31 : BitVec 32 := 0#32
  let v41 : BitVec 1 := Scalar.cmpi .slt v39 c0_i32_31
  let c0_i32_32 : BitVec 32 := 0#32
  let v42 : BitVec 1 := Scalar.cmpi .slt v38 c0_i32_32
  let v43 : BitVec 1 := Scalar.xori v41 v42
  let c0_i32_30 : BitVec 32 := 0#32
  let v40 : BitVec 1 := Scalar.cmpi .ne v39 c0_i32_30
  let v44 : BitVec 1 := Scalar.andi v43 v40
  let v45 : BitVec 32 := Scalar.addi v39 v38
  let v46 : BitVec 32 := Scalar.select v44 v45 v39
  let v248 : Index := Scalar.indexCast v46
  let c0_182 : Index := 0#32
  let c7 : Index := 7#32
  let c0_183 : Index := 0#32
  ![v248.toNat, 0, 7, 0]
def k0_off23 (k0_t1 : Fin k0_t1_loop.trips) : Fin 4 → Nat :=
  let c0_i32_21 : BitVec 32 := 0#32
  let c1_i32_22 : BitVec 32 := 1#32
  let arg10 : BitVec 32 := Scf.iv c0_i32_21 c1_i32_22 k0_t1
  let c2_i32 : BitVec 32 := 2#32
  let c0_i32_28 : BitVec 32 := 0#32
  let v37 : BitVec 1 := Scalar.cmpi .eq c2_i32 c0_i32_28
  let c1_i32_29 : BitVec 32 := 1#32
  let v38 : BitVec 32 := Scalar.select v37 c1_i32_29 c2_i32
  let v39 : BitVec 32 := Scalar.remsi arg10 v38
  let c0_i32_31 : BitVec 32 := 0#32
  let v41 : BitVec 1 := Scalar.cmpi .slt v39 c0_i32_31
  let c0_i32_32 : BitVec 32 := 0#32
  let v42 : BitVec 1 := Scalar.cmpi .slt v38 c0_i32_32
  let v43 : BitVec 1 := Scalar.xori v41 v42
  let c0_i32_30 : BitVec 32 := 0#32
  let v40 : BitVec 1 := Scalar.cmpi .ne v39 c0_i32_30
  let v44 : BitVec 1 := Scalar.andi v43 v40
  let v45 : BitVec 32 := Scalar.addi v39 v38
  let v46 : BitVec 32 := Scalar.select v44 v45 v39
  let v251 : Index := Scalar.indexCast v46
  let c0_184 : Index := 0#32
  let c7_185 : Index := 7#32
  let c128_186 : Index := 128#32
  ![v251.toNat, 0, 7, 128]
@[reducible] def k0_t2_loop : Scf.Loop 32 :=
  let c0_i32_1 : BitVec 32 := 0#32
  let c64_i32 : BitVec 32 := 64#32
  let v3 : BitVec 32 := Scalar.addi c0_i32_1 c64_i32
  let c1_i32 : BitVec 32 := 1#32
  ⟨c0_i32_1, v3, c1_i32⟩
@[reducible] def k0_t3_loop : Scf.Loop 32 :=
  let c0_i32_3 : BitVec 32 := 0#32
  let c7_i32 : BitVec 32 := 7#32
  let v4 : BitVec 32 := Scalar.addi c0_i32_3 c7_i32
  let c1_i32_4 : BitVec 32 := 1#32
  ⟨c0_i32_3, v4, c1_i32_4⟩
def k0_off24 (k0_t2 : Fin k0_t2_loop.trips) (k0_t3 : Fin k0_t3_loop.trips) : Fin 3 → Nat :=
  let c0_i32_1 : BitVec 32 := 0#32
  let c1_i32 : BitVec 32 := 1#32
  let arg10 : BitVec 32 := Scf.iv c0_i32_1 c1_i32 k0_t2
  let v9 : Index := Scalar.indexCast arg10
  let c0 : Index := 0#32
  let c4_i32 : BitVec 32 := 4#32
  let c0_i32_3 : BitVec 32 := 0#32
  let c1_i32_4 : BitVec 32 := 1#32
  let arg11 : BitVec 32 := Scf.iv c0_i32_3 c1_i32_4 k0_t3
  let c7_i32_6 : BitVec 32 := 7#32
  let v5 : BitVec 32 := Scalar.muli arg11 c7_i32_6
  let c0_i32_7 : BitVec 32 := 0#32
  let v6 : BitVec 32 := Scalar.addi v5 c0_i32_7
  let v7 : BitVec 32 := Scalar.muli c4_i32 v6
  let c0_i32_8 : BitVec 32 := 0#32
  let v8 : BitVec 32 := Scalar.addi v7 c0_i32_8
  let v10 : Index := Scalar.indexCast v8
  ![v9.toNat, 0, v10.toNat]
def k0_off25 (v11 : BitVec 32) : Fin 3 → Nat :=
  let v12 : Index := Scalar.indexCast v11
  let c0_9 : Index := 0#32
  let c0_10 : Index := 0#32
  ![v12.toNat, 0, 0]

def k0_chk1 (v11 : BitVec 32) : Prop :=
  (∀ a, (k0_off25 v11) a + S1x1x256.size a ≤ S40401x1x256.size a)
theorem k0_off25_inb : ∀ (v11 : BitVec 32) (k0_hw1 : k0_chk1 v11), ∀ a, (k0_off25 v11) a + S1x1x256.size a ≤ S40401x1x256.size a := fun v11 k0_hw1 => k0_hw1

def k0_off26 (k0_t2 : Fin k0_t2_loop.trips) (k0_t3 : Fin k0_t3_loop.trips) : Fin 3 → Nat :=
  let c0_i32_1 : BitVec 32 := 0#32
  let c1_i32 : BitVec 32 := 1#32
  let arg10 : BitVec 32 := Scf.iv c0_i32_1 c1_i32 k0_t2
  let v16 : Index := Scalar.indexCast arg10
  let c0_12 : Index := 0#32
  let c4_i32 : BitVec 32 := 4#32
  let c0_i32_3 : BitVec 32 := 0#32
  let c1_i32_4 : BitVec 32 := 1#32
  let arg11 : BitVec 32 := Scf.iv c0_i32_3 c1_i32_4 k0_t3
  let c7_i32_6 : BitVec 32 := 7#32
  let v5 : BitVec 32 := Scalar.muli arg11 c7_i32_6
  let c0_i32_7 : BitVec 32 := 0#32
  let v6 : BitVec 32 := Scalar.addi v5 c0_i32_7
  let v7 : BitVec 32 := Scalar.muli c4_i32 v6
  let c1_i32_11 : BitVec 32 := 1#32
  let v15 : BitVec 32 := Scalar.addi v7 c1_i32_11
  let v17 : Index := Scalar.indexCast v15
  ![v16.toNat, 0, v17.toNat]
def k0_off27 (v18 : BitVec 32) : Fin 3 → Nat :=
  let v19 : Index := Scalar.indexCast v18
  let c0_13 : Index := 0#32
  let c0_14 : Index := 0#32
  ![v19.toNat, 0, 0]

def k0_chk2 (v18 : BitVec 32) : Prop :=
  (∀ a, (k0_off27 v18) a + S1x1x256.size a ≤ S40401x1x256.size a)
theorem k0_off27_inb : ∀ (v18 : BitVec 32) (k0_hw2 : k0_chk2 v18), ∀ a, (k0_off27 v18) a + S1x1x256.size a ≤ S40401x1x256.size a := fun v18 k0_hw2 => k0_hw2

def k0_off28 (k0_t2 : Fin k0_t2_loop.trips) (k0_t3 : Fin k0_t3_loop.trips) : Fin 3 → Nat :=
  let c0_i32_1 : BitVec 32 := 0#32
  let c1_i32 : BitVec 32 := 1#32
  let arg10 : BitVec 32 := Scf.iv c0_i32_1 c1_i32 k0_t2
  let v23 : Index := Scalar.indexCast arg10
  let c0_15 : Index := 0#32
  let c4_i32 : BitVec 32 := 4#32
  let c0_i32_3 : BitVec 32 := 0#32
  let c1_i32_4 : BitVec 32 := 1#32
  let arg11 : BitVec 32 := Scf.iv c0_i32_3 c1_i32_4 k0_t3
  let c7_i32_6 : BitVec 32 := 7#32
  let v5 : BitVec 32 := Scalar.muli arg11 c7_i32_6
  let c0_i32_7 : BitVec 32 := 0#32
  let v6 : BitVec 32 := Scalar.addi v5 c0_i32_7
  let v7 : BitVec 32 := Scalar.muli c4_i32 v6
  let c2_i32 : BitVec 32 := 2#32
  let v22 : BitVec 32 := Scalar.addi v7 c2_i32
  let v24 : Index := Scalar.indexCast v22
  ![v23.toNat, 0, v24.toNat]
def k0_off29 (v25 : BitVec 32) : Fin 3 → Nat :=
  let v26 : Index := Scalar.indexCast v25
  let c0_16 : Index := 0#32
  let c0_17 : Index := 0#32
  ![v26.toNat, 0, 0]

def k0_chk3 (v25 : BitVec 32) : Prop :=
  (∀ a, (k0_off29 v25) a + S1x1x256.size a ≤ S40401x1x256.size a)
theorem k0_off29_inb : ∀ (v25 : BitVec 32) (k0_hw3 : k0_chk3 v25), ∀ a, (k0_off29 v25) a + S1x1x256.size a ≤ S40401x1x256.size a := fun v25 k0_hw3 => k0_hw3

def k0_off30 (k0_t2 : Fin k0_t2_loop.trips) (k0_t3 : Fin k0_t3_loop.trips) : Fin 3 → Nat :=
  let c0_i32_1 : BitVec 32 := 0#32
  let c1_i32 : BitVec 32 := 1#32
  let arg10 : BitVec 32 := Scf.iv c0_i32_1 c1_i32 k0_t2
  let v30 : Index := Scalar.indexCast arg10
  let c0_18 : Index := 0#32
  let c4_i32 : BitVec 32 := 4#32
  let c0_i32_3 : BitVec 32 := 0#32
  let c1_i32_4 : BitVec 32 := 1#32
  let arg11 : BitVec 32 := Scf.iv c0_i32_3 c1_i32_4 k0_t3
  let c7_i32_6 : BitVec 32 := 7#32
  let v5 : BitVec 32 := Scalar.muli arg11 c7_i32_6
  let c0_i32_7 : BitVec 32 := 0#32
  let v6 : BitVec 32 := Scalar.addi v5 c0_i32_7
  let v7 : BitVec 32 := Scalar.muli c4_i32 v6
  let c3_i32 : BitVec 32 := 3#32
  let v29 : BitVec 32 := Scalar.addi v7 c3_i32
  let v31 : Index := Scalar.indexCast v29
  ![v30.toNat, 0, v31.toNat]
def k0_off31 (v32 : BitVec 32) : Fin 3 → Nat :=
  let v33 : Index := Scalar.indexCast v32
  let c0_19 : Index := 0#32
  let c0_20 : Index := 0#32
  ![v33.toNat, 0, 0]

def k0_chk4 (v32 : BitVec 32) : Prop :=
  (∀ a, (k0_off31 v32) a + S1x1x256.size a ≤ S40401x1x256.size a)
theorem k0_off31_inb : ∀ (v32 : BitVec 32) (k0_hw4 : k0_chk4 v32), ∀ a, (k0_off31 v32) a + S1x1x256.size a ≤ S40401x1x256.size a := fun v32 k0_hw4 => k0_hw4

def k0_off32 (k0_t2 : Fin k0_t2_loop.trips) (k0_t3 : Fin k0_t3_loop.trips) : Fin 3 → Nat :=
  let c0_i32_1 : BitVec 32 := 0#32
  let c1_i32 : BitVec 32 := 1#32
  let arg10 : BitVec 32 := Scf.iv c0_i32_1 c1_i32 k0_t2
  let v40 : Index := Scalar.indexCast arg10
  let c0_25 : Index := 0#32
  let c4_i32_23 : BitVec 32 := 4#32
  let c0_i32_3 : BitVec 32 := 0#32
  let c1_i32_4 : BitVec 32 := 1#32
  let arg11 : BitVec 32 := Scf.iv c0_i32_3 c1_i32_4 k0_t3
  let c7_i32_21 : BitVec 32 := 7#32
  let v36 : BitVec 32 := Scalar.muli arg11 c7_i32_21
  let c1_i32_22 : BitVec 32 := 1#32
  let v37 : BitVec 32 := Scalar.addi v36 c1_i32_22
  let v38 : BitVec 32 := Scalar.muli c4_i32_23 v37
  let c0_i32_24 : BitVec 32 := 0#32
  let v39 : BitVec 32 := Scalar.addi v38 c0_i32_24
  let v41 : Index := Scalar.indexCast v39
  ![v40.toNat, 0, v41.toNat]
def k0_off33 (v42 : BitVec 32) : Fin 3 → Nat :=
  let v43 : Index := Scalar.indexCast v42
  let c0_26 : Index := 0#32
  let c0_27 : Index := 0#32
  ![v43.toNat, 0, 0]

def k0_chk5 (v42 : BitVec 32) : Prop :=
  (∀ a, (k0_off33 v42) a + S1x1x256.size a ≤ S40401x1x256.size a)
theorem k0_off33_inb : ∀ (v42 : BitVec 32) (k0_hw5 : k0_chk5 v42), ∀ a, (k0_off33 v42) a + S1x1x256.size a ≤ S40401x1x256.size a := fun v42 k0_hw5 => k0_hw5

def k0_off34 (k0_t2 : Fin k0_t2_loop.trips) (k0_t3 : Fin k0_t3_loop.trips) : Fin 3 → Nat :=
  let c0_i32_1 : BitVec 32 := 0#32
  let c1_i32 : BitVec 32 := 1#32
  let arg10 : BitVec 32 := Scf.iv c0_i32_1 c1_i32 k0_t2
  let v47 : Index := Scalar.indexCast arg10
  let c0_29 : Index := 0#32
  let c4_i32_23 : BitVec 32 := 4#32
  let c0_i32_3 : BitVec 32 := 0#32
  let c1_i32_4 : BitVec 32 := 1#32
  let arg11 : BitVec 32 := Scf.iv c0_i32_3 c1_i32_4 k0_t3
  let c7_i32_21 : BitVec 32 := 7#32
  let v36 : BitVec 32 := Scalar.muli arg11 c7_i32_21
  let c1_i32_22 : BitVec 32 := 1#32
  let v37 : BitVec 32 := Scalar.addi v36 c1_i32_22
  let v38 : BitVec 32 := Scalar.muli c4_i32_23 v37
  let c1_i32_28 : BitVec 32 := 1#32
  let v46 : BitVec 32 := Scalar.addi v38 c1_i32_28
  let v48 : Index := Scalar.indexCast v46
  ![v47.toNat, 0, v48.toNat]
def k0_off35 (v49 : BitVec 32) : Fin 3 → Nat :=
  let v50 : Index := Scalar.indexCast v49
  let c0_30 : Index := 0#32
  let c0_31 : Index := 0#32
  ![v50.toNat, 0, 0]

def k0_chk6 (v49 : BitVec 32) : Prop :=
  (∀ a, (k0_off35 v49) a + S1x1x256.size a ≤ S40401x1x256.size a)
theorem k0_off35_inb : ∀ (v49 : BitVec 32) (k0_hw6 : k0_chk6 v49), ∀ a, (k0_off35 v49) a + S1x1x256.size a ≤ S40401x1x256.size a := fun v49 k0_hw6 => k0_hw6

def k0_off36 (k0_t2 : Fin k0_t2_loop.trips) (k0_t3 : Fin k0_t3_loop.trips) : Fin 3 → Nat :=
  let c0_i32_1 : BitVec 32 := 0#32
  let c1_i32 : BitVec 32 := 1#32
  let arg10 : BitVec 32 := Scf.iv c0_i32_1 c1_i32 k0_t2
  let v54 : Index := Scalar.indexCast arg10
  let c0_33 : Index := 0#32
  let c4_i32_23 : BitVec 32 := 4#32
  let c0_i32_3 : BitVec 32 := 0#32
  let c1_i32_4 : BitVec 32 := 1#32
  let arg11 : BitVec 32 := Scf.iv c0_i32_3 c1_i32_4 k0_t3
  let c7_i32_21 : BitVec 32 := 7#32
  let v36 : BitVec 32 := Scalar.muli arg11 c7_i32_21
  let c1_i32_22 : BitVec 32 := 1#32
  let v37 : BitVec 32 := Scalar.addi v36 c1_i32_22
  let v38 : BitVec 32 := Scalar.muli c4_i32_23 v37
  let c2_i32_32 : BitVec 32 := 2#32
  let v53 : BitVec 32 := Scalar.addi v38 c2_i32_32
  let v55 : Index := Scalar.indexCast v53
  ![v54.toNat, 0, v55.toNat]
def k0_off37 (v56 : BitVec 32) : Fin 3 → Nat :=
  let v57 : Index := Scalar.indexCast v56
  let c0_34 : Index := 0#32
  let c0_35 : Index := 0#32
  ![v57.toNat, 0, 0]

def k0_chk7 (v56 : BitVec 32) : Prop :=
  (∀ a, (k0_off37 v56) a + S1x1x256.size a ≤ S40401x1x256.size a)
theorem k0_off37_inb : ∀ (v56 : BitVec 32) (k0_hw7 : k0_chk7 v56), ∀ a, (k0_off37 v56) a + S1x1x256.size a ≤ S40401x1x256.size a := fun v56 k0_hw7 => k0_hw7

def k0_off38 (k0_t2 : Fin k0_t2_loop.trips) (k0_t3 : Fin k0_t3_loop.trips) : Fin 3 → Nat :=
  let c0_i32_1 : BitVec 32 := 0#32
  let c1_i32 : BitVec 32 := 1#32
  let arg10 : BitVec 32 := Scf.iv c0_i32_1 c1_i32 k0_t2
  let v61 : Index := Scalar.indexCast arg10
  let c0_37 : Index := 0#32
  let c4_i32_23 : BitVec 32 := 4#32
  let c0_i32_3 : BitVec 32 := 0#32
  let c1_i32_4 : BitVec 32 := 1#32
  let arg11 : BitVec 32 := Scf.iv c0_i32_3 c1_i32_4 k0_t3
  let c7_i32_21 : BitVec 32 := 7#32
  let v36 : BitVec 32 := Scalar.muli arg11 c7_i32_21
  let c1_i32_22 : BitVec 32 := 1#32
  let v37 : BitVec 32 := Scalar.addi v36 c1_i32_22
  let v38 : BitVec 32 := Scalar.muli c4_i32_23 v37
  let c3_i32_36 : BitVec 32 := 3#32
  let v60 : BitVec 32 := Scalar.addi v38 c3_i32_36
  let v62 : Index := Scalar.indexCast v60
  ![v61.toNat, 0, v62.toNat]
def k0_off39 (v63 : BitVec 32) : Fin 3 → Nat :=
  let v64 : Index := Scalar.indexCast v63
  let c0_38 : Index := 0#32
  let c0_39 : Index := 0#32
  ![v64.toNat, 0, 0]

def k0_chk8 (v63 : BitVec 32) : Prop :=
  (∀ a, (k0_off39 v63) a + S1x1x256.size a ≤ S40401x1x256.size a)
theorem k0_off39_inb : ∀ (v63 : BitVec 32) (k0_hw8 : k0_chk8 v63), ∀ a, (k0_off39 v63) a + S1x1x256.size a ≤ S40401x1x256.size a := fun v63 k0_hw8 => k0_hw8

def k0_off40 (k0_t2 : Fin k0_t2_loop.trips) (k0_t3 : Fin k0_t3_loop.trips) : Fin 3 → Nat :=
  let c0_i32_1 : BitVec 32 := 0#32
  let c1_i32 : BitVec 32 := 1#32
  let arg10 : BitVec 32 := Scf.iv c0_i32_1 c1_i32 k0_t2
  let v71 : Index := Scalar.indexCast arg10
  let c0_44 : Index := 0#32
  let c4_i32_42 : BitVec 32 := 4#32
  let c0_i32_3 : BitVec 32 := 0#32
  let c1_i32_4 : BitVec 32 := 1#32
  let arg11 : BitVec 32 := Scf.iv c0_i32_3 c1_i32_4 k0_t3
  let c7_i32_40 : BitVec 32 := 7#32
  let v67 : BitVec 32 := Scalar.muli arg11 c7_i32_40
  let c2_i32_41 : BitVec 32 := 2#32
  let v68 : BitVec 32 := Scalar.addi v67 c2_i32_41
  let v69 : BitVec 32 := Scalar.muli c4_i32_42 v68
  let c0_i32_43 : BitVec 32 := 0#32
  let v70 : BitVec 32 := Scalar.addi v69 c0_i32_43
  let v72 : Index := Scalar.indexCast v70
  ![v71.toNat, 0, v72.toNat]
def k0_off41 (v73 : BitVec 32) : Fin 3 → Nat :=
  let v74 : Index := Scalar.indexCast v73
  let c0_45 : Index := 0#32
  let c0_46 : Index := 0#32
  ![v74.toNat, 0, 0]

def k0_chk9 (v73 : BitVec 32) : Prop :=
  (∀ a, (k0_off41 v73) a + S1x1x256.size a ≤ S40401x1x256.size a)
theorem k0_off41_inb : ∀ (v73 : BitVec 32) (k0_hw9 : k0_chk9 v73), ∀ a, (k0_off41 v73) a + S1x1x256.size a ≤ S40401x1x256.size a := fun v73 k0_hw9 => k0_hw9

def k0_off42 (k0_t2 : Fin k0_t2_loop.trips) (k0_t3 : Fin k0_t3_loop.trips) : Fin 3 → Nat :=
  let c0_i32_1 : BitVec 32 := 0#32
  let c1_i32 : BitVec 32 := 1#32
  let arg10 : BitVec 32 := Scf.iv c0_i32_1 c1_i32 k0_t2
  let v78 : Index := Scalar.indexCast arg10
  let c0_48 : Index := 0#32
  let c4_i32_42 : BitVec 32 := 4#32
  let c0_i32_3 : BitVec 32 := 0#32
  let c1_i32_4 : BitVec 32 := 1#32
  let arg11 : BitVec 32 := Scf.iv c0_i32_3 c1_i32_4 k0_t3
  let c7_i32_40 : BitVec 32 := 7#32
  let v67 : BitVec 32 := Scalar.muli arg11 c7_i32_40
  let c2_i32_41 : BitVec 32 := 2#32
  let v68 : BitVec 32 := Scalar.addi v67 c2_i32_41
  let v69 : BitVec 32 := Scalar.muli c4_i32_42 v68
  let c1_i32_47 : BitVec 32 := 1#32
  let v77 : BitVec 32 := Scalar.addi v69 c1_i32_47
  let v79 : Index := Scalar.indexCast v77
  ![v78.toNat, 0, v79.toNat]
def k0_off43 (v80 : BitVec 32) : Fin 3 → Nat :=
  let v81 : Index := Scalar.indexCast v80
  let c0_49 : Index := 0#32
  let c0_50 : Index := 0#32
  ![v81.toNat, 0, 0]

def k0_chk10 (v80 : BitVec 32) : Prop :=
  (∀ a, (k0_off43 v80) a + S1x1x256.size a ≤ S40401x1x256.size a)
theorem k0_off43_inb : ∀ (v80 : BitVec 32) (k0_hw10 : k0_chk10 v80), ∀ a, (k0_off43 v80) a + S1x1x256.size a ≤ S40401x1x256.size a := fun v80 k0_hw10 => k0_hw10

def k0_off44 (k0_t2 : Fin k0_t2_loop.trips) (k0_t3 : Fin k0_t3_loop.trips) : Fin 3 → Nat :=
  let c0_i32_1 : BitVec 32 := 0#32
  let c1_i32 : BitVec 32 := 1#32
  let arg10 : BitVec 32 := Scf.iv c0_i32_1 c1_i32 k0_t2
  let v85 : Index := Scalar.indexCast arg10
  let c0_52 : Index := 0#32
  let c4_i32_42 : BitVec 32 := 4#32
  let c0_i32_3 : BitVec 32 := 0#32
  let c1_i32_4 : BitVec 32 := 1#32
  let arg11 : BitVec 32 := Scf.iv c0_i32_3 c1_i32_4 k0_t3
  let c7_i32_40 : BitVec 32 := 7#32
  let v67 : BitVec 32 := Scalar.muli arg11 c7_i32_40
  let c2_i32_41 : BitVec 32 := 2#32
  let v68 : BitVec 32 := Scalar.addi v67 c2_i32_41
  let v69 : BitVec 32 := Scalar.muli c4_i32_42 v68
  let c2_i32_51 : BitVec 32 := 2#32
  let v84 : BitVec 32 := Scalar.addi v69 c2_i32_51
  let v86 : Index := Scalar.indexCast v84
  ![v85.toNat, 0, v86.toNat]
def k0_off45 (v87 : BitVec 32) : Fin 3 → Nat :=
  let v88 : Index := Scalar.indexCast v87
  let c0_53 : Index := 0#32
  let c0_54 : Index := 0#32
  ![v88.toNat, 0, 0]

def k0_chk11 (v87 : BitVec 32) : Prop :=
  (∀ a, (k0_off45 v87) a + S1x1x256.size a ≤ S40401x1x256.size a)
theorem k0_off45_inb : ∀ (v87 : BitVec 32) (k0_hw11 : k0_chk11 v87), ∀ a, (k0_off45 v87) a + S1x1x256.size a ≤ S40401x1x256.size a := fun v87 k0_hw11 => k0_hw11

def k0_off46 (k0_t2 : Fin k0_t2_loop.trips) (k0_t3 : Fin k0_t3_loop.trips) : Fin 3 → Nat :=
  let c0_i32_1 : BitVec 32 := 0#32
  let c1_i32 : BitVec 32 := 1#32
  let arg10 : BitVec 32 := Scf.iv c0_i32_1 c1_i32 k0_t2
  let v92 : Index := Scalar.indexCast arg10
  let c0_56 : Index := 0#32
  let c4_i32_42 : BitVec 32 := 4#32
  let c0_i32_3 : BitVec 32 := 0#32
  let c1_i32_4 : BitVec 32 := 1#32
  let arg11 : BitVec 32 := Scf.iv c0_i32_3 c1_i32_4 k0_t3
  let c7_i32_40 : BitVec 32 := 7#32
  let v67 : BitVec 32 := Scalar.muli arg11 c7_i32_40
  let c2_i32_41 : BitVec 32 := 2#32
  let v68 : BitVec 32 := Scalar.addi v67 c2_i32_41
  let v69 : BitVec 32 := Scalar.muli c4_i32_42 v68
  let c3_i32_55 : BitVec 32 := 3#32
  let v91 : BitVec 32 := Scalar.addi v69 c3_i32_55
  let v93 : Index := Scalar.indexCast v91
  ![v92.toNat, 0, v93.toNat]
def k0_off47 (v94 : BitVec 32) : Fin 3 → Nat :=
  let v95 : Index := Scalar.indexCast v94
  let c0_57 : Index := 0#32
  let c0_58 : Index := 0#32
  ![v95.toNat, 0, 0]

def k0_chk12 (v94 : BitVec 32) : Prop :=
  (∀ a, (k0_off47 v94) a + S1x1x256.size a ≤ S40401x1x256.size a)
theorem k0_off47_inb : ∀ (v94 : BitVec 32) (k0_hw12 : k0_chk12 v94), ∀ a, (k0_off47 v94) a + S1x1x256.size a ≤ S40401x1x256.size a := fun v94 k0_hw12 => k0_hw12

def k0_off48 (k0_t2 : Fin k0_t2_loop.trips) (k0_t3 : Fin k0_t3_loop.trips) : Fin 3 → Nat :=
  let c0_i32_1 : BitVec 32 := 0#32
  let c1_i32 : BitVec 32 := 1#32
  let arg10 : BitVec 32 := Scf.iv c0_i32_1 c1_i32 k0_t2
  let v102 : Index := Scalar.indexCast arg10
  let c0_63 : Index := 0#32
  let c4_i32_61 : BitVec 32 := 4#32
  let c0_i32_3 : BitVec 32 := 0#32
  let c1_i32_4 : BitVec 32 := 1#32
  let arg11 : BitVec 32 := Scf.iv c0_i32_3 c1_i32_4 k0_t3
  let c7_i32_59 : BitVec 32 := 7#32
  let v98 : BitVec 32 := Scalar.muli arg11 c7_i32_59
  let c3_i32_60 : BitVec 32 := 3#32
  let v99 : BitVec 32 := Scalar.addi v98 c3_i32_60
  let v100 : BitVec 32 := Scalar.muli c4_i32_61 v99
  let c0_i32_62 : BitVec 32 := 0#32
  let v101 : BitVec 32 := Scalar.addi v100 c0_i32_62
  let v103 : Index := Scalar.indexCast v101
  ![v102.toNat, 0, v103.toNat]
def k0_off49 (v104 : BitVec 32) : Fin 3 → Nat :=
  let v105 : Index := Scalar.indexCast v104
  let c0_64 : Index := 0#32
  let c0_65 : Index := 0#32
  ![v105.toNat, 0, 0]

def k0_chk13 (v104 : BitVec 32) : Prop :=
  (∀ a, (k0_off49 v104) a + S1x1x256.size a ≤ S40401x1x256.size a)
theorem k0_off49_inb : ∀ (v104 : BitVec 32) (k0_hw13 : k0_chk13 v104), ∀ a, (k0_off49 v104) a + S1x1x256.size a ≤ S40401x1x256.size a := fun v104 k0_hw13 => k0_hw13

def k0_off50 (k0_t2 : Fin k0_t2_loop.trips) (k0_t3 : Fin k0_t3_loop.trips) : Fin 3 → Nat :=
  let c0_i32_1 : BitVec 32 := 0#32
  let c1_i32 : BitVec 32 := 1#32
  let arg10 : BitVec 32 := Scf.iv c0_i32_1 c1_i32 k0_t2
  let v109 : Index := Scalar.indexCast arg10
  let c0_67 : Index := 0#32
  let c4_i32_61 : BitVec 32 := 4#32
  let c0_i32_3 : BitVec 32 := 0#32
  let c1_i32_4 : BitVec 32 := 1#32
  let arg11 : BitVec 32 := Scf.iv c0_i32_3 c1_i32_4 k0_t3
  let c7_i32_59 : BitVec 32 := 7#32
  let v98 : BitVec 32 := Scalar.muli arg11 c7_i32_59
  let c3_i32_60 : BitVec 32 := 3#32
  let v99 : BitVec 32 := Scalar.addi v98 c3_i32_60
  let v100 : BitVec 32 := Scalar.muli c4_i32_61 v99
  let c1_i32_66 : BitVec 32 := 1#32
  let v108 : BitVec 32 := Scalar.addi v100 c1_i32_66
  let v110 : Index := Scalar.indexCast v108
  ![v109.toNat, 0, v110.toNat]
def k0_off51 (v111 : BitVec 32) : Fin 3 → Nat :=
  let v112 : Index := Scalar.indexCast v111
  let c0_68 : Index := 0#32
  let c0_69 : Index := 0#32
  ![v112.toNat, 0, 0]

def k0_chk14 (v111 : BitVec 32) : Prop :=
  (∀ a, (k0_off51 v111) a + S1x1x256.size a ≤ S40401x1x256.size a)
theorem k0_off51_inb : ∀ (v111 : BitVec 32) (k0_hw14 : k0_chk14 v111), ∀ a, (k0_off51 v111) a + S1x1x256.size a ≤ S40401x1x256.size a := fun v111 k0_hw14 => k0_hw14

def k0_off52 (k0_t2 : Fin k0_t2_loop.trips) (k0_t3 : Fin k0_t3_loop.trips) : Fin 3 → Nat :=
  let c0_i32_1 : BitVec 32 := 0#32
  let c1_i32 : BitVec 32 := 1#32
  let arg10 : BitVec 32 := Scf.iv c0_i32_1 c1_i32 k0_t2
  let v116 : Index := Scalar.indexCast arg10
  let c0_71 : Index := 0#32
  let c4_i32_61 : BitVec 32 := 4#32
  let c0_i32_3 : BitVec 32 := 0#32
  let c1_i32_4 : BitVec 32 := 1#32
  let arg11 : BitVec 32 := Scf.iv c0_i32_3 c1_i32_4 k0_t3
  let c7_i32_59 : BitVec 32 := 7#32
  let v98 : BitVec 32 := Scalar.muli arg11 c7_i32_59
  let c3_i32_60 : BitVec 32 := 3#32
  let v99 : BitVec 32 := Scalar.addi v98 c3_i32_60
  let v100 : BitVec 32 := Scalar.muli c4_i32_61 v99
  let c2_i32_70 : BitVec 32 := 2#32
  let v115 : BitVec 32 := Scalar.addi v100 c2_i32_70
  let v117 : Index := Scalar.indexCast v115
  ![v116.toNat, 0, v117.toNat]
def k0_off53 (v118 : BitVec 32) : Fin 3 → Nat :=
  let v119 : Index := Scalar.indexCast v118
  let c0_72 : Index := 0#32
  let c0_73 : Index := 0#32
  ![v119.toNat, 0, 0]

def k0_chk15 (v118 : BitVec 32) : Prop :=
  (∀ a, (k0_off53 v118) a + S1x1x256.size a ≤ S40401x1x256.size a)
theorem k0_off53_inb : ∀ (v118 : BitVec 32) (k0_hw15 : k0_chk15 v118), ∀ a, (k0_off53 v118) a + S1x1x256.size a ≤ S40401x1x256.size a := fun v118 k0_hw15 => k0_hw15

def k0_off54 (k0_t2 : Fin k0_t2_loop.trips) (k0_t3 : Fin k0_t3_loop.trips) : Fin 3 → Nat :=
  let c0_i32_1 : BitVec 32 := 0#32
  let c1_i32 : BitVec 32 := 1#32
  let arg10 : BitVec 32 := Scf.iv c0_i32_1 c1_i32 k0_t2
  let v123 : Index := Scalar.indexCast arg10
  let c0_75 : Index := 0#32
  let c4_i32_61 : BitVec 32 := 4#32
  let c0_i32_3 : BitVec 32 := 0#32
  let c1_i32_4 : BitVec 32 := 1#32
  let arg11 : BitVec 32 := Scf.iv c0_i32_3 c1_i32_4 k0_t3
  let c7_i32_59 : BitVec 32 := 7#32
  let v98 : BitVec 32 := Scalar.muli arg11 c7_i32_59
  let c3_i32_60 : BitVec 32 := 3#32
  let v99 : BitVec 32 := Scalar.addi v98 c3_i32_60
  let v100 : BitVec 32 := Scalar.muli c4_i32_61 v99
  let c3_i32_74 : BitVec 32 := 3#32
  let v122 : BitVec 32 := Scalar.addi v100 c3_i32_74
  let v124 : Index := Scalar.indexCast v122
  ![v123.toNat, 0, v124.toNat]
def k0_off55 (v125 : BitVec 32) : Fin 3 → Nat :=
  let v126 : Index := Scalar.indexCast v125
  let c0_76 : Index := 0#32
  let c0_77 : Index := 0#32
  ![v126.toNat, 0, 0]

def k0_chk16 (v125 : BitVec 32) : Prop :=
  (∀ a, (k0_off55 v125) a + S1x1x256.size a ≤ S40401x1x256.size a)
theorem k0_off55_inb : ∀ (v125 : BitVec 32) (k0_hw16 : k0_chk16 v125), ∀ a, (k0_off55 v125) a + S1x1x256.size a ≤ S40401x1x256.size a := fun v125 k0_hw16 => k0_hw16

def k0_off56 (k0_t2 : Fin k0_t2_loop.trips) (k0_t3 : Fin k0_t3_loop.trips) : Fin 3 → Nat :=
  let c0_i32_1 : BitVec 32 := 0#32
  let c1_i32 : BitVec 32 := 1#32
  let arg10 : BitVec 32 := Scf.iv c0_i32_1 c1_i32 k0_t2
  let v133 : Index := Scalar.indexCast arg10
  let c0_82 : Index := 0#32
  let c4_i32_80 : BitVec 32 := 4#32
  let c0_i32_3 : BitVec 32 := 0#32
  let c1_i32_4 : BitVec 32 := 1#32
  let arg11 : BitVec 32 := Scf.iv c0_i32_3 c1_i32_4 k0_t3
  let c7_i32_78 : BitVec 32 := 7#32
  let v129 : BitVec 32 := Scalar.muli arg11 c7_i32_78
  let c4_i32_79 : BitVec 32 := 4#32
  let v130 : BitVec 32 := Scalar.addi v129 c4_i32_79
  let v131 : BitVec 32 := Scalar.muli c4_i32_80 v130
  let c0_i32_81 : BitVec 32 := 0#32
  let v132 : BitVec 32 := Scalar.addi v131 c0_i32_81
  let v134 : Index := Scalar.indexCast v132
  ![v133.toNat, 0, v134.toNat]
def k0_off57 (v135 : BitVec 32) : Fin 3 → Nat :=
  let v136 : Index := Scalar.indexCast v135
  let c0_83 : Index := 0#32
  let c0_84 : Index := 0#32
  ![v136.toNat, 0, 0]

def k0_chk17 (v135 : BitVec 32) : Prop :=
  (∀ a, (k0_off57 v135) a + S1x1x256.size a ≤ S40401x1x256.size a)
theorem k0_off57_inb : ∀ (v135 : BitVec 32) (k0_hw17 : k0_chk17 v135), ∀ a, (k0_off57 v135) a + S1x1x256.size a ≤ S40401x1x256.size a := fun v135 k0_hw17 => k0_hw17

def k0_off58 (k0_t2 : Fin k0_t2_loop.trips) (k0_t3 : Fin k0_t3_loop.trips) : Fin 3 → Nat :=
  let c0_i32_1 : BitVec 32 := 0#32
  let c1_i32 : BitVec 32 := 1#32
  let arg10 : BitVec 32 := Scf.iv c0_i32_1 c1_i32 k0_t2
  let v140 : Index := Scalar.indexCast arg10
  let c0_86 : Index := 0#32
  let c4_i32_80 : BitVec 32 := 4#32
  let c0_i32_3 : BitVec 32 := 0#32
  let c1_i32_4 : BitVec 32 := 1#32
  let arg11 : BitVec 32 := Scf.iv c0_i32_3 c1_i32_4 k0_t3
  let c7_i32_78 : BitVec 32 := 7#32
  let v129 : BitVec 32 := Scalar.muli arg11 c7_i32_78
  let c4_i32_79 : BitVec 32 := 4#32
  let v130 : BitVec 32 := Scalar.addi v129 c4_i32_79
  let v131 : BitVec 32 := Scalar.muli c4_i32_80 v130
  let c1_i32_85 : BitVec 32 := 1#32
  let v139 : BitVec 32 := Scalar.addi v131 c1_i32_85
  let v141 : Index := Scalar.indexCast v139
  ![v140.toNat, 0, v141.toNat]
def k0_off59 (v142 : BitVec 32) : Fin 3 → Nat :=
  let v143 : Index := Scalar.indexCast v142
  let c0_87 : Index := 0#32
  let c0_88 : Index := 0#32
  ![v143.toNat, 0, 0]

def k0_chk18 (v142 : BitVec 32) : Prop :=
  (∀ a, (k0_off59 v142) a + S1x1x256.size a ≤ S40401x1x256.size a)
theorem k0_off59_inb : ∀ (v142 : BitVec 32) (k0_hw18 : k0_chk18 v142), ∀ a, (k0_off59 v142) a + S1x1x256.size a ≤ S40401x1x256.size a := fun v142 k0_hw18 => k0_hw18

def k0_off60 (k0_t2 : Fin k0_t2_loop.trips) (k0_t3 : Fin k0_t3_loop.trips) : Fin 3 → Nat :=
  let c0_i32_1 : BitVec 32 := 0#32
  let c1_i32 : BitVec 32 := 1#32
  let arg10 : BitVec 32 := Scf.iv c0_i32_1 c1_i32 k0_t2
  let v147 : Index := Scalar.indexCast arg10
  let c0_90 : Index := 0#32
  let c4_i32_80 : BitVec 32 := 4#32
  let c0_i32_3 : BitVec 32 := 0#32
  let c1_i32_4 : BitVec 32 := 1#32
  let arg11 : BitVec 32 := Scf.iv c0_i32_3 c1_i32_4 k0_t3
  let c7_i32_78 : BitVec 32 := 7#32
  let v129 : BitVec 32 := Scalar.muli arg11 c7_i32_78
  let c4_i32_79 : BitVec 32 := 4#32
  let v130 : BitVec 32 := Scalar.addi v129 c4_i32_79
  let v131 : BitVec 32 := Scalar.muli c4_i32_80 v130
  let c2_i32_89 : BitVec 32 := 2#32
  let v146 : BitVec 32 := Scalar.addi v131 c2_i32_89
  let v148 : Index := Scalar.indexCast v146
  ![v147.toNat, 0, v148.toNat]
def k0_off61 (v149 : BitVec 32) : Fin 3 → Nat :=
  let v150 : Index := Scalar.indexCast v149
  let c0_91 : Index := 0#32
  let c0_92 : Index := 0#32
  ![v150.toNat, 0, 0]

def k0_chk19 (v149 : BitVec 32) : Prop :=
  (∀ a, (k0_off61 v149) a + S1x1x256.size a ≤ S40401x1x256.size a)
theorem k0_off61_inb : ∀ (v149 : BitVec 32) (k0_hw19 : k0_chk19 v149), ∀ a, (k0_off61 v149) a + S1x1x256.size a ≤ S40401x1x256.size a := fun v149 k0_hw19 => k0_hw19

def k0_off62 (k0_t2 : Fin k0_t2_loop.trips) (k0_t3 : Fin k0_t3_loop.trips) : Fin 3 → Nat :=
  let c0_i32_1 : BitVec 32 := 0#32
  let c1_i32 : BitVec 32 := 1#32
  let arg10 : BitVec 32 := Scf.iv c0_i32_1 c1_i32 k0_t2
  let v154 : Index := Scalar.indexCast arg10
  let c0_94 : Index := 0#32
  let c4_i32_80 : BitVec 32 := 4#32
  let c0_i32_3 : BitVec 32 := 0#32
  let c1_i32_4 : BitVec 32 := 1#32
  let arg11 : BitVec 32 := Scf.iv c0_i32_3 c1_i32_4 k0_t3
  let c7_i32_78 : BitVec 32 := 7#32
  let v129 : BitVec 32 := Scalar.muli arg11 c7_i32_78
  let c4_i32_79 : BitVec 32 := 4#32
  let v130 : BitVec 32 := Scalar.addi v129 c4_i32_79
  let v131 : BitVec 32 := Scalar.muli c4_i32_80 v130
  let c3_i32_93 : BitVec 32 := 3#32
  let v153 : BitVec 32 := Scalar.addi v131 c3_i32_93
  let v155 : Index := Scalar.indexCast v153
  ![v154.toNat, 0, v155.toNat]
def k0_off63 (v156 : BitVec 32) : Fin 3 → Nat :=
  let v157 : Index := Scalar.indexCast v156
  let c0_95 : Index := 0#32
  let c0_96 : Index := 0#32
  ![v157.toNat, 0, 0]

def k0_chk20 (v156 : BitVec 32) : Prop :=
  (∀ a, (k0_off63 v156) a + S1x1x256.size a ≤ S40401x1x256.size a)
theorem k0_off63_inb : ∀ (v156 : BitVec 32) (k0_hw20 : k0_chk20 v156), ∀ a, (k0_off63 v156) a + S1x1x256.size a ≤ S40401x1x256.size a := fun v156 k0_hw20 => k0_hw20

def k0_off64 (k0_t2 : Fin k0_t2_loop.trips) (k0_t3 : Fin k0_t3_loop.trips) : Fin 3 → Nat :=
  let c0_i32_1 : BitVec 32 := 0#32
  let c1_i32 : BitVec 32 := 1#32
  let arg10 : BitVec 32 := Scf.iv c0_i32_1 c1_i32 k0_t2
  let v164 : Index := Scalar.indexCast arg10
  let c0_100 : Index := 0#32
  let c4_i32_98 : BitVec 32 := 4#32
  let c0_i32_3 : BitVec 32 := 0#32
  let c1_i32_4 : BitVec 32 := 1#32
  let arg11 : BitVec 32 := Scf.iv c0_i32_3 c1_i32_4 k0_t3
  let c7_i32_97 : BitVec 32 := 7#32
  let v160 : BitVec 32 := Scalar.muli arg11 c7_i32_97
  let c5_i32 : BitVec 32 := 5#32
  let v161 : BitVec 32 := Scalar.addi v160 c5_i32
  let v162 : BitVec 32 := Scalar.muli c4_i32_98 v161
  let c0_i32_99 : BitVec 32 := 0#32
  let v163 : BitVec 32 := Scalar.addi v162 c0_i32_99
  let v165 : Index := Scalar.indexCast v163
  ![v164.toNat, 0, v165.toNat]
def k0_off65 (v166 : BitVec 32) : Fin 3 → Nat :=
  let v167 : Index := Scalar.indexCast v166
  let c0_101 : Index := 0#32
  let c0_102 : Index := 0#32
  ![v167.toNat, 0, 0]

def k0_chk21 (v166 : BitVec 32) : Prop :=
  (∀ a, (k0_off65 v166) a + S1x1x256.size a ≤ S40401x1x256.size a)
theorem k0_off65_inb : ∀ (v166 : BitVec 32) (k0_hw21 : k0_chk21 v166), ∀ a, (k0_off65 v166) a + S1x1x256.size a ≤ S40401x1x256.size a := fun v166 k0_hw21 => k0_hw21

def k0_off66 (k0_t2 : Fin k0_t2_loop.trips) (k0_t3 : Fin k0_t3_loop.trips) : Fin 3 → Nat :=
  let c0_i32_1 : BitVec 32 := 0#32
  let c1_i32 : BitVec 32 := 1#32
  let arg10 : BitVec 32 := Scf.iv c0_i32_1 c1_i32 k0_t2
  let v171 : Index := Scalar.indexCast arg10
  let c0_104 : Index := 0#32
  let c4_i32_98 : BitVec 32 := 4#32
  let c0_i32_3 : BitVec 32 := 0#32
  let c1_i32_4 : BitVec 32 := 1#32
  let arg11 : BitVec 32 := Scf.iv c0_i32_3 c1_i32_4 k0_t3
  let c7_i32_97 : BitVec 32 := 7#32
  let v160 : BitVec 32 := Scalar.muli arg11 c7_i32_97
  let c5_i32 : BitVec 32 := 5#32
  let v161 : BitVec 32 := Scalar.addi v160 c5_i32
  let v162 : BitVec 32 := Scalar.muli c4_i32_98 v161
  let c1_i32_103 : BitVec 32 := 1#32
  let v170 : BitVec 32 := Scalar.addi v162 c1_i32_103
  let v172 : Index := Scalar.indexCast v170
  ![v171.toNat, 0, v172.toNat]
def k0_off67 (v173 : BitVec 32) : Fin 3 → Nat :=
  let v174 : Index := Scalar.indexCast v173
  let c0_105 : Index := 0#32
  let c0_106 : Index := 0#32
  ![v174.toNat, 0, 0]

def k0_chk22 (v173 : BitVec 32) : Prop :=
  (∀ a, (k0_off67 v173) a + S1x1x256.size a ≤ S40401x1x256.size a)
theorem k0_off67_inb : ∀ (v173 : BitVec 32) (k0_hw22 : k0_chk22 v173), ∀ a, (k0_off67 v173) a + S1x1x256.size a ≤ S40401x1x256.size a := fun v173 k0_hw22 => k0_hw22

def k0_off68 (k0_t2 : Fin k0_t2_loop.trips) (k0_t3 : Fin k0_t3_loop.trips) : Fin 3 → Nat :=
  let c0_i32_1 : BitVec 32 := 0#32
  let c1_i32 : BitVec 32 := 1#32
  let arg10 : BitVec 32 := Scf.iv c0_i32_1 c1_i32 k0_t2
  let v178 : Index := Scalar.indexCast arg10
  let c0_108 : Index := 0#32
  let c4_i32_98 : BitVec 32 := 4#32
  let c0_i32_3 : BitVec 32 := 0#32
  let c1_i32_4 : BitVec 32 := 1#32
  let arg11 : BitVec 32 := Scf.iv c0_i32_3 c1_i32_4 k0_t3
  let c7_i32_97 : BitVec 32 := 7#32
  let v160 : BitVec 32 := Scalar.muli arg11 c7_i32_97
  let c5_i32 : BitVec 32 := 5#32
  let v161 : BitVec 32 := Scalar.addi v160 c5_i32
  let v162 : BitVec 32 := Scalar.muli c4_i32_98 v161
  let c2_i32_107 : BitVec 32 := 2#32
  let v177 : BitVec 32 := Scalar.addi v162 c2_i32_107
  let v179 : Index := Scalar.indexCast v177
  ![v178.toNat, 0, v179.toNat]
def k0_off69 (v180 : BitVec 32) : Fin 3 → Nat :=
  let v181 : Index := Scalar.indexCast v180
  let c0_109 : Index := 0#32
  let c0_110 : Index := 0#32
  ![v181.toNat, 0, 0]

def k0_chk23 (v180 : BitVec 32) : Prop :=
  (∀ a, (k0_off69 v180) a + S1x1x256.size a ≤ S40401x1x256.size a)
theorem k0_off69_inb : ∀ (v180 : BitVec 32) (k0_hw23 : k0_chk23 v180), ∀ a, (k0_off69 v180) a + S1x1x256.size a ≤ S40401x1x256.size a := fun v180 k0_hw23 => k0_hw23

def k0_off70 (k0_t2 : Fin k0_t2_loop.trips) (k0_t3 : Fin k0_t3_loop.trips) : Fin 3 → Nat :=
  let c0_i32_1 : BitVec 32 := 0#32
  let c1_i32 : BitVec 32 := 1#32
  let arg10 : BitVec 32 := Scf.iv c0_i32_1 c1_i32 k0_t2
  let v185 : Index := Scalar.indexCast arg10
  let c0_112 : Index := 0#32
  let c4_i32_98 : BitVec 32 := 4#32
  let c0_i32_3 : BitVec 32 := 0#32
  let c1_i32_4 : BitVec 32 := 1#32
  let arg11 : BitVec 32 := Scf.iv c0_i32_3 c1_i32_4 k0_t3
  let c7_i32_97 : BitVec 32 := 7#32
  let v160 : BitVec 32 := Scalar.muli arg11 c7_i32_97
  let c5_i32 : BitVec 32 := 5#32
  let v161 : BitVec 32 := Scalar.addi v160 c5_i32
  let v162 : BitVec 32 := Scalar.muli c4_i32_98 v161
  let c3_i32_111 : BitVec 32 := 3#32
  let v184 : BitVec 32 := Scalar.addi v162 c3_i32_111
  let v186 : Index := Scalar.indexCast v184
  ![v185.toNat, 0, v186.toNat]
def k0_off71 (v187 : BitVec 32) : Fin 3 → Nat :=
  let v188 : Index := Scalar.indexCast v187
  let c0_113 : Index := 0#32
  let c0_114 : Index := 0#32
  ![v188.toNat, 0, 0]

def k0_chk24 (v187 : BitVec 32) : Prop :=
  (∀ a, (k0_off71 v187) a + S1x1x256.size a ≤ S40401x1x256.size a)
theorem k0_off71_inb : ∀ (v187 : BitVec 32) (k0_hw24 : k0_chk24 v187), ∀ a, (k0_off71 v187) a + S1x1x256.size a ≤ S40401x1x256.size a := fun v187 k0_hw24 => k0_hw24

def k0_off72 (k0_t2 : Fin k0_t2_loop.trips) (k0_t3 : Fin k0_t3_loop.trips) : Fin 3 → Nat :=
  let c0_i32_1 : BitVec 32 := 0#32
  let c1_i32 : BitVec 32 := 1#32
  let arg10 : BitVec 32 := Scf.iv c0_i32_1 c1_i32 k0_t2
  let v195 : Index := Scalar.indexCast arg10
  let c0_118 : Index := 0#32
  let c4_i32_116 : BitVec 32 := 4#32
  let c0_i32_3 : BitVec 32 := 0#32
  let c1_i32_4 : BitVec 32 := 1#32
  let arg11 : BitVec 32 := Scf.iv c0_i32_3 c1_i32_4 k0_t3
  let c7_i32_115 : BitVec 32 := 7#32
  let v191 : BitVec 32 := Scalar.muli arg11 c7_i32_115
  let c6_i32 : BitVec 32 := 6#32
  let v192 : BitVec 32 := Scalar.addi v191 c6_i32
  let v193 : BitVec 32 := Scalar.muli c4_i32_116 v192
  let c0_i32_117 : BitVec 32 := 0#32
  let v194 : BitVec 32 := Scalar.addi v193 c0_i32_117
  let v196 : Index := Scalar.indexCast v194
  ![v195.toNat, 0, v196.toNat]
def k0_off73 (v197 : BitVec 32) : Fin 3 → Nat :=
  let v198 : Index := Scalar.indexCast v197
  let c0_119 : Index := 0#32
  let c0_120 : Index := 0#32
  ![v198.toNat, 0, 0]

def k0_chk25 (v197 : BitVec 32) : Prop :=
  (∀ a, (k0_off73 v197) a + S1x1x256.size a ≤ S40401x1x256.size a)
theorem k0_off73_inb : ∀ (v197 : BitVec 32) (k0_hw25 : k0_chk25 v197), ∀ a, (k0_off73 v197) a + S1x1x256.size a ≤ S40401x1x256.size a := fun v197 k0_hw25 => k0_hw25

def k0_off74 (k0_t2 : Fin k0_t2_loop.trips) (k0_t3 : Fin k0_t3_loop.trips) : Fin 3 → Nat :=
  let c0_i32_1 : BitVec 32 := 0#32
  let c1_i32 : BitVec 32 := 1#32
  let arg10 : BitVec 32 := Scf.iv c0_i32_1 c1_i32 k0_t2
  let v202 : Index := Scalar.indexCast arg10
  let c0_122 : Index := 0#32
  let c4_i32_116 : BitVec 32 := 4#32
  let c0_i32_3 : BitVec 32 := 0#32
  let c1_i32_4 : BitVec 32 := 1#32
  let arg11 : BitVec 32 := Scf.iv c0_i32_3 c1_i32_4 k0_t3
  let c7_i32_115 : BitVec 32 := 7#32
  let v191 : BitVec 32 := Scalar.muli arg11 c7_i32_115
  let c6_i32 : BitVec 32 := 6#32
  let v192 : BitVec 32 := Scalar.addi v191 c6_i32
  let v193 : BitVec 32 := Scalar.muli c4_i32_116 v192
  let c1_i32_121 : BitVec 32 := 1#32
  let v201 : BitVec 32 := Scalar.addi v193 c1_i32_121
  let v203 : Index := Scalar.indexCast v201
  ![v202.toNat, 0, v203.toNat]
def k0_off75 (v204 : BitVec 32) : Fin 3 → Nat :=
  let v205 : Index := Scalar.indexCast v204
  let c0_123 : Index := 0#32
  let c0_124 : Index := 0#32
  ![v205.toNat, 0, 0]

def k0_chk26 (v204 : BitVec 32) : Prop :=
  (∀ a, (k0_off75 v204) a + S1x1x256.size a ≤ S40401x1x256.size a)
theorem k0_off75_inb : ∀ (v204 : BitVec 32) (k0_hw26 : k0_chk26 v204), ∀ a, (k0_off75 v204) a + S1x1x256.size a ≤ S40401x1x256.size a := fun v204 k0_hw26 => k0_hw26

def k0_off76 (k0_t2 : Fin k0_t2_loop.trips) (k0_t3 : Fin k0_t3_loop.trips) : Fin 3 → Nat :=
  let c0_i32_1 : BitVec 32 := 0#32
  let c1_i32 : BitVec 32 := 1#32
  let arg10 : BitVec 32 := Scf.iv c0_i32_1 c1_i32 k0_t2
  let v209 : Index := Scalar.indexCast arg10
  let c0_126 : Index := 0#32
  let c4_i32_116 : BitVec 32 := 4#32
  let c0_i32_3 : BitVec 32 := 0#32
  let c1_i32_4 : BitVec 32 := 1#32
  let arg11 : BitVec 32 := Scf.iv c0_i32_3 c1_i32_4 k0_t3
  let c7_i32_115 : BitVec 32 := 7#32
  let v191 : BitVec 32 := Scalar.muli arg11 c7_i32_115
  let c6_i32 : BitVec 32 := 6#32
  let v192 : BitVec 32 := Scalar.addi v191 c6_i32
  let v193 : BitVec 32 := Scalar.muli c4_i32_116 v192
  let c2_i32_125 : BitVec 32 := 2#32
  let v208 : BitVec 32 := Scalar.addi v193 c2_i32_125
  let v210 : Index := Scalar.indexCast v208
  ![v209.toNat, 0, v210.toNat]
def k0_off77 (v211 : BitVec 32) : Fin 3 → Nat :=
  let v212 : Index := Scalar.indexCast v211
  let c0_127 : Index := 0#32
  let c0_128 : Index := 0#32
  ![v212.toNat, 0, 0]

def k0_chk27 (v211 : BitVec 32) : Prop :=
  (∀ a, (k0_off77 v211) a + S1x1x256.size a ≤ S40401x1x256.size a)
theorem k0_off77_inb : ∀ (v211 : BitVec 32) (k0_hw27 : k0_chk27 v211), ∀ a, (k0_off77 v211) a + S1x1x256.size a ≤ S40401x1x256.size a := fun v211 k0_hw27 => k0_hw27

def k0_off78 (k0_t2 : Fin k0_t2_loop.trips) (k0_t3 : Fin k0_t3_loop.trips) : Fin 3 → Nat :=
  let c0_i32_1 : BitVec 32 := 0#32
  let c1_i32 : BitVec 32 := 1#32
  let arg10 : BitVec 32 := Scf.iv c0_i32_1 c1_i32 k0_t2
  let v216 : Index := Scalar.indexCast arg10
  let c0_130 : Index := 0#32
  let c4_i32_116 : BitVec 32 := 4#32
  let c0_i32_3 : BitVec 32 := 0#32
  let c1_i32_4 : BitVec 32 := 1#32
  let arg11 : BitVec 32 := Scf.iv c0_i32_3 c1_i32_4 k0_t3
  let c7_i32_115 : BitVec 32 := 7#32
  let v191 : BitVec 32 := Scalar.muli arg11 c7_i32_115
  let c6_i32 : BitVec 32 := 6#32
  let v192 : BitVec 32 := Scalar.addi v191 c6_i32
  let v193 : BitVec 32 := Scalar.muli c4_i32_116 v192
  let c3_i32_129 : BitVec 32 := 3#32
  let v215 : BitVec 32 := Scalar.addi v193 c3_i32_129
  let v217 : Index := Scalar.indexCast v215
  ![v216.toNat, 0, v217.toNat]
def k0_off79 (v218 : BitVec 32) : Fin 3 → Nat :=
  let v219 : Index := Scalar.indexCast v218
  let c0_131 : Index := 0#32
  let c0_132 : Index := 0#32
  ![v219.toNat, 0, 0]

def k0_chk28 (v218 : BitVec 32) : Prop :=
  (∀ a, (k0_off79 v218) a + S1x1x256.size a ≤ S40401x1x256.size a)
theorem k0_off79_inb : ∀ (v218 : BitVec 32) (k0_hw28 : k0_chk28 v218), ∀ a, (k0_off79 v218) a + S1x1x256.size a ≤ S40401x1x256.size a := fun v218 k0_hw28 => k0_hw28

def k0_off80 (k0_t2 : Fin k0_t2_loop.trips) (k0_t3 : Fin k0_t3_loop.trips) : Fin 4 → Nat :=
  let c0_i32_1 : BitVec 32 := 0#32
  let c1_i32 : BitVec 32 := 1#32
  let arg10 : BitVec 32 := Scf.iv c0_i32_1 c1_i32 k0_t2
  let v225 : Index := Scalar.indexCast arg10
  let c0_i32_3 : BitVec 32 := 0#32
  let c1_i32_4 : BitVec 32 := 1#32
  let arg11 : BitVec 32 := Scf.iv c0_i32_3 c1_i32_4 k0_t3
  let v226 : Index := Scalar.indexCast arg11
  let c0_133 : Index := 0#32
  let c0_134 : Index := 0#32
  ![v225.toNat, v226.toNat, 0, 0]
def k0_off81 (k0_t2 : Fin k0_t2_loop.trips) (k0_t3 : Fin k0_t3_loop.trips) : Fin 4 → Nat :=
  let c0_i32_1 : BitVec 32 := 0#32
  let c1_i32 : BitVec 32 := 1#32
  let arg10 : BitVec 32 := Scf.iv c0_i32_1 c1_i32 k0_t2
  let v233 : Index := Scalar.indexCast arg10
  let c0_i32_3 : BitVec 32 := 0#32
  let c1_i32_4 : BitVec 32 := 1#32
  let arg11 : BitVec 32 := Scf.iv c0_i32_3 c1_i32_4 k0_t3
  let v234 : Index := Scalar.indexCast arg11
  let c1 : Index := 1#32
  let c0_135 : Index := 0#32
  ![v233.toNat, v234.toNat, 1, 0]
def k0_off82 (k0_t2 : Fin k0_t2_loop.trips) (k0_t3 : Fin k0_t3_loop.trips) : Fin 4 → Nat :=
  let c0_i32_1 : BitVec 32 := 0#32
  let c1_i32 : BitVec 32 := 1#32
  let arg10 : BitVec 32 := Scf.iv c0_i32_1 c1_i32 k0_t2
  let v241 : Index := Scalar.indexCast arg10
  let c0_i32_3 : BitVec 32 := 0#32
  let c1_i32_4 : BitVec 32 := 1#32
  let arg11 : BitVec 32 := Scf.iv c0_i32_3 c1_i32_4 k0_t3
  let v242 : Index := Scalar.indexCast arg11
  let c2 : Index := 2#32
  let c0_136 : Index := 0#32
  ![v241.toNat, v242.toNat, 2, 0]
def k0_off83 (k0_t2 : Fin k0_t2_loop.trips) (k0_t3 : Fin k0_t3_loop.trips) : Fin 4 → Nat :=
  let c0_i32_1 : BitVec 32 := 0#32
  let c1_i32 : BitVec 32 := 1#32
  let arg10 : BitVec 32 := Scf.iv c0_i32_1 c1_i32 k0_t2
  let v249 : Index := Scalar.indexCast arg10
  let c0_i32_3 : BitVec 32 := 0#32
  let c1_i32_4 : BitVec 32 := 1#32
  let arg11 : BitVec 32 := Scf.iv c0_i32_3 c1_i32_4 k0_t3
  let v250 : Index := Scalar.indexCast arg11
  let c3 : Index := 3#32
  let c0_137 : Index := 0#32
  ![v249.toNat, v250.toNat, 3, 0]
def k0_off84 (k0_t2 : Fin k0_t2_loop.trips) (k0_t3 : Fin k0_t3_loop.trips) : Fin 4 → Nat :=
  let c0_i32_1 : BitVec 32 := 0#32
  let c1_i32 : BitVec 32 := 1#32
  let arg10 : BitVec 32 := Scf.iv c0_i32_1 c1_i32 k0_t2
  let v257 : Index := Scalar.indexCast arg10
  let c0_i32_3 : BitVec 32 := 0#32
  let c1_i32_4 : BitVec 32 := 1#32
  let arg11 : BitVec 32 := Scf.iv c0_i32_3 c1_i32_4 k0_t3
  let v258 : Index := Scalar.indexCast arg11
  let c4 : Index := 4#32
  let c0_138 : Index := 0#32
  ![v257.toNat, v258.toNat, 4, 0]
def k0_off85 (k0_t2 : Fin k0_t2_loop.trips) (k0_t3 : Fin k0_t3_loop.trips) : Fin 4 → Nat :=
  let c0_i32_1 : BitVec 32 := 0#32
  let c1_i32 : BitVec 32 := 1#32
  let arg10 : BitVec 32 := Scf.iv c0_i32_1 c1_i32 k0_t2
  let v265 : Index := Scalar.indexCast arg10
  let c0_i32_3 : BitVec 32 := 0#32
  let c1_i32_4 : BitVec 32 := 1#32
  let arg11 : BitVec 32 := Scf.iv c0_i32_3 c1_i32_4 k0_t3
  let v266 : Index := Scalar.indexCast arg11
  let c5 : Index := 5#32
  let c0_139 : Index := 0#32
  ![v265.toNat, v266.toNat, 5, 0]
def k0_off86 (k0_t2 : Fin k0_t2_loop.trips) (k0_t3 : Fin k0_t3_loop.trips) : Fin 4 → Nat :=
  let c0_i32_1 : BitVec 32 := 0#32
  let c1_i32 : BitVec 32 := 1#32
  let arg10 : BitVec 32 := Scf.iv c0_i32_1 c1_i32 k0_t2
  let v273 : Index := Scalar.indexCast arg10
  let c0_i32_3 : BitVec 32 := 0#32
  let c1_i32_4 : BitVec 32 := 1#32
  let arg11 : BitVec 32 := Scf.iv c0_i32_3 c1_i32_4 k0_t3
  let v274 : Index := Scalar.indexCast arg11
  let c6 : Index := 6#32
  let c0_140 : Index := 0#32
  ![v273.toNat, v274.toNat, 6, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .smem S64x1x196 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x7x7x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S1x256x200x200 : Shape := ⟨4, ![1, 256, 200, 200]⟩
abbrev S1024x4 : Shape := ⟨2, ![1024, 4]⟩
abbrev S4 : Shape := ⟨1, ![4]⟩
abbrev S256x200x200 : Shape := ⟨3, ![256, 200, 200]⟩
abbrev S1x4 : Shape := ⟨2, ![1, 4]⟩
abbrev S1024x1 : Shape := ⟨2, ![1024, 1]⟩
abbrev S1024 : Shape := ⟨1, ![1024]⟩
abbrev S_ : Shape := ⟨0, ![]⟩
abbrev S7 : Shape := ⟨1, ![7]⟩
abbrev S1x7 : Shape := ⟨2, ![1, 7]⟩
abbrev S1024x7 : Shape := ⟨2, ![1024, 7]⟩
abbrev S256x201x201 : Shape := ⟨3, ![256, 201, 201]⟩
abbrev S1024x7x1 : Shape := ⟨3, ![1024, 7, 1]⟩
abbrev S1024x1x7 : Shape := ⟨3, ![1024, 1, 7]⟩
abbrev S1024x7x7 : Shape := ⟨3, ![1024, 7, 7]⟩
abbrev S1024x7x7x1 : Shape := ⟨4, ![1024, 7, 7, 1]⟩
abbrev S1024x7x7x2 : Shape := ⟨4, ![1024, 7, 7, 2]⟩
abbrev S256x1024x7x7 : Shape := ⟨4, ![256, 1024, 7, 7]⟩
abbrev S1024x256x7x7 : Shape := ⟨4, ![1024, 256, 7, 7]⟩
abbrev S1024x1x7x7 : Shape := ⟨4, ![1024, 1, 7, 7]⟩

abbrev nBuf : Space → Nat
  | .hbm => 296
  | .vmem => 0
  | .smem => 0
  | _ => 0

abbrev hbmTy0_0 (i : Nat) : BufTy := match i % 128 with
  | 0 => ⟨S1x256x200x200, .f32⟩
  | 1 => ⟨S1024x4, .f32⟩
  | 2 => ⟨S4, .f32⟩
  | 3 => ⟨S256x200x200, .f32⟩
  | 4 => ⟨S1x4, .f32⟩
  | 5 => ⟨S1024x4, .f32⟩
  | 6 => ⟨S1024x4, .f32⟩
  | 7 => ⟨S1024x4, .f32⟩
  | 8 => ⟨S1024x4, .i32⟩
  | 9 => ⟨S1024x1, .i32⟩
  | 10 => ⟨S1024, .i32⟩
  | 11 => ⟨S_, .i32⟩
  | 12 => ⟨S_, .i32⟩
  | 13 => ⟨S_, .i32⟩
  | 14 => ⟨S1024, .i32⟩
  | 15 => ⟨S1024, .i32⟩
  | 16 => ⟨S_, .i32⟩
  | 17 => ⟨S1024, .i32⟩
  | 18 => ⟨S1024, .i32⟩
  | 19 => ⟨S1024x1, .i32⟩
  | 20 => ⟨S1024, .i32⟩
  | 21 => ⟨S_, .i32⟩
  | 22 => ⟨S_, .i32⟩
  | 23 => ⟨S_, .i32⟩
  | 24 => ⟨S1024, .i32⟩
  | 25 => ⟨S1024, .i32⟩
  | 26 => ⟨S_, .i32⟩
  | 27 => ⟨S1024, .i32⟩
  | 28 => ⟨S1024, .i32⟩
  | 29 => ⟨S1024x1, .i32⟩
  | 30 => ⟨S1024, .i32⟩
  | 31 => ⟨S_, .i32⟩
  | 32 => ⟨S1024, .i32⟩
  | 33 => ⟨S1024, .i32⟩
  | 34 => ⟨S_, .i32⟩
  | 35 => ⟨S1024, .i32⟩
  | 36 => ⟨S1024, .i32⟩
  | 37 => ⟨S_, .i32⟩
  | 38 => ⟨S1024, .i32⟩
  | 39 => ⟨S_, .i32⟩
  | 40 => ⟨S1024, .i32⟩
  | 41 => ⟨S1024, .i32⟩
  | 42 => ⟨S1024x1, .i32⟩
  | 43 => ⟨S1024, .i32⟩
  | 44 => ⟨S_, .i32⟩
  | 45 => ⟨S1024, .i32⟩
  | 46 => ⟨S1024, .i32⟩
  | 47 => ⟨S_, .i32⟩
  | 48 => ⟨S1024, .i32⟩
  | 49 => ⟨S1024, .i32⟩
  | 50 => ⟨S_, .i32⟩
  | 51 => ⟨S1024, .i32⟩
  | 52 => ⟨S_, .i32⟩
  | 53 => ⟨S1024, .i32⟩
  | 54 => ⟨S1024, .i32⟩
  | 55 => ⟨S1024, .i32⟩
  | 56 => ⟨S1024, .i32⟩
  | 57 => ⟨S7, .i32⟩
  | 58 => ⟨S7, .i32⟩
  | 59 => ⟨S1024x1, .i32⟩
  | 60 => ⟨S1x7, .i32⟩
  | 61 => ⟨S1024x1, .i32⟩
  | 62 => ⟨S1024x7, .i32⟩
  | 63 => ⟨S1024x7, .i32⟩
  | 64 => ⟨S1024x7, .i32⟩
  | 65 => ⟨S_, .i32⟩
  | 66 => ⟨S_, .i32⟩
  | 67 => ⟨S1024x7, .i32⟩
  | 68 => ⟨S1024x7, .i32⟩
  | 69 => ⟨S1024x7, .i32⟩
  | 70 => ⟨S_, .i32⟩
  | 71 => ⟨S1024x7, .i32⟩
  | 72 => ⟨S1024x7, .i1⟩
  | 73 => ⟨S1024x7, .i32⟩
  | 74 => ⟨S1024x7, .i32⟩
  | 75 => ⟨S_, .i32⟩
  | 76 => ⟨S1024x7, .i32⟩
  | 77 => ⟨S1024x7, .i1⟩
  | 78 => ⟨S1024x7, .i1⟩
  | 79 => ⟨S_, .i32⟩
  | 80 => ⟨S1024x7, .i32⟩
  | 81 => ⟨S1024x7, .i32⟩
  | 82 => ⟨S1024x7, .i32⟩
  | 83 => ⟨S1024x7, .i32⟩
  | 84 => ⟨S1024x7, .i32⟩
  | 85 => ⟨S1024x1, .i32⟩
  | 86 => ⟨S1x7, .i32⟩
  | 87 => ⟨S_, .i32⟩
  | 88 => ⟨S1x7, .i32⟩
  | 89 => ⟨S1x7, .i32⟩
  | 90 => ⟨S1024x1, .i32⟩
  | 91 => ⟨S1024x7, .i32⟩
  | 92 => ⟨S1024x7, .i32⟩
  | 93 => ⟨S1024x7, .i32⟩
  | 94 => ⟨S_, .i32⟩
  | 95 => ⟨S1024x7, .i32⟩
  | 96 => ⟨S1024x7, .i32⟩
  | 97 => ⟨S_, .i32⟩
  | 98 => ⟨S1024x7, .i32⟩
  | 99 => ⟨S1024x7, .i32⟩
  | 100 => ⟨S_, .i32⟩
  | 101 => ⟨S_, .i32⟩
  | 102 => ⟨S1024x7, .i32⟩
  | 103 => ⟨S1024x7, .i32⟩
  | 104 => ⟨S1024x7, .i32⟩
  | 105 => ⟨S_, .i32⟩
  | 106 => ⟨S1024x7, .i32⟩
  | 107 => ⟨S1024x7, .i1⟩
  | 108 => ⟨S1024x7, .i32⟩
  | 109 => ⟨S1024x7, .i32⟩
  | 110 => ⟨S_, .i32⟩
  | 111 => ⟨S1024x7, .i32⟩
  | 112 => ⟨S1024x7, .i1⟩
  | 113 => ⟨S1024x7, .i1⟩
  | 114 => ⟨S_, .i32⟩
  | 115 => ⟨S1024x7, .i32⟩
  | 116 => ⟨S1024x7, .i32⟩
  | 117 => ⟨S1024x7, .i32⟩
  | 118 => ⟨S1024x7, .i32⟩
  | 119 => ⟨S1024x7, .i32⟩
  | 120 => ⟨S1024x1, .i32⟩
  | 121 => ⟨S1x7, .i32⟩
  | 122 => ⟨S1024x1, .i32⟩
  | 123 => ⟨S1024x7, .i32⟩
  | 124 => ⟨S1024x7, .i32⟩
  | 125 => ⟨S1024x7, .i32⟩
  | 126 => ⟨S_, .i32⟩
  | 127 => ⟨S_, .i32⟩
  | _ => ⟨S1x256x200x200, .f32⟩

abbrev hbmTy0_1 (i : Nat) : BufTy := match i % 128 with
  | 0 => ⟨S1024x7, .i32⟩
  | 1 => ⟨S1024x7, .i32⟩
  | 2 => ⟨S1024x7, .i32⟩
  | 3 => ⟨S_, .i32⟩
  | 4 => ⟨S1024x7, .i32⟩
  | 5 => ⟨S1024x7, .i1⟩
  | 6 => ⟨S1024x7, .i32⟩
  | 7 => ⟨S1024x7, .i32⟩
  | 8 => ⟨S_, .i32⟩
  | 9 => ⟨S1024x7, .i32⟩
  | 10 => ⟨S1024x7, .i1⟩
  | 11 => ⟨S1024x7, .i1⟩
  | 12 => ⟨S_, .i32⟩
  | 13 => ⟨S1024x7, .i32⟩
  | 14 => ⟨S1024x7, .i32⟩
  | 15 => ⟨S1024x7, .i32⟩
  | 16 => ⟨S1024x7, .i32⟩
  | 17 => ⟨S1024x7, .i32⟩
  | 18 => ⟨S1024x1, .i32⟩
  | 19 => ⟨S1x7, .i32⟩
  | 20 => ⟨S_, .i32⟩
  | 21 => ⟨S1x7, .i32⟩
  | 22 => ⟨S1x7, .i32⟩
  | 23 => ⟨S1024x1, .i32⟩
  | 24 => ⟨S1024x7, .i32⟩
  | 25 => ⟨S1024x7, .i32⟩
  | 26 => ⟨S1024x7, .i32⟩
  | 27 => ⟨S_, .i32⟩
  | 28 => ⟨S1024x7, .i32⟩
  | 29 => ⟨S1024x7, .i32⟩
  | 30 => ⟨S_, .i32⟩
  | 31 => ⟨S1024x7, .i32⟩
  | 32 => ⟨S1024x7, .i32⟩
  | 33 => ⟨S_, .i32⟩
  | 34 => ⟨S_, .i32⟩
  | 35 => ⟨S1024x7, .i32⟩
  | 36 => ⟨S1024x7, .i32⟩
  | 37 => ⟨S1024x7, .i32⟩
  | 38 => ⟨S_, .i32⟩
  | 39 => ⟨S1024x7, .i32⟩
  | 40 => ⟨S1024x7, .i1⟩
  | 41 => ⟨S1024x7, .i32⟩
  | 42 => ⟨S1024x7, .i32⟩
  | 43 => ⟨S_, .i32⟩
  | 44 => ⟨S1024x7, .i32⟩
  | 45 => ⟨S1024x7, .i1⟩
  | 46 => ⟨S1024x7, .i1⟩
  | 47 => ⟨S_, .i32⟩
  | 48 => ⟨S1024x7, .i32⟩
  | 49 => ⟨S1024x7, .i32⟩
  | 50 => ⟨S1024x7, .i32⟩
  | 51 => ⟨S1024x7, .i32⟩
  | 52 => ⟨S1024x7, .i32⟩
  | 53 => ⟨S_, .f32⟩
  | 54 => ⟨S_, .f32⟩
  | 55 => ⟨S256x200x200, .f32⟩
  | 56 => ⟨S_, .f32⟩
  | 57 => ⟨S_, .f32⟩
  | 58 => ⟨S256x200x200, .f32⟩
  | 59 => ⟨S_, .i32⟩
  | 60 => ⟨S_, .f32⟩
  | 61 => ⟨S256x201x201, .f32⟩
  | 62 => ⟨S1024x7x1, .i32⟩
  | 63 => ⟨S1024x1x7, .i32⟩
  | 64 => ⟨S_, .i32⟩
  | 65 => ⟨S1024x7x1, .i32⟩
  | 66 => ⟨S1024x7x1, .i1⟩
  | 67 => ⟨S_, .i32⟩
  | 68 => ⟨S1024x7x1, .i32⟩
  | 69 => ⟨S1024x7x1, .i32⟩
  | 70 => ⟨S1024x7x1, .i32⟩
  | 71 => ⟨S_, .i32⟩
  | 72 => ⟨S1024x1x7, .i32⟩
  | 73 => ⟨S1024x1x7, .i1⟩
  | 74 => ⟨S_, .i32⟩
  | 75 => ⟨S1024x1x7, .i32⟩
  | 76 => ⟨S1024x1x7, .i32⟩
  | 77 => ⟨S1024x1x7, .i32⟩
  | 78 => ⟨S1024x7x7, .i32⟩
  | 79 => ⟨S1024x7x7, .i32⟩
  | 80 => ⟨S1024x7x7x1, .i32⟩
  | 81 => ⟨S1024x7x7x1, .i32⟩
  | 82 => ⟨S1024x7x7x2, .i32⟩
  | 83 => ⟨S256x1024x7x7, .f32⟩
  | 84 => ⟨S1024x256x7x7, .f32⟩
  | 85 => ⟨S1024x7x1, .i32⟩
  | 86 => ⟨S1024x1x7, .i32⟩
  | 87 => ⟨S_, .i32⟩
  | 88 => ⟨S1024x7x1, .i32⟩
  | 89 => ⟨S1024x7x1, .i1⟩
  | 90 => ⟨S_, .i32⟩
  | 91 => ⟨S1024x7x1, .i32⟩
  | 92 => ⟨S1024x7x1, .i32⟩
  | 93 => ⟨S1024x7x1, .i32⟩
  | 94 => ⟨S_, .i32⟩
  | 95 => ⟨S1024x1x7, .i32⟩
  | 96 => ⟨S1024x1x7, .i1⟩
  | 97 => ⟨S_, .i32⟩
  | 98 => ⟨S1024x1x7, .i32⟩
  | 99 => ⟨S1024x1x7, .i32⟩
  | 100 => ⟨S1024x1x7, .i32⟩
  | 101 => ⟨S1024x7x7, .i32⟩
  | 102 => ⟨S1024x7x7, .i32⟩
  | 103 => ⟨S1024x7x7x1, .i32⟩
  | 104 => ⟨S1024x7x7x1, .i32⟩
  | 105 => ⟨S1024x7x7x2, .i32⟩
  | 106 => ⟨S256x1024x7x7, .f32⟩
  | 107 => ⟨S1024x256x7x7, .f32⟩
  | 108 => ⟨S1024x256x7x7, .f32⟩
  | 109 => ⟨S1024x7x1, .i32⟩
  | 110 => ⟨S1024x1x7, .i32⟩
  | 111 => ⟨S_, .i32⟩
  | 112 => ⟨S1024x7x1, .i32⟩
  | 113 => ⟨S1024x7x1, .i1⟩
  | 114 => ⟨S_, .i32⟩
  | 115 => ⟨S1024x7x1, .i32⟩
  | 116 => ⟨S1024x7x1, .i32⟩
  | 117 => ⟨S1024x7x1, .i32⟩
  | 118 => ⟨S_, .i32⟩
  | 119 => ⟨S1024x1x7, .i32⟩
  | 120 => ⟨S1024x1x7, .i1⟩
  | 121 => ⟨S_, .i32⟩
  | 122 => ⟨S1024x1x7, .i32⟩
  | 123 => ⟨S1024x1x7, .i32⟩
  | 124 => ⟨S1024x1x7, .i32⟩
  | 125 => ⟨S1024x7x7, .i32⟩
  | 126 => ⟨S1024x7x7, .i32⟩
  | 127 => ⟨S1024x7x7x1, .i32⟩
  | _ => ⟨S1x256x200x200, .f32⟩

abbrev hbmTy0_2 (i : Nat) : BufTy := match i % 128 with
  | 0 => ⟨S1024x7x7x1, .i32⟩
  | 1 => ⟨S1024x7x7x2, .i32⟩
  | 2 => ⟨S256x1024x7x7, .f32⟩
  | 3 => ⟨S1024x256x7x7, .f32⟩
  | 4 => ⟨S1024x256x7x7, .f32⟩
  | 5 => ⟨S1024x7x1, .i32⟩
  | 6 => ⟨S1024x1x7, .i32⟩
  | 7 => ⟨S_, .i32⟩
  | 8 => ⟨S1024x7x1, .i32⟩
  | 9 => ⟨S1024x7x1, .i1⟩
  | 10 => ⟨S_, .i32⟩
  | 11 => ⟨S1024x7x1, .i32⟩
  | 12 => ⟨S1024x7x1, .i32⟩
  | 13 => ⟨S1024x7x1, .i32⟩
  | 14 => ⟨S_, .i32⟩
  | 15 => ⟨S1024x1x7, .i32⟩
  | 16 => ⟨S1024x1x7, .i1⟩
  | 17 => ⟨S_, .i32⟩
  | 18 => ⟨S1024x1x7, .i32⟩
  | 19 => ⟨S1024x1x7, .i32⟩
  | 20 => ⟨S1024x1x7, .i32⟩
  | 21 => ⟨S1024x7x7, .i32⟩
  | 22 => ⟨S1024x7x7, .i32⟩
  | 23 => ⟨S1024x7x7x1, .i32⟩
  | 24 => ⟨S1024x7x7x1, .i32⟩
  | 25 => ⟨S1024x7x7x2, .i32⟩
  | 26 => ⟨S256x1024x7x7, .f32⟩
  | 27 => ⟨S1024x256x7x7, .f32⟩
  | 28 => ⟨S1024x256x7x7, .f32⟩
  | 29 => ⟨S1024x7, .i32⟩
  | 30 => ⟨S1024x7x1, .i32⟩
  | 31 => ⟨S1024x7, .i32⟩
  | 32 => ⟨S1024x1x7, .i32⟩
  | 33 => ⟨S1024x7x7, .i32⟩
  | 34 => ⟨S1024x7x7, .i32⟩
  | 35 => ⟨S1024x7x7, .i32⟩
  | 36 => ⟨S1024x7x7, .f32⟩
  | 37 => ⟨S1024x1x7x7, .f32⟩
  | 38 => ⟨S1024x256x7x7, .f32⟩
  | 39 => ⟨S1024x256x7x7, .f32⟩
  | _ => ⟨S1x256x200x200, .f32⟩

abbrev hbmTy (i : Nat) : BufTy := match i / 128 with
  | 0 => hbmTy0_0 i
  | 1 => hbmTy0_1 i
  | 2 => hbmTy0_2 i
  | _ => ⟨S1x256x200x200, .f32⟩

abbrev bufTy : (tb : Table) → Fin (tcTables nBuf tb) → BufTy
  | .hbm, ⟨i, _⟩ => hbmTy i
  | _, _ => ⟨S1x256x200x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_c_2 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_c_5 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_6 : Ref sig .tc := ⟨.hbm, 44, rfl⟩
abbrev main_v21 : Ref sig .tc := ⟨.hbm, 45, rfl⟩
abbrev main_v22 : Ref sig .tc := ⟨.hbm, 46, rfl⟩
abbrev main_c_7 : Ref sig .tc := ⟨.hbm, 47, rfl⟩
abbrev main_v23 : Ref sig .tc := ⟨.hbm, 48, rfl⟩
abbrev main_v24 : Ref sig .tc := ⟨.hbm, 49, rfl⟩
abbrev main_c_8 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_9 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_call4_v3 : Ref sig .tc := ⟨.hbm, 69, rfl⟩
abbrev main_call4_v4 : Ref sig .tc := ⟨.hbm, 70, rfl⟩
abbrev main_call4_v5 : Ref sig .tc := ⟨.hbm, 71, rfl⟩
abbrev main_call4_v6 : Ref sig .tc := ⟨.hbm, 72, rfl⟩
abbrev main_call4_v7 : Ref sig .tc := ⟨.hbm, 73, rfl⟩
abbrev main_call4_v8 : Ref sig .tc := ⟨.hbm, 74, rfl⟩
abbrev main_call4_c : Ref sig .tc := ⟨.hbm, 75, rfl⟩
abbrev main_call4_v9 : Ref sig .tc := ⟨.hbm, 76, rfl⟩
abbrev main_call4_v10 : Ref sig .tc := ⟨.hbm, 77, rfl⟩
abbrev main_call4_v11 : Ref sig .tc := ⟨.hbm, 78, rfl⟩
abbrev main_call4_c_0 : Ref sig .tc := ⟨.hbm, 79, rfl⟩
abbrev main_call4_v12 : Ref sig .tc := ⟨.hbm, 80, rfl⟩
abbrev main_call4_v13 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_c_10 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_c_11 : Ref sig .tc := ⟨.hbm, 94, rfl⟩
abbrev main_v47 : Ref sig .tc := ⟨.hbm, 95, rfl⟩
abbrev main_v48 : Ref sig .tc := ⟨.hbm, 96, rfl⟩
abbrev main_c_12 : Ref sig .tc := ⟨.hbm, 97, rfl⟩
abbrev main_v49 : Ref sig .tc := ⟨.hbm, 98, rfl⟩
abbrev main_v50 : Ref sig .tc := ⟨.hbm, 99, rfl⟩
abbrev main_c_13 : Ref sig .tc := ⟨.hbm, 100, rfl⟩
abbrev main_call5_v0 : Ref sig .tc := ⟨.hbm, 101, rfl⟩
abbrev main_call5_v1 : Ref sig .tc := ⟨.hbm, 102, rfl⟩
abbrev main_call5_v2 : Ref sig .tc := ⟨.hbm, 103, rfl⟩
abbrev main_call5_v3 : Ref sig .tc := ⟨.hbm, 104, rfl⟩
abbrev main_call5_v4 : Ref sig .tc := ⟨.hbm, 105, rfl⟩
abbrev main_call5_v5 : Ref sig .tc := ⟨.hbm, 106, rfl⟩
abbrev main_call5_v6 : Ref sig .tc := ⟨.hbm, 107, rfl⟩
abbrev main_call5_v7 : Ref sig .tc := ⟨.hbm, 108, rfl⟩
abbrev main_call5_v8 : Ref sig .tc := ⟨.hbm, 109, rfl⟩
abbrev main_call5_c : Ref sig .tc := ⟨.hbm, 110, rfl⟩
abbrev main_call5_v9 : Ref sig .tc := ⟨.hbm, 111, rfl⟩
abbrev main_call5_v10 : Ref sig .tc := ⟨.hbm, 112, rfl⟩
abbrev main_call5_v11 : Ref sig .tc := ⟨.hbm, 113, rfl⟩
abbrev main_call5_c_0 : Ref sig .tc := ⟨.hbm, 114, rfl⟩
abbrev main_call5_v12 : Ref sig .tc := ⟨.hbm, 115, rfl⟩
abbrev main_call5_v13 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_c_14 : Ref sig .tc := ⟨.hbm, 126, rfl⟩
abbrev main_call6_v0 : Ref sig .tc := ⟨.hbm, 127, rfl⟩
abbrev main_call6_v1 : Ref sig .tc := ⟨.hbm, 128, rfl⟩
abbrev main_call6_v2 : Ref sig .tc := ⟨.hbm, 129, rfl⟩
abbrev main_call6_v3 : Ref sig .tc := ⟨.hbm, 130, rfl⟩
abbrev main_call6_v4 : Ref sig .tc := ⟨.hbm, 131, rfl⟩
abbrev main_call6_v5 : Ref sig .tc := ⟨.hbm, 132, rfl⟩
abbrev main_call6_v6 : Ref sig .tc := ⟨.hbm, 133, rfl⟩
abbrev main_call6_v7 : Ref sig .tc := ⟨.hbm, 134, rfl⟩
abbrev main_call6_v8 : Ref sig .tc := ⟨.hbm, 135, rfl⟩
abbrev main_call6_c : Ref sig .tc := ⟨.hbm, 136, rfl⟩
abbrev main_call6_v9 : Ref sig .tc := ⟨.hbm, 137, rfl⟩
abbrev main_call6_v10 : Ref sig .tc := ⟨.hbm, 138, rfl⟩
abbrev main_call6_v11 : Ref sig .tc := ⟨.hbm, 139, rfl⟩
abbrev main_call6_c_0 : Ref sig .tc := ⟨.hbm, 140, rfl⟩
abbrev main_call6_v12 : Ref sig .tc := ⟨.hbm, 141, rfl⟩
abbrev main_call6_v13 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_c_15 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_c_16 : Ref sig .tc := ⟨.hbm, 155, rfl⟩
abbrev main_v71 : Ref sig .tc := ⟨.hbm, 156, rfl⟩
abbrev main_v72 : Ref sig .tc := ⟨.hbm, 157, rfl⟩
abbrev main_c_17 : Ref sig .tc := ⟨.hbm, 158, rfl⟩
abbrev main_v73 : Ref sig .tc := ⟨.hbm, 159, rfl⟩
abbrev main_v74 : Ref sig .tc := ⟨.hbm, 160, rfl⟩
abbrev main_c_18 : Ref sig .tc := ⟨.hbm, 161, rfl⟩
abbrev main_call7_v0 : Ref sig .tc := ⟨.hbm, 162, rfl⟩
abbrev main_call7_v1 : Ref sig .tc := ⟨.hbm, 163, rfl⟩
abbrev main_call7_v2 : Ref sig .tc := ⟨.hbm, 164, rfl⟩
abbrev main_call7_v3 : Ref sig .tc := ⟨.hbm, 165, rfl⟩
abbrev main_call7_v4 : Ref sig .tc := ⟨.hbm, 166, rfl⟩
abbrev main_call7_v5 : Ref sig .tc := ⟨.hbm, 167, rfl⟩
abbrev main_call7_v6 : Ref sig .tc := ⟨.hbm, 168, rfl⟩
abbrev main_call7_v7 : Ref sig .tc := ⟨.hbm, 169, rfl⟩
abbrev main_call7_v8 : Ref sig .tc := ⟨.hbm, 170, rfl⟩
abbrev main_call7_c : Ref sig .tc := ⟨.hbm, 171, rfl⟩
abbrev main_call7_v9 : Ref sig .tc := ⟨.hbm, 172, rfl⟩
abbrev main_call7_v10 : Ref sig .tc := ⟨.hbm, 173, rfl⟩
abbrev main_call7_v11 : Ref sig .tc := ⟨.hbm, 174, rfl⟩
abbrev main_call7_c_0 : Ref sig .tc := ⟨.hbm, 175, rfl⟩
abbrev main_call7_v12 : Ref sig .tc := ⟨.hbm, 176, rfl⟩
abbrev main_call7_v13 : Ref sig .tc := ⟨.hbm, 177, rfl⟩
abbrev main_v75 : Ref sig .tc := ⟨.hbm, 178, rfl⟩
abbrev main_v76 : Ref sig .tc := ⟨.hbm, 179, rfl⟩
abbrev main_v77 : Ref sig .tc := ⟨.hbm, 180, rfl⟩
abbrev main_call8_call0_cst : Ref sig .tc := ⟨.hbm, 181, rfl⟩
abbrev main_call8_call0_v0 : Ref sig .tc := ⟨.hbm, 182, rfl⟩
abbrev main_v78 : Ref sig .tc := ⟨.hbm, 183, rfl⟩
abbrev main_call9_call0_cst : Ref sig .tc := ⟨.hbm, 184, rfl⟩
abbrev main_call9_call0_v0 : Ref sig .tc := ⟨.hbm, 185, rfl⟩
abbrev main_v79 : Ref sig .tc := ⟨.hbm, 186, rfl⟩
abbrev main_c_19 : Ref sig .tc := ⟨.hbm, 187, rfl⟩
abbrev main_call10_v0 : Ref sig .tc := ⟨.hbm, 188, rfl⟩
abbrev main_v80 : Ref sig .tc := ⟨.hbm, 189, rfl⟩
abbrev main_v81 : Ref sig .tc := ⟨.hbm, 190, rfl⟩
abbrev main_v82 : Ref sig .tc := ⟨.hbm, 191, rfl⟩
abbrev main_c_20 : Ref sig .tc := ⟨.hbm, 192, rfl⟩
abbrev main_v83 : Ref sig .tc := ⟨.hbm, 193, rfl⟩
abbrev main_v84 : Ref sig .tc := ⟨.hbm, 194, rfl⟩
abbrev main_c_21 : Ref sig .tc := ⟨.hbm, 195, rfl⟩
abbrev main_v85 : Ref sig .tc := ⟨.hbm, 196, rfl⟩
abbrev main_v86 : Ref sig .tc := ⟨.hbm, 197, rfl⟩
abbrev main_v87 : Ref sig .tc := ⟨.hbm, 198, rfl⟩
abbrev main_c_22 : Ref sig .tc := ⟨.hbm, 199, rfl⟩
abbrev main_v88 : Ref sig .tc := ⟨.hbm, 200, rfl⟩
abbrev main_v89 : Ref sig .tc := ⟨.hbm, 201, rfl⟩
abbrev main_c_23 : Ref sig .tc := ⟨.hbm, 202, rfl⟩
abbrev main_v90 : Ref sig .tc := ⟨.hbm, 203, rfl⟩
abbrev main_v91 : Ref sig .tc := ⟨.hbm, 204, rfl⟩
abbrev main_v92 : Ref sig .tc := ⟨.hbm, 205, rfl⟩
abbrev main_v93 : Ref sig .tc := ⟨.hbm, 206, rfl⟩
abbrev main_v94 : Ref sig .tc := ⟨.hbm, 207, rfl⟩
abbrev main_v95 : Ref sig .tc := ⟨.hbm, 208, rfl⟩
abbrev main_v96 : Ref sig .tc := ⟨.hbm, 209, rfl⟩
abbrev main_v97 : Ref sig .tc := ⟨.hbm, 210, rfl⟩
abbrev main_v98 : Ref sig .tc := ⟨.hbm, 211, rfl⟩
abbrev main_v99 : Ref sig .tc := ⟨.hbm, 212, rfl⟩
abbrev main_v100 : Ref sig .tc := ⟨.hbm, 213, rfl⟩
abbrev main_v101 : Ref sig .tc := ⟨.hbm, 214, rfl⟩
abbrev main_c_24 : Ref sig .tc := ⟨.hbm, 215, rfl⟩
abbrev main_v102 : Ref sig .tc := ⟨.hbm, 216, rfl⟩
abbrev main_v103 : Ref sig .tc := ⟨.hbm, 217, rfl⟩
abbrev main_c_25 : Ref sig .tc := ⟨.hbm, 218, rfl⟩
abbrev main_v104 : Ref sig .tc := ⟨.hbm, 219, rfl⟩
abbrev main_v105 : Ref sig .tc := ⟨.hbm, 220, rfl⟩
abbrev main_v106 : Ref sig .tc := ⟨.hbm, 221, rfl⟩
abbrev main_c_26 : Ref sig .tc := ⟨.hbm, 222, rfl⟩
abbrev main_v107 : Ref sig .tc := ⟨.hbm, 223, rfl⟩
abbrev main_v108 : Ref sig .tc := ⟨.hbm, 224, rfl⟩
abbrev main_c_27 : Ref sig .tc := ⟨.hbm, 225, rfl⟩
abbrev main_v109 : Ref sig .tc := ⟨.hbm, 226, rfl⟩
abbrev main_v110 : Ref sig .tc := ⟨.hbm, 227, rfl⟩
abbrev main_v111 : Ref sig .tc := ⟨.hbm, 228, rfl⟩
abbrev main_v112 : Ref sig .tc := ⟨.hbm, 229, rfl⟩
abbrev main_v113 : Ref sig .tc := ⟨.hbm, 230, rfl⟩
abbrev main_v114 : Ref sig .tc := ⟨.hbm, 231, rfl⟩
abbrev main_v115 : Ref sig .tc := ⟨.hbm, 232, rfl⟩
abbrev main_v116 : Ref sig .tc := ⟨.hbm, 233, rfl⟩
abbrev main_v117 : Ref sig .tc := ⟨.hbm, 234, rfl⟩
abbrev main_v118 : Ref sig .tc := ⟨.hbm, 235, rfl⟩
abbrev main_v119 : Ref sig .tc := ⟨.hbm, 236, rfl⟩
abbrev main_v120 : Ref sig .tc := ⟨.hbm, 237, rfl⟩
abbrev main_v121 : Ref sig .tc := ⟨.hbm, 238, rfl⟩
abbrev main_c_28 : Ref sig .tc := ⟨.hbm, 239, rfl⟩
abbrev main_v122 : Ref sig .tc := ⟨.hbm, 240, rfl⟩
abbrev main_v123 : Ref sig .tc := ⟨.hbm, 241, rfl⟩
abbrev main_c_29 : Ref sig .tc := ⟨.hbm, 242, rfl⟩
abbrev main_v124 : Ref sig .tc := ⟨.hbm, 243, rfl⟩
abbrev main_v125 : Ref sig .tc := ⟨.hbm, 244, rfl⟩
abbrev main_v126 : Ref sig .tc := ⟨.hbm, 245, rfl⟩
abbrev main_c_30 : Ref sig .tc := ⟨.hbm, 246, rfl⟩
abbrev main_v127 : Ref sig .tc := ⟨.hbm, 247, rfl⟩
abbrev main_v128 : Ref sig .tc := ⟨.hbm, 248, rfl⟩
abbrev main_c_31 : Ref sig .tc := ⟨.hbm, 249, rfl⟩
abbrev main_v129 : Ref sig .tc := ⟨.hbm, 250, rfl⟩
abbrev main_v130 : Ref sig .tc := ⟨.hbm, 251, rfl⟩
abbrev main_v131 : Ref sig .tc := ⟨.hbm, 252, rfl⟩
abbrev main_v132 : Ref sig .tc := ⟨.hbm, 253, rfl⟩
abbrev main_v133 : Ref sig .tc := ⟨.hbm, 254, rfl⟩
abbrev main_v134 : Ref sig .tc := ⟨.hbm, 255, rfl⟩
abbrev main_v135 : Ref sig .tc := ⟨.hbm, 256, rfl⟩
abbrev main_v136 : Ref sig .tc := ⟨.hbm, 257, rfl⟩
abbrev main_v137 : Ref sig .tc := ⟨.hbm, 258, rfl⟩
abbrev main_v138 : Ref sig .tc := ⟨.hbm, 259, rfl⟩
abbrev main_v139 : Ref sig .tc := ⟨.hbm, 260, rfl⟩
abbrev main_v140 : Ref sig .tc := ⟨.hbm, 261, rfl⟩
abbrev main_v141 : Ref sig .tc := ⟨.hbm, 262, rfl⟩
abbrev main_c_32 : Ref sig .tc := ⟨.hbm, 263, rfl⟩
abbrev main_v142 : Ref sig .tc := ⟨.hbm, 264, rfl⟩
abbrev main_v143 : Ref sig .tc := ⟨.hbm, 265, rfl⟩
abbrev main_c_33 : Ref sig .tc := ⟨.hbm, 266, rfl⟩
abbrev main_v144 : Ref sig .tc := ⟨.hbm, 267, rfl⟩
abbrev main_v145 : Ref sig .tc := ⟨.hbm, 268, rfl⟩
abbrev main_v146 : Ref sig .tc := ⟨.hbm, 269, rfl⟩
abbrev main_c_34 : Ref sig .tc := ⟨.hbm, 270, rfl⟩
abbrev main_v147 : Ref sig .tc := ⟨.hbm, 271, rfl⟩
abbrev main_v148 : Ref sig .tc := ⟨.hbm, 272, rfl⟩
abbrev main_c_35 : Ref sig .tc := ⟨.hbm, 273, rfl⟩
abbrev main_v149 : Ref sig .tc := ⟨.hbm, 274, rfl⟩
abbrev main_v150 : Ref sig .tc := ⟨.hbm, 275, rfl⟩
abbrev main_v151 : Ref sig .tc := ⟨.hbm, 276, rfl⟩
abbrev main_v152 : Ref sig .tc := ⟨.hbm, 277, rfl⟩
abbrev main_v153 : Ref sig .tc := ⟨.hbm, 278, rfl⟩
abbrev main_v154 : Ref sig .tc := ⟨.hbm, 279, rfl⟩
abbrev main_v155 : Ref sig .tc := ⟨.hbm, 280, rfl⟩
abbrev main_v156 : Ref sig .tc := ⟨.hbm, 281, rfl⟩
abbrev main_v157 : Ref sig .tc := ⟨.hbm, 282, rfl⟩
abbrev main_v158 : Ref sig .tc := ⟨.hbm, 283, rfl⟩
abbrev main_v159 : Ref sig .tc := ⟨.hbm, 284, rfl⟩
abbrev main_v160 : Ref sig .tc := ⟨.hbm, 285, rfl⟩
abbrev main_v161 : Ref sig .tc := ⟨.hbm, 286, rfl⟩
abbrev main_v162 : Ref sig .tc := ⟨.hbm, 287, rfl⟩
abbrev main_v163 : Ref sig .tc := ⟨.hbm, 288, rfl⟩
abbrev main_v164 : Ref sig .tc := ⟨.hbm, 289, rfl⟩
abbrev main_v165 : Ref sig .tc := ⟨.hbm, 290, rfl⟩
abbrev main_v166 : Ref sig .tc := ⟨.hbm, 291, rfl⟩
abbrev main_v167 : Ref sig .tc := ⟨.hbm, 292, rfl⟩
abbrev main_v168 : Ref sig .tc := ⟨.hbm, 293, rfl⟩
abbrev main_v169 : Ref sig .tc := ⟨.hbm, 294, rfl⟩
abbrev main_v170 : Ref sig .tc := ⟨.hbm, 295, rfl⟩

abbrev nD : Nat := 1
abbrev τ : Topo := Topo.v7x

variable {F : FTy → Type} [FloatOps F]
-- ==== Proof.RefRun.lean ====
/- The reference as a line of host operations, and its run read back: every fair run ends with the result at the
   operations' composed term of the arguments, the arguments in place. -/
module

public import proofs.«01_k».proof.Proof.Gen.ReferenceIdeal
public import Idealize.ShloMosaic.Lib.StableHlo.Run
public import Idealize.ShloMosaic.Lib.Pipeline.Frame
public import Idealize.ShloMosaic.Lib.Pipeline.Regions
public import Idealize.ShloMosaic.Lib.Tactic

@[expose] public section

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v97`, named. It packs its operands into a list of dependent pairs
    whose shapes a later argument's type mentions, so `simp` cannot rewrite an operand where it stands; applied by
    name, the operands are plain arguments, which the window lemmas below rewrite before the name unfolds. -/
def fn_main_v97 : (⟨S1024x7x7x1, .i32⟩ : BufTy).Contents (Elt F) → (⟨S1024x7x7x1, .i32⟩ : BufTy).Contents (Elt F) → (⟨S1024x7x7x2, .i32⟩ : BufTy).Contents (Elt F) :=
  (fun a b => concatenate S1024x7x7x2 3 [⟨S1024x7x7x1, a⟩, ⟨S1024x7x7x1, b⟩] concatenates_S1024x7x7x1_S1024x7x7x1_S1024x7x7x2_d3)

/-- The function of the operation that writes `main_v116`, named. It packs its operands into a list of dependent pairs
    whose shapes a later argument's type mentions, so `simp` cannot rewrite an operand where it stands; applied by
    name, the operands are plain arguments, which the window lemmas below rewrite before the name unfolds. -/
def fn_main_v116 : (⟨S1024x7x7x1, .i32⟩ : BufTy).Contents (Elt F) → (⟨S1024x7x7x1, .i32⟩ : BufTy).Contents (Elt F) → (⟨S1024x7x7x2, .i32⟩ : BufTy).Contents (Elt F) :=
  (fun a b => concatenate S1024x7x7x2 3 [⟨S1024x7x7x1, a⟩, ⟨S1024x7x7x1, b⟩] concatenates_S1024x7x7x1_S1024x7x7x1_S1024x7x7x2_d3)

/-- The function of the operation that writes `main_v136`, named. It packs its operands into a list of dependent pairs
    whose shapes a later argument's type mentions, so `simp` cannot rewrite an operand where it stands; applied by
    name, the operands are plain arguments, which the window lemmas below rewrite before the name unfolds. -/
def fn_main_v136 : (⟨S1024x7x7x1, .i32⟩ : BufTy).Contents (Elt F) → (⟨S1024x7x7x1, .i32⟩ : BufTy).Contents (Elt F) → (⟨S1024x7x7x2, .i32⟩ : BufTy).Contents (Elt F) :=
  (fun a b => concatenate S1024x7x7x2 3 [⟨S1024x7x7x1, a⟩, ⟨S1024x7x7x1, b⟩] concatenates_S1024x7x7x1_S1024x7x7x1_S1024x7x7x2_d3)

/-- The function of the operation that writes `main_v156`, named. It packs its operands into a list of dependent pairs
    whose shapes a later argument's type mentions, so `simp` cannot rewrite an operand where it stands; applied by
    name, the operands are plain arguments, which the window lemmas below rewrite before the name unfolds. -/
def fn_main_v156 : (⟨S1024x7x7x1, .i32⟩ : BufTy).Contents (Elt F) → (⟨S1024x7x7x1, .i32⟩ : BufTy).Contents (Elt F) → (⟨S1024x7x7x2, .i32⟩ : BufTy).Contents (Elt F) :=
  (fun a b => concatenate S1024x7x7x2 3 [⟨S1024x7x7x1, a⟩, ⟨S1024x7x7x1, b⟩] concatenates_S1024x7x7x1_S1024x7x7x1_S1024x7x7x2_d3)

/-- @main's operations 1 … 30 of 294 (window `main_part0`). -/
abbrev ops_part0_0 : List (HloOp τ sig (Elt F)) :=
  [ nullary main_cst (constant S4 .f32 0x3E800000#32),
    reshape main_arg0 main_v0 (rfl : (.f32 : EltTy) = .f32) shapeCasts_S1x256x200x200_S256x200x200,
    unary main_cst main_v1 (broadcastInDim S1x4 ![1] bcast_S4_S1x4_1 : (⟨S4, .f32⟩ : BufTy).Contents (Elt F) → (⟨S1x4, .f32⟩ : BufTy).Contents (Elt F)),
    unary main_v1 main_v2 (broadcastInDim S1024x4 ![0, 1] bcast_S1x4_S1024x4_0_1 : (⟨S1x4, .f32⟩ : BufTy).Contents (Elt F) → (⟨S1024x4, .f32⟩ : BufTy).Contents (Elt F)),
    binary main_arg1 main_v2 main_v3 (mulf : (⟨S1024x4, .f32⟩ : BufTy).Contents (Elt F) → (⟨S1024x4, .f32⟩ : BufTy).Contents (Elt F) → (⟨S1024x4, .f32⟩ : BufTy).Contents (Elt F)),
    unary main_v3 main_v4 (Host.floor : (⟨S1024x4, .f32⟩ : BufTy).Contents (Elt F) → (⟨S1024x4, .f32⟩ : BufTy).Contents (Elt F)),
    unary main_v4 main_v5 (fptosi 32 : (⟨S1024x4, .f32⟩ : BufTy).Contents (Elt F) → (⟨S1024x4, .i32⟩ : BufTy).Contents (Elt F)),
    unary main_v5 main_v6 ((extractStridedSlice S1024x1 ![0, 0] · slices_S1024x4_S1024x1_0_0) : (⟨S1024x4, .i32⟩ : BufTy).Contents (Elt F) → (⟨S1024x1, .i32⟩ : BufTy).Contents (Elt F)),
    reshape main_v6 main_v7 (rfl : (.i32 : EltTy) = .i32) shapeCasts_S1024x1_S1024,
    nullary main_c (constantI S_ 32 0#32),
    nullary main_c_0 (constantI S_ 32 199#32),
    TRef.unary (TRef.of (T := ⟨S_, .i32⟩) main_c) (TRef.of (T := ⟨S_, .i32⟩) main_call0_v0) id,
    TRef.unary (TRef.of (T := ⟨S_, .i32⟩) main_call0_v0) (TRef.of (T := ⟨S1024, .i32⟩) main_call0_v1) (broadcastInDim S1024 ![] bcast_S_S1024),
    TRef.binary (TRef.of (T := ⟨S1024, .i32⟩) main_call0_v1) (TRef.of (T := ⟨S1024, .i32⟩) main_v7) (TRef.of (T := ⟨S1024, .i32⟩) main_call0_v2) maxsi,
    TRef.unary (TRef.of (T := ⟨S_, .i32⟩) main_c_0) (TRef.of (T := ⟨S_, .i32⟩) main_call0_v3) id,
    TRef.unary (TRef.of (T := ⟨S_, .i32⟩) main_call0_v3) (TRef.of (T := ⟨S1024, .i32⟩) main_call0_v4) (broadcastInDim S1024 ![] bcast_S_S1024),
    TRef.binary (TRef.of (T := ⟨S1024, .i32⟩) main_call0_v4) (TRef.of (T := ⟨S1024, .i32⟩) main_call0_v2) (TRef.of (T := ⟨S1024, .i32⟩) main_v8) minsi,
    unary main_v5 main_v9 ((extractStridedSlice S1024x1 ![0, 1] · slices_S1024x4_S1024x1_0_1) : (⟨S1024x4, .i32⟩ : BufTy).Contents (Elt F) → (⟨S1024x1, .i32⟩ : BufTy).Contents (Elt F)),
    reshape main_v9 main_v10 (rfl : (.i32 : EltTy) = .i32) shapeCasts_S1024x1_S1024,
    nullary main_c_1 (constantI S_ 32 0#32),
    nullary main_c_2 (constantI S_ 32 199#32),
    TRef.unary (TRef.of (T := ⟨S_, .i32⟩) main_c_1) (TRef.of (T := ⟨S_, .i32⟩) main_call1_v0) id,
    TRef.unary (TRef.of (T := ⟨S_, .i32⟩) main_call1_v0) (TRef.of (T := ⟨S1024, .i32⟩) main_call1_v1) (broadcastInDim S1024 ![] bcast_S_S1024),
    TRef.binary (TRef.of (T := ⟨S1024, .i32⟩) main_call1_v1) (TRef.of (T := ⟨S1024, .i32⟩) main_v10) (TRef.of (T := ⟨S1024, .i32⟩) main_call1_v2) maxsi,
    TRef.unary (TRef.of (T := ⟨S_, .i32⟩) main_c_2) (TRef.of (T := ⟨S_, .i32⟩) main_call1_v3) id,
    TRef.unary (TRef.of (T := ⟨S_, .i32⟩) main_call1_v3) (TRef.of (T := ⟨S1024, .i32⟩) main_call1_v4) (broadcastInDim S1024 ![] bcast_S_S1024),
    TRef.binary (TRef.of (T := ⟨S1024, .i32⟩) main_call1_v4) (TRef.of (T := ⟨S1024, .i32⟩) main_call1_v2) (TRef.of (T := ⟨S1024, .i32⟩) main_v11) minsi,
    unary main_v5 main_v12 ((extractStridedSlice S1024x1 ![0, 2] · slices_S1024x4_S1024x1_0_2) : (⟨S1024x4, .i32⟩ : BufTy).Contents (Elt F) → (⟨S1024x1, .i32⟩ : BufTy).Contents (Elt F)),
    reshape main_v12 main_v13 (rfl : (.i32 : EltTy) = .i32) shapeCasts_S1024x1_S1024,
    nullary main_c_3 (constantI S_ 32 1#32) ]

/-- @main's operations 31 … 60 of 294 (window `main_part0`). -/
abbrev ops_part0_1 : List (HloOp τ sig (Elt F)) :=
  [ unary main_c_3 main_v14 (broadcastInDim S1024 ![] bcast_S_S1024 : (⟨S_, .i32⟩ : BufTy).Contents (Elt F) → (⟨S1024, .i32⟩ : BufTy).Contents (Elt F)),
    binary main_v13 main_v14 main_v15 (addi : (⟨S1024, .i32⟩ : BufTy).Contents (Elt F) → (⟨S1024, .i32⟩ : BufTy).Contents (Elt F) → (⟨S1024, .i32⟩ : BufTy).Contents (Elt F)),
    nullary main_c_4 (constantI S_ 32 1#32),
    unary main_c_4 main_v16 (broadcastInDim S1024 ![] bcast_S_S1024 : (⟨S_, .i32⟩ : BufTy).Contents (Elt F) → (⟨S1024, .i32⟩ : BufTy).Contents (Elt F)),
    binary main_v8 main_v16 main_v17 (addi : (⟨S1024, .i32⟩ : BufTy).Contents (Elt F) → (⟨S1024, .i32⟩ : BufTy).Contents (Elt F) → (⟨S1024, .i32⟩ : BufTy).Contents (Elt F)),
    nullary main_c_5 (constantI S_ 32 200#32),
    TRef.binary (TRef.of (T := ⟨S1024, .i32⟩) main_v17) (TRef.of (T := ⟨S1024, .i32⟩) main_v15) (TRef.of (T := ⟨S1024, .i32⟩) main_call2_v0) maxsi,
    TRef.unary (TRef.of (T := ⟨S_, .i32⟩) main_c_5) (TRef.of (T := ⟨S_, .i32⟩) main_call2_v1) id,
    TRef.unary (TRef.of (T := ⟨S_, .i32⟩) main_call2_v1) (TRef.of (T := ⟨S1024, .i32⟩) main_call2_v2) (broadcastInDim S1024 ![] bcast_S_S1024),
    TRef.binary (TRef.of (T := ⟨S1024, .i32⟩) main_call2_v2) (TRef.of (T := ⟨S1024, .i32⟩) main_call2_v0) (TRef.of (T := ⟨S1024, .i32⟩) main_v18) minsi,
    unary main_v5 main_v19 ((extractStridedSlice S1024x1 ![0, 3] · slices_S1024x4_S1024x1_0_3) : (⟨S1024x4, .i32⟩ : BufTy).Contents (Elt F) → (⟨S1024x1, .i32⟩ : BufTy).Contents (Elt F)),
    reshape main_v19 main_v20 (rfl : (.i32 : EltTy) = .i32) shapeCasts_S1024x1_S1024,
    nullary main_c_6 (constantI S_ 32 1#32),
    unary main_c_6 main_v21 (broadcastInDim S1024 ![] bcast_S_S1024 : (⟨S_, .i32⟩ : BufTy).Contents (Elt F) → (⟨S1024, .i32⟩ : BufTy).Contents (Elt F)),
    binary main_v20 main_v21 main_v22 (addi : (⟨S1024, .i32⟩ : BufTy).Contents (Elt F) → (⟨S1024, .i32⟩ : BufTy).Contents (Elt F) → (⟨S1024, .i32⟩ : BufTy).Contents (Elt F)),
    nullary main_c_7 (constantI S_ 32 1#32),
    unary main_c_7 main_v23 (broadcastInDim S1024 ![] bcast_S_S1024 : (⟨S_, .i32⟩ : BufTy).Contents (Elt F) → (⟨S1024, .i32⟩ : BufTy).Contents (Elt F)),
    binary main_v11 main_v23 main_v24 (addi : (⟨S1024, .i32⟩ : BufTy).Contents (Elt F) → (⟨S1024, .i32⟩ : BufTy).Contents (Elt F) → (⟨S1024, .i32⟩ : BufTy).Contents (Elt F)),
    nullary main_c_8 (constantI S_ 32 200#32),
    TRef.binary (TRef.of (T := ⟨S1024, .i32⟩) main_v24) (TRef.of (T := ⟨S1024, .i32⟩) main_v22) (TRef.of (T := ⟨S1024, .i32⟩) main_call3_v0) maxsi,
    TRef.unary (TRef.of (T := ⟨S_, .i32⟩) main_c_8) (TRef.of (T := ⟨S_, .i32⟩) main_call3_v1) id,
    TRef.unary (TRef.of (T := ⟨S_, .i32⟩) main_call3_v1) (TRef.of (T := ⟨S1024, .i32⟩) main_call3_v2) (broadcastInDim S1024 ![] bcast_S_S1024),
    TRef.binary (TRef.of (T := ⟨S1024, .i32⟩) main_call3_v2) (TRef.of (T := ⟨S1024, .i32⟩) main_call3_v0) (TRef.of (T := ⟨S1024, .i32⟩) main_v25) minsi,
    binary main_v25 main_v11 main_v26 (subi : (⟨S1024, .i32⟩ : BufTy).Contents (Elt F) → (⟨S1024, .i32⟩ : BufTy).Contents (Elt F) → (⟨S1024, .i32⟩ : BufTy).Contents (Elt F)),
    binary main_v18 main_v8 main_v27 (subi : (⟨S1024, .i32⟩ : BufTy).Contents (Elt F) → (⟨S1024, .i32⟩ : BufTy).Contents (Elt F) → (⟨S1024, .i32⟩ : BufTy).Contents (Elt F)),
    nullary main_v28 (iotaInDim S7 32 0),
    nullary main_v29 (iotaInDim S7 32 0),
    unary main_v11 main_v30 (broadcastInDim S1024x1 ![0] bcast_S1024_S1024x1_0 : (⟨S1024, .i32⟩ : BufTy).Contents (Elt F) → (⟨S1024x1, .i32⟩ : BufTy).Contents (Elt F)),
    unary main_v28 main_v31 (broadcastInDim S1x7 ![1] bcast_S7_S1x7_1 : (⟨S7, .i32⟩ : BufTy).Contents (Elt F) → (⟨S1x7, .i32⟩ : BufTy).Contents (Elt F)),
    unary main_v26 main_v32 (broadcastInDim S1024x1 ![0] bcast_S1024_S1024x1_0 : (⟨S1024, .i32⟩ : BufTy).Contents (Elt F) → (⟨S1024x1, .i32⟩ : BufTy).Contents (Elt F)) ]

/-- @main's operations 61 … 90 of 294 (window `main_part0`). -/
abbrev ops_part0_2 : List (HloOp τ sig (Elt F)) :=
  [ unary main_v31 main_v33 (broadcastInDim S1024x7 ![0, 1] bcast_S1x7_S1024x7_0_1 : (⟨S1x7, .i32⟩ : BufTy).Contents (Elt F) → (⟨S1024x7, .i32⟩ : BufTy).Contents (Elt F)),
    unary main_v32 main_v34 (broadcastInDim S1024x7 ![0, 1] bcast_S1024x1_S1024x7_0_1 : (⟨S1024x1, .i32⟩ : BufTy).Contents (Elt F) → (⟨S1024x7, .i32⟩ : BufTy).Contents (Elt F)),
    binary main_v33 main_v34 main_v35 (muli : (⟨S1024x7, .i32⟩ : BufTy).Contents (Elt F) → (⟨S1024x7, .i32⟩ : BufTy).Contents (Elt F) → (⟨S1024x7, .i32⟩ : BufTy).Contents (Elt F)),
    nullary main_c_9 (constantI S_ 32 7#32),
    TRef.unary (TRef.of (T := ⟨S_, .i32⟩) main_c_9) (TRef.of (T := ⟨S_, .i32⟩) main_call4_v0) id,
    TRef.unary (TRef.of (T := ⟨S_, .i32⟩) main_call4_v0) (TRef.of (T := ⟨S1024x7, .i32⟩) main_call4_v1) (broadcastInDim S1024x7 ![] bcast_S_S1024x7),
    TRef.binary (TRef.of (T := ⟨S1024x7, .i32⟩) main_v35) (TRef.of (T := ⟨S1024x7, .i32⟩) main_call4_v1) (TRef.of (T := ⟨S1024x7, .i32⟩) main_call4_v2) Host.divsi,
    TRef.unary (TRef.of (T := ⟨S1024x7, .i32⟩) main_v35) (TRef.of (T := ⟨S1024x7, .i32⟩) main_call4_v3) signi,
    TRef.unary (TRef.of (T := ⟨S_, .i32⟩) main_call4_v0) (TRef.of (T := ⟨S_, .i32⟩) main_call4_v4) signi,
    TRef.unary (TRef.of (T := ⟨S_, .i32⟩) main_call4_v4) (TRef.of (T := ⟨S1024x7, .i32⟩) main_call4_v5) (broadcastInDim S1024x7 ![] bcast_S_S1024x7),
    TRef.binary (TRef.of (T := ⟨S1024x7, .i32⟩) main_call4_v3) (TRef.of (T := ⟨S1024x7, .i32⟩) main_call4_v5) (TRef.of (T := ⟨S1024x7, .i1⟩) main_call4_v6) (cmpi .ne),
    TRef.unary (TRef.of (T := ⟨S_, .i32⟩) main_call4_v0) (TRef.of (T := ⟨S1024x7, .i32⟩) main_call4_v7) (broadcastInDim S1024x7 ![] bcast_S_S1024x7),
    TRef.binary (TRef.of (T := ⟨S1024x7, .i32⟩) main_v35) (TRef.of (T := ⟨S1024x7, .i32⟩) main_call4_v7) (TRef.of (T := ⟨S1024x7, .i32⟩) main_call4_v8) Host.remsi,
    TRef.nullary (TRef.of (T := ⟨S_, .i32⟩) main_call4_c) (constantI S_ 32 0#32),
    TRef.unary (TRef.of (T := ⟨S_, .i32⟩) main_call4_c) (TRef.of (T := ⟨S1024x7, .i32⟩) main_call4_v9) (broadcastInDim S1024x7 ![] bcast_S_S1024x7),
    TRef.binary (TRef.of (T := ⟨S1024x7, .i32⟩) main_call4_v8) (TRef.of (T := ⟨S1024x7, .i32⟩) main_call4_v9) (TRef.of (T := ⟨S1024x7, .i1⟩) main_call4_v10) (cmpi .ne),
    TRef.binary (TRef.of (T := ⟨S1024x7, .i1⟩) main_call4_v6) (TRef.of (T := ⟨S1024x7, .i1⟩) main_call4_v10) (TRef.of (T := ⟨S1024x7, .i1⟩) main_call4_v11) andi,
    TRef.nullary (TRef.of (T := ⟨S_, .i32⟩) main_call4_c_0) (constantI S_ 32 1#32),
    TRef.unary (TRef.of (T := ⟨S_, .i32⟩) main_call4_c_0) (TRef.of (T := ⟨S1024x7, .i32⟩) main_call4_v12) (broadcastInDim S1024x7 ![] bcast_S_S1024x7),
    TRef.binary (TRef.of (T := ⟨S1024x7, .i32⟩) main_call4_v2) (TRef.of (T := ⟨S1024x7, .i32⟩) main_call4_v12) (TRef.of (T := ⟨S1024x7, .i32⟩) main_call4_v13) subi,
    TRef.ternary (TRef.of (T := ⟨S1024x7, .i1⟩) main_call4_v11) (TRef.of (T := ⟨S1024x7, .i32⟩) main_call4_v13) (TRef.of (T := ⟨S1024x7, .i32⟩) main_call4_v2) (TRef.of (T := ⟨S1024x7, .i32⟩) main_v36) select,
    unary main_v30 main_v37 (broadcastInDim S1024x7 ![0, 1] bcast_S1024x1_S1024x7_0_1 : (⟨S1024x1, .i32⟩ : BufTy).Contents (Elt F) → (⟨S1024x7, .i32⟩ : BufTy).Contents (Elt F)),
    binary main_v37 main_v36 main_v38 (addi : (⟨S1024x7, .i32⟩ : BufTy).Contents (Elt F) → (⟨S1024x7, .i32⟩ : BufTy).Contents (Elt F) → (⟨S1024x7, .i32⟩ : BufTy).Contents (Elt F)),
    unary main_v11 main_v39 (broadcastInDim S1024x1 ![0] bcast_S1024_S1024x1_0 : (⟨S1024, .i32⟩ : BufTy).Contents (Elt F) → (⟨S1024x1, .i32⟩ : BufTy).Contents (Elt F)),
    unary main_v28 main_v40 (broadcastInDim S1x7 ![1] bcast_S7_S1x7_1 : (⟨S7, .i32⟩ : BufTy).Contents (Elt F) → (⟨S1x7, .i32⟩ : BufTy).Contents (Elt F)),
    nullary main_c_10 (constantI S_ 32 1#32),
    unary main_c_10 main_v41 (broadcastInDim S1x7 ![] bcast_S_S1x7 : (⟨S_, .i32⟩ : BufTy).Contents (Elt F) → (⟨S1x7, .i32⟩ : BufTy).Contents (Elt F)),
    binary main_v40 main_v41 main_v42 (addi : (⟨S1x7, .i32⟩ : BufTy).Contents (Elt F) → (⟨S1x7, .i32⟩ : BufTy).Contents (Elt F) → (⟨S1x7, .i32⟩ : BufTy).Contents (Elt F)),
    unary main_v26 main_v43 (broadcastInDim S1024x1 ![0] bcast_S1024_S1024x1_0 : (⟨S1024, .i32⟩ : BufTy).Contents (Elt F) → (⟨S1024x1, .i32⟩ : BufTy).Contents (Elt F)),
    unary main_v42 main_v44 (broadcastInDim S1024x7 ![0, 1] bcast_S1x7_S1024x7_0_1 : (⟨S1x7, .i32⟩ : BufTy).Contents (Elt F) → (⟨S1024x7, .i32⟩ : BufTy).Contents (Elt F)) ]

/-- @main's operations 91 … 92 of 294 (window `main_part0`). -/
abbrev ops_part0_3 : List (HloOp τ sig (Elt F)) :=
  [ unary main_v43 main_v45 (broadcastInDim S1024x7 ![0, 1] bcast_S1024x1_S1024x7_0_1 : (⟨S1024x1, .i32⟩ : BufTy).Contents (Elt F) → (⟨S1024x7, .i32⟩ : BufTy).Contents (Elt F)),
    binary main_v44 main_v45 main_v46 (muli : (⟨S1024x7, .i32⟩ : BufTy).Contents (Elt F) → (⟨S1024x7, .i32⟩ : BufTy).Contents (Elt F) → (⟨S1024x7, .i32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3)))

/-- @main's operations 93 … 122 of 294 (window `main_part1`). -/
abbrev ops_part1_0 : List (HloOp τ sig (Elt F)) :=
  [ nullary main_c_11 (constantI S_ 32 7#32),
    unary main_c_11 main_v47 (broadcastInDim S1024x7 ![] bcast_S_S1024x7 : (⟨S_, .i32⟩ : BufTy).Contents (Elt F) → (⟨S1024x7, .i32⟩ : BufTy).Contents (Elt F)),
    binary main_v46 main_v47 main_v48 (addi : (⟨S1024x7, .i32⟩ : BufTy).Contents (Elt F) → (⟨S1024x7, .i32⟩ : BufTy).Contents (Elt F) → (⟨S1024x7, .i32⟩ : BufTy).Contents (Elt F)),
    nullary main_c_12 (constantI S_ 32 1#32),
    unary main_c_12 main_v49 (broadcastInDim S1024x7 ![] bcast_S_S1024x7 : (⟨S_, .i32⟩ : BufTy).Contents (Elt F) → (⟨S1024x7, .i32⟩ : BufTy).Contents (Elt F)),
    binary main_v48 main_v49 main_v50 (subi : (⟨S1024x7, .i32⟩ : BufTy).Contents (Elt F) → (⟨S1024x7, .i32⟩ : BufTy).Contents (Elt F) → (⟨S1024x7, .i32⟩ : BufTy).Contents (Elt F)),
    nullary main_c_13 (constantI S_ 32 7#32),
    TRef.unary (TRef.of (T := ⟨S_, .i32⟩) main_c_13) (TRef.of (T := ⟨S_, .i32⟩) main_call5_v0) id,
    TRef.unary (TRef.of (T := ⟨S_, .i32⟩) main_call5_v0) (TRef.of (T := ⟨S1024x7, .i32⟩) main_call5_v1) (broadcastInDim S1024x7 ![] bcast_S_S1024x7),
    TRef.binary (TRef.of (T := ⟨S1024x7, .i32⟩) main_v50) (TRef.of (T := ⟨S1024x7, .i32⟩) main_call5_v1) (TRef.of (T := ⟨S1024x7, .i32⟩) main_call5_v2) Host.divsi,
    TRef.unary (TRef.of (T := ⟨S1024x7, .i32⟩) main_v50) (TRef.of (T := ⟨S1024x7, .i32⟩) main_call5_v3) signi,
    TRef.unary (TRef.of (T := ⟨S_, .i32⟩) main_call5_v0) (TRef.of (T := ⟨S_, .i32⟩) main_call5_v4) signi,
    TRef.unary (TRef.of (T := ⟨S_, .i32⟩) main_call5_v4) (TRef.of (T := ⟨S1024x7, .i32⟩) main_call5_v5) (broadcastInDim S1024x7 ![] bcast_S_S1024x7),
    TRef.binary (TRef.of (T := ⟨S1024x7, .i32⟩) main_call5_v3) (TRef.of (T := ⟨S1024x7, .i32⟩) main_call5_v5) (TRef.of (T := ⟨S1024x7, .i1⟩) main_call5_v6) (cmpi .ne),
    TRef.unary (TRef.of (T := ⟨S_, .i32⟩) main_call5_v0) (TRef.of (T := ⟨S1024x7, .i32⟩) main_call5_v7) (broadcastInDim S1024x7 ![] bcast_S_S1024x7),
    TRef.binary (TRef.of (T := ⟨S1024x7, .i32⟩) main_v50) (TRef.of (T := ⟨S1024x7, .i32⟩) main_call5_v7) (TRef.of (T := ⟨S1024x7, .i32⟩) main_call5_v8) Host.remsi,
    TRef.nullary (TRef.of (T := ⟨S_, .i32⟩) main_call5_c) (constantI S_ 32 0#32),
    TRef.unary (TRef.of (T := ⟨S_, .i32⟩) main_call5_c) (TRef.of (T := ⟨S1024x7, .i32⟩) main_call5_v9) (broadcastInDim S1024x7 ![] bcast_S_S1024x7),
    TRef.binary (TRef.of (T := ⟨S1024x7, .i32⟩) main_call5_v8) (TRef.of (T := ⟨S1024x7, .i32⟩) main_call5_v9) (TRef.of (T := ⟨S1024x7, .i1⟩) main_call5_v10) (cmpi .ne),
    TRef.binary (TRef.of (T := ⟨S1024x7, .i1⟩) main_call5_v6) (TRef.of (T := ⟨S1024x7, .i1⟩) main_call5_v10) (TRef.of (T := ⟨S1024x7, .i1⟩) main_call5_v11) andi,
    TRef.nullary (TRef.of (T := ⟨S_, .i32⟩) main_call5_c_0) (constantI S_ 32 1#32),
    TRef.unary (TRef.of (T := ⟨S_, .i32⟩) main_call5_c_0) (TRef.of (T := ⟨S1024x7, .i32⟩) main_call5_v12) (broadcastInDim S1024x7 ![] bcast_S_S1024x7),
    TRef.binary (TRef.of (T := ⟨S1024x7, .i32⟩) main_call5_v2) (TRef.of (T := ⟨S1024x7, .i32⟩) main_call5_v12) (TRef.of (T := ⟨S1024x7, .i32⟩) main_call5_v13) subi,
    TRef.ternary (TRef.of (T := ⟨S1024x7, .i1⟩) main_call5_v11) (TRef.of (T := ⟨S1024x7, .i32⟩) main_call5_v13) (TRef.of (T := ⟨S1024x7, .i32⟩) main_call5_v2) (TRef.of (T := ⟨S1024x7, .i32⟩) main_v51) select,
    unary main_v39 main_v52 (broadcastInDim S1024x7 ![0, 1] bcast_S1024x1_S1024x7_0_1 : (⟨S1024x1, .i32⟩ : BufTy).Contents (Elt F) → (⟨S1024x7, .i32⟩ : BufTy).Contents (Elt F)),
    binary main_v52 main_v51 main_v53 (addi : (⟨S1024x7, .i32⟩ : BufTy).Contents (Elt F) → (⟨S1024x7, .i32⟩ : BufTy).Contents (Elt F) → (⟨S1024x7, .i32⟩ : BufTy).Contents (Elt F)),
    unary main_v8 main_v54 (broadcastInDim S1024x1 ![0] bcast_S1024_S1024x1_0 : (⟨S1024, .i32⟩ : BufTy).Contents (Elt F) → (⟨S1024x1, .i32⟩ : BufTy).Contents (Elt F)),
    unary main_v29 main_v55 (broadcastInDim S1x7 ![1] bcast_S7_S1x7_1 : (⟨S7, .i32⟩ : BufTy).Contents (Elt F) → (⟨S1x7, .i32⟩ : BufTy).Contents (Elt F)),
    unary main_v27 main_v56 (broadcastInDim S1024x1 ![0] bcast_S1024_S1024x1_0 : (⟨S1024, .i32⟩ : BufTy).Contents (Elt F) → (⟨S1024x1, .i32⟩ : BufTy).Contents (Elt F)),
    unary main_v55 main_v57 (broadcastInDim S1024x7 ![0, 1] bcast_S1x7_S1024x7_0_1 : (⟨S1x7, .i32⟩ : BufTy).Contents (Elt F) → (⟨S1024x7, .i32⟩ : BufTy).Contents (Elt F)) ]

/-- @main's operations 123 … 152 of 294 (window `main_part1`). -/
abbrev ops_part1_1 : List (HloOp τ sig (Elt F)) :=
  [ unary main_v56 main_v58 (broadcastInDim S1024x7 ![0, 1] bcast_S1024x1_S1024x7_0_1 : (⟨S1024x1, .i32⟩ : BufTy).Contents (Elt F) → (⟨S1024x7, .i32⟩ : BufTy).Contents (Elt F)),
    binary main_v57 main_v58 main_v59 (muli : (⟨S1024x7, .i32⟩ : BufTy).Contents (Elt F) → (⟨S1024x7, .i32⟩ : BufTy).Contents (Elt F) → (⟨S1024x7, .i32⟩ : BufTy).Contents (Elt F)),
    nullary main_c_14 (constantI S_ 32 7#32),
    TRef.unary (TRef.of (T := ⟨S_, .i32⟩) main_c_14) (TRef.of (T := ⟨S_, .i32⟩) main_call6_v0) id,
    TRef.unary (TRef.of (T := ⟨S_, .i32⟩) main_call6_v0) (TRef.of (T := ⟨S1024x7, .i32⟩) main_call6_v1) (broadcastInDim S1024x7 ![] bcast_S_S1024x7),
    TRef.binary (TRef.of (T := ⟨S1024x7, .i32⟩) main_v59) (TRef.of (T := ⟨S1024x7, .i32⟩) main_call6_v1) (TRef.of (T := ⟨S1024x7, .i32⟩) main_call6_v2) Host.divsi,
    TRef.unary (TRef.of (T := ⟨S1024x7, .i32⟩) main_v59) (TRef.of (T := ⟨S1024x7, .i32⟩) main_call6_v3) signi,
    TRef.unary (TRef.of (T := ⟨S_, .i32⟩) main_call6_v0) (TRef.of (T := ⟨S_, .i32⟩) main_call6_v4) signi,
    TRef.unary (TRef.of (T := ⟨S_, .i32⟩) main_call6_v4) (TRef.of (T := ⟨S1024x7, .i32⟩) main_call6_v5) (broadcastInDim S1024x7 ![] bcast_S_S1024x7),
    TRef.binary (TRef.of (T := ⟨S1024x7, .i32⟩) main_call6_v3) (TRef.of (T := ⟨S1024x7, .i32⟩) main_call6_v5) (TRef.of (T := ⟨S1024x7, .i1⟩) main_call6_v6) (cmpi .ne),
    TRef.unary (TRef.of (T := ⟨S_, .i32⟩) main_call6_v0) (TRef.of (T := ⟨S1024x7, .i32⟩) main_call6_v7) (broadcastInDim S1024x7 ![] bcast_S_S1024x7),
    TRef.binary (TRef.of (T := ⟨S1024x7, .i32⟩) main_v59) (TRef.of (T := ⟨S1024x7, .i32⟩) main_call6_v7) (TRef.of (T := ⟨S1024x7, .i32⟩) main_call6_v8) Host.remsi,
    TRef.nullary (TRef.of (T := ⟨S_, .i32⟩) main_call6_c) (constantI S_ 32 0#32),
    TRef.unary (TRef.of (T := ⟨S_, .i32⟩) main_call6_c) (TRef.of (T := ⟨S1024x7, .i32⟩) main_call6_v9) (broadcastInDim S1024x7 ![] bcast_S_S1024x7),
    TRef.binary (TRef.of (T := ⟨S1024x7, .i32⟩) main_call6_v8) (TRef.of (T := ⟨S1024x7, .i32⟩) main_call6_v9) (TRef.of (T := ⟨S1024x7, .i1⟩) main_call6_v10) (cmpi .ne),
    TRef.binary (TRef.of (T := ⟨S1024x7, .i1⟩) main_call6_v6) (TRef.of (T := ⟨S1024x7, .i1⟩) main_call6_v10) (TRef.of (T := ⟨S1024x7, .i1⟩) main_call6_v11) andi,
    TRef.nullary (TRef.of (T := ⟨S_, .i32⟩) main_call6_c_0) (constantI S_ 32 1#32),
    TRef.unary (TRef.of (T := ⟨S_, .i32⟩) main_call6_c_0) (TRef.of (T := ⟨S1024x7, .i32⟩) main_call6_v12) (broadcastInDim S1024x7 ![] bcast_S_S1024x7),
    TRef.binary (TRef.of (T := ⟨S1024x7, .i32⟩) main_call6_v2) (TRef.of (T := ⟨S1024x7, .i32⟩) main_call6_v12) (TRef.of (T := ⟨S1024x7, .i32⟩) main_call6_v13) subi,
    TRef.ternary (TRef.of (T := ⟨S1024x7, .i1⟩) main_call6_v11) (TRef.of (T := ⟨S1024x7, .i32⟩) main_call6_v13) (TRef.of (T := ⟨S1024x7, .i32⟩) main_call6_v2) (TRef.of (T := ⟨S1024x7, .i32⟩) main_v60) select,
    unary main_v54 main_v61 (broadcastInDim S1024x7 ![0, 1] bcast_S1024x1_S1024x7_0_1 : (⟨S1024x1, .i32⟩ : BufTy).Contents (Elt F) → (⟨S1024x7, .i32⟩ : BufTy).Contents (Elt F)),
    binary main_v61 main_v60 main_v62 (addi : (⟨S1024x7, .i32⟩ : BufTy).Contents (Elt F) → (⟨S1024x7, .i32⟩ : BufTy).Contents (Elt F) → (⟨S1024x7, .i32⟩ : BufTy).Contents (Elt F)),
    unary main_v8 main_v63 (broadcastInDim S1024x1 ![0] bcast_S1024_S1024x1_0 : (⟨S1024, .i32⟩ : BufTy).Contents (Elt F) → (⟨S1024x1, .i32⟩ : BufTy).Contents (Elt F)),
    unary main_v29 main_v64 (broadcastInDim S1x7 ![1] bcast_S7_S1x7_1 : (⟨S7, .i32⟩ : BufTy).Contents (Elt F) → (⟨S1x7, .i32⟩ : BufTy).Contents (Elt F)),
    nullary main_c_15 (constantI S_ 32 1#32),
    unary main_c_15 main_v65 (broadcastInDim S1x7 ![] bcast_S_S1x7 : (⟨S_, .i32⟩ : BufTy).Contents (Elt F) → (⟨S1x7, .i32⟩ : BufTy).Contents (Elt F)),
    binary main_v64 main_v65 main_v66 (addi : (⟨S1x7, .i32⟩ : BufTy).Contents (Elt F) → (⟨S1x7, .i32⟩ : BufTy).Contents (Elt F) → (⟨S1x7, .i32⟩ : BufTy).Contents (Elt F)),
    unary main_v27 main_v67 (broadcastInDim S1024x1 ![0] bcast_S1024_S1024x1_0 : (⟨S1024, .i32⟩ : BufTy).Contents (Elt F) → (⟨S1024x1, .i32⟩ : BufTy).Contents (Elt F)),
    unary main_v66 main_v68 (broadcastInDim S1024x7 ![0, 1] bcast_S1x7_S1024x7_0_1 : (⟨S1x7, .i32⟩ : BufTy).Contents (Elt F) → (⟨S1024x7, .i32⟩ : BufTy).Contents (Elt F)),
    unary main_v67 main_v69 (broadcastInDim S1024x7 ![0, 1] bcast_S1024x1_S1024x7_0_1 : (⟨S1024x1, .i32⟩ : BufTy).Contents (Elt F) → (⟨S1024x7, .i32⟩ : BufTy).Contents (Elt F)) ]

/-- @main's operations 153 … 182 of 294 (window `main_part1`). -/
abbrev ops_part1_2 : List (HloOp τ sig (Elt F)) :=
  [ binary main_v68 main_v69 main_v70 (muli : (⟨S1024x7, .i32⟩ : BufTy).Contents (Elt F) → (⟨S1024x7, .i32⟩ : BufTy).Contents (Elt F) → (⟨S1024x7, .i32⟩ : BufTy).Contents (Elt F)),
    nullary main_c_16 (constantI S_ 32 7#32),
    unary main_c_16 main_v71 (broadcastInDim S1024x7 ![] bcast_S_S1024x7 : (⟨S_, .i32⟩ : BufTy).Contents (Elt F) → (⟨S1024x7, .i32⟩ : BufTy).Contents (Elt F)),
    binary main_v70 main_v71 main_v72 (addi : (⟨S1024x7, .i32⟩ : BufTy).Contents (Elt F) → (⟨S1024x7, .i32⟩ : BufTy).Contents (Elt F) → (⟨S1024x7, .i32⟩ : BufTy).Contents (Elt F)),
    nullary main_c_17 (constantI S_ 32 1#32),
    unary main_c_17 main_v73 (broadcastInDim S1024x7 ![] bcast_S_S1024x7 : (⟨S_, .i32⟩ : BufTy).Contents (Elt F) → (⟨S1024x7, .i32⟩ : BufTy).Contents (Elt F)),
    binary main_v72 main_v73 main_v74 (subi : (⟨S1024x7, .i32⟩ : BufTy).Contents (Elt F) → (⟨S1024x7, .i32⟩ : BufTy).Contents (Elt F) → (⟨S1024x7, .i32⟩ : BufTy).Contents (Elt F)),
    nullary main_c_18 (constantI S_ 32 7#32),
    TRef.unary (TRef.of (T := ⟨S_, .i32⟩) main_c_18) (TRef.of (T := ⟨S_, .i32⟩) main_call7_v0) id,
    TRef.unary (TRef.of (T := ⟨S_, .i32⟩) main_call7_v0) (TRef.of (T := ⟨S1024x7, .i32⟩) main_call7_v1) (broadcastInDim S1024x7 ![] bcast_S_S1024x7),
    TRef.binary (TRef.of (T := ⟨S1024x7, .i32⟩) main_v74) (TRef.of (T := ⟨S1024x7, .i32⟩) main_call7_v1) (TRef.of (T := ⟨S1024x7, .i32⟩) main_call7_v2) Host.divsi,
    TRef.unary (TRef.of (T := ⟨S1024x7, .i32⟩) main_v74) (TRef.of (T := ⟨S1024x7, .i32⟩) main_call7_v3) signi,
    TRef.unary (TRef.of (T := ⟨S_, .i32⟩) main_call7_v0) (TRef.of (T := ⟨S_, .i32⟩) main_call7_v4) signi,
    TRef.unary (TRef.of (T := ⟨S_, .i32⟩) main_call7_v4) (TRef.of (T := ⟨S1024x7, .i32⟩) main_call7_v5) (broadcastInDim S1024x7 ![] bcast_S_S1024x7),
    TRef.binary (TRef.of (T := ⟨S1024x7, .i32⟩) main_call7_v3) (TRef.of (T := ⟨S1024x7, .i32⟩) main_call7_v5) (TRef.of (T := ⟨S1024x7, .i1⟩) main_call7_v6) (cmpi .ne),
    TRef.unary (TRef.of (T := ⟨S_, .i32⟩) main_call7_v0) (TRef.of (T := ⟨S1024x7, .i32⟩) main_call7_v7) (broadcastInDim S1024x7 ![] bcast_S_S1024x7),
    TRef.binary (TRef.of (T := ⟨S1024x7, .i32⟩) main_v74) (TRef.of (T := ⟨S1024x7, .i32⟩) main_call7_v7) (TRef.of (T := ⟨S1024x7, .i32⟩) main_call7_v8) Host.remsi,
    TRef.nullary (TRef.of (T := ⟨S_, .i32⟩) main_call7_c) (constantI S_ 32 0#32),
    TRef.unary (TRef.of (T := ⟨S_, .i32⟩) main_call7_c) (TRef.of (T := ⟨S1024x7, .i32⟩) main_call7_v9) (broadcastInDim S1024x7 ![] bcast_S_S1024x7),
    TRef.binary (TRef.of (T := ⟨S1024x7, .i32⟩) main_call7_v8) (TRef.of (T := ⟨S1024x7, .i32⟩) main_call7_v9) (TRef.of (T := ⟨S1024x7, .i1⟩) main_call7_v10) (cmpi .ne),
    TRef.binary (TRef.of (T := ⟨S1024x7, .i1⟩) main_call7_v6) (TRef.of (T := ⟨S1024x7, .i1⟩) main_call7_v10) (TRef.of (T := ⟨S1024x7, .i1⟩) main_call7_v11) andi,
    TRef.nullary (TRef.of (T := ⟨S_, .i32⟩) main_call7_c_0) (constantI S_ 32 1#32),
    TRef.unary (TRef.of (T := ⟨S_, .i32⟩) main_call7_c_0) (TRef.of (T := ⟨S1024x7, .i32⟩) main_call7_v12) (broadcastInDim S1024x7 ![] bcast_S_S1024x7),
    TRef.binary (TRef.of (T := ⟨S1024x7, .i32⟩) main_call7_v2) (TRef.of (T := ⟨S1024x7, .i32⟩) main_call7_v12) (TRef.of (T := ⟨S1024x7, .i32⟩) main_call7_v13) subi,
    TRef.ternary (TRef.of (T := ⟨S1024x7, .i1⟩) main_call7_v11) (TRef.of (T := ⟨S1024x7, .i32⟩) main_call7_v13) (TRef.of (T := ⟨S1024x7, .i32⟩) main_call7_v2) (TRef.of (T := ⟨S1024x7, .i32⟩) main_v75) select,
    unary main_v63 main_v76 (broadcastInDim S1024x7 ![0, 1] bcast_S1024x1_S1024x7_0_1 : (⟨S1024x1, .i32⟩ : BufTy).Contents (Elt F) → (⟨S1024x7, .i32⟩ : BufTy).Contents (Elt F)),
    binary main_v76 main_v75 main_v77 (addi : (⟨S1024x7, .i32⟩ : BufTy).Contents (Elt F) → (⟨S1024x7, .i32⟩ : BufTy).Contents (Elt F) → (⟨S1024x7, .i32⟩ : BufTy).Contents (Elt F)),
    TRef.nullary (TRef.of (T := ⟨S_, .f32⟩) main_call8_call0_cst) (constant S_ .f32 0x00000000#32),
    TRef.unary (TRef.of (T := ⟨S_, .f32⟩) main_call8_call0_cst) (TRef.of (T := ⟨S_, .f32⟩) main_call8_call0_v0) (broadcastInDim S_ ![] bcast_S_S_),
    TRef.binary (TRef.of (T := ⟨S256x200x200, .f32⟩) main_v0) (TRef.of (T := ⟨S_, .f32⟩) main_call8_call0_v0) (TRef.of (T := ⟨S256x200x200, .f32⟩) main_v78) (fun x v => Host.reduceWindowAdd ![1, 200, 1] ![1, 1, 1] ![0, 199, 0] ![0, 0, 0] x v reduceWindows_S256x200x200_S256x200x200_w1s1p0_0_w200s1p199_0_w1s1p0_0 h_S_) ]

/-- @main's operations 183 … 205 of 294 (window `main_part1`). -/
abbrev ops_part1_3 : List (HloOp τ sig (Elt F)) :=
  [ TRef.nullary (TRef.of (T := ⟨S_, .f32⟩) main_call9_call0_cst) (constant S_ .f32 0x00000000#32),
    TRef.unary (TRef.of (T := ⟨S_, .f32⟩) main_call9_call0_cst) (TRef.of (T := ⟨S_, .f32⟩) main_call9_call0_v0) (broadcastInDim S_ ![] bcast_S_S_),
    TRef.binary (TRef.of (T := ⟨S256x200x200, .f32⟩) main_v78) (TRef.of (T := ⟨S_, .f32⟩) main_call9_call0_v0) (TRef.of (T := ⟨S256x200x200, .f32⟩) main_v79) (fun x v => Host.reduceWindowAdd ![1, 1, 200] ![1, 1, 1] ![0, 0, 199] ![0, 0, 0] x v reduceWindows_S256x200x200_S256x200x200_w1s1p0_0_w1s1p0_0_w200s1p199_0 h_S_),
    nullary main_c_19 (constantI S_ 32 0#32),
    TRef.unary (TRef.of (T := ⟨S_, .i32⟩) main_c_19) (TRef.of (T := ⟨S_, .f32⟩) main_call10_v0) (sitofp .f32),
    TRef.binary (TRef.of (T := ⟨S256x200x200, .f32⟩) main_v79) (TRef.of (T := ⟨S_, .f32⟩) main_call10_v0) (TRef.of (T := ⟨S256x201x201, .f32⟩) main_v80) (fun x v => pad S256x201x201 ![0, 1, 1] ![0, 0, 0] ![0, 0, 0] x v pads_S256x200x200_S256x201x201_000_100_100 h_S_),
    unary main_v53 main_v81 (broadcastInDim S1024x7x1 ![0, 1] bcast_S1024x7_S1024x7x1_0_1 : (⟨S1024x7, .i32⟩ : BufTy).Contents (Elt F) → (⟨S1024x7x1, .i32⟩ : BufTy).Contents (Elt F)),
    unary main_v77 main_v82 (broadcastInDim S1024x1x7 ![0, 2] bcast_S1024x7_S1024x1x7_0_2 : (⟨S1024x7, .i32⟩ : BufTy).Contents (Elt F) → (⟨S1024x1x7, .i32⟩ : BufTy).Contents (Elt F)),
    nullary main_c_20 (constantI S_ 32 0#32),
    unary main_c_20 main_v83 (broadcastInDim S1024x7x1 ![] bcast_S_S1024x7x1 : (⟨S_, .i32⟩ : BufTy).Contents (Elt F) → (⟨S1024x7x1, .i32⟩ : BufTy).Contents (Elt F)),
    binary main_v81 main_v83 main_v84 (cmpi .slt : (⟨S1024x7x1, .i32⟩ : BufTy).Contents (Elt F) → (⟨S1024x7x1, .i32⟩ : BufTy).Contents (Elt F) → (⟨S1024x7x1, .i1⟩ : BufTy).Contents (Elt F)),
    nullary main_c_21 (constantI S_ 32 201#32),
    unary main_c_21 main_v85 (broadcastInDim S1024x7x1 ![] bcast_S_S1024x7x1 : (⟨S_, .i32⟩ : BufTy).Contents (Elt F) → (⟨S1024x7x1, .i32⟩ : BufTy).Contents (Elt F)),
    binary main_v81 main_v85 main_v86 (addi : (⟨S1024x7x1, .i32⟩ : BufTy).Contents (Elt F) → (⟨S1024x7x1, .i32⟩ : BufTy).Contents (Elt F) → (⟨S1024x7x1, .i32⟩ : BufTy).Contents (Elt F)),
    ternary main_v84 main_v86 main_v81 main_v87 (select : (⟨S1024x7x1, .i1⟩ : BufTy).Contents (Elt F) → (⟨S1024x7x1, .i32⟩ : BufTy).Contents (Elt F) → (⟨S1024x7x1, .i32⟩ : BufTy).Contents (Elt F) → (⟨S1024x7x1, .i32⟩ : BufTy).Contents (Elt F)),
    nullary main_c_22 (constantI S_ 32 0#32),
    unary main_c_22 main_v88 (broadcastInDim S1024x1x7 ![] bcast_S_S1024x1x7 : (⟨S_, .i32⟩ : BufTy).Contents (Elt F) → (⟨S1024x1x7, .i32⟩ : BufTy).Contents (Elt F)),
    binary main_v82 main_v88 main_v89 (cmpi .slt : (⟨S1024x1x7, .i32⟩ : BufTy).Contents (Elt F) → (⟨S1024x1x7, .i32⟩ : BufTy).Contents (Elt F) → (⟨S1024x1x7, .i1⟩ : BufTy).Contents (Elt F)),
    nullary main_c_23 (constantI S_ 32 201#32),
    unary main_c_23 main_v90 (broadcastInDim S1024x1x7 ![] bcast_S_S1024x1x7 : (⟨S_, .i32⟩ : BufTy).Contents (Elt F) → (⟨S1024x1x7, .i32⟩ : BufTy).Contents (Elt F)),
    binary main_v82 main_v90 main_v91 (addi : (⟨S1024x1x7, .i32⟩ : BufTy).Contents (Elt F) → (⟨S1024x1x7, .i32⟩ : BufTy).Contents (Elt F) → (⟨S1024x1x7, .i32⟩ : BufTy).Contents (Elt F)),
    ternary main_v89 main_v91 main_v82 main_v92 (select : (⟨S1024x1x7, .i1⟩ : BufTy).Contents (Elt F) → (⟨S1024x1x7, .i32⟩ : BufTy).Contents (Elt F) → (⟨S1024x1x7, .i32⟩ : BufTy).Contents (Elt F) → (⟨S1024x1x7, .i32⟩ : BufTy).Contents (Elt F)),
    unary main_v87 main_v93 (broadcastInDim S1024x7x7 ![0, 1, 2] bcast_S1024x7x1_S1024x7x7_0_1_2 : (⟨S1024x7x1, .i32⟩ : BufTy).Contents (Elt F) → (⟨S1024x7x7, .i32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2 ++ (ops_part1_3)))

/-- @main's operations 206 … 265 of 294 (window `main_part2`). -/
abbrev ops_part2 : List (HloOp τ sig (Elt F)) :=
  [ unary main_v92 main_v94 (broadcastInDim S1024x7x7 ![0, 1, 2] bcast_S1024x1x7_S1024x7x7_0_1_2 : (⟨S1024x1x7, .i32⟩ : BufTy).Contents (Elt F) → (⟨S1024x7x7, .i32⟩ : BufTy).Contents (Elt F)),
    unary main_v93 main_v95 (broadcastInDim S1024x7x7x1 ![0, 1, 2] bcast_S1024x7x7_S1024x7x7x1_0_1_2 : (⟨S1024x7x7, .i32⟩ : BufTy).Contents (Elt F) → (⟨S1024x7x7x1, .i32⟩ : BufTy).Contents (Elt F)),
    unary main_v94 main_v96 (broadcastInDim S1024x7x7x1 ![0, 1, 2] bcast_S1024x7x7_S1024x7x7x1_0_1_2 : (⟨S1024x7x7, .i32⟩ : BufTy).Contents (Elt F) → (⟨S1024x7x7x1, .i32⟩ : BufTy).Contents (Elt F)),
    binary main_v95 main_v96 main_v97 (fn_main_v97 (F := F)),
    binary main_v80 main_v97 main_v98 ((fun x i => Host.gather gather_S256x201x201_S1024x7x7x2_S256x1024x7x7_0_12_n_n_12_3_25611 x i) : (⟨S256x201x201, .f32⟩ : BufTy).Contents (Elt F) → (⟨S1024x7x7x2, .i32⟩ : BufTy).Contents (Elt F) → (⟨S256x1024x7x7, .f32⟩ : BufTy).Contents (Elt F)),
    unary main_v98 main_v99 ((transpose S1024x256x7x7 [1, 0, 2, 3] · transposes_S256x1024x7x7_S1024x256x7x7_1_0_2_3) : (⟨S256x1024x7x7, .f32⟩ : BufTy).Contents (Elt F) → (⟨S1024x256x7x7, .f32⟩ : BufTy).Contents (Elt F)),
    unary main_v38 main_v100 (broadcastInDim S1024x7x1 ![0, 1] bcast_S1024x7_S1024x7x1_0_1 : (⟨S1024x7, .i32⟩ : BufTy).Contents (Elt F) → (⟨S1024x7x1, .i32⟩ : BufTy).Contents (Elt F)),
    unary main_v77 main_v101 (broadcastInDim S1024x1x7 ![0, 2] bcast_S1024x7_S1024x1x7_0_2 : (⟨S1024x7, .i32⟩ : BufTy).Contents (Elt F) → (⟨S1024x1x7, .i32⟩ : BufTy).Contents (Elt F)),
    nullary main_c_24 (constantI S_ 32 0#32),
    unary main_c_24 main_v102 (broadcastInDim S1024x7x1 ![] bcast_S_S1024x7x1 : (⟨S_, .i32⟩ : BufTy).Contents (Elt F) → (⟨S1024x7x1, .i32⟩ : BufTy).Contents (Elt F)),
    binary main_v100 main_v102 main_v103 (cmpi .slt : (⟨S1024x7x1, .i32⟩ : BufTy).Contents (Elt F) → (⟨S1024x7x1, .i32⟩ : BufTy).Contents (Elt F) → (⟨S1024x7x1, .i1⟩ : BufTy).Contents (Elt F)),
    nullary main_c_25 (constantI S_ 32 201#32),
    unary main_c_25 main_v104 (broadcastInDim S1024x7x1 ![] bcast_S_S1024x7x1 : (⟨S_, .i32⟩ : BufTy).Contents (Elt F) → (⟨S1024x7x1, .i32⟩ : BufTy).Contents (Elt F)),
    binary main_v100 main_v104 main_v105 (addi : (⟨S1024x7x1, .i32⟩ : BufTy).Contents (Elt F) → (⟨S1024x7x1, .i32⟩ : BufTy).Contents (Elt F) → (⟨S1024x7x1, .i32⟩ : BufTy).Contents (Elt F)),
    ternary main_v103 main_v105 main_v100 main_v106 (select : (⟨S1024x7x1, .i1⟩ : BufTy).Contents (Elt F) → (⟨S1024x7x1, .i32⟩ : BufTy).Contents (Elt F) → (⟨S1024x7x1, .i32⟩ : BufTy).Contents (Elt F) → (⟨S1024x7x1, .i32⟩ : BufTy).Contents (Elt F)),
    nullary main_c_26 (constantI S_ 32 0#32),
    unary main_c_26 main_v107 (broadcastInDim S1024x1x7 ![] bcast_S_S1024x1x7 : (⟨S_, .i32⟩ : BufTy).Contents (Elt F) → (⟨S1024x1x7, .i32⟩ : BufTy).Contents (Elt F)),
    binary main_v101 main_v107 main_v108 (cmpi .slt : (⟨S1024x1x7, .i32⟩ : BufTy).Contents (Elt F) → (⟨S1024x1x7, .i32⟩ : BufTy).Contents (Elt F) → (⟨S1024x1x7, .i1⟩ : BufTy).Contents (Elt F)),
    nullary main_c_27 (constantI S_ 32 201#32),
    unary main_c_27 main_v109 (broadcastInDim S1024x1x7 ![] bcast_S_S1024x1x7 : (⟨S_, .i32⟩ : BufTy).Contents (Elt F) → (⟨S1024x1x7, .i32⟩ : BufTy).Contents (Elt F)),
    binary main_v101 main_v109 main_v110 (addi : (⟨S1024x1x7, .i32⟩ : BufTy).Contents (Elt F) → (⟨S1024x1x7, .i32⟩ : BufTy).Contents (Elt F) → (⟨S1024x1x7, .i32⟩ : BufTy).Contents (Elt F)),
    ternary main_v108 main_v110 main_v101 main_v111 (select : (⟨S1024x1x7, .i1⟩ : BufTy).Contents (Elt F) → (⟨S1024x1x7, .i32⟩ : BufTy).Contents (Elt F) → (⟨S1024x1x7, .i32⟩ : BufTy).Contents (Elt F) → (⟨S1024x1x7, .i32⟩ : BufTy).Contents (Elt F)),
    unary main_v106 main_v112 (broadcastInDim S1024x7x7 ![0, 1, 2] bcast_S1024x7x1_S1024x7x7_0_1_2 : (⟨S1024x7x1, .i32⟩ : BufTy).Contents (Elt F) → (⟨S1024x7x7, .i32⟩ : BufTy).Contents (Elt F)),
    unary main_v111 main_v113 (broadcastInDim S1024x7x7 ![0, 1, 2] bcast_S1024x1x7_S1024x7x7_0_1_2 : (⟨S1024x1x7, .i32⟩ : BufTy).Contents (Elt F) → (⟨S1024x7x7, .i32⟩ : BufTy).Contents (Elt F)),
    unary main_v112 main_v114 (broadcastInDim S1024x7x7x1 ![0, 1, 2] bcast_S1024x7x7_S1024x7x7x1_0_1_2 : (⟨S1024x7x7, .i32⟩ : BufTy).Contents (Elt F) → (⟨S1024x7x7x1, .i32⟩ : BufTy).Contents (Elt F)),
    unary main_v113 main_v115 (broadcastInDim S1024x7x7x1 ![0, 1, 2] bcast_S1024x7x7_S1024x7x7x1_0_1_2 : (⟨S1024x7x7, .i32⟩ : BufTy).Contents (Elt F) → (⟨S1024x7x7x1, .i32⟩ : BufTy).Contents (Elt F)),
    binary main_v114 main_v115 main_v116 (fn_main_v116 (F := F)),
    binary main_v80 main_v116 main_v117 ((fun x i => Host.gather gather_S256x201x201_S1024x7x7x2_S256x1024x7x7_0_12_n_n_12_3_25611 x i) : (⟨S256x201x201, .f32⟩ : BufTy).Contents (Elt F) → (⟨S1024x7x7x2, .i32⟩ : BufTy).Contents (Elt F) → (⟨S256x1024x7x7, .f32⟩ : BufTy).Contents (Elt F)),
    unary main_v117 main_v118 ((transpose S1024x256x7x7 [1, 0, 2, 3] · transposes_S256x1024x7x7_S1024x256x7x7_1_0_2_3) : (⟨S256x1024x7x7, .f32⟩ : BufTy).Contents (Elt F) → (⟨S1024x256x7x7, .f32⟩ : BufTy).Contents (Elt F)),
    binary main_v99 main_v118 main_v119 (subf : (⟨S1024x256x7x7, .f32⟩ : BufTy).Contents (Elt F) → (⟨S1024x256x7x7, .f32⟩ : BufTy).Contents (Elt F) → (⟨S1024x256x7x7, .f32⟩ : BufTy).Contents (Elt F)),
    unary main_v53 main_v120 (broadcastInDim S1024x7x1 ![0, 1] bcast_S1024x7_S1024x7x1_0_1 : (⟨S1024x7, .i32⟩ : BufTy).Contents (Elt F) → (⟨S1024x7x1, .i32⟩ : BufTy).Contents (Elt F)),
    unary main_v62 main_v121 (broadcastInDim S1024x1x7 ![0, 2] bcast_S1024x7_S1024x1x7_0_2 : (⟨S1024x7, .i32⟩ : BufTy).Contents (Elt F) → (⟨S1024x1x7, .i32⟩ : BufTy).Contents (Elt F)),
    nullary main_c_28 (constantI S_ 32 0#32),
    unary main_c_28 main_v122 (broadcastInDim S1024x7x1 ![] bcast_S_S1024x7x1 : (⟨S_, .i32⟩ : BufTy).Contents (Elt F) → (⟨S1024x7x1, .i32⟩ : BufTy).Contents (Elt F)),
    binary main_v120 main_v122 main_v123 (cmpi .slt : (⟨S1024x7x1, .i32⟩ : BufTy).Contents (Elt F) → (⟨S1024x7x1, .i32⟩ : BufTy).Contents (Elt F) → (⟨S1024x7x1, .i1⟩ : BufTy).Contents (Elt F)),
    nullary main_c_29 (constantI S_ 32 201#32),
    unary main_c_29 main_v124 (broadcastInDim S1024x7x1 ![] bcast_S_S1024x7x1 : (⟨S_, .i32⟩ : BufTy).Contents (Elt F) → (⟨S1024x7x1, .i32⟩ : BufTy).Contents (Elt F)),
    binary main_v120 main_v124 main_v125 (addi : (⟨S1024x7x1, .i32⟩ : BufTy).Contents (Elt F) → (⟨S1024x7x1, .i32⟩ : BufTy).Contents (Elt F) → (⟨S1024x7x1, .i32⟩ : BufTy).Contents (Elt F)),
    ternary main_v123 main_v125 main_v120 main_v126 (select : (⟨S1024x7x1, .i1⟩ : BufTy).Contents (Elt F) → (⟨S1024x7x1, .i32⟩ : BufTy).Contents (Elt F) → (⟨S1024x7x1, .i32⟩ : BufTy).Contents (Elt F) → (⟨S1024x7x1, .i32⟩ : BufTy).Contents (Elt F)),
    nullary main_c_30 (constantI S_ 32 0#32),
    unary main_c_30 main_v127 (broadcastInDim S1024x1x7 ![] bcast_S_S1024x1x7 : (⟨S_, .i32⟩ : BufTy).Contents (Elt F) → (⟨S1024x1x7, .i32⟩ : BufTy).Contents (Elt F)),
    binary main_v121 main_v127 main_v128 (cmpi .slt : (⟨S1024x1x7, .i32⟩ : BufTy).Contents (Elt F) → (⟨S1024x1x7, .i32⟩ : BufTy).Contents (Elt F) → (⟨S1024x1x7, .i1⟩ : BufTy).Contents (Elt F)),
    nullary main_c_31 (constantI S_ 32 201#32),
    unary main_c_31 main_v129 (broadcastInDim S1024x1x7 ![] bcast_S_S1024x1x7 : (⟨S_, .i32⟩ : BufTy).Contents (Elt F) → (⟨S1024x1x7, .i32⟩ : BufTy).Contents (Elt F)),
    binary main_v121 main_v129 main_v130 (addi : (⟨S1024x1x7, .i32⟩ : BufTy).Contents (Elt F) → (⟨S1024x1x7, .i32⟩ : BufTy).Contents (Elt F) → (⟨S1024x1x7, .i32⟩ : BufTy).Contents (Elt F)),
    ternary main_v128 main_v130 main_v121 main_v131 (select : (⟨S1024x1x7, .i1⟩ : BufTy).Contents (Elt F) → (⟨S1024x1x7, .i32⟩ : BufTy).Contents (Elt F) → (⟨S1024x1x7, .i32⟩ : BufTy).Contents (Elt F) → (⟨S1024x1x7, .i32⟩ : BufTy).Contents (Elt F)),
    unary main_v126 main_v132 (broadcastInDim S1024x7x7 ![0, 1, 2] bcast_S1024x7x1_S1024x7x7_0_1_2 : (⟨S1024x7x1, .i32⟩ : BufTy).Contents (Elt F) → (⟨S1024x7x7, .i32⟩ : BufTy).Contents (Elt F)),
    unary main_v131 main_v133 (broadcastInDim S1024x7x7 ![0, 1, 2] bcast_S1024x1x7_S1024x7x7_0_1_2 : (⟨S1024x1x7, .i32⟩ : BufTy).Contents (Elt F) → (⟨S1024x7x7, .i32⟩ : BufTy).Contents (Elt F)),
    unary main_v132 main_v134 (broadcastInDim S1024x7x7x1 ![0, 1, 2] bcast_S1024x7x7_S1024x7x7x1_0_1_2 : (⟨S1024x7x7, .i32⟩ : BufTy).Contents (Elt F) → (⟨S1024x7x7x1, .i32⟩ : BufTy).Contents (Elt F)),
    unary main_v133 main_v135 (broadcastInDim S1024x7x7x1 ![0, 1, 2] bcast_S1024x7x7_S1024x7x7x1_0_1_2 : (⟨S1024x7x7, .i32⟩ : BufTy).Contents (Elt F) → (⟨S1024x7x7x1, .i32⟩ : BufTy).Contents (Elt F)),
    binary main_v134 main_v135 main_v136 (fn_main_v136 (F := F)),
    binary main_v80 main_v136 main_v137 ((fun x i => Host.gather gather_S256x201x201_S1024x7x7x2_S256x1024x7x7_0_12_n_n_12_3_25611 x i) : (⟨S256x201x201, .f32⟩ : BufTy).Contents (Elt F) → (⟨S1024x7x7x2, .i32⟩ : BufTy).Contents (Elt F) → (⟨S256x1024x7x7, .f32⟩ : BufTy).Contents (Elt F)),
    unary main_v137 main_v138 ((transpose S1024x256x7x7 [1, 0, 2, 3] · transposes_S256x1024x7x7_S1024x256x7x7_1_0_2_3) : (⟨S256x1024x7x7, .f32⟩ : BufTy).Contents (Elt F) → (⟨S1024x256x7x7, .f32⟩ : BufTy).Contents (Elt F)),
    binary main_v119 main_v138 main_v139 (subf : (⟨S1024x256x7x7, .f32⟩ : BufTy).Contents (Elt F) → (⟨S1024x256x7x7, .f32⟩ : BufTy).Contents (Elt F) → (⟨S1024x256x7x7, .f32⟩ : BufTy).Contents (Elt F)),
    unary main_v38 main_v140 (broadcastInDim S1024x7x1 ![0, 1] bcast_S1024x7_S1024x7x1_0_1 : (⟨S1024x7, .i32⟩ : BufTy).Contents (Elt F) → (⟨S1024x7x1, .i32⟩ : BufTy).Contents (Elt F)),
    unary main_v62 main_v141 (broadcastInDim S1024x1x7 ![0, 2] bcast_S1024x7_S1024x1x7_0_2 : (⟨S1024x7, .i32⟩ : BufTy).Contents (Elt F) → (⟨S1024x1x7, .i32⟩ : BufTy).Contents (Elt F)),
    nullary main_c_32 (constantI S_ 32 0#32),
    unary main_c_32 main_v142 (broadcastInDim S1024x7x1 ![] bcast_S_S1024x7x1 : (⟨S_, .i32⟩ : BufTy).Contents (Elt F) → (⟨S1024x7x1, .i32⟩ : BufTy).Contents (Elt F)),
    binary main_v140 main_v142 main_v143 (cmpi .slt : (⟨S1024x7x1, .i32⟩ : BufTy).Contents (Elt F) → (⟨S1024x7x1, .i32⟩ : BufTy).Contents (Elt F) → (⟨S1024x7x1, .i1⟩ : BufTy).Contents (Elt F)),
    nullary main_c_33 (constantI S_ 32 201#32) ]

/-- @main's operations 266 … 294 of 294 (window `main_part3`). -/
abbrev ops_part3 : List (HloOp τ sig (Elt F)) :=
  [ unary main_c_33 main_v144 (broadcastInDim S1024x7x1 ![] bcast_S_S1024x7x1 : (⟨S_, .i32⟩ : BufTy).Contents (Elt F) → (⟨S1024x7x1, .i32⟩ : BufTy).Contents (Elt F)),
    binary main_v140 main_v144 main_v145 (addi : (⟨S1024x7x1, .i32⟩ : BufTy).Contents (Elt F) → (⟨S1024x7x1, .i32⟩ : BufTy).Contents (Elt F) → (⟨S1024x7x1, .i32⟩ : BufTy).Contents (Elt F)),
    ternary main_v143 main_v145 main_v140 main_v146 (select : (⟨S1024x7x1, .i1⟩ : BufTy).Contents (Elt F) → (⟨S1024x7x1, .i32⟩ : BufTy).Contents (Elt F) → (⟨S1024x7x1, .i32⟩ : BufTy).Contents (Elt F) → (⟨S1024x7x1, .i32⟩ : BufTy).Contents (Elt F)),
    nullary main_c_34 (constantI S_ 32 0#32),
    unary main_c_34 main_v147 (broadcastInDim S1024x1x7 ![] bcast_S_S1024x1x7 : (⟨S_, .i32⟩ : BufTy).Contents (Elt F) → (⟨S1024x1x7, .i32⟩ : BufTy).Contents (Elt F)),
    binary main_v141 main_v147 main_v148 (cmpi .slt : (⟨S1024x1x7, .i32⟩ : BufTy).Contents (Elt F) → (⟨S1024x1x7, .i32⟩ : BufTy).Contents (Elt F) → (⟨S1024x1x7, .i1⟩ : BufTy).Contents (Elt F)),
    nullary main_c_35 (constantI S_ 32 201#32),
    unary main_c_35 main_v149 (broadcastInDim S1024x1x7 ![] bcast_S_S1024x1x7 : (⟨S_, .i32⟩ : BufTy).Contents (Elt F) → (⟨S1024x1x7, .i32⟩ : BufTy).Contents (Elt F)),
    binary main_v141 main_v149 main_v150 (addi : (⟨S1024x1x7, .i32⟩ : BufTy).Contents (Elt F) → (⟨S1024x1x7, .i32⟩ : BufTy).Contents (Elt F) → (⟨S1024x1x7, .i32⟩ : BufTy).Contents (Elt F)),
    ternary main_v148 main_v150 main_v141 main_v151 (select : (⟨S1024x1x7, .i1⟩ : BufTy).Contents (Elt F) → (⟨S1024x1x7, .i32⟩ : BufTy).Contents (Elt F) → (⟨S1024x1x7, .i32⟩ : BufTy).Contents (Elt F) → (⟨S1024x1x7, .i32⟩ : BufTy).Contents (Elt F)),
    unary main_v146 main_v152 (broadcastInDim S1024x7x7 ![0, 1, 2] bcast_S1024x7x1_S1024x7x7_0_1_2 : (⟨S1024x7x1, .i32⟩ : BufTy).Contents (Elt F) → (⟨S1024x7x7, .i32⟩ : BufTy).Contents (Elt F)),
    unary main_v151 main_v153 (broadcastInDim S1024x7x7 ![0, 1, 2] bcast_S1024x1x7_S1024x7x7_0_1_2 : (⟨S1024x1x7, .i32⟩ : BufTy).Contents (Elt F) → (⟨S1024x7x7, .i32⟩ : BufTy).Contents (Elt F)),
    unary main_v152 main_v154 (broadcastInDim S1024x7x7x1 ![0, 1, 2] bcast_S1024x7x7_S1024x7x7x1_0_1_2 : (⟨S1024x7x7, .i32⟩ : BufTy).Contents (Elt F) → (⟨S1024x7x7x1, .i32⟩ : BufTy).Contents (Elt F)),
    unary main_v153 main_v155 (broadcastInDim S1024x7x7x1 ![0, 1, 2] bcast_S1024x7x7_S1024x7x7x1_0_1_2 : (⟨S1024x7x7, .i32⟩ : BufTy).Contents (Elt F) → (⟨S1024x7x7x1, .i32⟩ : BufTy).Contents (Elt F)),
    binary main_v154 main_v155 main_v156 (fn_main_v156 (F := F)),
    binary main_v80 main_v156 main_v157 ((fun x i => Host.gather gather_S256x201x201_S1024x7x7x2_S256x1024x7x7_0_12_n_n_12_3_25611 x i) : (⟨S256x201x201, .f32⟩ : BufTy).Contents (Elt F) → (⟨S1024x7x7x2, .i32⟩ : BufTy).Contents (Elt F) → (⟨S256x1024x7x7, .f32⟩ : BufTy).Contents (Elt F)),
    unary main_v157 main_v158 ((transpose S1024x256x7x7 [1, 0, 2, 3] · transposes_S256x1024x7x7_S1024x256x7x7_1_0_2_3) : (⟨S256x1024x7x7, .f32⟩ : BufTy).Contents (Elt F) → (⟨S1024x256x7x7, .f32⟩ : BufTy).Contents (Elt F)),
    binary main_v139 main_v158 main_v159 (addf : (⟨S1024x256x7x7, .f32⟩ : BufTy).Contents (Elt F) → (⟨S1024x256x7x7, .f32⟩ : BufTy).Contents (Elt F) → (⟨S1024x256x7x7, .f32⟩ : BufTy).Contents (Elt F)),
    binary main_v53 main_v38 main_v160 (subi : (⟨S1024x7, .i32⟩ : BufTy).Contents (Elt F) → (⟨S1024x7, .i32⟩ : BufTy).Contents (Elt F) → (⟨S1024x7, .i32⟩ : BufTy).Contents (Elt F)),
    unary main_v160 main_v161 (broadcastInDim S1024x7x1 ![0, 1] bcast_S1024x7_S1024x7x1_0_1 : (⟨S1024x7, .i32⟩ : BufTy).Contents (Elt F) → (⟨S1024x7x1, .i32⟩ : BufTy).Contents (Elt F)),
    binary main_v77 main_v62 main_v162 (subi : (⟨S1024x7, .i32⟩ : BufTy).Contents (Elt F) → (⟨S1024x7, .i32⟩ : BufTy).Contents (Elt F) → (⟨S1024x7, .i32⟩ : BufTy).Contents (Elt F)),
    unary main_v162 main_v163 (broadcastInDim S1024x1x7 ![0, 2] bcast_S1024x7_S1024x1x7_0_2 : (⟨S1024x7, .i32⟩ : BufTy).Contents (Elt F) → (⟨S1024x1x7, .i32⟩ : BufTy).Contents (Elt F)),
    unary main_v161 main_v164 (broadcastInDim S1024x7x7 ![0, 1, 2] bcast_S1024x7x1_S1024x7x7_0_1_2 : (⟨S1024x7x1, .i32⟩ : BufTy).Contents (Elt F) → (⟨S1024x7x7, .i32⟩ : BufTy).Contents (Elt F)),
    unary main_v163 main_v165 (broadcastInDim S1024x7x7 ![0, 1, 2] bcast_S1024x1x7_S1024x7x7_0_1_2 : (⟨S1024x1x7, .i32⟩ : BufTy).Contents (Elt F) → (⟨S1024x7x7, .i32⟩ : BufTy).Contents (Elt F)),
    binary main_v164 main_v165 main_v166 (muli : (⟨S1024x7x7, .i32⟩ : BufTy).Contents (Elt F) → (⟨S1024x7x7, .i32⟩ : BufTy).Contents (Elt F) → (⟨S1024x7x7, .i32⟩ : BufTy).Contents (Elt F)),
    unary main_v166 main_v167 (sitofp .f32 : (⟨S1024x7x7, .i32⟩ : BufTy).Contents (Elt F) → (⟨S1024x7x7, .f32⟩ : BufTy).Contents (Elt F)),
    unary main_v167 main_v168 (broadcastInDim S1024x1x7x7 ![0, 2, 3] bcast_S1024x7x7_S1024x1x7x7_0_2_3 : (⟨S1024x7x7, .f32⟩ : BufTy).Contents (Elt F) → (⟨S1024x1x7x7, .f32⟩ : BufTy).Contents (Elt F)),
    unary main_v168 main_v169 (broadcastInDim S1024x256x7x7 ![0, 1, 2, 3] bcast_S1024x1x7x7_S1024x256x7x7_0_1_2_3 : (⟨S1024x1x7x7, .f32⟩ : BufTy).Contents (Elt F) → (⟨S1024x256x7x7, .f32⟩ : BufTy).Contents (Elt F)),
    binary main_v159 main_v169 main_v170 (Host.divf : (⟨S1024x256x7x7, .f32⟩ : BufTy).Contents (Elt F) → (⟨S1024x256x7x7, .f32⟩ : BufTy).Contents (Elt F) → (⟨S1024x256x7x7, .f32⟩ : BufTy).Contents (Elt F)) ]

/-- @main's 294 operations, in order (a called function's operations stand in its call's place, spelt `TRef.…`). -/
abbrev ops : List (HloOp τ sig (Elt F)) :=
  ops_part0 ++ (ops_part1 ++ (ops_part2 ++ (ops_part3)))

set_option maxRecDepth 8192 in
set_option maxHeartbeats 4000000 in
/-- The pieces, one after the other. -/
theorem main_part0_chain (c : Dev nD) : main_part0 (F := F) c = Pipeline.chain [seq ops_part0_0, seq ops_part0_1, seq ops_part0_2, seq ops_part0_3] := by
  chain_rfl
/-- The two spellings agree. -/
theorem main_part0_eq (c : Dev nD) : main_part0 (F := F) c = seq ops_part0 := by
  rw [main_part0_chain]
  simp only [ops_part0, seq_append, Pipeline.chain, bind_assoc, bind_pure_unit]

set_option maxRecDepth 8192 in
set_option maxHeartbeats 4000000 in
/-- The two spellings agree. -/
theorem main_part1_eq (c : Dev nD) : main_part1 (F := F) c = seq ops_part1 := rfl
set_option maxRecDepth 8192 in
/-- The two spellings agree. -/
theorem main_part2_eq (c : Dev nD) : main_part2 (F := F) c = seq ops_part2 := rfl
set_option maxRecDepth 8192 in
/-- The two spellings agree. -/
theorem main_part3_eq (c : Dev nD) : main_part3 (F := F) c = seq ops_part3 := rfl
set_option maxRecDepth 8192 in
/-- The two spellings agree. -/
theorem main_eq (c : Dev nD) : main (F := F) c = seq ops := by
  simp only [ops, seq_append, ← main_part0_eq c, ← main_part1_eq c, ← main_part2_eq c, ← main_part3_eq c]
  rfl
/-- The two spellings agree. -/
theorem scopedRefs_eq : (Finset.univ.filter fun b : Ref sig .tc => b.isScoped) = ∅ := by decide
/-- The two spellings agree. -/
theorem scopedSems_eq : (Finset.univ.filter fun sm : SemLoc sig => sm.isScoped .tc) = ∅ := by decide
set_option maxRecDepth 8192 in
/-- These operations touch buffers of the core only. -/
theorem ops_part0_0_sub : (ops_part0_0 : List (HloOp τ sig (Elt F))).Forall fun op => op.bufs ⊆ tcRefs τ sig :=
  ⟨nullary_bufs_sub .., reshape_bufs_sub .., unary_bufs_sub .., unary_bufs_sub .., binary_bufs_sub .., unary_bufs_sub .., unary_bufs_sub .., unary_bufs_sub .., reshape_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub ..⟩
set_option maxRecDepth 8192 in
/-- These operations leave nothing undetermined. -/
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations touch buffers of the core only. -/
theorem ops_part0_1_sub : (ops_part0_1 : List (HloOp τ sig (Elt F))).Forall fun op => op.bufs ⊆ tcRefs τ sig :=
  ⟨unary_bufs_sub .., binary_bufs_sub .., nullary_bufs_sub .., unary_bufs_sub .., binary_bufs_sub .., nullary_bufs_sub .., binary_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., binary_bufs_sub .., unary_bufs_sub .., unary_bufs_sub .., binary_bufs_sub .., binary_bufs_sub .., binary_bufs_sub .., nullary_bufs_sub .., nullary_bufs_sub .., unary_bufs_sub .., unary_bufs_sub .., unary_bufs_sub ..⟩
set_option maxRecDepth 8192 in
/-- These operations leave nothing undetermined. -/
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations touch buffers of the core only. -/
theorem ops_part0_2_sub : (ops_part0_2 : List (HloOp τ sig (Elt F))).Forall fun op => op.bufs ⊆ tcRefs τ sig :=
  ⟨unary_bufs_sub .., unary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., binary_bufs_sub .., unary_bufs_sub .., unary_bufs_sub .., nullary_bufs_sub .., unary_bufs_sub .., binary_bufs_sub .., unary_bufs_sub .., unary_bufs_sub ..⟩
set_option maxRecDepth 8192 in
/-- These operations leave nothing undetermined. -/
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations touch buffers of the core only. -/
theorem ops_part0_3_sub : (ops_part0_3 : List (HloOp τ sig (Elt F))).Forall fun op => op.bufs ⊆ tcRefs τ sig :=
  ⟨unary_bufs_sub .., binary_bufs_sub ..⟩
set_option maxRecDepth 8192 in
/-- These operations leave nothing undetermined. -/
theorem ops_part0_3_fresh : (ops_part0_3 : List (HloOp τ sig (Elt F))).Forall fun op => op.fresh = ∅ :=
  ⟨rfl, rfl⟩
set_option maxRecDepth 8192 in
/-- These operations touch buffers of the core only. -/
theorem ops_part1_0_sub : (ops_part1_0 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub ..⟩
set_option maxRecDepth 8192 in
/-- These operations leave nothing undetermined. -/
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations touch buffers of the core only. -/
theorem ops_part1_1_sub : (ops_part1_1 : List (HloOp τ sig (Elt F))).Forall fun op => op.bufs ⊆ tcRefs τ sig :=
  ⟨unary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., binary_bufs_sub .., unary_bufs_sub .., unary_bufs_sub .., nullary_bufs_sub .., unary_bufs_sub .., binary_bufs_sub .., unary_bufs_sub .., unary_bufs_sub .., unary_bufs_sub ..⟩
set_option maxRecDepth 8192 in
/-- These operations leave nothing undetermined. -/
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations touch buffers of the core only. -/
theorem ops_part1_2_sub : (ops_part1_2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., binary_bufs_sub .., nullary_bufs_sub .., unary_bufs_sub .., binary_bufs_sub ..⟩
set_option maxRecDepth 8192 in
/-- These operations leave nothing undetermined. -/
theorem ops_part1_2_fresh : (ops_part1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations touch buffers of the core only. -/
theorem ops_part1_3_sub : (ops_part1_3 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub ..⟩
set_option maxRecDepth 8192 in
/-- These operations leave nothing undetermined. -/
theorem ops_part1_3_fresh : (ops_part1_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
set_option maxRecDepth 8192 in
/-- These operations touch buffers of the core only. -/
theorem ops_part2_sub : (ops_part2 : List (HloOp τ sig (Elt F))).Forall fun op => op.bufs ⊆ tcRefs τ sig :=
  ⟨unary_bufs_sub .., unary_bufs_sub .., unary_bufs_sub .., binary_bufs_sub .., binary_bufs_sub .., unary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., binary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., binary_bufs_sub .., binary_bufs_sub .., unary_bufs_sub .., binary_bufs_sub .., unary_bufs_sub .., unary_bufs_sub .., nullary_bufs_sub .., unary_bufs_sub .., binary_bufs_sub .., nullary_bufs_sub ..⟩
set_option maxRecDepth 8192 in
/-- These operations leave nothing undetermined. -/
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations touch buffers of the core only. -/
theorem ops_part3_sub : (ops_part3 : List (HloOp τ sig (Elt F))).Forall fun op => op.bufs ⊆ tcRefs τ sig :=
  ⟨unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., binary_bufs_sub .., binary_bufs_sub .., unary_bufs_sub .., binary_bufs_sub .., binary_bufs_sub .., unary_bufs_sub .., binary_bufs_sub .., unary_bufs_sub .., unary_bufs_sub .., unary_bufs_sub .., binary_bufs_sub .., unary_bufs_sub .., unary_bufs_sub .., unary_bufs_sub .., binary_bufs_sub ..⟩
set_option maxRecDepth 8192 in
/-- These operations leave nothing undetermined. -/
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
/-- These operations touch buffers of the core only. -/
theorem ops_sub : (ops : List (HloOp τ sig (Elt F))).Forall fun op => op.bufs ⊆ tcRefs τ sig :=
  List.forall_iff_forall_mem.mpr fun op h => by
    simp only [ops, ops_part0, ops_part1, List.mem_append, or_assoc] at h
    rcases h with h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part1_0_sub op h, List.forall_iff_forall_mem.mp ops_part1_1_sub op h, List.forall_iff_forall_mem.mp ops_part1_2_sub op h, List.forall_iff_forall_mem.mp ops_part1_3_sub op h, List.forall_iff_forall_mem.mp ops_part2_sub op h, List.forall_iff_forall_mem.mp ops_part3_sub op h]
/-- These operations leave nothing undetermined. -/
theorem ops_fresh : ∀ op ∈ (ops : List (HloOp τ sig (Elt F))), op.fresh = ∅ := fun op h => by
    simp only [ops, ops_part0, ops_part1, List.mem_append, or_assoc] at h
    rcases h with h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part1_0_fresh op h, List.forall_iff_forall_mem.mp ops_part1_1_fresh op h, List.forall_iff_forall_mem.mp ops_part1_2_fresh op h, List.forall_iff_forall_mem.mp ops_part1_3_fresh op h, List.forall_iff_forall_mem.mp ops_part2_fresh op h, List.forall_iff_forall_mem.mp ops_part3_fresh op h]

set_option maxRecDepth 8192 in
/-- `main_v5`'s composed term of the arguments (named: it is used 4 times). -/
def res_main_v5 (V0 : Valuation τ sig (Elt F)) : (Proc.devRef .tc main_v5 : DevRef τ sig).ty.Contents (Elt F) :=
  fptosi 32 (Host.floor (mulf (V0 (Proc.devRef .tc main_arg1)) (broadcastInDim S1024x4 ![0, 1] bcast_S1x4_S1024x4_0_1 (broadcastInDim S1x4 ![1] bcast_S4_S1x4_1 (constant S4 .f32 0x3E800000#32)))))

set_option maxRecDepth 8192 in
/-- `main_v8`'s composed term of the arguments (named: it is used 4 times). -/
def res_main_v8 (V0 : Valuation τ sig (Elt F)) : (Proc.devRef .tc main_v8 : DevRef τ sig).ty.Contents (Elt F) :=
  minsi (broadcastInDim S1024 ![] bcast_S_S1024 (id (constantI S_ 32 199#32))) (maxsi (broadcastInDim S1024 ![] bcast_S_S1024 (id (constantI S_ 32 0#32))) (shapeCast _ (extractStridedSlice S1024x1 ![0, 0] (res_main_v5 V0) slices_S1024x4_S1024x1_0_0) shapeCasts_S1024x1_S1024))

set_option maxRecDepth 8192 in
/-- `main_v11`'s composed term of the arguments (named: it is used 4 times). -/
def res_main_v11 (V0 : Valuation τ sig (Elt F)) : (Proc.devRef .tc main_v11 : DevRef τ sig).ty.Contents (Elt F) :=
  minsi (broadcastInDim S1024 ![] bcast_S_S1024 (id (constantI S_ 32 199#32))) (maxsi (broadcastInDim S1024 ![] bcast_S_S1024 (id (constantI S_ 32 0#32))) (shapeCast _ (extractStridedSlice S1024x1 ![0, 1] (res_main_v5 V0) slices_S1024x4_S1024x1_0_1) shapeCasts_S1024x1_S1024))

set_option maxRecDepth 8192 in
/-- `main_v26`'s composed term of the arguments (named: it is used 2 times). -/
def res_main_v26 (V0 : Valuation τ sig (Elt F)) : (Proc.devRef .tc main_v26 : DevRef τ sig).ty.Contents (Elt F) :=
  subi (minsi (broadcastInDim S1024 ![] bcast_S_S1024 (id (constantI S_ 32 200#32))) (maxsi (addi (res_main_v11 V0) (broadcastInDim S1024 ![] bcast_S_S1024 (constantI S_ 32 1#32))) (addi (shapeCast _ (extractStridedSlice S1024x1 ![0, 3] (res_main_v5 V0) slices_S1024x4_S1024x1_0_3) shapeCasts_S1024x1_S1024) (broadcastInDim S1024 ![] bcast_S_S1024 (constantI S_ 32 1#32))))) (res_main_v11 V0)

set_option maxRecDepth 8192 in
/-- `main_v27`'s composed term of the arguments (named: it is used 2 times). -/
def res_main_v27 (V0 : Valuation τ sig (Elt F)) : (Proc.devRef .tc main_v27 : DevRef τ sig).ty.Contents (Elt F) :=
  subi (minsi (broadcastInDim S1024 ![] bcast_S_S1024 (id (constantI S_ 32 200#32))) (maxsi (addi (res_main_v8 V0) (broadcastInDim S1024 ![] bcast_S_S1024 (constantI S_ 32 1#32))) (addi (shapeCast _ (extractStridedSlice S1024x1 ![0, 2] (res_main_v5 V0) slices_S1024x4_S1024x1_0_2) shapeCasts_S1024x1_S1024) (broadcastInDim S1024 ![] bcast_S_S1024 (constantI S_ 32 1#32))))) (res_main_v8 V0)

set_option maxRecDepth 8192 in
/-- `main_v28`'s composed term of the arguments (named: it is used 2 times). -/
def res_main_v28 (V0 : Valuation τ sig (Elt F)) : (Proc.devRef .tc main_v28 : DevRef τ sig).ty.Contents (Elt F) :=
  iotaInDim S7 32 0

set_option maxRecDepth 8192 in
/-- `main_v29`'s composed term of the arguments (named: it is used 2 times). -/
def res_main_v29 (V0 : Valuation τ sig (Elt F)) : (Proc.devRef .tc main_v29 : DevRef τ sig).ty.Contents (Elt F) :=
  iotaInDim S7 32 0

set_option maxRecDepth 8192 in
/-- `main_v35`'s composed term of the arguments (named: it is used 3 times). -/
def res_main_v35 (V0 : Valuation τ sig (Elt F)) : (Proc.devRef .tc main_v35 : DevRef τ sig).ty.Contents (Elt F) :=
  muli (broadcastInDim S1024x7 ![0, 1] bcast_S1x7_S1024x7_0_1 (broadcastInDim S1x7 ![1] bcast_S7_S1x7_1 (res_main_v28 V0))) (broadcastInDim S1024x7 ![0, 1] bcast_S1024x1_S1024x7_0_1 (broadcastInDim S1024x1 ![0] bcast_S1024_S1024x1_0 (res_main_v26 V0)))

set_option maxRecDepth 8192 in
/-- `main_call4_v0`'s composed term of the arguments (named: it is used 3 times). -/
def res_main_call4_v0 (V0 : Valuation τ sig (Elt F)) : (Proc.devRef .tc main_call4_v0 : DevRef τ sig).ty.Contents (Elt F) :=
  id (constantI S_ 32 7#32)

set_option maxRecDepth 8192 in
/-- `main_call4_v2`'s composed term of the arguments (named: it is used 2 times). -/
def res_main_call4_v2 (V0 : Valuation τ sig (Elt F)) : (Proc.devRef .tc main_call4_v2 : DevRef τ sig).ty.Contents (Elt F) :=
  Host.divsi (res_main_v35 V0) (broadcastInDim S1024x7 ![] bcast_S_S1024x7 (res_main_call4_v0 V0))

set_option maxRecDepth 8192 in
/-- `main_v38`'s composed term of the arguments (named: it is used 3 times). -/
def res_main_v38 (V0 : Valuation τ sig (Elt F)) : (Proc.devRef .tc main_v38 : DevRef τ sig).ty.Contents (Elt F) :=
  addi (broadcastInDim S1024x7 ![0, 1] bcast_S1024x1_S1024x7_0_1 (broadcastInDim S1024x1 ![0] bcast_S1024_S1024x1_0 (res_main_v11 V0))) (select (andi (cmpi .ne (signi (res_main_v35 V0)) (broadcastInDim S1024x7 ![] bcast_S_S1024x7 (signi (res_main_call4_v0 V0)))) (cmpi .ne (Host.remsi (res_main_v35 V0) (broadcastInDim S1024x7 ![] bcast_S_S1024x7 (res_main_call4_v0 V0))) (broadcastInDim S1024x7 ![] bcast_S_S1024x7 (constantI S_ 32 0#32)))) (subi (res_main_call4_v2 V0) (broadcastInDim S1024x7 ![] bcast_S_S1024x7 (constantI S_ 32 1#32))) (res_main_call4_v2 V0))

set_option maxRecDepth 8192 in
/-- `main_v50`'s composed term of the arguments (named: it is used 3 times). -/
def res_main_v50 (V0 : Valuation τ sig (Elt F)) : (Proc.devRef .tc main_v50 : DevRef τ sig).ty.Contents (Elt F) :=
  subi (addi (muli (broadcastInDim S1024x7 ![0, 1] bcast_S1x7_S1024x7_0_1 (addi (broadcastInDim S1x7 ![1] bcast_S7_S1x7_1 (res_main_v28 V0)) (broadcastInDim S1x7 ![] bcast_S_S1x7 (constantI S_ 32 1#32)))) (broadcastInDim S1024x7 ![0, 1] bcast_S1024x1_S1024x7_0_1 (broadcastInDim S1024x1 ![0] bcast_S1024_S1024x1_0 (res_main_v26 V0)))) (broadcastInDim S1024x7 ![] bcast_S_S1024x7 (constantI S_ 32 7#32))) (broadcastInDim S1024x7 ![] bcast_S_S1024x7 (constantI S_ 32 1#32))

set_option maxRecDepth 8192 in
/-- `main_call5_v0`'s composed term of the arguments (named: it is used 3 times). -/
def res_main_call5_v0 (V0 : Valuation τ sig (Elt F)) : (Proc.devRef .tc main_call5_v0 : DevRef τ sig).ty.Contents (Elt F) :=
  id (constantI S_ 32 7#32)

set_option maxRecDepth 8192 in
/-- `main_call5_v2`'s composed term of the arguments (named: it is used 2 times). -/
def res_main_call5_v2 (V0 : Valuation τ sig (Elt F)) : (Proc.devRef .tc main_call5_v2 : DevRef τ sig).ty.Contents (Elt F) :=
  Host.divsi (res_main_v50 V0) (broadcastInDim S1024x7 ![] bcast_S_S1024x7 (res_main_call5_v0 V0))

set_option maxRecDepth 8192 in
/-- `main_v53`'s composed term of the arguments (named: it is used 3 times). -/
def res_main_v53 (V0 : Valuation τ sig (Elt F)) : (Proc.devRef .tc main_v53 : DevRef τ sig).ty.Contents (Elt F) :=
  addi (broadcastInDim S1024x7 ![0, 1] bcast_S1024x1_S1024x7_0_1 (broadcastInDim S1024x1 ![0] bcast_S1024_S1024x1_0 (res_main_v11 V0))) (select (andi (cmpi .ne (signi (res_main_v50 V0)) (broadcastInDim S1024x7 ![] bcast_S_S1024x7 (signi (res_main_call5_v0 V0)))) (cmpi .ne (Host.remsi (res_main_v50 V0) (broadcastInDim S1024x7 ![] bcast_S_S1024x7 (res_main_call5_v0 V0))) (broadcastInDim S1024x7 ![] bcast_S_S1024x7 (constantI S_ 32 0#32)))) (subi (res_main_call5_v2 V0) (broadcastInDim S1024x7 ![] bcast_S_S1024x7 (constantI S_ 32 1#32))) (res_main_call5_v2 V0))

set_option maxRecDepth 8192 in
/-- `main_v59`'s composed term of the arguments (named: it is used 3 times). -/
def res_main_v59 (V0 : Valuation τ sig (Elt F)) : (Proc.devRef .tc main_v59 : DevRef τ sig).ty.Contents (Elt F) :=
  muli (broadcastInDim S1024x7 ![0, 1] bcast_S1x7_S1024x7_0_1 (broadcastInDim S1x7 ![1] bcast_S7_S1x7_1 (res_main_v29 V0))) (broadcastInDim S1024x7 ![0, 1] bcast_S1024x1_S1024x7_0_1 (broadcastInDim S1024x1 ![0] bcast_S1024_S1024x1_0 (res_main_v27 V0)))

set_option maxRecDepth 8192 in
/-- `main_call6_v0`'s composed term of the arguments (named: it is used 3 times). -/
def res_main_call6_v0 (V0 : Valuation τ sig (Elt F)) : (Proc.devRef .tc main_call6_v0 : DevRef τ sig).ty.Contents (Elt F) :=
  id (constantI S_ 32 7#32)

set_option maxRecDepth 8192 in
/-- `main_call6_v2`'s composed term of the arguments (named: it is used 2 times). -/
def res_main_call6_v2 (V0 : Valuation τ sig (Elt F)) : (Proc.devRef .tc main_call6_v2 : DevRef τ sig).ty.Contents (Elt F) :=
  Host.divsi (res_main_v59 V0) (broadcastInDim S1024x7 ![] bcast_S_S1024x7 (res_main_call6_v0 V0))

set_option maxRecDepth 8192 in
/-- `main_v62`'s composed term of the arguments (named: it is used 3 times). -/
def res_main_v62 (V0 : Valuation τ sig (Elt F)) : (Proc.devRef .tc main_v62 : DevRef τ sig).ty.Contents (Elt F) :=
  addi (broadcastInDim S1024x7 ![0, 1] bcast_S1024x1_S1024x7_0_1 (broadcastInDim S1024x1 ![0] bcast_S1024_S1024x1_0 (res_main_v8 V0))) (select (andi (cmpi .ne (signi (res_main_v59 V0)) (broadcastInDim S1024x7 ![] bcast_S_S1024x7 (signi (res_main_call6_v0 V0)))) (cmpi .ne (Host.remsi (res_main_v59 V0) (broadcastInDim S1024x7 ![] bcast_S_S1024x7 (res_main_call6_v0 V0))) (broadcastInDim S1024x7 ![] bcast_S_S1024x7 (constantI S_ 32 0#32)))) (subi (res_main_call6_v2 V0) (broadcastInDim S1024x7 ![] bcast_S_S1024x7 (constantI S_ 32 1#32))) (res_main_call6_v2 V0))

set_option maxRecDepth 8192 in
/-- `main_v74`'s composed term of the arguments (named: it is used 3 times). -/
def res_main_v74 (V0 : Valuation τ sig (Elt F)) : (Proc.devRef .tc main_v74 : DevRef τ sig).ty.Contents (Elt F) :=
  subi (addi (muli (broadcastInDim S1024x7 ![0, 1] bcast_S1x7_S1024x7_0_1 (addi (broadcastInDim S1x7 ![1] bcast_S7_S1x7_1 (res_main_v29 V0)) (broadcastInDim S1x7 ![] bcast_S_S1x7 (constantI S_ 32 1#32)))) (broadcastInDim S1024x7 ![0, 1] bcast_S1024x1_S1024x7_0_1 (broadcastInDim S1024x1 ![0] bcast_S1024_S1024x1_0 (res_main_v27 V0)))) (broadcastInDim S1024x7 ![] bcast_S_S1024x7 (constantI S_ 32 7#32))) (broadcastInDim S1024x7 ![] bcast_S_S1024x7 (constantI S_ 32 1#32))

set_option maxRecDepth 8192 in
/-- `main_call7_v0`'s composed term of the arguments (named: it is used 3 times). -/
def res_main_call7_v0 (V0 : Valuation τ sig (Elt F)) : (Proc.devRef .tc main_call7_v0 : DevRef τ sig).ty.Contents (Elt F) :=
  id (constantI S_ 32 7#32)

set_option maxRecDepth 8192 in
/-- `main_call7_v2`'s composed term of the arguments (named: it is used 2 times). -/
def res_main_call7_v2 (V0 : Valuation τ sig (Elt F)) : (Proc.devRef .tc main_call7_v2 : DevRef τ sig).ty.Contents (Elt F) :=
  Host.divsi (res_main_v74 V0) (broadcastInDim S1024x7 ![] bcast_S_S1024x7 (res_main_call7_v0 V0))

set_option maxRecDepth 8192 in
/-- `main_v77`'s composed term of the arguments (named: it is used 3 times). -/
def res_main_v77 (V0 : Valuation τ sig (Elt F)) : (Proc.devRef .tc main_v77 : DevRef τ sig).ty.Contents (Elt F) :=
  addi (broadcastInDim S1024x7 ![0, 1] bcast_S1024x1_S1024x7_0_1 (broadcastInDim S1024x1 ![0] bcast_S1024_S1024x1_0 (res_main_v8 V0))) (select (andi (cmpi .ne (signi (res_main_v74 V0)) (broadcastInDim S1024x7 ![] bcast_S_S1024x7 (signi (res_main_call7_v0 V0)))) (cmpi .ne (Host.remsi (res_main_v74 V0) (broadcastInDim S1024x7 ![] bcast_S_S1024x7 (res_main_call7_v0 V0))) (broadcastInDim S1024x7 ![] bcast_S_S1024x7 (constantI S_ 32 0#32)))) (subi (res_main_call7_v2 V0) (broadcastInDim S1024x7 ![] bcast_S_S1024x7 (constantI S_ 32 1#32))) (res_main_call7_v2 V0))

set_option maxRecDepth 8192 in
/-- `main_v80`'s composed term of the arguments (named: it is used 4 times). -/
def res_main_v80 (V0 : Valuation τ sig (Elt F)) : (Proc.devRef .tc main_v80 : DevRef τ sig).ty.Contents (Elt F) :=
  pad S256x201x201 ![0, 1, 1] ![0, 0, 0] ![0, 0, 0] (Host.reduceWindowAdd ![1, 1, 200] ![1, 1, 1] ![0, 0, 199] ![0, 0, 0] (Host.reduceWindowAdd ![1, 200, 1] ![1, 1, 1] ![0, 199, 0] ![0, 0, 0] (shapeCast _ (V0 (Proc.devRef .tc main_arg0)) shapeCasts_S1x256x200x200_S256x200x200) (broadcastInDim S_ ![] bcast_S_S_ (constant S_ .f32 0x00000000#32)) reduceWindows_S256x200x200_S256x200x200_w1s1p0_0_w200s1p199_0_w1s1p0_0 h_S_) (broadcastInDim S_ ![] bcast_S_S_ (constant S_ .f32 0x00000000#32)) reduceWindows_S256x200x200_S256x200x200_w1s1p0_0_w1s1p0_0_w200s1p199_0 h_S_) (sitofp .f32 (constantI S_ 32 0#32)) pads_S256x200x200_S256x201x201_000_100_100 h_S_

set_option maxRecDepth 8192 in
/-- `main_v81`'s composed term of the arguments (named: it is used 3 times). -/
def res_main_v81 (V0 : Valuation τ sig (Elt F)) : (Proc.devRef .tc main_v81 : DevRef τ sig).ty.Contents (Elt F) :=
  broadcastInDim S1024x7x1 ![0, 1] bcast_S1024x7_S1024x7x1_0_1 (res_main_v53 V0)

set_option maxRecDepth 8192 in
/-- `main_v82`'s composed term of the arguments (named: it is used 3 times). -/
def res_main_v82 (V0 : Valuation τ sig (Elt F)) : (Proc.devRef .tc main_v82 : DevRef τ sig).ty.Contents (Elt F) :=
  broadcastInDim S1024x1x7 ![0, 2] bcast_S1024x7_S1024x1x7_0_2 (res_main_v77 V0)

set_option maxRecDepth 8192 in
/-- `main_v100`'s composed term of the arguments (named: it is used 3 times). -/
def res_main_v100 (V0 : Valuation τ sig (Elt F)) : (Proc.devRef .tc main_v100 : DevRef τ sig).ty.Contents (Elt F) :=
  broadcastInDim S1024x7x1 ![0, 1] bcast_S1024x7_S1024x7x1_0_1 (res_main_v38 V0)

set_option maxRecDepth 8192 in
/-- `main_v101`'s composed term of the arguments (named: it is used 3 times). -/
def res_main_v101 (V0 : Valuation τ sig (Elt F)) : (Proc.devRef .tc main_v101 : DevRef τ sig).ty.Contents (Elt F) :=
  broadcastInDim S1024x1x7 ![0, 2] bcast_S1024x7_S1024x1x7_0_2 (res_main_v77 V0)

set_option maxRecDepth 8192 in
/-- `main_v120`'s composed term of the arguments (named: it is used 3 times). -/
def res_main_v120 (V0 : Valuation τ sig (Elt F)) : (Proc.devRef .tc main_v120 : DevRef τ sig).ty.Contents (Elt F) :=
  broadcastInDim S1024x7x1 ![0, 1] bcast_S1024x7_S1024x7x1_0_1 (res_main_v53 V0)

set_option maxRecDepth 8192 in
/-- `main_v121`'s composed term of the arguments (named: it is used 3 times). -/
def res_main_v121 (V0 : Valuation τ sig (Elt F)) : (Proc.devRef .tc main_v121 : DevRef τ sig).ty.Contents (Elt F) :=
  broadcastInDim S1024x1x7 ![0, 2] bcast_S1024x7_S1024x1x7_0_2 (res_main_v62 V0)

set_option maxRecDepth 8192 in
/-- `main_v140`'s composed term of the arguments (named: it is used 3 times). -/
def res_main_v140 (V0 : Valuation τ sig (Elt F)) : (Proc.devRef .tc main_v140 : DevRef τ sig).ty.Contents (Elt F) :=
  broadcastInDim S1024x7x1 ![0, 1] bcast_S1024x7_S1024x7x1_0_1 (res_main_v38 V0)

set_option maxRecDepth 8192 in
/-- `main_v141`'s composed term of the arguments (named: it is used 3 times). -/
def res_main_v141 (V0 : Valuation τ sig (Elt F)) : (Proc.devRef .tc main_v141 : DevRef τ sig).ty.Contents (Elt F) :=
  broadcastInDim S1024x1x7 ![0, 2] bcast_S1024x7_S1024x1x7_0_2 (res_main_v62 V0)

set_option maxRecDepth 8192 in
/-- `main_v159`'s composed term of the arguments (named: it is long). -/
def res_main_v159 (V0 : Valuation τ sig (Elt F)) : (Proc.devRef .tc main_v159 : DevRef τ sig).ty.Contents (Elt F) :=
  addf (subf (subf (transpose S1024x256x7x7 [1, 0, 2, 3] (Host.gather gather_S256x201x201_S1024x7x7x2_S256x1024x7x7_0_12_n_n_12_3_25611 (res_main_v80 V0) (concatenate S1024x7x7x2 3 [⟨S1024x7x7x1, (broadcastInDim S1024x7x7x1 ![0, 1, 2] bcast_S1024x7x7_S1024x7x7x1_0_1_2 (broadcastInDim S1024x7x7 ![0, 1, 2] bcast_S1024x7x1_S1024x7x7_0_1_2 (select (cmpi .slt (res_main_v81 V0) (broadcastInDim S1024x7x1 ![] bcast_S_S1024x7x1 (constantI S_ 32 0#32))) (addi (res_main_v81 V0) (broadcastInDim S1024x7x1 ![] bcast_S_S1024x7x1 (constantI S_ 32 201#32))) (res_main_v81 V0))))⟩, ⟨S1024x7x7x1, (broadcastInDim S1024x7x7x1 ![0, 1, 2] bcast_S1024x7x7_S1024x7x7x1_0_1_2 (broadcastInDim S1024x7x7 ![0, 1, 2] bcast_S1024x1x7_S1024x7x7_0_1_2 (select (cmpi .slt (res_main_v82 V0) (broadcastInDim S1024x1x7 ![] bcast_S_S1024x1x7 (constantI S_ 32 0#32))) (addi (res_main_v82 V0) (broadcastInDim S1024x1x7 ![] bcast_S_S1024x1x7 (constantI S_ 32 201#32))) (res_main_v82 V0))))⟩] concatenates_S1024x7x7x1_S1024x7x7x1_S1024x7x7x2_d3)) transposes_S256x1024x7x7_S1024x256x7x7_1_0_2_3) (transpose S1024x256x7x7 [1, 0, 2, 3] (Host.gather gather_S256x201x201_S1024x7x7x2_S256x1024x7x7_0_12_n_n_12_3_25611 (res_main_v80 V0) (concatenate S1024x7x7x2 3 [⟨S1024x7x7x1, (broadcastInDim S1024x7x7x1 ![0, 1, 2] bcast_S1024x7x7_S1024x7x7x1_0_1_2 (broadcastInDim S1024x7x7 ![0, 1, 2] bcast_S1024x7x1_S1024x7x7_0_1_2 (select (cmpi .slt (res_main_v100 V0) (broadcastInDim S1024x7x1 ![] bcast_S_S1024x7x1 (constantI S_ 32 0#32))) (addi (res_main_v100 V0) (broadcastInDim S1024x7x1 ![] bcast_S_S1024x7x1 (constantI S_ 32 201#32))) (res_main_v100 V0))))⟩, ⟨S1024x7x7x1, (broadcastInDim S1024x7x7x1 ![0, 1, 2] bcast_S1024x7x7_S1024x7x7x1_0_1_2 (broadcastInDim S1024x7x7 ![0, 1, 2] bcast_S1024x1x7_S1024x7x7_0_1_2 (select (cmpi .slt (res_main_v101 V0) (broadcastInDim S1024x1x7 ![] bcast_S_S1024x1x7 (constantI S_ 32 0#32))) (addi (res_main_v101 V0) (broadcastInDim S1024x1x7 ![] bcast_S_S1024x1x7 (constantI S_ 32 201#32))) (res_main_v101 V0))))⟩] concatenates_S1024x7x7x1_S1024x7x7x1_S1024x7x7x2_d3)) transposes_S256x1024x7x7_S1024x256x7x7_1_0_2_3)) (transpose S1024x256x7x7 [1, 0, 2, 3] (Host.gather gather_S256x201x201_S1024x7x7x2_S256x1024x7x7_0_12_n_n_12_3_25611 (res_main_v80 V0) (concatenate S1024x7x7x2 3 [⟨S1024x7x7x1, (broadcastInDim S1024x7x7x1 ![0, 1, 2] bcast_S1024x7x7_S1024x7x7x1_0_1_2 (broadcastInDim S1024x7x7 ![0, 1, 2] bcast_S1024x7x1_S1024x7x7_0_1_2 (select (cmpi .slt (res_main_v120 V0) (broadcastInDim S1024x7x1 ![] bcast_S_S1024x7x1 (constantI S_ 32 0#32))) (addi (res_main_v120 V0) (broadcastInDim S1024x7x1 ![] bcast_S_S1024x7x1 (constantI S_ 32 201#32))) (res_main_v120 V0))))⟩, ⟨S1024x7x7x1, (broadcastInDim S1024x7x7x1 ![0, 1, 2] bcast_S1024x7x7_S1024x7x7x1_0_1_2 (broadcastInDim S1024x7x7 ![0, 1, 2] bcast_S1024x1x7_S1024x7x7_0_1_2 (select (cmpi .slt (res_main_v121 V0) (broadcastInDim S1024x1x7 ![] bcast_S_S1024x1x7 (constantI S_ 32 0#32))) (addi (res_main_v121 V0) (broadcastInDim S1024x1x7 ![] bcast_S_S1024x1x7 (constantI S_ 32 201#32))) (res_main_v121 V0))))⟩] concatenates_S1024x7x7x1_S1024x7x7x1_S1024x7x7x2_d3)) transposes_S256x1024x7x7_S1024x256x7x7_1_0_2_3)) (transpose S1024x256x7x7 [1, 0, 2, 3] (Host.gather gather_S256x201x201_S1024x7x7x2_S256x1024x7x7_0_12_n_n_12_3_25611 (res_main_v80 V0) (concatenate S1024x7x7x2 3 [⟨S1024x7x7x1, (broadcastInDim S1024x7x7x1 ![0, 1, 2] bcast_S1024x7x7_S1024x7x7x1_0_1_2 (broadcastInDim S1024x7x7 ![0, 1, 2] bcast_S1024x7x1_S1024x7x7_0_1_2 (select (cmpi .slt (res_main_v140 V0) (broadcastInDim S1024x7x1 ![] bcast_S_S1024x7x1 (constantI S_ 32 0#32))) (addi (res_main_v140 V0) (broadcastInDim S1024x7x1 ![] bcast_S_S1024x7x1 (constantI S_ 32 201#32))) (res_main_v140 V0))))⟩, ⟨S1024x7x7x1, (broadcastInDim S1024x7x7x1 ![0, 1, 2] bcast_S1024x7x7_S1024x7x7x1_0_1_2 (broadcastInDim S1024x7x7 ![0, 1, 2] bcast_S1024x1x7_S1024x7x7_0_1_2 (select (cmpi .slt (res_main_v141 V0) (broadcastInDim S1024x1x7 ![] bcast_S_S1024x1x7 (constantI S_ 32 0#32))) (addi (res_main_v141 V0) (broadcastInDim S1024x1x7 ![] bcast_S_S1024x1x7 (constantI S_ 32 201#32))) (res_main_v141 V0))))⟩] concatenates_S1024x7x7x1_S1024x7x7x1_S1024x7x7x2_d3)) transposes_S256x1024x7x7_S1024x256x7x7_1_0_2_3)

/-- The device's buffer contents before @main's first window. -/
def val0 (V0 : Valuation τ sig (Elt F)) : Valuation τ sig (Elt F) := V0
/-- What the buffer holds after these operations. -/
theorem val0_main_arg0 (V0 : Valuation τ sig (Elt F)) : val0 V0 (no_index (Proc.devRef .tc main_arg0)) = V0 (Proc.devRef .tc main_arg0) := rfl
/-- What the buffer holds after these operations. -/
theorem val0_main_arg1 (V0 : Valuation τ sig (Elt F)) : val0 V0 (no_index (Proc.devRef .tc main_arg1)) = V0 (Proc.devRef .tc main_arg1) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_cst, main_v0, main_v1, main_v2, main_v3, main_v4, main_v5, main_v6, main_v7, main_c, main_c_0, main_call0_v0, main_call0_v1, main_call0_v2, main_call0_v3, main_call0_v4, main_v8, main_v9, main_v10, main_c_1, main_c_2, main_call1_v0, main_call1_v1, main_call1_v2, main_call1_v3, main_call1_v4, main_v11, main_v12, main_v13, main_c_3]
set_option maxRecDepth 8192 in
/-- These operations write the buffers listed. -/
theorem ops_part0_0_writes : (ops_part0_0 : List (HloOp τ sig (Elt F))).Forall fun op => op.writes ⊆ (ops_part0_0_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
/-- What the buffer holds after these operations. -/
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
/-- What the buffer holds after these operations. -/
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
set_option maxRecDepth 8192 in
set_option maxHeartbeats 2000000 in
/-- What the buffer holds after these operations. -/
theorem val0_1_main_v0 (V0 : Valuation τ sig (Elt F)) : val0_1 V0 (no_index (Proc.devRef .tc main_v0)) = shapeCast _ (V0 (Proc.devRef .tc main_arg0)) shapeCasts_S1x256x200x200_S256x200x200 := by
  unfold val0_1
  simp only [ops_part0_0, TRef.binary, TRef.unary, TRef.toBuf, TRef.ofBuf, cast_eq]
  after_results_simp
  simp only [val0_main_arg0] <;> rfl
set_option maxRecDepth 8192 in
set_option maxHeartbeats 2000000 in
/-- What the buffer holds after these operations. -/
theorem val0_1_main_v5 (V0 : Valuation τ sig (Elt F)) : val0_1 V0 (no_index (Proc.devRef .tc main_v5)) = res_main_v5 V0 := by
  unfold val0_1
  simp only [ops_part0_0, TRef.binary, TRef.unary, TRef.toBuf, TRef.ofBuf, cast_eq]
  after_results_simp
  simp only [val0_main_arg1] <;> rfl
set_option maxRecDepth 8192 in
set_option maxHeartbeats 2000000 in
/-- What the buffer holds after these operations. -/
theorem val0_1_main_v8 (V0 : Valuation τ sig (Elt F)) : val0_1 V0 (no_index (Proc.devRef .tc main_v8)) = res_main_v8 V0 := by
  unfold val0_1
  simp only [ops_part0_0, TRef.binary, TRef.unary, TRef.toBuf, TRef.ofBuf, cast_eq]
  after_results_simp
  simp only [val0_main_arg1] <;> rfl
set_option maxRecDepth 8192 in
set_option maxHeartbeats 2000000 in
/-- What the buffer holds after these operations. -/
theorem val0_1_main_v11 (V0 : Valuation τ sig (Elt F)) : val0_1 V0 (no_index (Proc.devRef .tc main_v11)) = res_main_v11 V0 := by
  unfold val0_1
  simp only [ops_part0_0, TRef.binary, TRef.unary, TRef.toBuf, TRef.ofBuf, cast_eq]
  after_results_simp
  simp only [val0_main_arg1] <;> rfl
set_option maxRecDepth 8192 in
set_option maxHeartbeats 2000000 in
/-- What the buffer holds after these operations. -/
theorem val0_1_main_v13 (V0 : Valuation τ sig (Elt F)) : val0_1 V0 (no_index (Proc.devRef .tc main_v13)) = shapeCast _ (extractStridedSlice S1024x1 ![0, 2] (res_main_v5 V0) slices_S1024x4_S1024x1_0_2) shapeCasts_S1024x1_S1024 := by
  unfold val0_1
  simp only [ops_part0_0, TRef.binary, TRef.unary, TRef.toBuf, TRef.ofBuf, cast_eq]
  after_results_simp
  simp only [val0_main_arg1] <;> rfl
set_option maxRecDepth 8192 in
set_option maxHeartbeats 2000000 in
/-- What the buffer holds after these operations. -/
theorem val0_1_main_c_3 (V0 : Valuation τ sig (Elt F)) : val0_1 V0 (no_index (Proc.devRef .tc main_c_3)) = constantI S_ 32 1#32 := by
  unfold val0_1
  simp only [ops_part0_0, TRef.binary, TRef.unary, TRef.toBuf, TRef.ofBuf, cast_eq]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v14, main_v15, main_c_4, main_v16, main_v17, main_c_5, main_call2_v0, main_call2_v1, main_call2_v2, main_v18, main_v19, main_v20, main_c_6, main_v21, main_v22, main_c_7, main_v23, main_v24, main_c_8, main_call3_v0, main_call3_v1, main_call3_v2, main_v25, main_v26, main_v27, main_v28, main_v29, main_v30, main_v31, main_v32]
set_option maxRecDepth 8192 in
/-- These operations write the buffers listed. -/
theorem ops_part0_1_writes : (ops_part0_1 : List (HloOp τ sig (Elt F))).Forall fun op => op.writes ⊆ (ops_part0_1_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
/-- What the buffer holds after these operations. -/
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
/-- What the buffer holds after these operations. -/
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
/-- What the buffer holds after these operations. -/
theorem val0_2_main_v0 (V0 : Valuation τ sig (Elt F)) : val0_2 V0 (no_index (Proc.devRef .tc main_v0)) = shapeCast _ (V0 (Proc.devRef .tc main_arg0)) shapeCasts_S1x256x200x200_S256x200x200 :=
  (val0_2_keep V0 main_v0 (by decide)).trans (val0_1_main_v0 V0)
/-- What the buffer holds after these operations. -/
theorem val0_2_main_v8 (V0 : Valuation τ sig (Elt F)) : val0_2 V0 (no_index (Proc.devRef .tc main_v8)) = res_main_v8 V0 :=
  (val0_2_keep V0 main_v8 (by decide)).trans (val0_1_main_v8 V0)
/-- What the buffer holds after these operations. -/
theorem val0_2_main_v11 (V0 : Valuation τ sig (Elt F)) : val0_2 V0 (no_index (Proc.devRef .tc main_v11)) = res_main_v11 V0 :=
  (val0_2_keep V0 main_v11 (by decide)).trans (val0_1_main_v11 V0)
set_option maxRecDepth 8192 in
set_option maxHeartbeats 2000000 in
/-- What the buffer holds after these operations. -/
theorem val0_2_main_v26 (V0 : Valuation τ sig (Elt F)) : val0_2 V0 (no_index (Proc.devRef .tc main_v26)) = res_main_v26 V0 := by
  unfold val0_2
  simp only [ops_part0_1, TRef.binary, TRef.unary, TRef.toBuf, TRef.ofBuf, cast_eq]
  after_results_simp
  simp only [val0_1_main_v11, val0_1_main_v5] <;> rfl
set_option maxRecDepth 8192 in
set_option maxHeartbeats 2000000 in
/-- What the buffer holds after these operations. -/
theorem val0_2_main_v27 (V0 : Valuation τ sig (Elt F)) : val0_2 V0 (no_index (Proc.devRef .tc main_v27)) = res_main_v27 V0 := by
  unfold val0_2
  simp only [ops_part0_1, TRef.binary, TRef.unary, TRef.toBuf, TRef.ofBuf, cast_eq]
  after_results_simp
  simp only [val0_1_main_v8, val0_1_main_c_3, val0_1_main_v13] <;> rfl
set_option maxRecDepth 8192 in
set_option maxHeartbeats 2000000 in
/-- What the buffer holds after these operations. -/
theorem val0_2_main_v28 (V0 : Valuation τ sig (Elt F)) : val0_2 V0 (no_index (Proc.devRef .tc main_v28)) = res_main_v28 V0 := by
  unfold val0_2
  simp only [ops_part0_1, TRef.binary, TRef.unary, TRef.toBuf, TRef.ofBuf, cast_eq]
  after_results_simp
  all_goals rfl
set_option maxRecDepth 8192 in
set_option maxHeartbeats 2000000 in
/-- What the buffer holds after these operations. -/
theorem val0_2_main_v29 (V0 : Valuation τ sig (Elt F)) : val0_2 V0 (no_index (Proc.devRef .tc main_v29)) = res_main_v29 V0 := by
  unfold val0_2
  simp only [ops_part0_1, TRef.binary, TRef.unary, TRef.toBuf, TRef.ofBuf, cast_eq]
  after_results_simp
  all_goals rfl
set_option maxRecDepth 8192 in
set_option maxHeartbeats 2000000 in
/-- What the buffer holds after these operations. -/
theorem val0_2_main_v30 (V0 : Valuation τ sig (Elt F)) : val0_2 V0 (no_index (Proc.devRef .tc main_v30)) = broadcastInDim S1024x1 ![0] bcast_S1024_S1024x1_0 (res_main_v11 V0) := by
  unfold val0_2
  simp only [ops_part0_1, TRef.binary, TRef.unary, TRef.toBuf, TRef.ofBuf, cast_eq]
  after_results_simp
  simp only [val0_1_main_v11] <;> rfl
set_option maxRecDepth 8192 in
set_option maxHeartbeats 2000000 in
/-- What the buffer holds after these operations. -/
theorem val0_2_main_v31 (V0 : Valuation τ sig (Elt F)) : val0_2 V0 (no_index (Proc.devRef .tc main_v31)) = broadcastInDim S1x7 ![1] bcast_S7_S1x7_1 (res_main_v28 V0) := by
  unfold val0_2
  simp only [ops_part0_1, TRef.binary, TRef.unary, TRef.toBuf, TRef.ofBuf, cast_eq]
  after_results_simp
  all_goals rfl
set_option maxRecDepth 8192 in
set_option maxHeartbeats 2000000 in
/-- What the buffer holds after these operations. -/
theorem val0_2_main_v32 (V0 : Valuation τ sig (Elt F)) : val0_2 V0 (no_index (Proc.devRef .tc main_v32)) = broadcastInDim S1024x1 ![0] bcast_S1024_S1024x1_0 (res_main_v26 V0) := by
  unfold val0_2
  simp only [ops_part0_1, TRef.binary, TRef.unary, TRef.toBuf, TRef.ofBuf, cast_eq]
  after_results_simp
  simp only [val0_1_main_v11, val0_1_main_v5] <;> rfl

/-- The device's buffer contents after @main's first 90 operations. -/
def val0_3 (V0 : Valuation τ sig (Elt F)) : Valuation τ sig (Elt F) := after ops_part0_2 (val0_2 V0)
/-- The buffers that window `ops_part0_2`'s operations write. -/
abbrev ops_part0_2_W : List (Ref sig .tc) := [main_v33, main_v34, main_v35, main_c_9, main_call4_v0, main_call4_v1, main_call4_v2, main_call4_v3, main_call4_v4, main_call4_v5, main_call4_v6, main_call4_v7, main_call4_v8, main_call4_c, main_call4_v9, main_call4_v10, main_call4_v11, main_call4_c_0, main_call4_v12, main_call4_v13, main_v36, main_v37, main_v38, main_v39, main_v40, main_c_10, main_v41, main_v42, main_v43, main_v44]
set_option maxRecDepth 8192 in
/-- These operations write the buffers listed. -/
theorem ops_part0_2_writes : (ops_part0_2 : List (HloOp τ sig (Elt F))).Forall fun op => op.writes ⊆ (ops_part0_2_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
/-- What the buffer holds after these operations. -/
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
/-- What the buffer holds after these operations. -/
theorem val0_3_main_arg1 (V0 : Valuation τ sig (Elt F)) : val0_3 V0 (no_index (Proc.devRef .tc main_arg1)) = V0 (Proc.devRef .tc main_arg1) :=
  (val0_3_keep V0 main_arg1 (by decide)).trans (val0_2_main_arg1 V0)
/-- What the buffer holds after these operations. -/
theorem val0_3_main_v0 (V0 : Valuation τ sig (Elt F)) : val0_3 V0 (no_index (Proc.devRef .tc main_v0)) = shapeCast _ (V0 (Proc.devRef .tc main_arg0)) shapeCasts_S1x256x200x200_S256x200x200 :=
  (val0_3_keep V0 main_v0 (by decide)).trans (val0_2_main_v0 V0)
/-- What the buffer holds after these operations. -/
theorem val0_3_main_v8 (V0 : Valuation τ sig (Elt F)) : val0_3 V0 (no_index (Proc.devRef .tc main_v8)) = res_main_v8 V0 :=
  (val0_3_keep V0 main_v8 (by decide)).trans (val0_2_main_v8 V0)
/-- What the buffer holds after these operations. -/
theorem val0_3_main_v27 (V0 : Valuation τ sig (Elt F)) : val0_3 V0 (no_index (Proc.devRef .tc main_v27)) = res_main_v27 V0 :=
  (val0_3_keep V0 main_v27 (by decide)).trans (val0_2_main_v27 V0)
/-- What the buffer holds after these operations. -/
theorem val0_3_main_v29 (V0 : Valuation τ sig (Elt F)) : val0_3 V0 (no_index (Proc.devRef .tc main_v29)) = res_main_v29 V0 :=
  (val0_3_keep V0 main_v29 (by decide)).trans (val0_2_main_v29 V0)
set_option maxRecDepth 8192 in
set_option maxHeartbeats 2000000 in
/-- What the buffer holds after these operations. -/
theorem val0_3_main_v38 (V0 : Valuation τ sig (Elt F)) : val0_3 V0 (no_index (Proc.devRef .tc main_v38)) = res_main_v38 V0 := by
  unfold val0_3
  simp only [ops_part0_2, TRef.binary, TRef.nullary, TRef.ternary, TRef.unary, TRef.toBuf, TRef.ofBuf, cast_eq]
  after_results_simp
  simp only [val0_2_main_v32, val0_2_main_v31, val0_2_main_v30] <;> rfl
set_option maxRecDepth 8192 in
set_option maxHeartbeats 2000000 in
/-- What the buffer holds after these operations. -/
theorem val0_3_main_v39 (V0 : Valuation τ sig (Elt F)) : val0_3 V0 (no_index (Proc.devRef .tc main_v39)) = broadcastInDim S1024x1 ![0] bcast_S1024_S1024x1_0 (res_main_v11 V0) := by
  unfold val0_3
  simp only [ops_part0_2, TRef.binary, TRef.nullary, TRef.ternary, TRef.unary, TRef.toBuf, TRef.ofBuf, cast_eq]
  after_results_simp
  simp only [val0_2_main_v11] <;> rfl
set_option maxRecDepth 8192 in
set_option maxHeartbeats 2000000 in
/-- What the buffer holds after these operations. -/
theorem val0_3_main_v43 (V0 : Valuation τ sig (Elt F)) : val0_3 V0 (no_index (Proc.devRef .tc main_v43)) = broadcastInDim S1024x1 ![0] bcast_S1024_S1024x1_0 (res_main_v26 V0) := by
  unfold val0_3
  simp only [ops_part0_2, TRef.binary, TRef.nullary, TRef.ternary, TRef.unary, TRef.toBuf, TRef.ofBuf, cast_eq]
  after_results_simp
  simp only [val0_2_main_v26] <;> rfl
set_option maxRecDepth 8192 in
set_option maxHeartbeats 2000000 in
/-- What the buffer holds after these operations. -/
theorem val0_3_main_v44 (V0 : Valuation τ sig (Elt F)) : val0_3 V0 (no_index (Proc.devRef .tc main_v44)) = broadcastInDim S1024x7 ![0, 1] bcast_S1x7_S1024x7_0_1 (addi (broadcastInDim S1x7 ![1] bcast_S7_S1x7_1 (res_main_v28 V0)) (broadcastInDim S1x7 ![] bcast_S_S1x7 (constantI S_ 32 1#32))) := by
  unfold val0_3
  simp only [ops_part0_2, TRef.binary, TRef.nullary, TRef.ternary, TRef.unary, TRef.toBuf, TRef.ofBuf, cast_eq]
  after_results_simp
  simp only [val0_2_main_v28] <;> rfl

/-- The device's buffer contents after @main's first 1 window. -/
def val1 (V0 : Valuation τ sig (Elt F)) : Valuation τ sig (Elt F) := after ops_part0_3 (val0_3 V0)
/-- The buffers that window `ops_part0_3`'s operations write. -/
abbrev ops_part0_3_W : List (Ref sig .tc) := [main_v45, main_v46]
set_option maxRecDepth 8192 in
/-- These operations write the buffers listed. -/
theorem ops_part0_3_writes : (ops_part0_3 : List (HloOp τ sig (Elt F))).Forall fun op => op.writes ⊆ (ops_part0_3_W.map (Proc.devRef (τ := τ) .tc)).toFinset := by
  simp only [List.Forall]; refine ⟨?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_3` does not write keeps its contents through it. -/
theorem val1_keep (V0 : Valuation τ sig (Elt F)) (r : Ref sig .tc) (h : r ∉ ops_part0_3_W) :
    val1 V0 (Proc.devRef .tc r) = val0_3 V0 (Proc.devRef .tc r) :=
  after_of_writes_sub ops_part0_3 _ ops_part0_3_writes h
/-- What the buffer holds after these operations. -/
theorem val1_main_arg0 (V0 : Valuation τ sig (Elt F)) : val1 V0 (no_index (Proc.devRef .tc main_arg0)) = V0 (Proc.devRef .tc main_arg0) :=
  (val1_keep V0 main_arg0 (by decide)).trans (val0_3_main_arg0 V0)
/-- What the buffer holds after these operations. -/
theorem val1_main_arg1 (V0 : Valuation τ sig (Elt F)) : val1 V0 (no_index (Proc.devRef .tc main_arg1)) = V0 (Proc.devRef .tc main_arg1) :=
  (val1_keep V0 main_arg1 (by decide)).trans (val0_3_main_arg1 V0)
/-- What the buffer holds after these operations. -/
theorem val1_main_v0 (V0 : Valuation τ sig (Elt F)) : val1 V0 (no_index (Proc.devRef .tc main_v0)) = shapeCast _ (V0 (Proc.devRef .tc main_arg0)) shapeCasts_S1x256x200x200_S256x200x200 :=
  (val1_keep V0 main_v0 (by decide)).trans (val0_3_main_v0 V0)
/-- What the buffer holds after these operations. -/
theorem val1_main_v8 (V0 : Valuation τ sig (Elt F)) : val1 V0 (no_index (Proc.devRef .tc main_v8)) = res_main_v8 V0 :=
  (val1_keep V0 main_v8 (by decide)).trans (val0_3_main_v8 V0)
/-- What the buffer holds after these operations. -/
theorem val1_main_v27 (V0 : Valuation τ sig (Elt F)) : val1 V0 (no_index (Proc.devRef .tc main_v27)) = res_main_v27 V0 :=
  (val1_keep V0 main_v27 (by decide)).trans (val0_3_main_v27 V0)
/-- What the buffer holds after these operations. -/
theorem val1_main_v29 (V0 : Valuation τ sig (Elt F)) : val1 V0 (no_index (Proc.devRef .tc main_v29)) = res_main_v29 V0 :=
  (val1_keep V0 main_v29 (by decide)).trans (val0_3_main_v29 V0)
/-- What the buffer holds after these operations. -/
theorem val1_main_v38 (V0 : Valuation τ sig (Elt F)) : val1 V0 (no_index (Proc.devRef .tc main_v38)) = res_main_v38 V0 :=
  (val1_keep V0 main_v38 (by decide)).trans (val0_3_main_v38 V0)
/-- What the buffer holds after these operations. -/
theorem val1_main_v39 (V0 : Valuation τ sig (Elt F)) : val1 V0 (no_index (Proc.devRef .tc main_v39)) = broadcastInDim S1024x1 ![0] bcast_S1024_S1024x1_0 (res_main_v11 V0) :=
  (val1_keep V0 main_v39 (by decide)).trans (val0_3_main_v39 V0)
set_option maxRecDepth 8192 in
/-- What the buffer holds after these operations. -/
theorem val1_main_v46 (V0 : Valuation τ sig (Elt F)) : val1 V0 (no_index (Proc.devRef .tc main_v46)) = muli (broadcastInDim S1024x7 ![0, 1] bcast_S1x7_S1024x7_0_1 (addi (broadcastInDim S1x7 ![1] bcast_S7_S1x7_1 (res_main_v28 V0)) (broadcastInDim S1x7 ![] bcast_S_S1x7 (constantI S_ 32 1#32)))) (broadcastInDim S1024x7 ![0, 1] bcast_S1024x1_S1024x7_0_1 (broadcastInDim S1024x1 ![0] bcast_S1024_S1024x1_0 (res_main_v26 V0))) := by
  unfold val1
  simp only [ops_part0_3]
  after_results_simp
  simp only [val0_3_main_v43, val0_3_main_v44] <;> rfl

/-- The device's buffer contents after @main's first 122 operations. -/
def val1_1 (V0 : Valuation τ sig (Elt F)) : Valuation τ sig (Elt F) := after ops_part1_0 (val1 V0)
/-- The buffers that window `ops_part1_0`'s operations write. -/
abbrev ops_part1_0_W : List (Ref sig .tc) := [main_c_11, main_v47, main_v48, main_c_12, main_v49, main_v50, main_c_13, main_call5_v0, main_call5_v1, main_call5_v2, main_call5_v3, main_call5_v4, main_call5_v5, main_call5_v6, main_call5_v7, main_call5_v8, main_call5_c, main_call5_v9, main_call5_v10, main_call5_v11, main_call5_c_0, main_call5_v12, main_call5_v13, main_v51, main_v52, main_v53, main_v54, main_v55, main_v56, main_v57]
set_option maxRecDepth 8192 in
/-- These operations write the buffers listed. -/
theorem ops_part1_0_writes : (ops_part1_0 : List (HloOp τ sig (Elt F))).Forall fun op => op.writes ⊆ (ops_part1_0_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
/-- What the buffer holds after these operations. -/
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
/-- What the buffer holds after these operations. -/
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
/-- What the buffer holds after these operations. -/
theorem val1_1_main_v0 (V0 : Valuation τ sig (Elt F)) : val1_1 V0 (no_index (Proc.devRef .tc main_v0)) = shapeCast _ (V0 (Proc.devRef .tc main_arg0)) shapeCasts_S1x256x200x200_S256x200x200 :=
  (val1_1_keep V0 main_v0 (by decide)).trans (val1_main_v0 V0)
/-- What the buffer holds after these operations. -/
theorem val1_1_main_v8 (V0 : Valuation τ sig (Elt F)) : val1_1 V0 (no_index (Proc.devRef .tc main_v8)) = res_main_v8 V0 :=
  (val1_1_keep V0 main_v8 (by decide)).trans (val1_main_v8 V0)
/-- What the buffer holds after these operations. -/
theorem val1_1_main_v27 (V0 : Valuation τ sig (Elt F)) : val1_1 V0 (no_index (Proc.devRef .tc main_v27)) = res_main_v27 V0 :=
  (val1_1_keep V0 main_v27 (by decide)).trans (val1_main_v27 V0)
/-- What the buffer holds after these operations. -/
theorem val1_1_main_v29 (V0 : Valuation τ sig (Elt F)) : val1_1 V0 (no_index (Proc.devRef .tc main_v29)) = res_main_v29 V0 :=
  (val1_1_keep V0 main_v29 (by decide)).trans (val1_main_v29 V0)
/-- What the buffer holds after these operations. -/
theorem val1_1_main_v38 (V0 : Valuation τ sig (Elt F)) : val1_1 V0 (no_index (Proc.devRef .tc main_v38)) = res_main_v38 V0 :=
  (val1_1_keep V0 main_v38 (by decide)).trans (val1_main_v38 V0)
set_option maxRecDepth 8192 in
set_option maxHeartbeats 2000000 in
/-- What the buffer holds after these operations. -/
theorem val1_1_main_v53 (V0 : Valuation τ sig (Elt F)) : val1_1 V0 (no_index (Proc.devRef .tc main_v53)) = res_main_v53 V0 := by
  unfold val1_1
  simp only [ops_part1_0, TRef.binary, TRef.nullary, TRef.ternary, TRef.unary, TRef.toBuf, TRef.ofBuf, cast_eq]
  after_results_simp
  simp only [val1_main_v46, val1_main_v39] <;> rfl
set_option maxRecDepth 8192 in
set_option maxHeartbeats 2000000 in
/-- What the buffer holds after these operations. -/
theorem val1_1_main_v54 (V0 : Valuation τ sig (Elt F)) : val1_1 V0 (no_index (Proc.devRef .tc main_v54)) = broadcastInDim S1024x1 ![0] bcast_S1024_S1024x1_0 (res_main_v8 V0) := by
  unfold val1_1
  simp only [ops_part1_0, TRef.binary, TRef.nullary, TRef.ternary, TRef.unary, TRef.toBuf, TRef.ofBuf, cast_eq]
  after_results_simp
  simp only [val1_main_v8] <;> rfl
set_option maxRecDepth 8192 in
set_option maxHeartbeats 2000000 in
/-- What the buffer holds after these operations. -/
theorem val1_1_main_v56 (V0 : Valuation τ sig (Elt F)) : val1_1 V0 (no_index (Proc.devRef .tc main_v56)) = broadcastInDim S1024x1 ![0] bcast_S1024_S1024x1_0 (res_main_v27 V0) := by
  unfold val1_1
  simp only [ops_part1_0, TRef.binary, TRef.nullary, TRef.ternary, TRef.unary, TRef.toBuf, TRef.ofBuf, cast_eq]
  after_results_simp
  simp only [val1_main_v27] <;> rfl
set_option maxRecDepth 8192 in
set_option maxHeartbeats 2000000 in
/-- What the buffer holds after these operations. -/
theorem val1_1_main_v57 (V0 : Valuation τ sig (Elt F)) : val1_1 V0 (no_index (Proc.devRef .tc main_v57)) = broadcastInDim S1024x7 ![0, 1] bcast_S1x7_S1024x7_0_1 (broadcastInDim S1x7 ![1] bcast_S7_S1x7_1 (res_main_v29 V0)) := by
  unfold val1_1
  simp only [ops_part1_0, TRef.binary, TRef.nullary, TRef.ternary, TRef.unary, TRef.toBuf, TRef.ofBuf, cast_eq]
  after_results_simp
  simp only [val1_main_v29] <;> rfl

/-- The device's buffer contents after @main's first 152 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v58, main_v59, main_c_14, main_call6_v0, main_call6_v1, main_call6_v2, main_call6_v3, main_call6_v4, main_call6_v5, main_call6_v6, main_call6_v7, main_call6_v8, main_call6_c, main_call6_v9, main_call6_v10, main_call6_v11, main_call6_c_0, main_call6_v12, main_call6_v13, main_v60, main_v61, main_v62, main_v63, main_v64, main_c_15, main_v65, main_v66, main_v67, main_v68, main_v69]
set_option maxRecDepth 8192 in
/-- These operations write the buffers listed. -/
theorem ops_part1_1_writes : (ops_part1_1 : List (HloOp τ sig (Elt F))).Forall fun op => op.writes ⊆ (ops_part1_1_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
/-- What the buffer holds after these operations. -/
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
/-- What the buffer holds after these operations. -/
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
/-- What the buffer holds after these operations. -/
theorem val1_2_main_v0 (V0 : Valuation τ sig (Elt F)) : val1_2 V0 (no_index (Proc.devRef .tc main_v0)) = shapeCast _ (V0 (Proc.devRef .tc main_arg0)) shapeCasts_S1x256x200x200_S256x200x200 :=
  (val1_2_keep V0 main_v0 (by decide)).trans (val1_1_main_v0 V0)
/-- What the buffer holds after these operations. -/
theorem val1_2_main_v38 (V0 : Valuation τ sig (Elt F)) : val1_2 V0 (no_index (Proc.devRef .tc main_v38)) = res_main_v38 V0 :=
  (val1_2_keep V0 main_v38 (by decide)).trans (val1_1_main_v38 V0)
/-- What the buffer holds after these operations. -/
theorem val1_2_main_v53 (V0 : Valuation τ sig (Elt F)) : val1_2 V0 (no_index (Proc.devRef .tc main_v53)) = res_main_v53 V0 :=
  (val1_2_keep V0 main_v53 (by decide)).trans (val1_1_main_v53 V0)
set_option maxRecDepth 8192 in
set_option maxHeartbeats 2000000 in
/-- What the buffer holds after these operations. -/
theorem val1_2_main_v62 (V0 : Valuation τ sig (Elt F)) : val1_2 V0 (no_index (Proc.devRef .tc main_v62)) = res_main_v62 V0 := by
  unfold val1_2
  simp only [ops_part1_1, TRef.binary, TRef.nullary, TRef.ternary, TRef.unary, TRef.toBuf, TRef.ofBuf, cast_eq]
  after_results_simp
  simp only [val1_1_main_v56, val1_1_main_v57, val1_1_main_v54] <;> rfl
set_option maxRecDepth 8192 in
set_option maxHeartbeats 2000000 in
/-- What the buffer holds after these operations. -/
theorem val1_2_main_v63 (V0 : Valuation τ sig (Elt F)) : val1_2 V0 (no_index (Proc.devRef .tc main_v63)) = broadcastInDim S1024x1 ![0] bcast_S1024_S1024x1_0 (res_main_v8 V0) := by
  unfold val1_2
  simp only [ops_part1_1, TRef.binary, TRef.nullary, TRef.ternary, TRef.unary, TRef.toBuf, TRef.ofBuf, cast_eq]
  after_results_simp
  simp only [val1_1_main_v8] <;> rfl
set_option maxRecDepth 8192 in
set_option maxHeartbeats 2000000 in
/-- What the buffer holds after these operations. -/
theorem val1_2_main_v68 (V0 : Valuation τ sig (Elt F)) : val1_2 V0 (no_index (Proc.devRef .tc main_v68)) = broadcastInDim S1024x7 ![0, 1] bcast_S1x7_S1024x7_0_1 (addi (broadcastInDim S1x7 ![1] bcast_S7_S1x7_1 (res_main_v29 V0)) (broadcastInDim S1x7 ![] bcast_S_S1x7 (constantI S_ 32 1#32))) := by
  unfold val1_2
  simp only [ops_part1_1, TRef.binary, TRef.nullary, TRef.ternary, TRef.unary, TRef.toBuf, TRef.ofBuf, cast_eq]
  after_results_simp
  simp only [val1_1_main_v29] <;> rfl
set_option maxRecDepth 8192 in
set_option maxHeartbeats 2000000 in
/-- What the buffer holds after these operations. -/
theorem val1_2_main_v69 (V0 : Valuation τ sig (Elt F)) : val1_2 V0 (no_index (Proc.devRef .tc main_v69)) = broadcastInDim S1024x7 ![0, 1] bcast_S1024x1_S1024x7_0_1 (broadcastInDim S1024x1 ![0] bcast_S1024_S1024x1_0 (res_main_v27 V0)) := by
  unfold val1_2
  simp only [ops_part1_1, TRef.binary, TRef.nullary, TRef.ternary, TRef.unary, TRef.toBuf, TRef.ofBuf, cast_eq]
  after_results_simp
  simp only [val1_1_main_v27] <;> rfl

/-- The device's buffer contents after @main's first 182 operations. -/
def val1_3 (V0 : Valuation τ sig (Elt F)) : Valuation τ sig (Elt F) := after ops_part1_2 (val1_2 V0)
/-- The buffers that window `ops_part1_2`'s operations write. -/
abbrev ops_part1_2_W : List (Ref sig .tc) := [main_v70, main_c_16, main_v71, main_v72, main_c_17, main_v73, main_v74, main_c_18, main_call7_v0, main_call7_v1, main_call7_v2, main_call7_v3, main_call7_v4, main_call7_v5, main_call7_v6, main_call7_v7, main_call7_v8, main_call7_c, main_call7_v9, main_call7_v10, main_call7_v11, main_call7_c_0, main_call7_v12, main_call7_v13, main_v75, main_v76, main_v77, main_call8_call0_cst, main_call8_call0_v0, main_v78]
set_option maxRecDepth 8192 in
/-- These operations write the buffers listed. -/
theorem ops_part1_2_writes : (ops_part1_2 : List (HloOp τ sig (Elt F))).Forall fun op => op.writes ⊆ (ops_part1_2_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_2` does not write keeps its contents through it. -/
theorem val1_3_keep (V0 : Valuation τ sig (Elt F)) (r : Ref sig .tc) (h : r ∉ ops_part1_2_W) :
    val1_3 V0 (Proc.devRef .tc r) = val1_2 V0 (Proc.devRef .tc r) :=
  after_of_writes_sub ops_part1_2 _ ops_part1_2_writes h
/-- What the buffer holds after these operations. -/
theorem val1_3_main_arg0 (V0 : Valuation τ sig (Elt F)) : val1_3 V0 (no_index (Proc.devRef .tc main_arg0)) = V0 (Proc.devRef .tc main_arg0) :=
  (val1_3_keep V0 main_arg0 (by decide)).trans (val1_2_main_arg0 V0)
/-- What the buffer holds after these operations. -/
theorem val1_3_main_arg1 (V0 : Valuation τ sig (Elt F)) : val1_3 V0 (no_index (Proc.devRef .tc main_arg1)) = V0 (Proc.devRef .tc main_arg1) :=
  (val1_3_keep V0 main_arg1 (by decide)).trans (val1_2_main_arg1 V0)
/-- What the buffer holds after these operations. -/
theorem val1_3_main_v38 (V0 : Valuation τ sig (Elt F)) : val1_3 V0 (no_index (Proc.devRef .tc main_v38)) = res_main_v38 V0 :=
  (val1_3_keep V0 main_v38 (by decide)).trans (val1_2_main_v38 V0)
/-- What the buffer holds after these operations. -/
theorem val1_3_main_v53 (V0 : Valuation τ sig (Elt F)) : val1_3 V0 (no_index (Proc.devRef .tc main_v53)) = res_main_v53 V0 :=
  (val1_3_keep V0 main_v53 (by decide)).trans (val1_2_main_v53 V0)
/-- What the buffer holds after these operations. -/
theorem val1_3_main_v62 (V0 : Valuation τ sig (Elt F)) : val1_3 V0 (no_index (Proc.devRef .tc main_v62)) = res_main_v62 V0 :=
  (val1_3_keep V0 main_v62 (by decide)).trans (val1_2_main_v62 V0)
set_option maxRecDepth 8192 in
set_option maxHeartbeats 2000000 in
/-- What the buffer holds after these operations. -/
theorem val1_3_main_v77 (V0 : Valuation τ sig (Elt F)) : val1_3 V0 (no_index (Proc.devRef .tc main_v77)) = res_main_v77 V0 := by
  unfold val1_3
  simp only [ops_part1_2, TRef.binary, TRef.nullary, TRef.ternary, TRef.unary, TRef.toBuf, TRef.ofBuf, cast_eq]
  after_results_simp
  simp only [val1_2_main_v69, val1_2_main_v68, val1_2_main_v63] <;> rfl
set_option maxRecDepth 8192 in
set_option maxHeartbeats 2000000 in
/-- What the buffer holds after these operations. -/
theorem val1_3_main_v78 (V0 : Valuation τ sig (Elt F)) : val1_3 V0 (no_index (Proc.devRef .tc main_v78)) = Host.reduceWindowAdd ![1, 200, 1] ![1, 1, 1] ![0, 199, 0] ![0, 0, 0] (shapeCast _ (V0 (Proc.devRef .tc main_arg0)) shapeCasts_S1x256x200x200_S256x200x200) (broadcastInDim S_ ![] bcast_S_S_ (constant S_ .f32 0x00000000#32)) reduceWindows_S256x200x200_S256x200x200_w1s1p0_0_w200s1p199_0_w1s1p0_0 h_S_ := by
  unfold val1_3
  simp only [ops_part1_2, TRef.binary, TRef.nullary, TRef.ternary, TRef.unary, TRef.toBuf, TRef.ofBuf, cast_eq]
  after_results_simp
  simp only [val1_2_main_v0] <;> rfl

/-- The device's buffer contents after @main's first 2 windows. -/
def val2 (V0 : Valuation τ sig (Elt F)) : Valuation τ sig (Elt F) := after ops_part1_3 (val1_3 V0)
/-- The buffers that window `ops_part1_3`'s operations write. -/
abbrev ops_part1_3_W : List (Ref sig .tc) := [main_call9_call0_cst, main_call9_call0_v0, main_v79, main_c_19, main_call10_v0, main_v80, main_v81, main_v82, main_c_20, main_v83, main_v84, main_c_21, main_v85, main_v86, main_v87, main_c_22, main_v88, main_v89, main_c_23, main_v90, main_v91, main_v92, main_v93]
set_option maxRecDepth 8192 in
/-- These operations write the buffers listed. -/
theorem ops_part1_3_writes : (ops_part1_3 : List (HloOp τ sig (Elt F))).Forall fun op => op.writes ⊆ (ops_part1_3_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_3` does not write keeps its contents through it. -/
theorem val2_keep (V0 : Valuation τ sig (Elt F)) (r : Ref sig .tc) (h : r ∉ ops_part1_3_W) :
    val2 V0 (Proc.devRef .tc r) = val1_3 V0 (Proc.devRef .tc r) :=
  after_of_writes_sub ops_part1_3 _ ops_part1_3_writes h
/-- What the buffer holds after these operations. -/
theorem val2_main_arg0 (V0 : Valuation τ sig (Elt F)) : val2 V0 (no_index (Proc.devRef .tc main_arg0)) = V0 (Proc.devRef .tc main_arg0) :=
  (val2_keep V0 main_arg0 (by decide)).trans (val1_3_main_arg0 V0)
/-- What the buffer holds after these operations. -/
theorem val2_main_arg1 (V0 : Valuation τ sig (Elt F)) : val2 V0 (no_index (Proc.devRef .tc main_arg1)) = V0 (Proc.devRef .tc main_arg1) :=
  (val2_keep V0 main_arg1 (by decide)).trans (val1_3_main_arg1 V0)
/-- What the buffer holds after these operations. -/
theorem val2_main_v38 (V0 : Valuation τ sig (Elt F)) : val2 V0 (no_index (Proc.devRef .tc main_v38)) = res_main_v38 V0 :=
  (val2_keep V0 main_v38 (by decide)).trans (val1_3_main_v38 V0)
/-- What the buffer holds after these operations. -/
theorem val2_main_v53 (V0 : Valuation τ sig (Elt F)) : val2 V0 (no_index (Proc.devRef .tc main_v53)) = res_main_v53 V0 :=
  (val2_keep V0 main_v53 (by decide)).trans (val1_3_main_v53 V0)
/-- What the buffer holds after these operations. -/
theorem val2_main_v62 (V0 : Valuation τ sig (Elt F)) : val2 V0 (no_index (Proc.devRef .tc main_v62)) = res_main_v62 V0 :=
  (val2_keep V0 main_v62 (by decide)).trans (val1_3_main_v62 V0)
/-- What the buffer holds after these operations. -/
theorem val2_main_v77 (V0 : Valuation τ sig (Elt F)) : val2 V0 (no_index (Proc.devRef .tc main_v77)) = res_main_v77 V0 :=
  (val2_keep V0 main_v77 (by decide)).trans (val1_3_main_v77 V0)
set_option maxRecDepth 8192 in
set_option maxHeartbeats 2000000 in
/-- What the buffer holds after these operations. -/
theorem val2_main_v80 (V0 : Valuation τ sig (Elt F)) : val2 V0 (no_index (Proc.devRef .tc main_v80)) = res_main_v80 V0 := by
  unfold val2
  simp only [ops_part1_3, TRef.binary, TRef.nullary, TRef.unary, TRef.toBuf, TRef.ofBuf, cast_eq]
  after_results_simp
  simp only [val1_3_main_v78] <;> rfl
set_option maxRecDepth 8192 in
set_option maxHeartbeats 2000000 in
/-- What the buffer holds after these operations. -/
theorem val2_main_v92 (V0 : Valuation τ sig (Elt F)) : val2 V0 (no_index (Proc.devRef .tc main_v92)) = select (cmpi .slt (res_main_v82 V0) (broadcastInDim S1024x1x7 ![] bcast_S_S1024x1x7 (constantI S_ 32 0#32))) (addi (res_main_v82 V0) (broadcastInDim S1024x1x7 ![] bcast_S_S1024x1x7 (constantI S_ 32 201#32))) (res_main_v82 V0) := by
  unfold val2
  simp only [ops_part1_3, TRef.binary, TRef.nullary, TRef.unary, TRef.toBuf, TRef.ofBuf, cast_eq]
  after_results_simp
  simp only [val1_3_main_v77] <;> rfl
set_option maxRecDepth 8192 in
set_option maxHeartbeats 2000000 in
/-- What the buffer holds after these operations. -/
theorem val2_main_v93 (V0 : Valuation τ sig (Elt F)) : val2 V0 (no_index (Proc.devRef .tc main_v93)) = broadcastInDim S1024x7x7 ![0, 1, 2] bcast_S1024x7x1_S1024x7x7_0_1_2 (select (cmpi .slt (res_main_v81 V0) (broadcastInDim S1024x7x1 ![] bcast_S_S1024x7x1 (constantI S_ 32 0#32))) (addi (res_main_v81 V0) (broadcastInDim S1024x7x1 ![] bcast_S_S1024x7x1 (constantI S_ 32 201#32))) (res_main_v81 V0)) := by
  unfold val2
  simp only [ops_part1_3, TRef.binary, TRef.nullary, TRef.unary, TRef.toBuf, TRef.ofBuf, cast_eq]
  after_results_simp
  simp only [val1_3_main_v53] <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_v94, main_v95, main_v96, main_v97, main_v98, main_v99, main_v100, main_v101, main_c_24, main_v102, main_v103, main_c_25, main_v104, main_v105, main_v106, main_c_26, main_v107, main_v108, main_c_27, main_v109, main_v110, main_v111, main_v112, main_v113, main_v114, main_v115, main_v116, main_v117, main_v118, main_v119, main_v120, main_v121, main_c_28, main_v122, main_v123, main_c_29, main_v124, main_v125, main_v126, main_c_30, main_v127, main_v128, main_c_31, main_v129, main_v130, main_v131, main_v132, main_v133, main_v134, main_v135, main_v136, main_v137, main_v138, main_v139, main_v140, main_v141, main_c_32, main_v142, main_v143, main_c_33]
set_option maxRecDepth 8192 in
/-- These operations write the buffers listed. -/
theorem ops_part2_writes : (ops_part2 : List (HloOp τ sig (Elt F))).Forall fun op => op.writes ⊆ (ops_part2_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
/-- What the buffer holds after these operations. -/
theorem val3_main_arg0 (V0 : Valuation τ sig (Elt F)) : val3 V0 (no_index (Proc.devRef .tc main_arg0)) = V0 (Proc.devRef .tc main_arg0) :=
  (val3_keep V0 main_arg0 (by decide)).trans (val2_main_arg0 V0)
/-- What the buffer holds after these operations. -/
theorem val3_main_arg1 (V0 : Valuation τ sig (Elt F)) : val3 V0 (no_index (Proc.devRef .tc main_arg1)) = V0 (Proc.devRef .tc main_arg1) :=
  (val3_keep V0 main_arg1 (by decide)).trans (val2_main_arg1 V0)
/-- What the buffer holds after these operations. -/
theorem val3_main_v38 (V0 : Valuation τ sig (Elt F)) : val3 V0 (no_index (Proc.devRef .tc main_v38)) = res_main_v38 V0 :=
  (val3_keep V0 main_v38 (by decide)).trans (val2_main_v38 V0)
/-- What the buffer holds after these operations. -/
theorem val3_main_v53 (V0 : Valuation τ sig (Elt F)) : val3 V0 (no_index (Proc.devRef .tc main_v53)) = res_main_v53 V0 :=
  (val3_keep V0 main_v53 (by decide)).trans (val2_main_v53 V0)
/-- What the buffer holds after these operations. -/
theorem val3_main_v62 (V0 : Valuation τ sig (Elt F)) : val3 V0 (no_index (Proc.devRef .tc main_v62)) = res_main_v62 V0 :=
  (val3_keep V0 main_v62 (by decide)).trans (val2_main_v62 V0)
/-- What the buffer holds after these operations. -/
theorem val3_main_v77 (V0 : Valuation τ sig (Elt F)) : val3 V0 (no_index (Proc.devRef .tc main_v77)) = res_main_v77 V0 :=
  (val3_keep V0 main_v77 (by decide)).trans (val2_main_v77 V0)
/-- What the buffer holds after these operations. -/
theorem val3_main_v80 (V0 : Valuation τ sig (Elt F)) : val3 V0 (no_index (Proc.devRef .tc main_v80)) = res_main_v80 V0 :=
  (val3_keep V0 main_v80 (by decide)).trans (val2_main_v80 V0)
set_option maxRecDepth 8192 in
set_option maxHeartbeats 2000000 in
/-- What the buffer holds after these operations. -/
theorem val3_main_v139 (V0 : Valuation τ sig (Elt F)) : val3 V0 (no_index (Proc.devRef .tc main_v139)) = subf (subf (transpose S1024x256x7x7 [1, 0, 2, 3] (Host.gather gather_S256x201x201_S1024x7x7x2_S256x1024x7x7_0_12_n_n_12_3_25611 (res_main_v80 V0) (concatenate S1024x7x7x2 3 [⟨S1024x7x7x1, (broadcastInDim S1024x7x7x1 ![0, 1, 2] bcast_S1024x7x7_S1024x7x7x1_0_1_2 (broadcastInDim S1024x7x7 ![0, 1, 2] bcast_S1024x7x1_S1024x7x7_0_1_2 (select (cmpi .slt (res_main_v81 V0) (broadcastInDim S1024x7x1 ![] bcast_S_S1024x7x1 (constantI S_ 32 0#32))) (addi (res_main_v81 V0) (broadcastInDim S1024x7x1 ![] bcast_S_S1024x7x1 (constantI S_ 32 201#32))) (res_main_v81 V0))))⟩, ⟨S1024x7x7x1, (broadcastInDim S1024x7x7x1 ![0, 1, 2] bcast_S1024x7x7_S1024x7x7x1_0_1_2 (broadcastInDim S1024x7x7 ![0, 1, 2] bcast_S1024x1x7_S1024x7x7_0_1_2 (select (cmpi .slt (res_main_v82 V0) (broadcastInDim S1024x1x7 ![] bcast_S_S1024x1x7 (constantI S_ 32 0#32))) (addi (res_main_v82 V0) (broadcastInDim S1024x1x7 ![] bcast_S_S1024x1x7 (constantI S_ 32 201#32))) (res_main_v82 V0))))⟩] concatenates_S1024x7x7x1_S1024x7x7x1_S1024x7x7x2_d3)) transposes_S256x1024x7x7_S1024x256x7x7_1_0_2_3) (transpose S1024x256x7x7 [1, 0, 2, 3] (Host.gather gather_S256x201x201_S1024x7x7x2_S256x1024x7x7_0_12_n_n_12_3_25611 (res_main_v80 V0) (concatenate S1024x7x7x2 3 [⟨S1024x7x7x1, (broadcastInDim S1024x7x7x1 ![0, 1, 2] bcast_S1024x7x7_S1024x7x7x1_0_1_2 (broadcastInDim S1024x7x7 ![0, 1, 2] bcast_S1024x7x1_S1024x7x7_0_1_2 (select (cmpi .slt (res_main_v100 V0) (broadcastInDim S1024x7x1 ![] bcast_S_S1024x7x1 (constantI S_ 32 0#32))) (addi (res_main_v100 V0) (broadcastInDim S1024x7x1 ![] bcast_S_S1024x7x1 (constantI S_ 32 201#32))) (res_main_v100 V0))))⟩, ⟨S1024x7x7x1, (broadcastInDim S1024x7x7x1 ![0, 1, 2] bcast_S1024x7x7_S1024x7x7x1_0_1_2 (broadcastInDim S1024x7x7 ![0, 1, 2] bcast_S1024x1x7_S1024x7x7_0_1_2 (select (cmpi .slt (res_main_v101 V0) (broadcastInDim S1024x1x7 ![] bcast_S_S1024x1x7 (constantI S_ 32 0#32))) (addi (res_main_v101 V0) (broadcastInDim S1024x1x7 ![] bcast_S_S1024x1x7 (constantI S_ 32 201#32))) (res_main_v101 V0))))⟩] concatenates_S1024x7x7x1_S1024x7x7x1_S1024x7x7x2_d3)) transposes_S256x1024x7x7_S1024x256x7x7_1_0_2_3)) (transpose S1024x256x7x7 [1, 0, 2, 3] (Host.gather gather_S256x201x201_S1024x7x7x2_S256x1024x7x7_0_12_n_n_12_3_25611 (res_main_v80 V0) (concatenate S1024x7x7x2 3 [⟨S1024x7x7x1, (broadcastInDim S1024x7x7x1 ![0, 1, 2] bcast_S1024x7x7_S1024x7x7x1_0_1_2 (broadcastInDim S1024x7x7 ![0, 1, 2] bcast_S1024x7x1_S1024x7x7_0_1_2 (select (cmpi .slt (res_main_v120 V0) (broadcastInDim S1024x7x1 ![] bcast_S_S1024x7x1 (constantI S_ 32 0#32))) (addi (res_main_v120 V0) (broadcastInDim S1024x7x1 ![] bcast_S_S1024x7x1 (constantI S_ 32 201#32))) (res_main_v120 V0))))⟩, ⟨S1024x7x7x1, (broadcastInDim S1024x7x7x1 ![0, 1, 2] bcast_S1024x7x7_S1024x7x7x1_0_1_2 (broadcastInDim S1024x7x7 ![0, 1, 2] bcast_S1024x1x7_S1024x7x7_0_1_2 (select (cmpi .slt (res_main_v121 V0) (broadcastInDim S1024x1x7 ![] bcast_S_S1024x1x7 (constantI S_ 32 0#32))) (addi (res_main_v121 V0) (broadcastInDim S1024x1x7 ![] bcast_S_S1024x1x7 (constantI S_ 32 201#32))) (res_main_v121 V0))))⟩] concatenates_S1024x7x7x1_S1024x7x7x1_S1024x7x7x2_d3)) transposes_S256x1024x7x7_S1024x256x7x7_1_0_2_3) := by
  unfold val3
  simp only [ops_part2]
  after_results_simp
  simp only [val2_main_v62, val2_main_v53, val2_main_v80, val2_main_v77, val2_main_v38, val2_main_v92, val2_main_v93] <;> rfl
set_option maxRecDepth 8192 in
set_option maxHeartbeats 2000000 in
/-- What the buffer holds after these operations. -/
theorem val3_main_v140 (V0 : Valuation τ sig (Elt F)) : val3 V0 (no_index (Proc.devRef .tc main_v140)) = res_main_v140 V0 := by
  unfold val3
  simp only [ops_part2]
  after_results_simp
  simp only [val2_main_v38] <;> rfl
set_option maxRecDepth 8192 in
set_option maxHeartbeats 2000000 in
/-- What the buffer holds after these operations. -/
theorem val3_main_v141 (V0 : Valuation τ sig (Elt F)) : val3 V0 (no_index (Proc.devRef .tc main_v141)) = res_main_v141 V0 := by
  unfold val3
  simp only [ops_part2]
  after_results_simp
  simp only [val2_main_v62] <;> rfl
set_option maxRecDepth 8192 in
set_option maxHeartbeats 2000000 in
/-- What the buffer holds after these operations. -/
theorem val3_main_v143 (V0 : Valuation τ sig (Elt F)) : val3 V0 (no_index (Proc.devRef .tc main_v143)) = cmpi .slt (res_main_v140 V0) (broadcastInDim S1024x7x1 ![] bcast_S_S1024x7x1 (constantI S_ 32 0#32)) := by
  unfold val3
  simp only [ops_part2]
  after_results_simp
  simp only [val2_main_v38] <;> rfl
set_option maxRecDepth 8192 in
set_option maxHeartbeats 2000000 in
/-- What the buffer holds after these operations. -/
theorem val3_main_c_33 (V0 : Valuation τ sig (Elt F)) : val3 V0 (no_index (Proc.devRef .tc main_c_33)) = constantI S_ 32 201#32 := by
  unfold val3
  simp only [ops_part2]
  after_results_simp
  all_goals rfl

/-- The device's buffer contents after @main's first 4 windows. -/
def val4 (V0 : Valuation τ sig (Elt F)) : Valuation τ sig (Elt F) := after ops_part3 (val3 V0)
/-- The buffers that window `main_part3`'s operations write. -/
abbrev ops_part3_W : List (Ref sig .tc) := [main_v144, main_v145, main_v146, main_c_34, main_v147, main_v148, main_c_35, main_v149, main_v150, main_v151, main_v152, main_v153, main_v154, main_v155, main_v156, main_v157, main_v158, main_v159, main_v160, main_v161, main_v162, main_v163, main_v164, main_v165, main_v166, main_v167, main_v168, main_v169, main_v170]
set_option maxRecDepth 8192 in
/-- These operations write the buffers listed. -/
theorem ops_part3_writes : (ops_part3 : List (HloOp τ sig (Elt F))).Forall fun op => op.writes ⊆ (ops_part3_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
/-- What the buffer holds after these operations. -/
theorem val4_main_arg0 (V0 : Valuation τ sig (Elt F)) : val4 V0 (no_index (Proc.devRef .tc main_arg0)) = V0 (Proc.devRef .tc main_arg0) :=
  (val4_keep V0 main_arg0 (by decide)).trans (val3_main_arg0 V0)
/-- What the buffer holds after these operations. -/
theorem val4_main_arg1 (V0 : Valuation τ sig (Elt F)) : val4 V0 (no_index (Proc.devRef .tc main_arg1)) = V0 (Proc.devRef .tc main_arg1) :=
  (val4_keep V0 main_arg1 (by decide)).trans (val3_main_arg1 V0)
set_option maxRecDepth 8192 in
set_option maxHeartbeats 2000000 in
/-- What the buffer holds after these operations. -/
theorem val4_main_v170 (V0 : Valuation τ sig (Elt F)) : val4 V0 (no_index (Proc.devRef .tc main_v170)) = Host.divf (res_main_v159 V0) (broadcastInDim S1024x256x7x7 ![0, 1, 2, 3] bcast_S1024x1x7x7_S1024x256x7x7_0_1_2_3 (broadcastInDim S1024x1x7x7 ![0, 2, 3] bcast_S1024x7x7_S1024x1x7x7_0_2_3 (sitofp .f32 (muli (broadcastInDim S1024x7x7 ![0, 1, 2] bcast_S1024x7x1_S1024x7x7_0_1_2 (broadcastInDim S1024x7x1 ![0, 1] bcast_S1024x7_S1024x7x1_0_1 (subi (res_main_v53 V0) (res_main_v38 V0)))) (broadcastInDim S1024x7x7 ![0, 1, 2] bcast_S1024x1x7_S1024x7x7_0_1_2 (broadcastInDim S1024x1x7 ![0, 2] bcast_S1024x7_S1024x1x7_0_2 (subi (res_main_v77 V0) (res_main_v62 V0)))))))) := by
  unfold val4
  simp only [ops_part3]
  after_results_simp
  simp only [val3_main_v62, val3_main_v77, val3_main_v38, val3_main_v53, val3_main_v141, val3_main_v140, val3_main_c_33, val3_main_v143, val3_main_v80, val3_main_v139] <;> rfl

/-- The pieces, one after the other. -/
theorem after_ops (V0 : Valuation τ sig (Elt F)) : after ops V0 = val4 V0 := by
  simp only [ops, ops_part0, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v170) = Host.divf (res_main_v159 (launchContents m c)) (broadcastInDim S1024x256x7x7 ![0, 1, 2, 3] bcast_S1024x1x7x7_S1024x256x7x7_0_1_2_3 (broadcastInDim S1024x1x7x7 ![0, 2, 3] bcast_S1024x7x7_S1024x1x7x7_0_2_3 (sitofp .f32 (muli (broadcastInDim S1024x7x7 ![0, 1, 2] bcast_S1024x7x1_S1024x7x7_0_1_2 (broadcastInDim S1024x7x1 ![0, 1] bcast_S1024x7_S1024x7x1_0_1 (subi (res_main_v53 (launchContents m c)) (res_main_v38 (launchContents m c))))) (broadcastInDim S1024x7x7 ![0, 1, 2] bcast_S1024x1x7_S1024x7x7_0_1_2 (broadcastInDim S1024x1x7 ![0, 2] bcast_S1024x7_S1024x1x7_0_2 (subi (res_main_v77 (launchContents m c)) (res_main_v62 (launchContents m c)))))))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v170).trans ((congrFun (after_ops (launchContents m c)) (Proc.devRef .tc main_v170)).trans (val4_main_v170 (launchContents m c))),
      (h c main_arg0).trans ((congrFun (after_ops (launchContents m c)) (Proc.devRef .tc main_arg0)).trans (val4_main_arg0 (launchContents m c))),
      (h c main_arg1).trans ((congrFun (after_ops (launchContents m c)) (Proc.devRef .tc main_arg1)).trans (val4_main_arg1 (launchContents m c)))⟩)
    (run_seq scopedRefs_eq scopedSems_eq defs main (fun _ => ops) main_eq (fun _ => ops_sub) m ρ fun _ => ops_fresh)

end Cert.ReferenceIdeal.Hand

end
-- ==== Proof.Words.lean ====
/- The 32-bit words of a box: its clipped corners, the start and the end of a bin along one axis, and their ranges. -/
module

public import Idealize.ShloMosaic.PureOps
public import Idealize.ShloMosaic.Lib.Pointwise

@[expose] public section

noncomputable section

namespace Roi

open Idealize.ShloMosaic

/-- A box's first corner, clipped to `0 … 199`. -/
def cl0 (b : BitVec 32) : BitVec 32 := IntOp.minsi 199#32 (IntOp.maxsi 0#32 b)
/-- A box's second corner, one past its last cell: clipped to `a + 1 … 200`. -/
def cl1 (a b : BitVec 32) : BitVec 32 := IntOp.minsi 200#32 (IntOp.maxsi (IntOp.addi a 1#32) (IntOp.addi b 1#32))
/-- The sign of a word. -/
def sgn (x : BitVec 32) : BitVec 32 := if x = 0 then 0 else if x.msb then -1 else 1
/-- The floor of a word's seventh, as it is spelt with a truncating division. -/
def fd7 (x : BitVec 32) : BitVec 32 :=
  Scalar.select (IntOp.andi (IntOp.cmpi .ne (sgn x) (sgn 7#32)) (IntOp.cmpi .ne (IntOp.remsi .host x 7#32) 0#32))
    (IntOp.subi (IntOp.divsi .host x 7#32) 1#32) (IntOp.divsi .host x 7#32)
/-- Where bin `i` of an axis starts: the axis' first cell `y`, its extent `r`. -/
def stW (y r : BitVec 32) (i : ℕ) : BitVec 32 := IntOp.addi y (fd7 (IntOp.muli (BitVec.ofNat 32 i) r))
/-- One past where bin `i` of an axis ends. -/
def enW (y r : BitVec 32) (i : ℕ) : BitVec 32 :=
  IntOp.addi y (fd7 (IntOp.subi (IntOp.addi (IntOp.muli (IntOp.addi (BitVec.ofNat 32 i) 1#32) r) 7#32) 1#32))

/-- The first corner is at most 199. -/
theorem cl0_le (b : BitVec 32) : (cl0 b).toNat ≤ 199 := by
  unfold cl0 IntOp.minsi IntOp.maxsi
  simp only [BitVec.slt, BitVec.toInt_eq_toNat_cond]
  have := b.isLt
  split_ifs <;> simp_all <;> omega

/-- The second corner is past the first. -/
theorem cl1_gt (a b : BitVec 32) (h : a.toNat ≤ 199) : a.toNat + 1 ≤ (cl1 a b).toNat := by
  unfold cl1 IntOp.minsi IntOp.maxsi IntOp.addi
  have ha : (a + 1#32).toNat = a.toNat + 1 := by rw [BitVec.toNat_add]; simp; omega
  generalize b + 1#32 = w
  generalize a + 1#32 = v at *
  simp only [BitVec.slt, BitVec.toInt_eq_toNat_cond]
  have := w.isLt
  split_ifs <;> simp_all <;> omega

/-- The second corner is at most 200. -/
theorem cl1_le (a b : BitVec 32) (h : a.toNat ≤ 199) : (cl1 a b).toNat ≤ 200 := by
  unfold cl1 IntOp.minsi IntOp.maxsi IntOp.addi
  have ha : (a + 1#32).toNat = a.toNat + 1 := by rw [BitVec.toNat_add]; simp; omega
  generalize b + 1#32 = w
  generalize a + 1#32 = v at *
  simp only [BitVec.slt, BitVec.toInt_eq_toNat_cond]
  have := w.isLt
  split_ifs <;> simp_all <;> omega

/-- Below 2³¹ the floor division by seven is the natural one. -/
theorem fd7_toNat (x : BitVec 32) (h : x.toNat < 2 ^ 31) : (fd7 x).toNat = x.toNat / 7 := by
  have hm : x.msb = false := by rw [BitVec.msb_eq_false_iff_two_mul_lt]; omega
  have h7 : ¬ IntOp.SDivCorner x (7#32) := by
    rintro (h | ⟨-, h⟩) <;> exact absurd h (by decide)
  have hd : IntOp.divsi .host x 7#32 = x / 7#32 := by
    unfold IntOp.divsi
    rw [if_neg h7, BitVec.sdiv_eq, hm]
    rfl
  have hr : IntOp.remsi .host x 7#32 = x % 7#32 := by
    unfold IntOp.remsi
    rw [if_neg h7, BitVec.srem_eq, hm]
    rfl
  have hc : IntOp.andi (IntOp.cmpi .ne (sgn x) (sgn 7#32)) (IntOp.cmpi .ne (IntOp.remsi .host x 7#32) 0#32) = 0#1 := by
    by_cases h0 : x = 0#32
    · subst h0; rw [hr]; decide
    · have : sgn x = sgn 7#32 := by
        unfold sgn
        have h0' : ¬ x = 0 := h0
        rw [if_neg h0', hm]; decide
      rw [this]
      have : IntOp.cmpi .ne (sgn 7#32) (sgn 7#32) = 0#1 := by decide
      rw [this]
      unfold IntOp.andi
      exact BitVec.zero_and
  unfold fd7
  rw [hc, hd]
  unfold Scalar.select
  rw [if_neg (by decide), BitVec.toNat_udiv]
  rfl

/-- A bin's start as a natural number. -/
theorem stW_toNat (y r : BitVec 32) (i : ℕ) (hy : y.toNat ≤ 199) (hr : r.toNat ≤ 200) (hi : i < 7) :
    (stW y r i).toNat = y.toNat + i * r.toNat / 7 := by
  have hm : (IntOp.muli (BitVec.ofNat 32 i) r).toNat = i * r.toNat := by
    unfold IntOp.muli
    rw [BitVec.toNat_mul, BitVec.toNat_ofNat, Nat.mod_eq_of_lt (a := i) (by omega), Nat.mod_eq_of_lt]
    nlinarith
  have hb : i * r.toNat ≤ 6 * 200 := Nat.mul_le_mul (by omega) hr
  unfold stW IntOp.addi
  rw [BitVec.toNat_add, fd7_toNat _ (by omega), hm]
  omega

/-- A bin's end as a natural number. -/
theorem enW_toNat (y r : BitVec 32) (i : ℕ) (hy : y.toNat ≤ 199) (hr : r.toNat ≤ 200) (hi : i < 7) :
    (enW y r i).toNat = y.toNat + ((i + 1) * r.toNat + 6) / 7 := by
  have hb : (i + 1) * r.toNat ≤ 7 * 200 := Nat.mul_le_mul (by omega) hr
  have hi1 : (IntOp.addi (BitVec.ofNat 32 i) 1#32).toNat = i + 1 := by
    unfold IntOp.addi; rw [BitVec.toNat_add, BitVec.toNat_ofNat]; simp; omega
  have hm : (IntOp.muli (IntOp.addi (BitVec.ofNat 32 i) 1#32) r).toNat = (i + 1) * r.toNat := by
    unfold IntOp.muli
    rw [BitVec.toNat_mul, hi1, Nat.mod_eq_of_lt (by omega)]
  have hs : (IntOp.subi (IntOp.addi (IntOp.muli (IntOp.addi (BitVec.ofNat 32 i) 1#32) r) 7#32) 1#32).toNat = (i + 1) * r.toNat + 6 := by
    generalize IntOp.muli (IntOp.addi (BitVec.ofNat 32 i) 1#32) r = z at hm ⊢
    unfold IntOp.subi IntOp.addi
    rw [BitVec.toNat_sub, BitVec.toNat_add, hm]
    simp; omega
  unfold enW
  generalize IntOp.subi (IntOp.addi (IntOp.muli (IntOp.addi (BitVec.ofNat 32 i) 1#32) r) 7#32) 1#32 = z at hs ⊢
  unfold IntOp.addi
  rw [BitVec.toNat_add, fd7_toNat _ (by omega), hs]
  omega

/-- The extent of an axis, as a natural number. -/
theorem ext_toNat (y e : BitVec 32) (h : y.toNat ≤ e.toNat) : (IntOp.subi e y).toNat = e.toNat - y.toNat := by
  unfold IntOp.subi
  rw [BitVec.toNat_sub]
  have := e.isLt
  have := y.isLt
  omega

/-- One axis of one box: first corner `b`, second corner `b'`. The bins start and end where they should. -/
theorem axis_range (b b' : BitVec 32) (i : ℕ) (hi : i < 7) :
    (stW (cl0 b) (IntOp.subi (cl1 (cl0 b) b') (cl0 b)) i).toNat ≤ 200
      ∧ (enW (cl0 b) (IntOp.subi (cl1 (cl0 b) b') (cl0 b)) i).toNat ≤ 200 := by
  have h0 := cl0_le b
  have h1 := cl1_gt (cl0 b) b' h0
  have h2 := cl1_le (cl0 b) b' h0
  have he := ext_toNat (cl0 b) (cl1 (cl0 b) b') (by omega)
  have hb : i * (IntOp.subi (cl1 (cl0 b) b') (cl0 b)).toNat ≤ 6 * (IntOp.subi (cl1 (cl0 b) b') (cl0 b)).toNat :=
    Nat.mul_le_mul_right _ (by omega)
  rw [stW_toNat _ _ _ h0 (by omega) hi, enW_toNat _ _ _ h0 (by omega) hi]
  generalize IntOp.subi (cl1 (cl0 b) b') (cl0 b) = r at *
  have hx : (i + 1) * r.toNat = i * r.toNat + r.toNat := by ring
  rw [hx]
  constructor <;> omega

/-- The flat position of a cell of the 201 × 201 table. -/
theorem flat_toNat (a b : BitVec 32) (ha : a.toNat ≤ 200) (hb : b.toNat ≤ 200) :
    (IntOp.addi (IntOp.muli a 201#32) b).toNat = a.toNat * 201 + b.toNat := by
  unfold IntOp.addi IntOp.muli
  rw [BitVec.toNat_add, BitVec.toNat_mul]
  simp
  omega

end Roi

end
-- ==== Proof.Prefix.lean ====
/- The prefix sums of a feature map, over the extended reals: a windowed sum down one axis is a running sum. -/
module

public import Idealize.ShloMosaic.Lib.Pointwise
public import Idealize.ShloMosaic.PureOps.Ideal

@[expose] public section

noncomputable section

namespace Roi

open Idealize.ShloMosaic

/-- The feature map's cell, its row and column taken round. -/
def cell (fm : (⟨4, ![1, 256, 200, 200]⟩ : Shape).Idx → EReal) (ch : Fin 256) (i l : ℕ) : EReal :=
  fm (ix4 (0 : Fin 1) ch (⟨i % 200, Nat.mod_lt _ (by decide)⟩ : Fin 200) (⟨l % 200, Nat.mod_lt _ (by decide)⟩ : Fin 200))

/-- The sum of the first `k` cells of row `i`. -/
def rowSum (fm : (⟨4, ![1, 256, 200, 200]⟩ : Shape).Idx → EReal) (ch : Fin 256) (i k : ℕ) : EReal :=
  ∑ l ∈ Finset.range k, cell fm ch i l

/-- The sum over the rectangle of the first `r` rows and `k` columns. -/
def rect (fm : (⟨4, ![1, 256, 200, 200]⟩ : Shape).Idx → EReal) (ch : Fin 256) (r k : ℕ) : EReal :=
  ∑ i ∈ Finset.range r, rowSum fm ch i k

/-- A fold that adds is the starting value and the sum. -/
theorem fold_add {α : Type} (f : α → EReal) (l : List α) (v : EReal) : l.foldl (fun r n => r + f n) v = v + (l.map f).sum := by
  induction l generalizing v with
  | nil => simp
  | cons a l ih => rw [List.foldl_cons, ih, List.map_cons, List.sum_cons, add_assoc]

/-- A window that ends at `i` and reaches before the start keeps the running sum. -/
theorem window_sum (f : ℕ → EReal) (i : ℕ) (hi : i < 200) :
    ∑ k : Fin 200, (if 199 ≤ i + k.val then f (i + k.val - 199) else 0) = ∑ n ∈ Finset.range (i + 1), f n := by
  rw [Fin.sum_univ_eq_sum_range (fun k => if 199 ≤ i + k then f (i + k - 199) else 0) 200]
  rw [show (200 : ℕ) = (199 - i) + (i + 1) by omega, Finset.sum_range_add]
  rw [Finset.sum_eq_zero (fun k hk => by
    have := Finset.mem_range.mp hk
    exact if_neg (by omega)), zero_add]
  refine Finset.sum_congr rfl fun n hn => ?_
  have := Finset.mem_range.mp hn
  rw [if_pos (by omega)]
  congr 1
  omega

/-- A sum against ones below `k` and zeros from `k` on is the sum of the first `k`. -/
theorem tri_sum (N k : ℕ) (hk : k ≤ N) (f : ℕ → EReal) :
    ∑ l : Fin N, (if l.val < k then (1 : EReal) else 0) * f l.val = ∑ l ∈ Finset.range k, f l := by
  rw [Fin.sum_univ_eq_sum_range (fun l => (if l < k then (1 : EReal) else 0) * f l) N]
  rw [show N = k + (N - k) by omega, Finset.sum_range_add]
  rw [Finset.sum_eq_zero (s := Finset.range (N - k)) (fun l _ => by rw [if_neg (by omega), zero_mul]), add_zero]
  exact Finset.sum_congr rfl fun l hl => by rw [if_pos (Finset.mem_range.mp hl), one_mul]

/-- Choosing by a signed comparison of two small words is choosing by the numbers. -/
theorem select_lt (a b : ℕ) (ha : a < 1000) (hb : b < 1000) (x y : EReal) :
    Scalar.select (IntOp.cmpi .slt (BitVec.ofNat 32 a) (BitVec.ofNat 32 b)) x y = if a < b then x else y := by
  have e : (BitVec.ofNat 32 a).slt (BitVec.ofNat 32 b) = decide (a < b) := by
    simp only [BitVec.slt, BitVec.toInt_eq_toNat_cond, BitVec.toNat_ofNat]
    rw [Nat.mod_eq_of_lt (by omega), Nat.mod_eq_of_lt (by omega), if_pos (by omega), if_pos (by omega)]
    simp
  unfold Scalar.select IntOp.cmpi
  simp only [e]
  by_cases h : a < b <;> simp [h]

/-- The windows' index down the middle axis. -/
def winMid : Fin 200 ≃ (⟨3, ![1, 200, 1]⟩ : Shape).Idx where
  toFun k := ix3 (0 : Fin 1) k (0 : Fin 1)
  invFun y := y 1
  left_inv _ := rfl
  right_inv y := by
    funext a
    have h0 : (y 0).val < 1 := (y 0).isLt
    have h2 : (y 2).val < 1 := (y 2).isLt
    match a with
    | ⟨0, _⟩ => exact Fin.ext (show 0 = (y 0).val by omega)
    | ⟨1, _⟩ => rfl
    | ⟨2, _⟩ => exact Fin.ext (show 0 = (y 2).val by omega)

/-- The windows' index down the last axis. -/
def winLast : Fin 200 ≃ (⟨3, ![1, 1, 200]⟩ : Shape).Idx where
  toFun k := ix3 (0 : Fin 1) (0 : Fin 1) k
  invFun y := y 2
  left_inv _ := rfl
  right_inv y := by
    funext a
    have h0 : (y 0).val < 1 := (y 0).isLt
    have h1 : (y 1).val < 1 := (y 1).isLt
    match a with
    | ⟨0, _⟩ => exact Fin.ext (show 0 = (y 0).val by omega)
    | ⟨1, _⟩ => exact Fin.ext (show 0 = (y 1).val by omega)
    | ⟨2, _⟩ => rfl

/-- The windowed sum down the middle axis is the running sum of the rows. -/
theorem window_mid (x : (⟨3, ![256, 200, 200]⟩ : Shape).Idx → EReal)
    (h : (⟨3, ![256, 200, 200]⟩ : Shape).ReduceWindows ![1, 200, 1] ![1, 1, 1] ![0, 199, 0] ![0, 0, 0] ⟨3, ![256, 200, 200]⟩)
    (ch : Fin 256) (i l : Fin 200) :
    Ideal.hostReduceWindowAdd ![1, 200, 1] ![1, 1, 1] ![0, 199, 0] ![0, 0, 0] h x 0 (ix3 ch i l) =
      ∑ n ∈ Finset.range (i.val + 1), x (ix3 ch (⟨n % 200, Nat.mod_lt _ (by decide)⟩ : Fin 200) l) := by
  unfold Ideal.hostReduceWindowAdd Host.reduceWindow
  simp only []
  rw [fold_add, zero_add, ← Fin.sum_univ_def, Equiv.sum_comp (Shape.rowMajor _).symm (fun y : (⟨3, ![1, 200, 1]⟩ : Shape).Idx =>
    (if hin : ∀ a : Fin 3, (![0, 199, 0] : Fin 3 → ℕ) a ≤ ((ix3 ch i l : (⟨3, ![256, 200, 200]⟩ : Shape).Idx) (a.cast h.1.symm)).val * (![1, 1, 1] : Fin 3 → ℕ) a + (y a).val ∧ ((ix3 ch i l : (⟨3, ![256, 200, 200]⟩ : Shape).Idx) (a.cast h.1.symm)).val * (![1, 1, 1] : Fin 3 → ℕ) a + (y a).val - (![0, 199, 0] : Fin 3 → ℕ) a < (⟨3, ![256, 200, 200]⟩ : Shape).size a
      then x (fun a => ⟨((ix3 ch i l : (⟨3, ![256, 200, 200]⟩ : Shape).Idx) (a.cast h.1.symm)).val * (![1, 1, 1] : Fin 3 → ℕ) a + (y a).val - (![0, 199, 0] : Fin 3 → ℕ) a, (hin a).2⟩) else 0)),
    ← Equiv.sum_comp winMid]
  rw [← window_sum (fun n => x (ix3 ch (⟨n % 200, Nat.mod_lt _ (by decide)⟩ : Fin 200) l)) i.val i.isLt]
  refine Finset.sum_congr rfl fun k _ => ?_
  have hi := i.isLt
  have hk := k.isLt
  by_cases hc : 199 ≤ i.val + k.val
  · rw [if_pos hc, dif_pos]
    · congr 1
      funext a
      match a with
      | ⟨0, _⟩ => exact Fin.ext (show ch.val * 1 + 0 - 0 = ch.val by omega)
      | ⟨1, _⟩ => exact Fin.ext (show i.val * 1 + k.val - 199 = (i.val + k.val - 199) % 200 by rw [Nat.mod_eq_of_lt (by omega)]; omega)
      | ⟨2, _⟩ => exact Fin.ext (show l.val * 1 + 0 - 0 = l.val by omega)
    · intro a
      match a with
      | ⟨0, _⟩ => exact ⟨Nat.zero_le _, show ch.val * 1 + 0 - 0 < 256 by have := ch.isLt; omega⟩
      | ⟨1, _⟩ => exact ⟨show 199 ≤ i.val * 1 + k.val by omega, show i.val * 1 + k.val - 199 < 200 by omega⟩
      | ⟨2, _⟩ => exact ⟨Nat.zero_le _, show l.val * 1 + 0 - 0 < 200 by have := l.isLt; omega⟩
  · rw [if_neg hc, dif_neg]
    intro hin
    have h1 : 199 ≤ i.val * 1 + k.val := (hin 1).1
    omega

/-- The windowed sum down the last axis is the running sum of the columns. -/
theorem window_last (x : (⟨3, ![256, 200, 200]⟩ : Shape).Idx → EReal)
    (h : (⟨3, ![256, 200, 200]⟩ : Shape).ReduceWindows ![1, 1, 200] ![1, 1, 1] ![0, 0, 199] ![0, 0, 0] ⟨3, ![256, 200, 200]⟩)
    (ch : Fin 256) (i l : Fin 200) :
    Ideal.hostReduceWindowAdd ![1, 1, 200] ![1, 1, 1] ![0, 0, 199] ![0, 0, 0] h x 0 (ix3 ch i l) =
      ∑ n ∈ Finset.range (l.val + 1), x (ix3 ch i (⟨n % 200, Nat.mod_lt _ (by decide)⟩ : Fin 200)) := by
  unfold Ideal.hostReduceWindowAdd Host.reduceWindow
  simp only []
  rw [fold_add, zero_add, ← Fin.sum_univ_def, Equiv.sum_comp (Shape.rowMajor _).symm (fun y : (⟨3, ![1, 1, 200]⟩ : Shape).Idx =>
    (if hin : ∀ a : Fin 3, (![0, 0, 199] : Fin 3 → ℕ) a ≤ ((ix3 ch i l : (⟨3, ![256, 200, 200]⟩ : Shape).Idx) (a.cast h.1.symm)).val * (![1, 1, 1] : Fin 3 → ℕ) a + (y a).val ∧ ((ix3 ch i l : (⟨3, ![256, 200, 200]⟩ : Shape).Idx) (a.cast h.1.symm)).val * (![1, 1, 1] : Fin 3 → ℕ) a + (y a).val - (![0, 0, 199] : Fin 3 → ℕ) a < (⟨3, ![256, 200, 200]⟩ : Shape).size a
      then x (fun a => ⟨((ix3 ch i l : (⟨3, ![256, 200, 200]⟩ : Shape).Idx) (a.cast h.1.symm)).val * (![1, 1, 1] : Fin 3 → ℕ) a + (y a).val - (![0, 0, 199] : Fin 3 → ℕ) a, (hin a).2⟩) else 0)),
    ← Equiv.sum_comp winLast]
  rw [← window_sum (fun n => x (ix3 ch i (⟨n % 200, Nat.mod_lt _ (by decide)⟩ : Fin 200))) l.val l.isLt]
  refine Finset.sum_congr rfl fun k _ => ?_
  have hi := l.isLt
  have hk := k.isLt
  by_cases hc : 199 ≤ l.val + k.val
  · rw [if_pos hc, dif_pos]
    · congr 1
      funext a
      match a with
      | ⟨0, _⟩ => exact Fin.ext (show ch.val * 1 + 0 - 0 = ch.val by omega)
      | ⟨1, _⟩ => exact Fin.ext (show i.val * 1 + 0 - 0 = i.val by omega)
      | ⟨2, _⟩ => exact Fin.ext (show l.val * 1 + k.val - 199 = (l.val + k.val - 199) % 200 by rw [Nat.mod_eq_of_lt (by omega)]; omega)
    · intro a
      match a with
      | ⟨0, _⟩ => exact ⟨Nat.zero_le _, show ch.val * 1 + 0 - 0 < 256 by have := ch.isLt; omega⟩
      | ⟨1, _⟩ => exact ⟨Nat.zero_le _, show i.val * 1 + 0 - 0 < 200 by have := i.isLt; omega⟩
      | ⟨2, _⟩ => exact ⟨show 199 ≤ l.val * 1 + k.val by omega, show l.val * 1 + k.val - 199 < 200 by omega⟩
  · rw [if_neg hc, dif_neg]
    intro hin
    have h1 : 199 ≤ l.val * 1 + k.val := (hin 2).1
    omega

end Roi

end
-- ==== Proof.RefGather.lean ====
/- The reference's lookup: a row and a column word choose a cell of the padded table. -/
module

public import proofs.«01_k».proof.Proof.Gen.ReferenceIdeal
public import proofs.«01_k».proof.Proof.Words
public import proofs.«01_k».proof.Proof.Prefix
public import Idealize.ShloMosaic.Lib.Pointwise
public import Idealize.ShloMosaic.Lib.ValueIdx
public import Idealize.ShloMosaic.Lib.Tactic

@[expose] public section

set_option maxRecDepth 16384

noncomputable section

namespace Cert.ReferenceIdeal.Hand

open Cert.ReferenceIdeal Cert.ReferenceIdeal.Gen
open Idealize.ShloMosaic Idealize.ShloMosaic.TcCoe

/-- The lookup's dimension numbers. -/
abbrev lookD : GatherDims S256x201x201 S1024x7x7x2 S256x1024x7x7 := gather_S256x201x201_S1024x7x7x2_S256x1024x7x7_0_12_n_n_12_3_25611

/-- The lookup at a channel, a box and a bin: the cell the two index words name, each clamped into the table. -/
theorem look_at {α : Type} (x : S256x201x201.Idx → α) (idx : IVec S1024x7x7x2 32) (ch : Fin 256) (n : Fin 1024) (i j : Fin 7) :
    Host.gather lookD x idx (ix4 ch n i j) =
      x (ix3 ch (⟨min (idx (ix4 n i j 0)).toInt.toNat 200, by omega⟩ : Fin 201) (⟨min (idx (ix4 n i j 1)).toInt.toNat 200, by omega⟩ : Fin 201)) := by
  unfold Host.gather
  congr 1
  funext a
  refine Fin.ext ?_
  show lookD.start (ix4 ch n i j) idx a + lookD.batchCoord (ix4 ch n i j) a + lookD.offCoord (ix4 ch n i j) a = _
  rw [GatherDims.batchCoord_eq_zero _ _ _ List.not_mem_nil, Nat.add_zero]
  match a with
  | ⟨0, _⟩ =>
    have hs : lookD.start (ix4 ch n i j) idx (0 : Fin 3) = 0 := by
      unfold GatherDims.start
      exact dif_neg (by decide)
    refine (congrArg (· + _) hs).trans ?_
    exact Nat.zero_add _
  | ⟨1, h1⟩ =>
    have ho := GatherDims.offCoord_eq_zero lookD (ix4 ch n i j) (1 : Fin 3) (fun h => ((GatherDims.mem_sKept _ _).mp h).1 (by decide))
    refine (congrArg (_ + ·) ho).trans ?_
    rw [Nat.add_zero]
    unfold GatherDims.start
    rw [dif_pos (show (⟨1, h1⟩ : Fin S256x201x201.rank) ∈ lookD.startIndexMap from (by decide : (1 : Fin 3) ∈ lookD.startIndexMap))]
    have hsi : lookD.siIdx (ix4 ch n i j) ⟨List.idxOf (1 : Fin 3) lookD.startIndexMap, List.idxOf_lt_length_iff.2 (by decide)⟩ = ix4 n i j 0 := by
      funext b; refine Fin.ext ?_
      match b with
      | ⟨0, _⟩ => rfl
      | ⟨1, _⟩ => rfl
      | ⟨2, _⟩ => rfl
      | ⟨3, _⟩ => rfl
    exact congrArg (fun z => min (idx z).toInt.toNat 200) hsi
  | ⟨2, h1⟩ =>
    have ho := GatherDims.offCoord_eq_zero lookD (ix4 ch n i j) (2 : Fin 3) (fun h => ((GatherDims.mem_sKept _ _).mp h).1 (by decide))
    refine (congrArg (_ + ·) ho).trans ?_
    rw [Nat.add_zero]
    unfold GatherDims.start
    rw [dif_pos (show (⟨2, h1⟩ : Fin S256x201x201.rank) ∈ lookD.startIndexMap from (by decide : (2 : Fin 3) ∈ lookD.startIndexMap))]
    have hsi : lookD.siIdx (ix4 ch n i j) ⟨List.idxOf (2 : Fin 3) lookD.startIndexMap, List.idxOf_lt_length_iff.2 (by decide)⟩ = ix4 n i j 1 := by
      funext b; refine Fin.ext ?_
      match b with
      | ⟨0, _⟩ => rfl
      | ⟨1, _⟩ => rfl
      | ⟨2, _⟩ => rfl
      | ⟨3, _⟩ => rfl
    exact congrArg (fun z => min (idx z).toInt.toNat 200) hsi

/-- A word in the table's range is not wrapped and not clamped. -/
theorem wrap_at (w : BitVec 32) (h : w.toNat ≤ 200) :
    min (Scalar.select (IntOp.cmpi .slt w 0#32) (IntOp.addi w 201#32) w).toInt.toNat 200 = w.toNat := by
  have hi : w.toInt = w.toNat := by rw [BitVec.toInt_eq_toNat_cond, if_pos (by omega)]
  have hs : w.slt 0#32 = false := by
    simp only [BitVec.slt, hi]
    simp
  have hc : IntOp.cmpi .slt w 0#32 = 0#1 := by
    unfold IntOp.cmpi
    simp only [hs]
    rfl
  rw [hc]
  unfold Scalar.select
  rw [if_neg (by decide), hi]
  simp only [Int.toNat_natCast]
  omega

/-- The padded double running sum of a feature map. -/
def padTab (fm : S1x256x200x200.Idx → Ideal .f32) : S256x201x201.Idx → Ideal .f32 :=
  pad S256x201x201 ![0, 1, 1] ![0, 0, 0] ![0, 0, 0] (Host.reduceWindowAdd ![1, 1, 200] ![1, 1, 1] ![0, 0, 199] ![0, 0, 0] (Host.reduceWindowAdd ![1, 200, 1] ![1, 1, 1] ![0, 199, 0] ![0, 0, 0] (shapeCast S256x200x200 fm shapeCasts_S1x256x200x200_S256x200x200) (broadcastInDim S_ ![] bcast_S_S_ (constant S_ .f32 0x00000000#32)) reduceWindows_S256x200x200_S256x200x200_w1s1p0_0_w200s1p199_0_w1s1p0_0 h_S_) (broadcastInDim S_ ![] bcast_S_S_ (constant S_ .f32 0x00000000#32)) reduceWindows_S256x200x200_S256x200x200_w1s1p0_0_w1s1p0_0_w200s1p199_0 h_S_) (sitofp .f32 (constantI S_ 32 0#32)) pads_S256x200x200_S256x201x201_000_100_100 h_S_

/-- It holds the rectangle sums. -/
theorem padTab_at (fm : S1x256x200x200.Idx → Ideal .f32) (ch : Fin 256) (a b : Fin 201) :
    padTab fm (ix3 ch a b) = Roi.rect fm ch a.val b.val := by
  unfold padTab
  pointwise
  have h0 : (broadcastInDim S_ ![] bcast_S_S_ (constant (F := Ideal) S_ .f32 0x00000000#32)) = fun _ => (0 : EReal) := by
    funext y
    pointwise
  rw [h0]
  have ha := a.isLt
  have hb := b.isLt
  by_cases hz : (1 ≤ a.val ∧ a.val - 1 < 200) ∧ 1 ≤ b.val ∧ b.val - 1 < 200
  · rw [dif_pos hz]
    refine (Roi.window_last _ reduceWindows_S256x200x200_S256x200x200_w1s1p0_0_w1s1p0_0_w200s1p199_0 ch ⟨a.val - 1, by omega⟩ ⟨b.val - 1, by omega⟩).trans ?_
    show ∑ l ∈ Finset.range (b.val - 1 + 1), _ = _
    rw [show b.val - 1 + 1 = b.val by omega]
    refine (Finset.sum_congr rfl fun l _ => Roi.window_mid _ reduceWindows_S256x200x200_S256x200x200_w1s1p0_0_w200s1p199_0_w1s1p0_0 ch ⟨a.val - 1, by omega⟩ ⟨l % 200, Nat.mod_lt _ (by decide)⟩).trans ?_
    show ∑ l ∈ Finset.range b.val, ∑ i ∈ Finset.range (a.val - 1 + 1), _ = _
    rw [show a.val - 1 + 1 = a.val by omega, Finset.sum_comm]
    unfold Roi.rect Roi.rowSum
    refine Finset.sum_congr rfl fun i _ => Finset.sum_congr rfl fun l _ => ?_
    unfold Roi.cell
    pointwise
  · rw [dif_neg hz]
    have hf : (FloatOps.sitofp .f32 0#32 : Ideal .f32) = (0 : EReal) := by
      show ((((0#32 : BitVec 32).toInt : ℝ)) : EReal) = 0
      simp
    rw [hf]
    unfold Roi.rect Roi.rowSum
    have : a.val = 0 ∨ b.val = 0 := by omega
    rcases this with h | h <;> simp [h]

end Cert.ReferenceIdeal.Hand

end
-- ==== Proof.Spec.lean ====
/- What both programs compute: a bin's mean, from the rectangle sums at its four corners. -/
module

public import proofs.«01_k».proof.Proof.Words
public import proofs.«01_k».proof.Proof.Prefix

@[expose] public section

noncomputable section

namespace Roi

open Idealize.ShloMosaic

/-- Where bin `i` starts on an axis whose box has the words `b` and `b'`. -/
def lo (b b' : BitVec 32) (i : ℕ) : BitVec 32 := stW (cl0 b) (IntOp.subi (cl1 (cl0 b) b') (cl0 b)) i
/-- One past where it ends. -/
def hi (b b' : BitVec 32) (i : ℕ) : BitVec 32 := enW (cl0 b) (IntOp.subi (cl1 (cl0 b) b') (cl0 b)) i

/-- A bin starts inside the table. -/
theorem lo_le (b b' : BitVec 32) (i : Fin 7) : (lo b b' i).toNat ≤ 200 := (axis_range b b' i i.isLt).1
/-- A bin ends inside the table. -/
theorem hi_le (b b' : BitVec 32) (i : Fin 7) : (hi b b' i).toNat ≤ 200 := (axis_range b b' i i.isLt).2

/-- The sum over a bin, from the four corners. -/
def binSum (fm : (⟨4, ![1, 256, 200, 200]⟩ : Shape).Idx → Ideal .f32) (ch : Fin 256) (rs re cs ce : BitVec 32) : Ideal .f32 :=
  FloatOps.addf (FloatOps.subf (FloatOps.subf (rect fm ch re.toNat ce.toNat : Ideal .f32) (rect fm ch rs.toNat ce.toNat)) (rect fm ch re.toNat cs.toNat))
    (rect fm ch rs.toNat cs.toNat)

/-- A bin's area. -/
def binArea (rs re cs ce : BitVec 32) : Ideal .f32 := FloatOps.sitofp .f32 (IntOp.muli (IntOp.subi re rs) (IntOp.subi ce cs))

/-- A bin's mean: box `n` with words `B`, channel `ch`, bin `(i, j)`. -/
def binMean (fm : (⟨4, ![1, 256, 200, 200]⟩ : Shape).Idx → Ideal .f32) (B : (⟨2, ![1024, 4]⟩ : Shape).Idx → BitVec 32)
    (n : Fin 1024) (ch : Fin 256) (i j : Fin 7) : Ideal .f32 :=
  FloatOps.hostDivf
    (binSum fm ch (lo (B (ix2 n 1)) (B (ix2 n 3)) i) (hi (B (ix2 n 1)) (B (ix2 n 3)) i) (lo (B (ix2 n 0)) (B (ix2 n 2)) j) (hi (B (ix2 n 0)) (B (ix2 n 2)) j))
    (binArea (lo (B (ix2 n 1)) (B (ix2 n 3)) i) (hi (B (ix2 n 1)) (B (ix2 n 3)) i) (lo (B (ix2 n 0)) (B (ix2 n 2)) j) (hi (B (ix2 n 0)) (B (ix2 n 2)) j))

end Roi

end
-- ==== Proof.RefVals.lean ====
/- The reference's result, index by index: a bin's mean. -/
module

public import proofs.«01_k».proof.Proof.RefRun
public import proofs.«01_k».proof.Proof.RefGather
public import proofs.«01_k».proof.Proof.Spec
public import Idealize.ShloMosaic.Lib.Pointwise
public import Idealize.ShloMosaic.Lib.ValueIdx

@[expose] public section

set_option maxRecDepth 16384

noncomputable section

namespace Cert.ReferenceIdeal.Hand

open Cert.ReferenceIdeal Cert.ReferenceIdeal.Gen
open Idealize.ShloMosaic Idealize.ShloMosaic.TcCoe

variable (W : Valuation τ sig (Elt Ideal))

/-- The boxes' words. -/
def boxW : S1024x4.Idx → BitVec 32 := res_main_v5 W

/-- The first column's corner. -/
theorem v8_at (n : Fin 1024) : res_main_v8 W (ix1 n) = Roi.cl0 (boxW W (ix2 n 0)) := by
  unfold res_main_v8 boxW Roi.cl0
  pointwise <;> rfl

/-- The first row's corner. -/
theorem v11_at (n : Fin 1024) : res_main_v11 W (ix1 n) = Roi.cl0 (boxW W (ix2 n 1)) := by
  unfold res_main_v11 boxW Roi.cl0
  pointwise <;> rfl

/-- How many rows a box has. -/
theorem v26_at (n : Fin 1024) : res_main_v26 W (ix1 n) =
    IntOp.subi (Roi.cl1 (Roi.cl0 (boxW W (ix2 n 1))) (boxW W (ix2 n 3))) (Roi.cl0 (boxW W (ix2 n 1))) := by
  rw [← v11_at]
  unfold res_main_v26 boxW Roi.cl1
  pointwise <;> rfl

/-- How many columns a box has. -/
theorem v27_at (n : Fin 1024) : res_main_v27 W (ix1 n) =
    IntOp.subi (Roi.cl1 (Roi.cl0 (boxW W (ix2 n 0))) (boxW W (ix2 n 2))) (Roi.cl0 (boxW W (ix2 n 0))) := by
  rw [← v8_at]
  unfold res_main_v27 boxW Roi.cl1
  pointwise <;> rfl

/-- A bin's start along the rows. -/
theorem v38_at (n : Fin 1024) (i : Fin 7) : res_main_v38 W (ix2 n i) = Roi.lo (boxW W (ix2 n 1)) (boxW W (ix2 n 3)) i := by
  have hn : res_main_v35 W (ix2 n i) = IntOp.muli (BitVec.ofNat 32 i) (res_main_v26 W (ix1 n)) := by
    unfold res_main_v35 res_main_v28; pointwise <;> rfl
  unfold Roi.lo Roi.stW
  rw [← v26_at, ← v11_at, ← hn]
  unfold res_main_v38 res_main_call4_v2 res_main_call4_v0 Roi.fd7 Roi.sgn
  pointwise <;> rfl

/-- A bin's end along the rows. -/
theorem v53_at (n : Fin 1024) (i : Fin 7) : res_main_v53 W (ix2 n i) = Roi.hi (boxW W (ix2 n 1)) (boxW W (ix2 n 3)) i := by
  have hn : res_main_v50 W (ix2 n i) = IntOp.subi (IntOp.addi (IntOp.muli (IntOp.addi (BitVec.ofNat 32 i) 1#32) (res_main_v26 W (ix1 n))) 7#32) 1#32 := by
    unfold res_main_v50 res_main_v28; pointwise <;> rfl
  unfold Roi.hi Roi.enW
  rw [← v26_at, ← v11_at, ← hn]
  unfold res_main_v53 res_main_call5_v2 res_main_call5_v0 Roi.fd7 Roi.sgn
  pointwise <;> rfl

/-- A bin's start along the columns. -/
theorem v62_at (n : Fin 1024) (i : Fin 7) : res_main_v62 W (ix2 n i) = Roi.lo (boxW W (ix2 n 0)) (boxW W (ix2 n 2)) i := by
  have hn : res_main_v59 W (ix2 n i) = IntOp.muli (BitVec.ofNat 32 i) (res_main_v27 W (ix1 n)) := by
    unfold res_main_v59 res_main_v29; pointwise <;> rfl
  unfold Roi.lo Roi.stW
  rw [← v27_at, ← v8_at, ← hn]
  unfold res_main_v62 res_main_call6_v2 res_main_call6_v0 Roi.fd7 Roi.sgn
  pointwise <;> rfl

/-- A bin's end along the columns. -/
theorem v77_at (n : Fin 1024) (i : Fin 7) : res_main_v77 W (ix2 n i) = Roi.hi (boxW W (ix2 n 0)) (boxW W (ix2 n 2)) i := by
  have hn : res_main_v74 W (ix2 n i) = IntOp.subi (IntOp.addi (IntOp.muli (IntOp.addi (BitVec.ofNat 32 i) 1#32) (res_main_v27 W (ix1 n))) 7#32) 1#32 := by
    unfold res_main_v74 res_main_v29; pointwise <;> rfl
  unfold Roi.hi Roi.enW
  rw [← v27_at, ← v8_at, ← hn]
  unfold res_main_v77 res_main_call7_v2 res_main_call7_v0 Roi.fd7 Roi.sgn
  pointwise <;> rfl

/-- The padded table. -/
theorem v80_eq : res_main_v80 W = padTab (W (Proc.devRef .tc main_arg0)) := rfl

/-- The pairs of index words of a lookup, from the row words `r` and the column words `k`. -/
def pairW (r k : IVec S1024x7 32) : IVec S1024x7x7x2 32 :=
  (concatenate S1024x7x7x2 3 [⟨S1024x7x7x1, (broadcastInDim S1024x7x7x1 ![0, 1, 2] bcast_S1024x7x7_S1024x7x7x1_0_1_2 (broadcastInDim S1024x7x7 ![0, 1, 2] bcast_S1024x7x1_S1024x7x7_0_1_2 (select (cmpi .slt (broadcastInDim S1024x7x1 ![0, 1] bcast_S1024x7_S1024x7x1_0_1 r) (broadcastInDim S1024x7x1 ![] bcast_S_S1024x7x1 (constantI S_ 32 0#32))) (addi (broadcastInDim S1024x7x1 ![0, 1] bcast_S1024x7_S1024x7x1_0_1 r) (broadcastInDim S1024x7x1 ![] bcast_S_S1024x7x1 (constantI S_ 32 201#32))) (broadcastInDim S1024x7x1 ![0, 1] bcast_S1024x7_S1024x7x1_0_1 r))))⟩, ⟨S1024x7x7x1, (broadcastInDim S1024x7x7x1 ![0, 1, 2] bcast_S1024x7x7_S1024x7x7x1_0_1_2 (broadcastInDim S1024x7x7 ![0, 1, 2] bcast_S1024x1x7_S1024x7x7_0_1_2 (select (cmpi .slt (broadcastInDim S1024x1x7 ![0, 2] bcast_S1024x7_S1024x1x7_0_2 k) (broadcastInDim S1024x1x7 ![] bcast_S_S1024x1x7 (constantI S_ 32 0#32))) (addi (broadcastInDim S1024x1x7 ![0, 2] bcast_S1024x7_S1024x1x7_0_2 k) (broadcastInDim S1024x1x7 ![] bcast_S_S1024x1x7 (constantI S_ 32 201#32))) (broadcastInDim S1024x1x7 ![0, 2] bcast_S1024x7_S1024x1x7_0_2 k))))⟩] concatenates_S1024x7x7x1_S1024x7x7x1_S1024x7x7x2_d3)

/-- The row word of a pair. -/
theorem pairW_row (r k : IVec S1024x7 32) (n : Fin 1024) (i j : Fin 7) : pairW r k (ix4 n i j 0) =
    Scalar.select (IntOp.cmpi .slt (r (ix2 n i)) 0#32) (IntOp.addi (r (ix2 n i)) 201#32) (r (ix2 n i)) := by
  unfold pairW
  pointwise <;> rfl

/-- The column word of a pair. -/
theorem pairW_col (r k : IVec S1024x7 32) (n : Fin 1024) (i j : Fin 7) : pairW r k (ix4 n i j 1) =
    Scalar.select (IntOp.cmpi .slt (k (ix2 n j)) 0#32) (IntOp.addi (k (ix2 n j)) 201#32) (k (ix2 n j)) := by
  unfold pairW
  pointwise <;> rfl

/-- One lookup, with the channel moved behind the box. -/
def lookT (fm : S1x256x200x200.Idx → Ideal .f32) (r k : IVec S1024x7 32) : FVec Ideal S1024x256x7x7 .f32 :=
  transpose S1024x256x7x7 [1, 0, 2, 3] (Host.gather lookD (padTab fm) (pairW r k)) transposes_S256x1024x7x7_S1024x256x7x7_1_0_2_3

/-- It is the rectangle sum at the two words, if they are in range. -/
theorem lookT_at (fm : S1x256x200x200.Idx → Ideal .f32) (r k : IVec S1024x7 32) (n : Fin 1024) (ch : Fin 256) (i j : Fin 7)
    (hr : (r (ix2 n i)).toNat ≤ 200) (hk : (k (ix2 n j)).toNat ≤ 200) :
    lookT fm r k (ix4 n ch i j) = Roi.rect fm ch (r (ix2 n i)).toNat (k (ix2 n j)).toNat := by
  have e : lookT fm r k (ix4 n ch i j) = Host.gather lookD (padTab fm) (pairW r k) (ix4 ch n i j) := by
    unfold lookT
    pointwise
  rw [e, look_at, padTab_at]
  have h0 := wrap_at _ hr
  have h1 := wrap_at _ hk
  rw [← pairW_row r k n i j] at h0
  rw [← pairW_col r k n i j] at h1
  exact congrArg₂ (Roi.rect fm ch) h0 h1

/-- The four lookups, combined. -/
theorem v159_eq : res_main_v159 W = addf (subf (subf (lookT (W (Proc.devRef .tc main_arg0)) (res_main_v53 W) (res_main_v77 W))
    (lookT (W (Proc.devRef .tc main_arg0)) (res_main_v38 W) (res_main_v77 W)))
    (lookT (W (Proc.devRef .tc main_arg0)) (res_main_v53 W) (res_main_v62 W)))
    (lookT (W (Proc.devRef .tc main_arg0)) (res_main_v38 W) (res_main_v62 W)) := rfl

/-- The bins' sums. -/
theorem v159_at (n : Fin 1024) (ch : Fin 256) (i j : Fin 7) : res_main_v159 W (ix4 n ch i j) =
    Roi.binSum (W (Proc.devRef .tc main_arg0)) ch (Roi.lo (boxW W (ix2 n 1)) (boxW W (ix2 n 3)) i) (Roi.hi (boxW W (ix2 n 1)) (boxW W (ix2 n 3)) i)
      (Roi.lo (boxW W (ix2 n 0)) (boxW W (ix2 n 2)) j) (Roi.hi (boxW W (ix2 n 0)) (boxW W (ix2 n 2)) j) := by
  have a := v38_at W n i
  have b := v53_at W n i
  have c := v62_at W n j
  have d := v77_at W n j
  have ha := Roi.lo_le (boxW W (ix2 n 1)) (boxW W (ix2 n 3)) i
  have hb := Roi.hi_le (boxW W (ix2 n 1)) (boxW W (ix2 n 3)) i
  have hc := Roi.lo_le (boxW W (ix2 n 0)) (boxW W (ix2 n 2)) j
  have hd := Roi.hi_le (boxW W (ix2 n 0)) (boxW W (ix2 n 2)) j
  rw [← a] at ha; rw [← b] at hb; rw [← c] at hc; rw [← d] at hd
  rw [v159_eq, ← a, ← b, ← c, ← d]
  show FloatOps.addf (FloatOps.subf (FloatOps.subf (lookT _ _ _ (ix4 n ch i j)) (lookT _ _ _ (ix4 n ch i j))) (lookT _ _ _ (ix4 n ch i j))) (lookT _ _ _ (ix4 n ch i j)) = _
  rw [lookT_at _ _ _ _ _ _ _ hb hd, lookT_at _ _ _ _ _ _ _ ha hd, lookT_at _ _ _ _ _ _ _ hb hc, lookT_at _ _ _ _ _ _ _ ha hc]
  rfl

/-- The bins' areas, spread over the channels. -/
def areaT : FVec Ideal S1024x256x7x7 .f32 :=
  broadcastInDim S1024x256x7x7 ![0, 1, 2, 3] bcast_S1024x1x7x7_S1024x256x7x7_0_1_2_3 (broadcastInDim S1024x1x7x7 ![0, 2, 3] bcast_S1024x7x7_S1024x1x7x7_0_2_3 (sitofp .f32 (muli (broadcastInDim S1024x7x7 ![0, 1, 2] bcast_S1024x7x1_S1024x7x7_0_1_2 (broadcastInDim S1024x7x1 ![0, 1] bcast_S1024x7_S1024x7x1_0_1 (subi (res_main_v53 W) (res_main_v38 W)))) (broadcastInDim S1024x7x7 ![0, 1, 2] bcast_S1024x1x7_S1024x7x7_0_1_2 (broadcastInDim S1024x1x7 ![0, 2] bcast_S1024x7_S1024x1x7_0_2 (subi (res_main_v77 W) (res_main_v62 W)))))))

/-- A bin's area. -/
theorem areaT_at (n : Fin 1024) (ch : Fin 256) (i j : Fin 7) : areaT W (ix4 n ch i j) =
    Roi.binArea (Roi.lo (boxW W (ix2 n 1)) (boxW W (ix2 n 3)) i) (Roi.hi (boxW W (ix2 n 1)) (boxW W (ix2 n 3)) i)
      (Roi.lo (boxW W (ix2 n 0)) (boxW W (ix2 n 2)) j) (Roi.hi (boxW W (ix2 n 0)) (boxW W (ix2 n 2)) j) := by
  rw [← v38_at, ← v53_at, ← v62_at, ← v77_at]
  unfold areaT Roi.binArea
  pointwise <;> rfl

/-- The result: every entry is a bin's mean. -/
theorem result_at (n : Fin 1024) (ch : Fin 256) (i j : Fin 7) : Host.divf (res_main_v159 W) (areaT W) (ix4 n ch i j) =
    Roi.binMean (W (Proc.devRef .tc main_arg0)) (boxW W) n ch i j := by
  show FloatOps.hostDivf (res_main_v159 W (ix4 n ch i j)) (areaT W (ix4 n ch i j)) = _
  rw [v159_at, areaT_at]
  rfl

end Cert.ReferenceIdeal.Hand

end
-- ==== Proof.IdealHost.lean ====
/- The host's operations before the region: what each buffer that is read later holds, from the boxes. -/
module

public import proofs.«01_k».proof.Proof.Gen.KernelIdeal.Launch
public import proofs.«01_k».proof.Proof.Words
public import Idealize.ShloMosaic.Lib.StableHlo.RunRead
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- What `main_v4` holds, from the boxes `A`. -/
def rv4 (A : (⟨S1024x4, .f32⟩ : BufTy).Contents (Elt F)) : (⟨S1024x4, .i32⟩ : BufTy).Contents (Elt F) :=
  (fptosi 32 (Host.floor (mulf A (broadcastInDim S1024x4 ![0, 1] bcast_S1x4_S1024x4_0_1 (broadcastInDim S1x4 ![1] bcast_S4_S1x4_1 ((constant S4 .f32 0x3E800000#32)))))))

/-- What `main_v6` holds, from the boxes `A`. -/
def rv6 (A : (⟨S1024x4, .f32⟩ : BufTy).Contents (Elt F)) : (⟨S1024, .i32⟩ : BufTy).Contents (Elt F) :=
  (shapeCast S1024 (extractStridedSlice S1024x1 ![0, 0] (rv4 A) slices_S1024x4_S1024x1_0_0) shapeCasts_S1024x1_S1024)

/-- What `main_v7` holds, from the boxes `A`. -/
def rv7 (A : (⟨S1024x4, .f32⟩ : BufTy).Contents (Elt F)) : (⟨S1024, .i32⟩ : BufTy).Contents (Elt F) :=
  (minsi ((broadcastInDim S1024 ![] bcast_S_S1024) (id ((constantI S_ 32 199#32)))) (maxsi ((broadcastInDim S1024 ![] bcast_S_S1024) (id ((constantI S_ 32 0#32)))) (rv6 A)))

/-- What `main_v9` holds, from the boxes `A`. -/
def rv9 (A : (⟨S1024x4, .f32⟩ : BufTy).Contents (Elt F)) : (⟨S1024, .i32⟩ : BufTy).Contents (Elt F) :=
  (shapeCast S1024 (extractStridedSlice S1024x1 ![0, 1] (rv4 A) slices_S1024x4_S1024x1_0_1) shapeCasts_S1024x1_S1024)

/-- What `main_v10` holds, from the boxes `A`. -/
def rv10 (A : (⟨S1024x4, .f32⟩ : BufTy).Contents (Elt F)) : (⟨S1024, .i32⟩ : BufTy).Contents (Elt F) :=
  (minsi ((broadcastInDim S1024 ![] bcast_S_S1024) (id ((constantI S_ 32 199#32)))) (maxsi ((broadcastInDim S1024 ![] bcast_S_S1024) (id ((constantI S_ 32 0#32)))) (rv9 A)))

/-- What `main_v14` holds, from the boxes `A`. -/
def rv14 (A : (⟨S1024x4, .f32⟩ : BufTy).Contents (Elt F)) : (⟨S1024, .i32⟩ : BufTy).Contents (Elt F) :=
  (addi (shapeCast S1024 (extractStridedSlice S1024x1 ![0, 2] (rv4 A) slices_S1024x4_S1024x1_0_2) shapeCasts_S1024x1_S1024) (broadcastInDim S1024 ![] bcast_S_S1024 ((constantI S_ 32 1#32))))

/-- What `main_v16` holds, from the boxes `A`. -/
def rv16 (A : (⟨S1024x4, .f32⟩ : BufTy).Contents (Elt F)) : (⟨S1024, .i32⟩ : BufTy).Contents (Elt F) :=
  (addi (rv7 A) (broadcastInDim S1024 ![] bcast_S_S1024 ((constantI S_ 32 1#32))))

/-- What `main_v17` holds, from the boxes `A`. -/
def rv17 (A : (⟨S1024x4, .f32⟩ : BufTy).Contents (Elt F)) : (⟨S1024, .i32⟩ : BufTy).Contents (Elt F) :=
  (minsi ((broadcastInDim S1024 ![] bcast_S_S1024) (id ((constantI S_ 32 200#32)))) (maxsi (rv16 A) (rv14 A)))

/-- What `main_v21` holds, from the boxes `A`. -/
def rv21 (A : (⟨S1024x4, .f32⟩ : BufTy).Contents (Elt F)) : (⟨S1024, .i32⟩ : BufTy).Contents (Elt F) :=
  (addi (shapeCast S1024 (extractStridedSlice S1024x1 ![0, 3] (rv4 A) slices_S1024x4_S1024x1_0_3) shapeCasts_S1024x1_S1024) (broadcastInDim S1024 ![] bcast_S_S1024 ((constantI S_ 32 1#32))))

/-- What `main_v23` holds, from the boxes `A`. -/
def rv23 (A : (⟨S1024x4, .f32⟩ : BufTy).Contents (Elt F)) : (⟨S1024, .i32⟩ : BufTy).Contents (Elt F) :=
  (addi (rv10 A) (broadcastInDim S1024 ![] bcast_S_S1024 ((constantI S_ 32 1#32))))

/-- What `main_v24` holds, from the boxes `A`. -/
def rv24 (A : (⟨S1024x4, .f32⟩ : BufTy).Contents (Elt F)) : (⟨S1024, .i32⟩ : BufTy).Contents (Elt F) :=
  (minsi ((broadcastInDim S1024 ![] bcast_S_S1024) (id ((constantI S_ 32 200#32)))) (maxsi (rv23 A) (rv21 A)))

/-- What `main_v25` holds, from the boxes `A`. -/
def rv25 (A : (⟨S1024x4, .f32⟩ : BufTy).Contents (Elt F)) : (⟨S1024, .i32⟩ : BufTy).Contents (Elt F) :=
  (subi (rv24 A) (rv10 A))

/-- What `main_v26` holds, from the boxes `A`. -/
def rv26 (A : (⟨S1024x4, .f32⟩ : BufTy).Contents (Elt F)) : (⟨S1024, .i32⟩ : BufTy).Contents (Elt F) :=
  (subi (rv17 A) (rv7 A))

/-- What `main_v34` holds, from the boxes `A`. -/
def rv34 (A : (⟨S1024x4, .f32⟩ : BufTy).Contents (Elt F)) : (⟨S1024x7, .i32⟩ : BufTy).Contents (Elt F) :=
  (muli (broadcastInDim S1024x7 ![0, 1] bcast_S1x7_S1024x7_0_1 (broadcastInDim S1x7 ![1] bcast_S7_S1x7_1 ((iotaInDim S7 32 0)))) (broadcastInDim S1024x7 ![0, 1] bcast_S1024x1_S1024x7_0_1 (broadcastInDim S1024x1 ![0] bcast_S1024_S1024x1_0 (rv25 A))))

/-- What `main_v35` holds, from the boxes `A`. -/
def rv35 (A : (⟨S1024x4, .f32⟩ : BufTy).Contents (Elt F)) : (⟨S1024x7, .i32⟩ : BufTy).Contents (Elt F) :=
  (select (andi ((cmpi .ne) (signi (rv34 A)) ((broadcastInDim S1024x7 ![] bcast_S_S1024x7) (signi (id ((constantI S_ 32 7#32)))))) ((cmpi .ne) (Host.remsi (rv34 A) ((broadcastInDim S1024x7 ![] bcast_S_S1024x7) (id ((constantI S_ 32 7#32))))) ((broadcastInDim S1024x7 ![] bcast_S_S1024x7) ((constantI S_ 32 0#32))))) (subi (Host.divsi (rv34 A) ((broadcastInDim S1024x7 ![] bcast_S_S1024x7) (id ((constantI S_ 32 7#32))))) ((broadcastInDim S1024x7 ![] bcast_S_S1024x7) ((constantI S_ 32 1#32)))) (Host.divsi (rv34 A) ((broadcastInDim S1024x7 ![] bcast_S_S1024x7) (id ((constantI S_ 32 7#32))))))

/-- What `main_v37` holds, from the boxes `A`. -/
def rv37 (A : (⟨S1024x4, .f32⟩ : BufTy).Contents (Elt F)) : (⟨S1024x7, .i32⟩ : BufTy).Contents (Elt F) :=
  (addi (broadcastInDim S1024x7 ![0, 1] bcast_S1024x1_S1024x7_0_1 (broadcastInDim S1024x1 ![0] bcast_S1024_S1024x1_0 (rv10 A))) (rv35 A))

/-- What `main_v49` holds, from the boxes `A`. -/
def rv49 (A : (⟨S1024x4, .f32⟩ : BufTy).Contents (Elt F)) : (⟨S1024x7, .i32⟩ : BufTy).Contents (Elt F) :=
  (subi (addi (muli (broadcastInDim S1024x7 ![0, 1] bcast_S1x7_S1024x7_0_1 (addi (broadcastInDim S1x7 ![1] bcast_S7_S1x7_1 ((iotaInDim S7 32 0))) (broadcastInDim S1x7 ![] bcast_S_S1x7 ((constantI S_ 32 1#32))))) (broadcastInDim S1024x7 ![0, 1] bcast_S1024x1_S1024x7_0_1 (broadcastInDim S1024x1 ![0] bcast_S1024_S1024x1_0 (rv25 A)))) (broadcastInDim S1024x7 ![] bcast_S_S1024x7 ((constantI S_ 32 7#32)))) (broadcastInDim S1024x7 ![] bcast_S_S1024x7 ((constantI S_ 32 1#32))))

/-- What `main_v50` holds, from the boxes `A`. -/
def rv50 (A : (⟨S1024x4, .f32⟩ : BufTy).Contents (Elt F)) : (⟨S1024x7, .i32⟩ : BufTy).Contents (Elt F) :=
  (select (andi ((cmpi .ne) (signi (rv49 A)) ((broadcastInDim S1024x7 ![] bcast_S_S1024x7) (signi (id ((constantI S_ 32 7#32)))))) ((cmpi .ne) (Host.remsi (rv49 A) ((broadcastInDim S1024x7 ![] bcast_S_S1024x7) (id ((constantI S_ 32 7#32))))) ((broadcastInDim S1024x7 ![] bcast_S_S1024x7) ((constantI S_ 32 0#32))))) (subi (Host.divsi (rv49 A) ((broadcastInDim S1024x7 ![] bcast_S_S1024x7) (id ((constantI S_ 32 7#32))))) ((broadcastInDim S1024x7 ![] bcast_S_S1024x7) ((constantI S_ 32 1#32)))) (Host.divsi (rv49 A) ((broadcastInDim S1024x7 ![] bcast_S_S1024x7) (id ((constantI S_ 32 7#32))))))

/-- What `main_v52` holds, from the boxes `A`. -/
def rv52 (A : (⟨S1024x4, .f32⟩ : BufTy).Contents (Elt F)) : (⟨S1024x7, .i32⟩ : BufTy).Contents (Elt F) :=
  (addi (broadcastInDim S1024x7 ![0, 1] bcast_S1024x1_S1024x7_0_1 (broadcastInDim S1024x1 ![0] bcast_S1024_S1024x1_0 (rv10 A))) (rv50 A))

/-- What `main_v58` holds, from the boxes `A`. -/
def rv58 (A : (⟨S1024x4, .f32⟩ : BufTy).Contents (Elt F)) : (⟨S1024x7, .i32⟩ : BufTy).Contents (Elt F) :=
  (muli (broadcastInDim S1024x7 ![0, 1] bcast_S1x7_S1024x7_0_1 (broadcastInDim S1x7 ![1] bcast_S7_S1x7_1 ((iotaInDim S7 32 0)))) (broadcastInDim S1024x7 ![0, 1] bcast_S1024x1_S1024x7_0_1 (broadcastInDim S1024x1 ![0] bcast_S1024_S1024x1_0 (rv26 A))))

/-- What `main_v59` holds, from the boxes `A`. -/
def rv59 (A : (⟨S1024x4, .f32⟩ : BufTy).Contents (Elt F)) : (⟨S1024x7, .i32⟩ : BufTy).Contents (Elt F) :=
  (select (andi ((cmpi .ne) (signi (rv58 A)) ((broadcastInDim S1024x7 ![] bcast_S_S1024x7) (signi (id ((constantI S_ 32 7#32)))))) ((cmpi .ne) (Host.remsi (rv58 A) ((broadcastInDim S1024x7 ![] bcast_S_S1024x7) (id ((constantI S_ 32 7#32))))) ((broadcastInDim S1024x7 ![] bcast_S_S1024x7) ((constantI S_ 32 0#32))))) (subi (Host.divsi (rv58 A) ((broadcastInDim S1024x7 ![] bcast_S_S1024x7) (id ((constantI S_ 32 7#32))))) ((broadcastInDim S1024x7 ![] bcast_S_S1024x7) ((constantI S_ 32 1#32)))) (Host.divsi (rv58 A) ((broadcastInDim S1024x7 ![] bcast_S_S1024x7) (id ((constantI S_ 32 7#32))))))

/-- What `main_v61` holds, from the boxes `A`. -/
def rv61 (A : (⟨S1024x4, .f32⟩ : BufTy).Contents (Elt F)) : (⟨S1024x7, .i32⟩ : BufTy).Contents (Elt F) :=
  (addi (broadcastInDim S1024x7 ![0, 1] bcast_S1024x1_S1024x7_0_1 (broadcastInDim S1024x1 ![0] bcast_S1024_S1024x1_0 (rv7 A))) (rv59 A))

/-- What `main_v73` holds, from the boxes `A`. -/
def rv73 (A : (⟨S1024x4, .f32⟩ : BufTy).Contents (Elt F)) : (⟨S1024x7, .i32⟩ : BufTy).Contents (Elt F) :=
  (subi (addi (muli (broadcastInDim S1024x7 ![0, 1] bcast_S1x7_S1024x7_0_1 (addi (broadcastInDim S1x7 ![1] bcast_S7_S1x7_1 ((iotaInDim S7 32 0))) (broadcastInDim S1x7 ![] bcast_S_S1x7 ((constantI S_ 32 1#32))))) (broadcastInDim S1024x7 ![0, 1] bcast_S1024x1_S1024x7_0_1 (broadcastInDim S1024x1 ![0] bcast_S1024_S1024x1_0 (rv26 A)))) (broadcastInDim S1024x7 ![] bcast_S_S1024x7 ((constantI S_ 32 7#32)))) (broadcastInDim S1024x7 ![] bcast_S_S1024x7 ((constantI S_ 32 1#32))))

/-- What `main_v74` holds, from the boxes `A`. -/
def rv74 (A : (⟨S1024x4, .f32⟩ : BufTy).Contents (Elt F)) : (⟨S1024x7, .i32⟩ : BufTy).Contents (Elt F) :=
  (select (andi ((cmpi .ne) (signi (rv73 A)) ((broadcastInDim S1024x7 ![] bcast_S_S1024x7) (signi (id ((constantI S_ 32 7#32)))))) ((cmpi .ne) (Host.remsi (rv73 A) ((broadcastInDim S1024x7 ![] bcast_S_S1024x7) (id ((constantI S_ 32 7#32))))) ((broadcastInDim S1024x7 ![] bcast_S_S1024x7) ((constantI S_ 32 0#32))))) (subi (Host.divsi (rv73 A) ((broadcastInDim S1024x7 ![] bcast_S_S1024x7) (id ((constantI S_ 32 7#32))))) ((broadcastInDim S1024x7 ![] bcast_S_S1024x7) ((constantI S_ 32 1#32)))) (Host.divsi (rv73 A) ((broadcastInDim S1024x7 ![] bcast_S_S1024x7) (id ((constantI S_ 32 7#32))))))

/-- What `main_v76` holds, from the boxes `A`. -/
def rv76 (A : (⟨S1024x4, .f32⟩ : BufTy).Contents (Elt F)) : (⟨S1024x7, .i32⟩ : BufTy).Contents (Elt F) :=
  (addi (broadcastInDim S1024x7 ![0, 1] bcast_S1024x1_S1024x7_0_1 (broadcastInDim S1024x1 ![0] bcast_S1024_S1024x1_0 (rv7 A))) (rv74 A))

/-- What `main_v83` holds, from the boxes `A`. -/
def rv83 (A : (⟨S1024x4, .f32⟩ : BufTy).Contents (Elt F)) : (⟨S1024x7x7, .i32⟩ : BufTy).Contents (Elt F) :=
  (addi (broadcastInDim S1024x7x7 ![0, 1, 2] bcast_S1024x7x1_S1024x7x7_0_1_2 (muli (broadcastInDim S1024x7x1 ![0, 1] bcast_S1024x7_S1024x7x1_0_1 (rv52 A)) (broadcastInDim S1024x7x1 ![] bcast_S_S1024x7x1 ((constantI S_ 32 201#32))))) (broadcastInDim S1024x7x7 ![0, 1, 2] bcast_S1024x1x7_S1024x7x7_0_1_2 (broadcastInDim S1024x1x7 ![0, 2] bcast_S1024x7_S1024x1x7_0_2 (rv76 A))))

/-- What `main_v90` holds, from the boxes `A`. -/
def rv90 (A : (⟨S1024x4, .f32⟩ : BufTy).Contents (Elt F)) : (⟨S1024x7x7, .i32⟩ : BufTy).Contents (Elt F) :=
  (addi (broadcastInDim S1024x7x7 ![0, 1, 2] bcast_S1024x7x1_S1024x7x7_0_1_2 (muli (broadcastInDim S1024x7x1 ![0, 1] bcast_S1024x7_S1024x7x1_0_1 (rv37 A)) (broadcastInDim S1024x7x1 ![] bcast_S_S1024x7x1 ((constantI S_ 32 201#32))))) (broadcastInDim S1024x7x7 ![0, 1, 2] bcast_S1024x1x7_S1024x7x7_0_1_2 (broadcastInDim S1024x1x7 ![0, 2] bcast_S1024x7_S1024x1x7_0_2 (rv76 A))))

/-- What `main_v97` holds, from the boxes `A`. -/
def rv97 (A : (⟨S1024x4, .f32⟩ : BufTy).Contents (Elt F)) : (⟨S1024x7x7, .i32⟩ : BufTy).Contents (Elt F) :=
  (addi (broadcastInDim S1024x7x7 ![0, 1, 2] bcast_S1024x7x1_S1024x7x7_0_1_2 (muli (broadcastInDim S1024x7x1 ![0, 1] bcast_S1024x7_S1024x7x1_0_1 (rv52 A)) (broadcastInDim S1024x7x1 ![] bcast_S_S1024x7x1 ((constantI S_ 32 201#32))))) (broadcastInDim S1024x7x7 ![0, 1, 2] bcast_S1024x1x7_S1024x7x7_0_1_2 (broadcastInDim S1024x1x7 ![0, 2] bcast_S1024x7_S1024x1x7_0_2 (rv61 A))))

/-- What `main_v104` holds, from the boxes `A`. -/
def rv104 (A : (⟨S1024x4, .f32⟩ : BufTy).Contents (Elt F)) : (⟨S1024x7x7, .i32⟩ : BufTy).Contents (Elt F) :=
  (addi (broadcastInDim S1024x7x7 ![0, 1, 2] bcast_S1024x7x1_S1024x7x7_0_1_2 (muli (broadcastInDim S1024x7x1 ![0, 1] bcast_S1024x7_S1024x7x1_0_1 (rv37 A)) (broadcastInDim S1024x7x1 ![] bcast_S_S1024x7x1 ((constantI S_ 32 201#32))))) (broadcastInDim S1024x7x7 ![0, 1, 2] bcast_S1024x1x7_S1024x7x7_0_1_2 (broadcastInDim S1024x1x7 ![0, 2] bcast_S1024x7_S1024x1x7_0_2 (rv61 A))))

/-- What `main_v109` holds, from the boxes `A`. -/
def rv109 (A : (⟨S1024x4, .f32⟩ : BufTy).Contents (Elt F)) : (⟨S1024x7x7x4, .i32⟩ : BufTy).Contents (Elt F) :=
  (concatenate S1024x7x7x4 3 [⟨S1024x7x7x1, (broadcastInDim S1024x7x7x1 ![0, 1, 2] bcast_S1024x7x7_S1024x7x7x1_0_1_2 (rv83 A))⟩, ⟨S1024x7x7x1, (broadcastInDim S1024x7x7x1 ![0, 1, 2] bcast_S1024x7x7_S1024x7x7x1_0_1_2 (rv90 A))⟩, ⟨S1024x7x7x1, (broadcastInDim S1024x7x7x1 ![0, 1, 2] bcast_S1024x7x7_S1024x7x7x1_0_1_2 (rv97 A))⟩, ⟨S1024x7x7x1, (broadcastInDim S1024x7x7x1 ![0, 1, 2] bcast_S1024x7x7_S1024x7x7x1_0_1_2 (rv104 A))⟩] concatenates_S1024x7x7x1_S1024x7x7x1_S1024x7x7x1_S1024x7x7x1_S1024x7x7x4_d3 : (⟨S1024x7x7x4, .i32⟩ : BufTy).Contents (Elt F))

/-- What `main_v110` holds, from the boxes `A`. -/
def rv110 (A : (⟨S1024x4, .f32⟩ : BufTy).Contents (Elt F)) : (⟨S1024x1x196, .i32⟩ : BufTy).Contents (Elt F) :=
  (shapeCast S1024x1x196 (rv109 A) shapeCasts_S1024x7x7x4_S1024x1x196)

/-- What `main_v118` holds, from the boxes `A`. -/
def rv118 (A : (⟨S1024x4, .f32⟩ : BufTy).Contents (Elt F)) : (⟨S1024x7x7, .f32⟩ : BufTy).Contents (Elt F) :=
  (sitofp .f32 (muli (broadcastInDim S1024x7x7 ![0, 1, 2] bcast_S1024x7x1_S1024x7x7_0_1_2 (broadcastInDim S1024x7x1 ![0, 1] bcast_S1024x7_S1024x7x1_0_1 (subi (rv52 A) (rv37 A)))) (broadcastInDim S1024x7x7 ![0, 1, 2] bcast_S1024x1x7_S1024x7x7_0_1_2 (broadcastInDim S1024x1x7 ![0, 2] bcast_S1024x7_S1024x1x7_0_2 (subi (rv76 A) (rv61 A))))))

/-- The contents after the first 1 stretches of the host's operations. -/
def HS0 (W : Valuation τ sig (Elt F)) : Valuation τ sig (Elt F) := StableHlo.after hostOps0 (W)

/-- `main_v4` after stretch 0. -/
theorem HS0_main_v4 (W : Valuation τ sig (Elt F)) : HS0 W (no_index (Proc.devRef .tc main_v4)) = (rv4 (W (Proc.devRef .tc main_arg1))) := by
  unfold HS0
  after_reads_simp
  try rfl

/-- `main_v6` after stretch 0. -/
theorem HS0_main_v6 (W : Valuation τ sig (Elt F)) : HS0 W (no_index (Proc.devRef .tc main_v6)) = (rv6 (W (Proc.devRef .tc main_arg1))) := by
  unfold HS0
  after_reads_simp
  try rfl

/-- `main_c` after stretch 0. -/
theorem HS0_main_c (W : Valuation τ sig (Elt F)) : HS0 W (no_index (Proc.devRef .tc main_c)) = ((constantI S_ 32 0#32)) := by
  unfold HS0
  after_reads_simp
  try rfl

/-- `main_c_0` after stretch 0. -/
theorem HS0_main_c_0 (W : Valuation τ sig (Elt F)) : HS0 W (no_index (Proc.devRef .tc main_c_0)) = ((constantI S_ 32 199#32)) := by
  unfold HS0
  after_reads_simp
  try rfl

/-- `main_arg1` after stretch 0. -/
theorem HS0_main_arg1 (W : Valuation τ sig (Elt F)) : HS0 W (no_index (Proc.devRef .tc main_arg1)) = W (Proc.devRef .tc main_arg1) := by
  unfold HS0
  after_reads_simp

/-- The contents after the first 2 stretches of the host's operations. -/
def HS1 (W : Valuation τ sig (Elt F)) : Valuation τ sig (Elt F) := StableHlo.after hostOps0_1 (HS0 W)

/-- `main_v4` after stretch 1. -/
theorem HS1_main_v4 (W : Valuation τ sig (Elt F)) : HS1 W (no_index (Proc.devRef .tc main_v4)) = (rv4 (W (Proc.devRef .tc main_arg1))) := by
  unfold HS1
  after_reads_simp
  exact HS0_main_v4 W

/-- `main_v7` after stretch 1. -/
theorem HS1_main_v7 (W : Valuation τ sig (Elt F)) : HS1 W (no_index (Proc.devRef .tc main_v7)) = (rv7 (W (Proc.devRef .tc main_arg1))) := by
  unfold HS1
  after_reads_simp
  try simp only [StableHlo.TRef.toBuf, StableHlo.TRef.ofBuf, cast_eq]
  simp only [HS0_main_c, HS0_main_c_0, HS0_main_v6] <;> rfl

/-- `main_arg1` after stretch 1. -/
theorem HS1_main_arg1 (W : Valuation τ sig (Elt F)) : HS1 W (no_index (Proc.devRef .tc main_arg1)) = W (Proc.devRef .tc main_arg1) := by
  unfold HS1
  after_reads_simp
  exact HS0_main_arg1 W

/-- The contents after the first 3 stretches of the host's operations. -/
def HS2 (W : Valuation τ sig (Elt F)) : Valuation τ sig (Elt F) := StableHlo.after hostOps0_2 (HS1 W)

/-- `main_v4` after stretch 2. -/
theorem HS2_main_v4 (W : Valuation τ sig (Elt F)) : HS2 W (no_index (Proc.devRef .tc main_v4)) = (rv4 (W (Proc.devRef .tc main_arg1))) := by
  unfold HS2
  after_reads_simp
  exact HS1_main_v4 W

/-- `main_v7` after stretch 2. -/
theorem HS2_main_v7 (W : Valuation τ sig (Elt F)) : HS2 W (no_index (Proc.devRef .tc main_v7)) = (rv7 (W (Proc.devRef .tc main_arg1))) := by
  unfold HS2
  after_reads_simp
  exact HS1_main_v7 W

/-- `main_v9` after stretch 2. -/
theorem HS2_main_v9 (W : Valuation τ sig (Elt F)) : HS2 W (no_index (Proc.devRef .tc main_v9)) = (rv9 (W (Proc.devRef .tc main_arg1))) := by
  unfold HS2
  after_reads_simp
  try simp only [StableHlo.TRef.toBuf, StableHlo.TRef.ofBuf, cast_eq]
  simp only [HS1_main_v4] <;> rfl

/-- `main_c_1` after stretch 2. -/
theorem HS2_main_c_1 (W : Valuation τ sig (Elt F)) : HS2 W (no_index (Proc.devRef .tc main_c_1)) = ((constantI S_ 32 0#32)) := by
  unfold HS2
  after_reads_simp
  try rfl

/-- `main_c_2` after stretch 2. -/
theorem HS2_main_c_2 (W : Valuation τ sig (Elt F)) : HS2 W (no_index (Proc.devRef .tc main_c_2)) = ((constantI S_ 32 199#32)) := by
  unfold HS2
  after_reads_simp
  try rfl

/-- `main_arg1` after stretch 2. -/
theorem HS2_main_arg1 (W : Valuation τ sig (Elt F)) : HS2 W (no_index (Proc.devRef .tc main_arg1)) = W (Proc.devRef .tc main_arg1) := by
  unfold HS2
  after_reads_simp
  exact HS1_main_arg1 W

/-- The contents after the first 4 stretches of the host's operations. -/
def HS3 (W : Valuation τ sig (Elt F)) : Valuation τ sig (Elt F) := StableHlo.after hostOps0_3 (HS2 W)

/-- `main_v4` after stretch 3. -/
theorem HS3_main_v4 (W : Valuation τ sig (Elt F)) : HS3 W (no_index (Proc.devRef .tc main_v4)) = (rv4 (W (Proc.devRef .tc main_arg1))) := by
  unfold HS3
  after_reads_simp
  exact HS2_main_v4 W

/-- `main_v7` after stretch 3. -/
theorem HS3_main_v7 (W : Valuation τ sig (Elt F)) : HS3 W (no_index (Proc.devRef .tc main_v7)) = (rv7 (W (Proc.devRef .tc main_arg1))) := by
  unfold HS3
  after_reads_simp
  exact HS2_main_v7 W

/-- `main_v10` after stretch 3. -/
theorem HS3_main_v10 (W : Valuation τ sig (Elt F)) : HS3 W (no_index (Proc.devRef .tc main_v10)) = (rv10 (W (Proc.devRef .tc main_arg1))) := by
  unfold HS3
  after_reads_simp
  try simp only [StableHlo.TRef.toBuf, StableHlo.TRef.ofBuf, cast_eq]
  simp only [HS2_main_c_1, HS2_main_c_2, HS2_main_v9] <;> rfl

/-- `main_arg1` after stretch 3. -/
theorem HS3_main_arg1 (W : Valuation τ sig (Elt F)) : HS3 W (no_index (Proc.devRef .tc main_arg1)) = W (Proc.devRef .tc main_arg1) := by
  unfold HS3
  after_reads_simp
  exact HS2_main_arg1 W

/-- The contents after the first 5 stretches of the host's operations. -/
def HS4 (W : Valuation τ sig (Elt F)) : Valuation τ sig (Elt F) := StableHlo.after hostOps0_4 (HS3 W)

/-- `main_v4` after stretch 4. -/
theorem HS4_main_v4 (W : Valuation τ sig (Elt F)) : HS4 W (no_index (Proc.devRef .tc main_v4)) = (rv4 (W (Proc.devRef .tc main_arg1))) := by
  unfold HS4
  after_reads_simp
  exact HS3_main_v4 W

/-- `main_v7` after stretch 4. -/
theorem HS4_main_v7 (W : Valuation τ sig (Elt F)) : HS4 W (no_index (Proc.devRef .tc main_v7)) = (rv7 (W (Proc.devRef .tc main_arg1))) := by
  unfold HS4
  after_reads_simp
  exact HS3_main_v7 W

/-- `main_v10` after stretch 4. -/
theorem HS4_main_v10 (W : Valuation τ sig (Elt F)) : HS4 W (no_index (Proc.devRef .tc main_v10)) = (rv10 (W (Proc.devRef .tc main_arg1))) := by
  unfold HS4
  after_reads_simp
  exact HS3_main_v10 W

/-- `main_v14` after stretch 4. -/
theorem HS4_main_v14 (W : Valuation τ sig (Elt F)) : HS4 W (no_index (Proc.devRef .tc main_v14)) = (rv14 (W (Proc.devRef .tc main_arg1))) := by
  unfold HS4
  after_reads_simp
  try simp only [StableHlo.TRef.toBuf, StableHlo.TRef.ofBuf, cast_eq]
  simp only [HS3_main_v4] <;> rfl

/-- `main_v16` after stretch 4. -/
theorem HS4_main_v16 (W : Valuation τ sig (Elt F)) : HS4 W (no_index (Proc.devRef .tc main_v16)) = (rv16 (W (Proc.devRef .tc main_arg1))) := by
  unfold HS4
  after_reads_simp
  try simp only [StableHlo.TRef.toBuf, StableHlo.TRef.ofBuf, cast_eq]
  simp only [HS3_main_v7] <;> rfl

/-- `main_c_5` after stretch 4. -/
theorem HS4_main_c_5 (W : Valuation τ sig (Elt F)) : HS4 W (no_index (Proc.devRef .tc main_c_5)) = ((constantI S_ 32 200#32)) := by
  unfold HS4
  after_reads_simp
  try rfl

/-- `main_arg1` after stretch 4. -/
theorem HS4_main_arg1 (W : Valuation τ sig (Elt F)) : HS4 W (no_index (Proc.devRef .tc main_arg1)) = W (Proc.devRef .tc main_arg1) := by
  unfold HS4
  after_reads_simp
  exact HS3_main_arg1 W

/-- The contents after the first 6 stretches of the host's operations. -/
def HS5 (W : Valuation τ sig (Elt F)) : Valuation τ sig (Elt F) := StableHlo.after hostOps0_5 (HS4 W)

/-- `main_v4` after stretch 5. -/
theorem HS5_main_v4 (W : Valuation τ sig (Elt F)) : HS5 W (no_index (Proc.devRef .tc main_v4)) = (rv4 (W (Proc.devRef .tc main_arg1))) := by
  unfold HS5
  after_reads_simp
  exact HS4_main_v4 W

/-- `main_v7` after stretch 5. -/
theorem HS5_main_v7 (W : Valuation τ sig (Elt F)) : HS5 W (no_index (Proc.devRef .tc main_v7)) = (rv7 (W (Proc.devRef .tc main_arg1))) := by
  unfold HS5
  after_reads_simp
  exact HS4_main_v7 W

/-- `main_v10` after stretch 5. -/
theorem HS5_main_v10 (W : Valuation τ sig (Elt F)) : HS5 W (no_index (Proc.devRef .tc main_v10)) = (rv10 (W (Proc.devRef .tc main_arg1))) := by
  unfold HS5
  after_reads_simp
  exact HS4_main_v10 W

/-- `main_v17` after stretch 5. -/
theorem HS5_main_v17 (W : Valuation τ sig (Elt F)) : HS5 W (no_index (Proc.devRef .tc main_v17)) = (rv17 (W (Proc.devRef .tc main_arg1))) := by
  unfold HS5
  after_reads_simp
  try simp only [StableHlo.TRef.toBuf, StableHlo.TRef.ofBuf, cast_eq]
  simp only [HS4_main_c_5, HS4_main_v14, HS4_main_v16] <;> rfl

/-- `main_arg1` after stretch 5. -/
theorem HS5_main_arg1 (W : Valuation τ sig (Elt F)) : HS5 W (no_index (Proc.devRef .tc main_arg1)) = W (Proc.devRef .tc main_arg1) := by
  unfold HS5
  after_reads_simp
  exact HS4_main_arg1 W

/-- The contents after the first 7 stretches of the host's operations. -/
def HS6 (W : Valuation τ sig (Elt F)) : Valuation τ sig (Elt F) := StableHlo.after hostOps0_6 (HS5 W)

/-- `main_v7` after stretch 6. -/
theorem HS6_main_v7 (W : Valuation τ sig (Elt F)) : HS6 W (no_index (Proc.devRef .tc main_v7)) = (rv7 (W (Proc.devRef .tc main_arg1))) := by
  unfold HS6
  after_reads_simp
  exact HS5_main_v7 W

/-- `main_v10` after stretch 6. -/
theorem HS6_main_v10 (W : Valuation τ sig (Elt F)) : HS6 W (no_index (Proc.devRef .tc main_v10)) = (rv10 (W (Proc.devRef .tc main_arg1))) := by
  unfold HS6
  after_reads_simp
  exact HS5_main_v10 W

/-- `main_v17` after stretch 6. -/
theorem HS6_main_v17 (W : Valuation τ sig (Elt F)) : HS6 W (no_index (Proc.devRef .tc main_v17)) = (rv17 (W (Proc.devRef .tc main_arg1))) := by
  unfold HS6
  after_reads_simp
  exact HS5_main_v17 W

/-- `main_v21` after stretch 6. -/
theorem HS6_main_v21 (W : Valuation τ sig (Elt F)) : HS6 W (no_index (Proc.devRef .tc main_v21)) = (rv21 (W (Proc.devRef .tc main_arg1))) := by
  unfold HS6
  after_reads_simp
  try simp only [StableHlo.TRef.toBuf, StableHlo.TRef.ofBuf, cast_eq]
  simp only [HS5_main_v4] <;> rfl

/-- `main_v23` after stretch 6. -/
theorem HS6_main_v23 (W : Valuation τ sig (Elt F)) : HS6 W (no_index (Proc.devRef .tc main_v23)) = (rv23 (W (Proc.devRef .tc main_arg1))) := by
  unfold HS6
  after_reads_simp
  try simp only [StableHlo.TRef.toBuf, StableHlo.TRef.ofBuf, cast_eq]
  simp only [HS5_main_v10] <;> rfl

/-- `main_c_8` after stretch 6. -/
theorem HS6_main_c_8 (W : Valuation τ sig (Elt F)) : HS6 W (no_index (Proc.devRef .tc main_c_8)) = ((constantI S_ 32 200#32)) := by
  unfold HS6
  after_reads_simp
  try rfl

/-- `main_arg1` after stretch 6. -/
theorem HS6_main_arg1 (W : Valuation τ sig (Elt F)) : HS6 W (no_index (Proc.devRef .tc main_arg1)) = W (Proc.devRef .tc main_arg1) := by
  unfold HS6
  after_reads_simp
  exact HS5_main_arg1 W

/-- The contents after the first 8 stretches of the host's operations. -/
def HS7 (W : Valuation τ sig (Elt F)) : Valuation τ sig (Elt F) := StableHlo.after hostOps0_7 (HS6 W)

/-- `main_v7` after stretch 7. -/
theorem HS7_main_v7 (W : Valuation τ sig (Elt F)) : HS7 W (no_index (Proc.devRef .tc main_v7)) = (rv7 (W (Proc.devRef .tc main_arg1))) := by
  unfold HS7
  after_reads_simp
  exact HS6_main_v7 W

/-- `main_v10` after stretch 7. -/
theorem HS7_main_v10 (W : Valuation τ sig (Elt F)) : HS7 W (no_index (Proc.devRef .tc main_v10)) = (rv10 (W (Proc.devRef .tc main_arg1))) := by
  unfold HS7
  after_reads_simp
  exact HS6_main_v10 W

/-- `main_v17` after stretch 7. -/
theorem HS7_main_v17 (W : Valuation τ sig (Elt F)) : HS7 W (no_index (Proc.devRef .tc main_v17)) = (rv17 (W (Proc.devRef .tc main_arg1))) := by
  unfold HS7
  after_reads_simp
  exact HS6_main_v17 W

/-- `main_v24` after stretch 7. -/
theorem HS7_main_v24 (W : Valuation τ sig (Elt F)) : HS7 W (no_index (Proc.devRef .tc main_v24)) = (rv24 (W (Proc.devRef .tc main_arg1))) := by
  unfold HS7
  after_reads_simp
  try simp only [StableHlo.TRef.toBuf, StableHlo.TRef.ofBuf, cast_eq]
  simp only [HS6_main_c_8, HS6_main_v21, HS6_main_v23] <;> rfl

/-- `main_arg1` after stretch 7. -/
theorem HS7_main_arg1 (W : Valuation τ sig (Elt F)) : HS7 W (no_index (Proc.devRef .tc main_arg1)) = W (Proc.devRef .tc main_arg1) := by
  unfold HS7
  after_reads_simp
  exact HS6_main_arg1 W

/-- The contents after the first 9 stretches of the host's operations. -/
def HS8 (W : Valuation τ sig (Elt F)) : Valuation τ sig (Elt F) := StableHlo.after hostOps0_8 (HS7 W)

/-- `main_v7` after stretch 8. -/
theorem HS8_main_v7 (W : Valuation τ sig (Elt F)) : HS8 W (no_index (Proc.devRef .tc main_v7)) = (rv7 (W (Proc.devRef .tc main_arg1))) := by
  unfold HS8
  after_reads_simp
  exact HS7_main_v7 W

/-- `main_v10` after stretch 8. -/
theorem HS8_main_v10 (W : Valuation τ sig (Elt F)) : HS8 W (no_index (Proc.devRef .tc main_v10)) = (rv10 (W (Proc.devRef .tc main_arg1))) := by
  unfold HS8
  after_reads_simp
  exact HS7_main_v10 W

/-- `main_v25` after stretch 8. -/
theorem HS8_main_v25 (W : Valuation τ sig (Elt F)) : HS8 W (no_index (Proc.devRef .tc main_v25)) = (rv25 (W (Proc.devRef .tc main_arg1))) := by
  unfold HS8
  after_reads_simp
  try simp only [StableHlo.TRef.toBuf, StableHlo.TRef.ofBuf, cast_eq]
  simp only [HS7_main_v10, HS7_main_v24] <;> rfl

/-- `main_v26` after stretch 8. -/
theorem HS8_main_v26 (W : Valuation τ sig (Elt F)) : HS8 W (no_index (Proc.devRef .tc main_v26)) = (rv26 (W (Proc.devRef .tc main_arg1))) := by
  unfold HS8
  after_reads_simp
  try simp only [StableHlo.TRef.toBuf, StableHlo.TRef.ofBuf, cast_eq]
  simp only [HS7_main_v17, HS7_main_v7] <;> rfl

/-- `main_v27` after stretch 8. -/
theorem HS8_main_v27 (W : Valuation τ sig (Elt F)) : HS8 W (no_index (Proc.devRef .tc main_v27)) = ((iotaInDim S7 32 0)) := by
  unfold HS8
  after_reads_simp
  try rfl

/-- `main_v28` after stretch 8. -/
theorem HS8_main_v28 (W : Valuation τ sig (Elt F)) : HS8 W (no_index (Proc.devRef .tc main_v28)) = ((iotaInDim S7 32 0)) := by
  unfold HS8
  after_reads_simp
  try rfl

/-- `main_v29` after stretch 8. -/
theorem HS8_main_v29 (W : Valuation τ sig (Elt F)) : HS8 W (no_index (Proc.devRef .tc main_v29)) = (broadcastInDim S1024x1 ![0] bcast_S1024_S1024x1_0 (rv10 (W (Proc.devRef .tc main_arg1)))) := by
  unfold HS8
  after_reads_simp
  try simp only [StableHlo.TRef.toBuf, StableHlo.TRef.ofBuf, cast_eq]
  simp only [HS7_main_v10] <;> rfl

/-- `main_v34` after stretch 8. -/
theorem HS8_main_v34 (W : Valuation τ sig (Elt F)) : HS8 W (no_index (Proc.devRef .tc main_v34)) = (rv34 (W (Proc.devRef .tc main_arg1))) := by
  unfold HS8
  after_reads_simp
  try simp only [StableHlo.TRef.toBuf, StableHlo.TRef.ofBuf, cast_eq]
  simp only [HS7_main_v10, HS7_main_v24] <;> rfl

/-- `main_c_9` after stretch 8. -/
theorem HS8_main_c_9 (W : Valuation τ sig (Elt F)) : HS8 W (no_index (Proc.devRef .tc main_c_9)) = ((constantI S_ 32 7#32)) := by
  unfold HS8
  after_reads_simp
  try rfl

/-- `main_arg1` after stretch 8. -/
theorem HS8_main_arg1 (W : Valuation τ sig (Elt F)) : HS8 W (no_index (Proc.devRef .tc main_arg1)) = W (Proc.devRef .tc main_arg1) := by
  unfold HS8
  after_reads_simp
  exact HS7_main_arg1 W

/-- The contents after the first 10 stretches of the host's operations. -/
def HS9 (W : Valuation τ sig (Elt F)) : Valuation τ sig (Elt F) := StableHlo.after hostOps0_9 (HS8 W)

/-- `main_v7` after stretch 9. -/
theorem HS9_main_v7 (W : Valuation τ sig (Elt F)) : HS9 W (no_index (Proc.devRef .tc main_v7)) = (rv7 (W (Proc.devRef .tc main_arg1))) := by
  unfold HS9
  after_reads_simp
  exact HS8_main_v7 W

/-- `main_v10` after stretch 9. -/
theorem HS9_main_v10 (W : Valuation τ sig (Elt F)) : HS9 W (no_index (Proc.devRef .tc main_v10)) = (rv10 (W (Proc.devRef .tc main_arg1))) := by
  unfold HS9
  after_reads_simp
  exact HS8_main_v10 W

/-- `main_v25` after stretch 9. -/
theorem HS9_main_v25 (W : Valuation τ sig (Elt F)) : HS9 W (no_index (Proc.devRef .tc main_v25)) = (rv25 (W (Proc.devRef .tc main_arg1))) := by
  unfold HS9
  after_reads_simp
  exact HS8_main_v25 W

/-- `main_v26` after stretch 9. -/
theorem HS9_main_v26 (W : Valuation τ sig (Elt F)) : HS9 W (no_index (Proc.devRef .tc main_v26)) = (rv26 (W (Proc.devRef .tc main_arg1))) := by
  unfold HS9
  after_reads_simp
  exact HS8_main_v26 W

/-- `main_v27` after stretch 9. -/
theorem HS9_main_v27 (W : Valuation τ sig (Elt F)) : HS9 W (no_index (Proc.devRef .tc main_v27)) = ((iotaInDim S7 32 0)) := by
  unfold HS9
  after_reads_simp
  exact HS8_main_v27 W

/-- `main_v28` after stretch 9. -/
theorem HS9_main_v28 (W : Valuation τ sig (Elt F)) : HS9 W (no_index (Proc.devRef .tc main_v28)) = ((iotaInDim S7 32 0)) := by
  unfold HS9
  after_reads_simp
  exact HS8_main_v28 W

/-- `main_v29` after stretch 9. -/
theorem HS9_main_v29 (W : Valuation τ sig (Elt F)) : HS9 W (no_index (Proc.devRef .tc main_v29)) = (broadcastInDim S1024x1 ![0] bcast_S1024_S1024x1_0 (rv10 (W (Proc.devRef .tc main_arg1)))) := by
  unfold HS9
  after_reads_simp
  exact HS8_main_v29 W

/-- `main_v35` after stretch 9. -/
theorem HS9_main_v35 (W : Valuation τ sig (Elt F)) : HS9 W (no_index (Proc.devRef .tc main_v35)) = (rv35 (W (Proc.devRef .tc main_arg1))) := by
  unfold HS9
  after_reads_simp
  try simp only [StableHlo.TRef.toBuf, StableHlo.TRef.ofBuf, cast_eq]
  simp only [HS8_main_c_9, HS8_main_v34] <;> rfl

/-- `main_arg1` after stretch 9. -/
theorem HS9_main_arg1 (W : Valuation τ sig (Elt F)) : HS9 W (no_index (Proc.devRef .tc main_arg1)) = W (Proc.devRef .tc main_arg1) := by
  unfold HS9
  after_reads_simp
  exact HS8_main_arg1 W

/-- The contents after the first 11 stretches of the host's operations. -/
def HS10 (W : Valuation τ sig (Elt F)) : Valuation τ sig (Elt F) := StableHlo.after hostOps0_10 (HS9 W)

/-- `main_v7` after stretch 10. -/
theorem HS10_main_v7 (W : Valuation τ sig (Elt F)) : HS10 W (no_index (Proc.devRef .tc main_v7)) = (rv7 (W (Proc.devRef .tc main_arg1))) := by
  unfold HS10
  after_reads_simp
  exact HS9_main_v7 W

/-- `main_v26` after stretch 10. -/
theorem HS10_main_v26 (W : Valuation τ sig (Elt F)) : HS10 W (no_index (Proc.devRef .tc main_v26)) = (rv26 (W (Proc.devRef .tc main_arg1))) := by
  unfold HS10
  after_reads_simp
  exact HS9_main_v26 W

/-- `main_v28` after stretch 10. -/
theorem HS10_main_v28 (W : Valuation τ sig (Elt F)) : HS10 W (no_index (Proc.devRef .tc main_v28)) = ((iotaInDim S7 32 0)) := by
  unfold HS10
  after_reads_simp
  exact HS9_main_v28 W

/-- `main_v37` after stretch 10. -/
theorem HS10_main_v37 (W : Valuation τ sig (Elt F)) : HS10 W (no_index (Proc.devRef .tc main_v37)) = (rv37 (W (Proc.devRef .tc main_arg1))) := by
  unfold HS10
  after_reads_simp
  try simp only [StableHlo.TRef.toBuf, StableHlo.TRef.ofBuf, cast_eq]
  simp only [HS9_main_v29, HS9_main_v35] <;> rfl

/-- `main_v38` after stretch 10. -/
theorem HS10_main_v38 (W : Valuation τ sig (Elt F)) : HS10 W (no_index (Proc.devRef .tc main_v38)) = (broadcastInDim S1024x1 ![0] bcast_S1024_S1024x1_0 (rv10 (W (Proc.devRef .tc main_arg1)))) := by
  unfold HS10
  after_reads_simp
  try simp only [StableHlo.TRef.toBuf, StableHlo.TRef.ofBuf, cast_eq]
  simp only [HS9_main_v10] <;> rfl

/-- `main_v49` after stretch 10. -/
theorem HS10_main_v49 (W : Valuation τ sig (Elt F)) : HS10 W (no_index (Proc.devRef .tc main_v49)) = (rv49 (W (Proc.devRef .tc main_arg1))) := by
  unfold HS10
  after_reads_simp
  try simp only [StableHlo.TRef.toBuf, StableHlo.TRef.ofBuf, cast_eq]
  simp only [HS9_main_v25, HS9_main_v27] <;> rfl

/-- `main_c_13` after stretch 10. -/
theorem HS10_main_c_13 (W : Valuation τ sig (Elt F)) : HS10 W (no_index (Proc.devRef .tc main_c_13)) = ((constantI S_ 32 7#32)) := by
  unfold HS10
  after_reads_simp
  try rfl

/-- `main_arg1` after stretch 10. -/
theorem HS10_main_arg1 (W : Valuation τ sig (Elt F)) : HS10 W (no_index (Proc.devRef .tc main_arg1)) = W (Proc.devRef .tc main_arg1) := by
  unfold HS10
  after_reads_simp
  exact HS9_main_arg1 W

/-- The contents after the first 12 stretches of the host's operations. -/
def HS11 (W : Valuation τ sig (Elt F)) : Valuation τ sig (Elt F) := StableHlo.after hostOps0_11 (HS10 W)

/-- `main_v7` after stretch 11. -/
theorem HS11_main_v7 (W : Valuation τ sig (Elt F)) : HS11 W (no_index (Proc.devRef .tc main_v7)) = (rv7 (W (Proc.devRef .tc main_arg1))) := by
  unfold HS11
  after_reads_simp
  exact HS10_main_v7 W

/-- `main_v26` after stretch 11. -/
theorem HS11_main_v26 (W : Valuation τ sig (Elt F)) : HS11 W (no_index (Proc.devRef .tc main_v26)) = (rv26 (W (Proc.devRef .tc main_arg1))) := by
  unfold HS11
  after_reads_simp
  exact HS10_main_v26 W

/-- `main_v28` after stretch 11. -/
theorem HS11_main_v28 (W : Valuation τ sig (Elt F)) : HS11 W (no_index (Proc.devRef .tc main_v28)) = ((iotaInDim S7 32 0)) := by
  unfold HS11
  after_reads_simp
  exact HS10_main_v28 W

/-- `main_v37` after stretch 11. -/
theorem HS11_main_v37 (W : Valuation τ sig (Elt F)) : HS11 W (no_index (Proc.devRef .tc main_v37)) = (rv37 (W (Proc.devRef .tc main_arg1))) := by
  unfold HS11
  after_reads_simp
  exact HS10_main_v37 W

/-- `main_v38` after stretch 11. -/
theorem HS11_main_v38 (W : Valuation τ sig (Elt F)) : HS11 W (no_index (Proc.devRef .tc main_v38)) = (broadcastInDim S1024x1 ![0] bcast_S1024_S1024x1_0 (rv10 (W (Proc.devRef .tc main_arg1)))) := by
  unfold HS11
  after_reads_simp
  exact HS10_main_v38 W

/-- `main_v50` after stretch 11. -/
theorem HS11_main_v50 (W : Valuation τ sig (Elt F)) : HS11 W (no_index (Proc.devRef .tc main_v50)) = (rv50 (W (Proc.devRef .tc main_arg1))) := by
  unfold HS11
  after_reads_simp
  try simp only [StableHlo.TRef.toBuf, StableHlo.TRef.ofBuf, cast_eq]
  simp only [HS10_main_c_13, HS10_main_v49] <;> rfl

/-- `main_arg1` after stretch 11. -/
theorem HS11_main_arg1 (W : Valuation τ sig (Elt F)) : HS11 W (no_index (Proc.devRef .tc main_arg1)) = W (Proc.devRef .tc main_arg1) := by
  unfold HS11
  after_reads_simp
  exact HS10_main_arg1 W

/-- The contents after the first 13 stretches of the host's operations. -/
def HS12 (W : Valuation τ sig (Elt F)) : Valuation τ sig (Elt F) := StableHlo.after hostOps0_12 (HS11 W)

/-- `main_v7` after stretch 12. -/
theorem HS12_main_v7 (W : Valuation τ sig (Elt F)) : HS12 W (no_index (Proc.devRef .tc main_v7)) = (rv7 (W (Proc.devRef .tc main_arg1))) := by
  unfold HS12
  after_reads_simp
  exact HS11_main_v7 W

/-- `main_v26` after stretch 12. -/
theorem HS12_main_v26 (W : Valuation τ sig (Elt F)) : HS12 W (no_index (Proc.devRef .tc main_v26)) = (rv26 (W (Proc.devRef .tc main_arg1))) := by
  unfold HS12
  after_reads_simp
  exact HS11_main_v26 W

/-- `main_v28` after stretch 12. -/
theorem HS12_main_v28 (W : Valuation τ sig (Elt F)) : HS12 W (no_index (Proc.devRef .tc main_v28)) = ((iotaInDim S7 32 0)) := by
  unfold HS12
  after_reads_simp
  exact HS11_main_v28 W

/-- `main_v37` after stretch 12. -/
theorem HS12_main_v37 (W : Valuation τ sig (Elt F)) : HS12 W (no_index (Proc.devRef .tc main_v37)) = (rv37 (W (Proc.devRef .tc main_arg1))) := by
  unfold HS12
  after_reads_simp
  exact HS11_main_v37 W

/-- `main_v52` after stretch 12. -/
theorem HS12_main_v52 (W : Valuation τ sig (Elt F)) : HS12 W (no_index (Proc.devRef .tc main_v52)) = (rv52 (W (Proc.devRef .tc main_arg1))) := by
  unfold HS12
  after_reads_simp
  try simp only [StableHlo.TRef.toBuf, StableHlo.TRef.ofBuf, cast_eq]
  simp only [HS11_main_v38, HS11_main_v50] <;> rfl

/-- `main_v53` after stretch 12. -/
theorem HS12_main_v53 (W : Valuation τ sig (Elt F)) : HS12 W (no_index (Proc.devRef .tc main_v53)) = (broadcastInDim S1024x1 ![0] bcast_S1024_S1024x1_0 (rv7 (W (Proc.devRef .tc main_arg1)))) := by
  unfold HS12
  after_reads_simp
  try simp only [StableHlo.TRef.toBuf, StableHlo.TRef.ofBuf, cast_eq]
  simp only [HS11_main_v7] <;> rfl

/-- `main_v58` after stretch 12. -/
theorem HS12_main_v58 (W : Valuation τ sig (Elt F)) : HS12 W (no_index (Proc.devRef .tc main_v58)) = (rv58 (W (Proc.devRef .tc main_arg1))) := by
  unfold HS12
  after_reads_simp
  try simp only [StableHlo.TRef.toBuf, StableHlo.TRef.ofBuf, cast_eq]
  simp only [HS11_main_v26, HS11_main_v28] <;> rfl

/-- `main_c_14` after stretch 12. -/
theorem HS12_main_c_14 (W : Valuation τ sig (Elt F)) : HS12 W (no_index (Proc.devRef .tc main_c_14)) = ((constantI S_ 32 7#32)) := by
  unfold HS12
  after_reads_simp
  try rfl

/-- `main_arg1` after stretch 12. -/
theorem HS12_main_arg1 (W : Valuation τ sig (Elt F)) : HS12 W (no_index (Proc.devRef .tc main_arg1)) = W (Proc.devRef .tc main_arg1) := by
  unfold HS12
  after_reads_simp
  exact HS11_main_arg1 W

/-- The contents after the first 14 stretches of the host's operations. -/
def HS13 (W : Valuation τ sig (Elt F)) : Valuation τ sig (Elt F) := StableHlo.after hostOps0_13 (HS12 W)

/-- `main_v7` after stretch 13. -/
theorem HS13_main_v7 (W : Valuation τ sig (Elt F)) : HS13 W (no_index (Proc.devRef .tc main_v7)) = (rv7 (W (Proc.devRef .tc main_arg1))) := by
  unfold HS13
  after_reads_simp
  exact HS12_main_v7 W

/-- `main_v26` after stretch 13. -/
theorem HS13_main_v26 (W : Valuation τ sig (Elt F)) : HS13 W (no_index (Proc.devRef .tc main_v26)) = (rv26 (W (Proc.devRef .tc main_arg1))) := by
  unfold HS13
  after_reads_simp
  exact HS12_main_v26 W

/-- `main_v28` after stretch 13. -/
theorem HS13_main_v28 (W : Valuation τ sig (Elt F)) : HS13 W (no_index (Proc.devRef .tc main_v28)) = ((iotaInDim S7 32 0)) := by
  unfold HS13
  after_reads_simp
  exact HS12_main_v28 W

/-- `main_v37` after stretch 13. -/
theorem HS13_main_v37 (W : Valuation τ sig (Elt F)) : HS13 W (no_index (Proc.devRef .tc main_v37)) = (rv37 (W (Proc.devRef .tc main_arg1))) := by
  unfold HS13
  after_reads_simp
  exact HS12_main_v37 W

/-- `main_v52` after stretch 13. -/
theorem HS13_main_v52 (W : Valuation τ sig (Elt F)) : HS13 W (no_index (Proc.devRef .tc main_v52)) = (rv52 (W (Proc.devRef .tc main_arg1))) := by
  unfold HS13
  after_reads_simp
  exact HS12_main_v52 W

/-- `main_v53` after stretch 13. -/
theorem HS13_main_v53 (W : Valuation τ sig (Elt F)) : HS13 W (no_index (Proc.devRef .tc main_v53)) = (broadcastInDim S1024x1 ![0] bcast_S1024_S1024x1_0 (rv7 (W (Proc.devRef .tc main_arg1)))) := by
  unfold HS13
  after_reads_simp
  exact HS12_main_v53 W

/-- `main_v59` after stretch 13. -/
theorem HS13_main_v59 (W : Valuation τ sig (Elt F)) : HS13 W (no_index (Proc.devRef .tc main_v59)) = (rv59 (W (Proc.devRef .tc main_arg1))) := by
  unfold HS13
  after_reads_simp
  try simp only [StableHlo.TRef.toBuf, StableHlo.TRef.ofBuf, cast_eq]
  simp only [HS12_main_c_14, HS12_main_v58] <;> rfl

/-- `main_arg1` after stretch 13. -/
theorem HS13_main_arg1 (W : Valuation τ sig (Elt F)) : HS13 W (no_index (Proc.devRef .tc main_arg1)) = W (Proc.devRef .tc main_arg1) := by
  unfold HS13
  after_reads_simp
  exact HS12_main_arg1 W

/-- The contents after the first 15 stretches of the host's operations. -/
def HS14 (W : Valuation τ sig (Elt F)) : Valuation τ sig (Elt F) := StableHlo.after hostOps0_14 (HS13 W)

/-- `main_v37` after stretch 14. -/
theorem HS14_main_v37 (W : Valuation τ sig (Elt F)) : HS14 W (no_index (Proc.devRef .tc main_v37)) = (rv37 (W (Proc.devRef .tc main_arg1))) := by
  unfold HS14
  after_reads_simp
  exact HS13_main_v37 W

/-- `main_v52` after stretch 14. -/
theorem HS14_main_v52 (W : Valuation τ sig (Elt F)) : HS14 W (no_index (Proc.devRef .tc main_v52)) = (rv52 (W (Proc.devRef .tc main_arg1))) := by
  unfold HS14
  after_reads_simp
  exact HS13_main_v52 W

/-- `main_v61` after stretch 14. -/
theorem HS14_main_v61 (W : Valuation τ sig (Elt F)) : HS14 W (no_index (Proc.devRef .tc main_v61)) = (rv61 (W (Proc.devRef .tc main_arg1))) := by
  unfold HS14
  after_reads_simp
  try simp only [StableHlo.TRef.toBuf, StableHlo.TRef.ofBuf, cast_eq]
  simp only [HS13_main_v53, HS13_main_v59] <;> rfl

/-- `main_v62` after stretch 14. -/
theorem HS14_main_v62 (W : Valuation τ sig (Elt F)) : HS14 W (no_index (Proc.devRef .tc main_v62)) = (broadcastInDim S1024x1 ![0] bcast_S1024_S1024x1_0 (rv7 (W (Proc.devRef .tc main_arg1)))) := by
  unfold HS14
  after_reads_simp
  try simp only [StableHlo.TRef.toBuf, StableHlo.TRef.ofBuf, cast_eq]
  simp only [HS13_main_v7] <;> rfl

/-- `main_v73` after stretch 14. -/
theorem HS14_main_v73 (W : Valuation τ sig (Elt F)) : HS14 W (no_index (Proc.devRef .tc main_v73)) = (rv73 (W (Proc.devRef .tc main_arg1))) := by
  unfold HS14
  after_reads_simp
  try simp only [StableHlo.TRef.toBuf, StableHlo.TRef.ofBuf, cast_eq]
  simp only [HS13_main_v26, HS13_main_v28] <;> rfl

/-- `main_c_18` after stretch 14. -/
theorem HS14_main_c_18 (W : Valuation τ sig (Elt F)) : HS14 W (no_index (Proc.devRef .tc main_c_18)) = ((constantI S_ 32 7#32)) := by
  unfold HS14
  after_reads_simp
  try rfl

/-- `main_arg1` after stretch 14. -/
theorem HS14_main_arg1 (W : Valuation τ sig (Elt F)) : HS14 W (no_index (Proc.devRef .tc main_arg1)) = W (Proc.devRef .tc main_arg1) := by
  unfold HS14
  after_reads_simp
  exact HS13_main_arg1 W

/-- The contents after the first 16 stretches of the host's operations. -/
def HS15 (W : Valuation τ sig (Elt F)) : Valuation τ sig (Elt F) := StableHlo.after hostOps0_15 (HS14 W)

/-- `main_v37` after stretch 15. -/
theorem HS15_main_v37 (W : Valuation τ sig (Elt F)) : HS15 W (no_index (Proc.devRef .tc main_v37)) = (rv37 (W (Proc.devRef .tc main_arg1))) := by
  unfold HS15
  after_reads_simp
  exact HS14_main_v37 W

/-- `main_v52` after stretch 15. -/
theorem HS15_main_v52 (W : Valuation τ sig (Elt F)) : HS15 W (no_index (Proc.devRef .tc main_v52)) = (rv52 (W (Proc.devRef .tc main_arg1))) := by
  unfold HS15
  after_reads_simp
  exact HS14_main_v52 W

/-- `main_v61` after stretch 15. -/
theorem HS15_main_v61 (W : Valuation τ sig (Elt F)) : HS15 W (no_index (Proc.devRef .tc main_v61)) = (rv61 (W (Proc.devRef .tc main_arg1))) := by
  unfold HS15
  after_reads_simp
  exact HS14_main_v61 W

/-- `main_v62` after stretch 15. -/
theorem HS15_main_v62 (W : Valuation τ sig (Elt F)) : HS15 W (no_index (Proc.devRef .tc main_v62)) = (broadcastInDim S1024x1 ![0] bcast_S1024_S1024x1_0 (rv7 (W (Proc.devRef .tc main_arg1)))) := by
  unfold HS15
  after_reads_simp
  exact HS14_main_v62 W

/-- `main_v74` after stretch 15. -/
theorem HS15_main_v74 (W : Valuation τ sig (Elt F)) : HS15 W (no_index (Proc.devRef .tc main_v74)) = (rv74 (W (Proc.devRef .tc main_arg1))) := by
  unfold HS15
  after_reads_simp
  try simp only [StableHlo.TRef.toBuf, StableHlo.TRef.ofBuf, cast_eq]
  simp only [HS14_main_c_18, HS14_main_v73] <;> rfl

/-- `main_arg1` after stretch 15. -/
theorem HS15_main_arg1 (W : Valuation τ sig (Elt F)) : HS15 W (no_index (Proc.devRef .tc main_arg1)) = W (Proc.devRef .tc main_arg1) := by
  unfold HS15
  after_reads_simp
  exact HS14_main_arg1 W

/-- The contents after the first 17 stretches of the host's operations. -/
def HS16 (W : Valuation τ sig (Elt F)) : Valuation τ sig (Elt F) := StableHlo.after hostOps0_16 (HS15 W)

/-- `main_v110` after stretch 16. -/
theorem HS16_main_v110 (W : Valuation τ sig (Elt F)) : HS16 W (no_index (Proc.devRef .tc main_v110)) = (rv110 (W (Proc.devRef .tc main_arg1))) := by
  unfold HS16
  have h0 : StableHlo.upto hostOps0_16 (HS15 W) 38 (Proc.devRef .tc main_v105) = broadcastInDim S1024x7x7x1 ![0, 1, 2] bcast_S1024x7x7_S1024x7x7x1_0_1_2 (rv83 (W (Proc.devRef .tc main_arg1))) := by
    after_reads_simp
    simp only [HS15_main_v37, HS15_main_v52, HS15_main_v61, HS15_main_v62, HS15_main_v74]
    rfl
  have h1 : StableHlo.upto hostOps0_16 (HS15 W) 38 (Proc.devRef .tc main_v106) = broadcastInDim S1024x7x7x1 ![0, 1, 2] bcast_S1024x7x7_S1024x7x7x1_0_1_2 (rv90 (W (Proc.devRef .tc main_arg1))) := by
    after_reads_simp
    simp only [HS15_main_v37, HS15_main_v52, HS15_main_v61, HS15_main_v62, HS15_main_v74]
    rfl
  have h2 : StableHlo.upto hostOps0_16 (HS15 W) 38 (Proc.devRef .tc main_v107) = broadcastInDim S1024x7x7x1 ![0, 1, 2] bcast_S1024x7x7_S1024x7x7x1_0_1_2 (rv97 (W (Proc.devRef .tc main_arg1))) := by
    after_reads_simp
    simp only [HS15_main_v37, HS15_main_v52, HS15_main_v61, HS15_main_v62, HS15_main_v74]
    rfl
  have h3 : StableHlo.upto hostOps0_16 (HS15 W) 38 (Proc.devRef .tc main_v108) = broadcastInDim S1024x7x7x1 ![0, 1, 2] bcast_S1024x7x7_S1024x7x7x1_0_1_2 (rv104 (W (Proc.devRef .tc main_arg1))) := by
    after_reads_simp
    simp only [HS15_main_v37, HS15_main_v52, HS15_main_v61, HS15_main_v62, HS15_main_v74]
    rfl
  after_reads_simp
  show shapeCast S1024x1x196 (concatenate S1024x7x7x4 3 [⟨S1024x7x7x1, StableHlo.upto hostOps0_16 (HS15 W) 38 (Proc.devRef .tc main_v105)⟩, ⟨S1024x7x7x1, StableHlo.upto hostOps0_16 (HS15 W) 38 (Proc.devRef .tc main_v106)⟩, ⟨S1024x7x7x1, StableHlo.upto hostOps0_16 (HS15 W) 38 (Proc.devRef .tc main_v107)⟩, ⟨S1024x7x7x1, StableHlo.upto hostOps0_16 (HS15 W) 38 (Proc.devRef .tc main_v108)⟩] concatenates_S1024x7x7x1_S1024x7x7x1_S1024x7x7x1_S1024x7x7x1_S1024x7x7x4_d3) _ = _
  rw [h0, h1, h2, h3]
  rfl

/-- `main_v118` after stretch 16. -/
theorem HS16_main_v118 (W : Valuation τ sig (Elt F)) : HS16 W (no_index (Proc.devRef .tc main_v118)) = (rv118 (W (Proc.devRef .tc main_arg1))) := by
  unfold HS16
  after_reads_simp
  try simp only [StableHlo.TRef.toBuf, StableHlo.TRef.ofBuf, cast_eq]
  simp only [HS15_main_v37, HS15_main_v52, HS15_main_v61, HS15_main_v62, HS15_main_v74] <;> rfl

/-- `main_arg1` after stretch 16. -/
theorem HS16_main_arg1 (W : Valuation τ sig (Elt F)) : HS16 W (no_index (Proc.devRef .tc main_arg1)) = W (Proc.devRef .tc main_arg1) := by
  unfold HS16
  after_reads_simp
  exact HS15_main_arg1 W

end Cert.KernelIdeal.Hand

end
-- ==== Proof.IdealOffsets.lean ====
/- The box and row loops' offsets in closed form, for the box and row loops of the kernel: each row trip reads its 28 index words from SMEM, gathers the 28 table rows they name
   and stores seven bins. The invariants say, element by element, what the output block holds. -/
module

public import proofs.«01_k».proof.Proof.Gen.KernelIdeal.Frame
public import proofs.«01_k».proof.Proof.Gen.KernelIdeal.Loops
public import Idealize.ShloMosaic.Lib.Writes
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

abbrev 𝒱₀ : Variants := Variants.none

/-! ## The offsets in closed form -/

/-- Where the index word of column 0, corner 0, is read. -/
theorem off24_eq : ∀ (b : Fin k0_t2_loop.trips) (i : Fin k0_t3_loop.trips), k0_off24 b i = ![b.val, 0, 28 * i.val + 0] := by decide +kernel
/-- Where the index word of column 0, corner 1, is read. -/
theorem off26_eq : ∀ (b : Fin k0_t2_loop.trips) (i : Fin k0_t3_loop.trips), k0_off26 b i = ![b.val, 0, 28 * i.val + 1] := by decide +kernel
/-- Where the index word of column 0, corner 2, is read. -/
theorem off28_eq : ∀ (b : Fin k0_t2_loop.trips) (i : Fin k0_t3_loop.trips), k0_off28 b i = ![b.val, 0, 28 * i.val + 2] := by decide +kernel
/-- Where the index word of column 0, corner 3, is read. -/
theorem off30_eq : ∀ (b : Fin k0_t2_loop.trips) (i : Fin k0_t3_loop.trips), k0_off30 b i = ![b.val, 0, 28 * i.val + 3] := by decide +kernel
/-- Where the index word of column 1, corner 0, is read. -/
theorem off32_eq : ∀ (b : Fin k0_t2_loop.trips) (i : Fin k0_t3_loop.trips), k0_off32 b i = ![b.val, 0, 28 * i.val + 4] := by decide +kernel
/-- Where the index word of column 1, corner 1, is read. -/
theorem off34_eq : ∀ (b : Fin k0_t2_loop.trips) (i : Fin k0_t3_loop.trips), k0_off34 b i = ![b.val, 0, 28 * i.val + 5] := by decide +kernel
/-- Where the index word of column 1, corner 2, is read. -/
theorem off36_eq : ∀ (b : Fin k0_t2_loop.trips) (i : Fin k0_t3_loop.trips), k0_off36 b i = ![b.val, 0, 28 * i.val + 6] := by decide +kernel
/-- Where the index word of column 1, corner 3, is read. -/
theorem off38_eq : ∀ (b : Fin k0_t2_loop.trips) (i : Fin k0_t3_loop.trips), k0_off38 b i = ![b.val, 0, 28 * i.val + 7] := by decide +kernel
/-- Where the index word of column 2, corner 0, is read. -/
theorem off40_eq : ∀ (b : Fin k0_t2_loop.trips) (i : Fin k0_t3_loop.trips), k0_off40 b i = ![b.val, 0, 28 * i.val + 8] := by decide +kernel
/-- Where the index word of column 2, corner 1, is read. -/
theorem off42_eq : ∀ (b : Fin k0_t2_loop.trips) (i : Fin k0_t3_loop.trips), k0_off42 b i = ![b.val, 0, 28 * i.val + 9] := by decide +kernel
/-- Where the index word of column 2, corner 2, is read. -/
theorem off44_eq : ∀ (b : Fin k0_t2_loop.trips) (i : Fin k0_t3_loop.trips), k0_off44 b i = ![b.val, 0, 28 * i.val + 10] := by decide +kernel
/-- Where the index word of column 2, corner 3, is read. -/
theorem off46_eq : ∀ (b : Fin k0_t2_loop.trips) (i : Fin k0_t3_loop.trips), k0_off46 b i = ![b.val, 0, 28 * i.val + 11] := by decide +kernel
/-- Where the index word of column 3, corner 0, is read. -/
theorem off48_eq : ∀ (b : Fin k0_t2_loop.trips) (i : Fin k0_t3_loop.trips), k0_off48 b i = ![b.val, 0, 28 * i.val + 12] := by decide +kernel
/-- Where the index word of column 3, corner 1, is read. -/
theorem off50_eq : ∀ (b : Fin k0_t2_loop.trips) (i : Fin k0_t3_loop.trips), k0_off50 b i = ![b.val, 0, 28 * i.val + 13] := by decide +kernel
/-- Where the index word of column 3, corner 2, is read. -/
theorem off52_eq : ∀ (b : Fin k0_t2_loop.trips) (i : Fin k0_t3_loop.trips), k0_off52 b i = ![b.val, 0, 28 * i.val + 14] := by decide +kernel
/-- Where the index word of column 3, corner 3, is read. -/
theorem off54_eq : ∀ (b : Fin k0_t2_loop.trips) (i : Fin k0_t3_loop.trips), k0_off54 b i = ![b.val, 0, 28 * i.val + 15] := by decide +kernel
/-- Where the index word of column 4, corner 0, is read. -/
theorem off56_eq : ∀ (b : Fin k0_t2_loop.trips) (i : Fin k0_t3_loop.trips), k0_off56 b i = ![b.val, 0, 28 * i.val + 16] := by decide +kernel
/-- Where the index word of column 4, corner 1, is read. -/
theorem off58_eq : ∀ (b : Fin k0_t2_loop.trips) (i : Fin k0_t3_loop.trips), k0_off58 b i = ![b.val, 0, 28 * i.val + 17] := by decide +kernel
/-- Where the index word of column 4, corner 2, is read. -/
theorem off60_eq : ∀ (b : Fin k0_t2_loop.trips) (i : Fin k0_t3_loop.trips), k0_off60 b i = ![b.val, 0, 28 * i.val + 18] := by decide +kernel
/-- Where the index word of column 4, corner 3, is read. -/
theorem off62_eq : ∀ (b : Fin k0_t2_loop.trips) (i : Fin k0_t3_loop.trips), k0_off62 b i = ![b.val, 0, 28 * i.val + 19] := by decide +kernel
/-- Where the index word of column 5, corner 0, is read. -/
theorem off64_eq : ∀ (b : Fin k0_t2_loop.trips) (i : Fin k0_t3_loop.trips), k0_off64 b i = ![b.val, 0, 28 * i.val + 20] := by decide +kernel
/-- Where the index word of column 5, corner 1, is read. -/
theorem off66_eq : ∀ (b : Fin k0_t2_loop.trips) (i : Fin k0_t3_loop.trips), k0_off66 b i = ![b.val, 0, 28 * i.val + 21] := by decide +kernel
/-- Where the index word of column 5, corner 2, is read. -/
theorem off68_eq : ∀ (b : Fin k0_t2_loop.trips) (i : Fin k0_t3_loop.trips), k0_off68 b i = ![b.val, 0, 28 * i.val + 22] := by decide +kernel
/-- Where the index word of column 5, corner 3, is read. -/
theorem off70_eq : ∀ (b : Fin k0_t2_loop.trips) (i : Fin k0_t3_loop.trips), k0_off70 b i = ![b.val, 0, 28 * i.val + 23] := by decide +kernel
/-- Where the index word of column 6, corner 0, is read. -/
theorem off72_eq : ∀ (b : Fin k0_t2_loop.trips) (i : Fin k0_t3_loop.trips), k0_off72 b i = ![b.val, 0, 28 * i.val + 24] := by decide +kernel
/-- Where the index word of column 6, corner 1, is read. -/
theorem off74_eq : ∀ (b : Fin k0_t2_loop.trips) (i : Fin k0_t3_loop.trips), k0_off74 b i = ![b.val, 0, 28 * i.val + 25] := by decide +kernel
/-- Where the index word of column 6, corner 2, is read. -/
theorem off76_eq : ∀ (b : Fin k0_t2_loop.trips) (i : Fin k0_t3_loop.trips), k0_off76 b i = ![b.val, 0, 28 * i.val + 26] := by decide +kernel
/-- Where the index word of column 6, corner 3, is read. -/
theorem off78_eq : ∀ (b : Fin k0_t2_loop.trips) (i : Fin k0_t3_loop.trips), k0_off78 b i = ![b.val, 0, 28 * i.val + 27] := by decide +kernel
/-- Where the bins of column 0 are stored. -/
theorem off80_eq : ∀ (b : Fin k0_t2_loop.trips) (i : Fin k0_t3_loop.trips), k0_off80 b i = ![b.val, i.val, 0, 0] := by decide +kernel
/-- Where the bins of column 1 are stored. -/
theorem off81_eq : ∀ (b : Fin k0_t2_loop.trips) (i : Fin k0_t3_loop.trips), k0_off81 b i = ![b.val, i.val, 1, 0] := by decide +kernel
/-- Where the bins of column 2 are stored. -/
theorem off82_eq : ∀ (b : Fin k0_t2_loop.trips) (i : Fin k0_t3_loop.trips), k0_off82 b i = ![b.val, i.val, 2, 0] := by decide +kernel
/-- Where the bins of column 3 are stored. -/
theorem off83_eq : ∀ (b : Fin k0_t2_loop.trips) (i : Fin k0_t3_loop.trips), k0_off83 b i = ![b.val, i.val, 3, 0] := by decide +kernel
/-- Where the bins of column 4 are stored. -/
theorem off84_eq : ∀ (b : Fin k0_t2_loop.trips) (i : Fin k0_t3_loop.trips), k0_off84 b i = ![b.val, i.val, 4, 0] := by decide +kernel
/-- Where the bins of column 5 are stored. -/
theorem off85_eq : ∀ (b : Fin k0_t2_loop.trips) (i : Fin k0_t3_loop.trips), k0_off85 b i = ![b.val, i.val, 5, 0] := by decide +kernel
/-- Where the bins of column 6 are stored. -/
theorem off86_eq : ∀ (b : Fin k0_t2_loop.trips) (i : Fin k0_t3_loop.trips), k0_off86 b i = ![b.val, i.val, 6, 0] := by decide +kernel

end Cert.KernelIdeal.Hand

end
-- ==== Proof.IdealBins.lean ====
/- The box and row loops of the kernel: each row trip reads its 28 index words from SMEM, gathers the 28 table rows they name
   and stores seven bins. The invariants say, element by element, what the output block holds. -/
module

public import proofs.«01_k».proof.Proof.Gen.KernelIdeal.Frame
public import proofs.«01_k».proof.Proof.Gen.KernelIdeal.Loops
public import proofs.«01_k».proof.Proof.IdealOffsets
public import Idealize.ShloMosaic.Lib.Writes
public import Idealize.ShloMosaic.Lib.Pipeline.Frame
public import Idealize.ShloMosaic.Lib.Tactic
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-- A word at most 40400 names a table row: the side condition the body assumes of each word it reads. -/
theorem chk_of (v : BitVec 32) (h : v.toNat ≤ 40400) : k0_chk1 v := by
  intro a
  fin_cases a
  · show v.toNat + 1 ≤ 40401; omega
  · show 0 + 1 ≤ 1; omega
  · show 0 + 256 ≤ 256; omega

section Trip

variable (c : Dev nD) (i : grid0.Coords) (arg1 : Memref sig .tc .smem S64x1x196 .i32) (harg1 : arg1.IsWhole)
  (arg3 : Memref sig .tc .vmem S64x7x7x256 .f32) (harg3 : arg3.IsWhole)

abbrev fmM : Memref sig .tc .hbm S1x256x200x200 .f32 := Memref.whole main_arg0
abbrev tabM : Memref sig .tc .vmem S40401x1x256 .f32 := Memref.whole cc0_scratch0
abbrev accM : Memref sig .tc .vmem S201x256 .f32 := Memref.whole cc0_scratch1
abbrev triA : Memref sig .tc .vmem S129x128 .f32 := Memref.whole cc0_scratch2
abbrev triB : Memref sig .tc .vmem S73x72 .f32 := Memref.whole cc0_scratch3
abbrev bufM : Memref sig .tc .vmem S2x256x8x200 .f32 := Memref.whole cc0_scratch4

abbrev idxP (g : Buf (Elt F) (arg1.view.loc (c : Thread nD τ))) : sProp 𝕄 := arg1.view.loc (c : Thread nD τ) ↦[arg1.view.set]{fullShare} g
abbrev outP (f : Buf (Elt F) (arg3.view.loc (c : Thread nD τ))) : sProp 𝕄 := arg3.view.loc (c : Thread nD τ) ↦[arg3.view.set]{fullShare} f
abbrev tabP (T : Buf (Elt F) (tabM.view.loc (c : Thread nD τ))) : sProp 𝕄 := tabM.view.loc (c : Thread nD τ) ↦[tabM.view.set]{fullShare} T

abbrev rowTrip (b : Fin k0_t2_loop.trips) (arg10 : BitVec 32) (r : Fin k0_t3_loop.trips) : Prog (TpuEff nD τ sig (Elt F) Λ₀ .tc) Unit :=
  k0_t3_body (F := F) i arg1 harg1 fmM (Memref.isWhole_whole _) arg3 harg3 tabM (Memref.isWhole_whole _) accM (Memref.isWhole_whole _)
    triA (Memref.isWhole_whole _) triB (Memref.isWhole_whole _) bufM (Memref.isWhole_whole _) cc0_scratch5 b arg10 r ()

/-- The word of the index block holding corner `q` of the bin `(y 1, y 2)` of box `y 0`. -/
def wordAt (g : S64x1x196.Idx → BitVec 32) (y : S64x7x7x256.Idx) (q : Fin 4) : BitVec 32 :=
  g (fun | 0 => y 0 | 1 => (0 : Fin 1) | 2 => (⟨28 * (y 1).val + 4 * (y 2).val + q.val, by
    have h1 : (y 1).val < 7 := (y 1).isLt
    have h2 : (y 2).val < 7 := (y 2).isLt
    have := q.isLt; show _ < 196; omega⟩ : Fin 196))

/-- The table's entry in the row a word names. -/
def tabAt (T : S40401x1x256.Idx → F .f32) (w : BitVec 32) (ch : Fin 256) : F .f32 :=
  T (fun | 0 => (⟨w.toNat % 40401, Nat.mod_lt _ (by decide)⟩ : Fin 40401) | 1 => (0 : Fin 1) | 2 => ch)

/-- The four corner entries of a bin, combined. -/
def outAt (g : S64x1x196.Idx → BitVec 32) (T : S40401x1x256.Idx → F .f32) (y : S64x7x7x256.Idx) : F .f32 :=
  FloatOps.addf (FloatOps.subf (FloatOps.subf (tabAt T (wordAt g y 0) (y 3)) (tabAt T (wordAt g y 1) (y 3)))
    (tabAt T (wordAt g y 2) (y 3))) (tabAt T (wordAt g y 3) (y 3))

/-- Every word the index block holds names a table row. -/
def WordsOK (g : Buf (Elt F) (arg1.view.loc (c : Thread nD τ))) : Prop := ∀ y : S64x1x196.Idx, (arg1.view.read (Elt F) g y).toNat ≤ 40400

/-- A row of the table looked up by a word read from the index block, laid out flat. -/
theorem look_eq (y : S64x7x7x256.Idx) (q : Fin 4) (T) (g) (hg : WordsOK c arg1 g) {n : ℕ}
    (off1 : Fin 3 → ℕ) (inb1 : ∀ a, off1 a + S1x1x1.size a ≤ S64x1x196.size a) (h1 : off1 = ![(y 0).val, 0, 28 * (y 1).val + n])
    (hn : n = 4 * (y 2).val + q.val) (z : S1x1x1.Idx)
    (off : Fin 3 → ℕ) (inb : ∀ a, off a + S1x1x256.size a ≤ S40401x1x256.size a)
    (h : off = ![(arg1.view.readAt (Elt F) (Rect.unit (s := S64x1x196) off1 S1x1x1.size inb1).toLoadRect g z).toNat, 0, 0]) (ch : S256.Idx) :
    shapeCast S256 (tabM.view.readAt (Elt F) (Rect.unit (s := S40401x1x256) off S1x1x256.size inb).toLoadRect T) shapeCasts_S1x1x256_S256 ch
      = tabAt (tabM.view.read (Elt F) T) (wordAt (arg1.view.read (Elt F) g) y q) (ch 0) := by
  have hw : arg1.view.readAt (Elt F) (Rect.unit (s := S64x1x196) off1 S1x1x1.size inb1).toLoadRect g z = wordAt (arg1.view.read (Elt F) g) y q := by
    rw [View.readAt_apply]
    unfold wordAt
    refine congrArg (arg1.view.read (Elt F) g) (funext fun a => Fin.ext ?_)
    have hz : (z a).val = 0 := by
      have := (z a).isLt
      have e : S1x1x1.size a = 1 := by fin_cases a <;> rfl
      omega
    subst h1
    fin_cases a
    · show (y 0).val + 1 * (z 0).val = (y 0).val
      have : (z 0).val = 0 := hz
      omega
    · show 0 + 1 * (z 1).val = 0
      have : (z 1).val = 0 := hz
      omega
    · show 28 * (y 1).val + n + 1 * (z 2).val = 28 * (y 1).val + 4 * (y 2).val + q.val
      have : (z 2).val = 0 := hz
      omega
  rw [hw] at h
  have hb : (wordAt (arg1.view.read (Elt F) g) y q).toNat ≤ 40400 := hg _
  have hch : (ch 0).val < 256 := (ch 0).isLt
  rw [shapeCast_apply (s := S1x1x256) (t := S256) _ _ ch (fun | 0 => (0 : Fin 1) | 1 => (0 : Fin 1) | 2 => (⟨(ch 0).val, hch⟩ : Fin 256))
    (by
      rw [Shape.rowMajor_val_three, Shape.rowMajor_val_one]
      show (0 * 1 + 0) * 256 + (ch 0).val = (ch 0).val
      omega)]
  rw [View.readAt_apply]
  unfold tabAt
  refine congrArg (tabM.view.read (Elt F) T) (funext fun a => Fin.ext ?_)
  subst h
  fin_cases a
  · show (wordAt (arg1.view.read (Elt F) g) y q).toNat + 1 * 0 = (wordAt (arg1.view.read (Elt F) g) y q).toNat % 40401
    omega
  · show 0 + 1 * 0 = 0
    rfl
  · show 0 + 1 * (ch 0).val = (ch 0).val
    omega

/-- The four rows of a bin combined and laid out as a stored block, at the place the store puts it. -/
theorem bin_piece (b : Fin k0_t2_loop.trips) (r : Fin k0_t3_loop.trips) (j : ℕ) (g : S64x1x196.Idx → BitVec 32) (T : S40401x1x256.Idx → F .f32)
    (off : Fin 4 → ℕ) (inb : ∀ a, off a + S1x1x1x256.size a ≤ S64x7x7x256.size a) (hoff : off = ![b.val, r.val, j, 0])
    (A B C D : FVec F S256 .f32)
    (hA : ∀ y : S64x7x7x256.Idx, (y 0).val = b.val → (y 1).val = r.val → (y 2).val = j → ∀ ch, A ch = tabAt T (wordAt g y 0) (ch 0))
    (hB : ∀ y : S64x7x7x256.Idx, (y 0).val = b.val → (y 1).val = r.val → (y 2).val = j → ∀ ch, B ch = tabAt T (wordAt g y 1) (ch 0))
    (hC : ∀ y : S64x7x7x256.Idx, (y 0).val = b.val → (y 1).val = r.val → (y 2).val = j → ∀ ch, C ch = tabAt T (wordAt g y 2) (ch 0))
    (hD : ∀ y : S64x7x7x256.Idx, (y 0).val = b.val → (y 1).val = r.val → (y 2).val = j → ∀ ch, D ch = tabAt T (wordAt g y 3) (ch 0))
    (x : S1x1x1x256.Idx) :
    shapeCast S1x1x1x256 (addf (subf (subf A B) C) D) shapeCasts_S256_S1x1x1x256 x
      = outAt g T ((Rect.unit (s := S64x7x7x256) off S1x1x1x256.size inb).emb x) := by
  generalize hy : (Rect.unit (s := S64x7x7x256) off S1x1x1x256.size inb).emb x = y
  have hx0 : (x 0).val < 1 := (x 0).isLt
  have hx1 : (x 1).val < 1 := (x 1).isLt
  have hx2 : (x 2).val < 1 := (x 2).isLt
  have hx3 : (x 3).val < 256 := (x 3).isLt
  subst hoff
  have y0 : (y 0).val = b.val := by subst hy; show b.val + 1 * (x 0).val = b.val; omega
  have y1 : (y 1).val = r.val := by subst hy; show r.val + 1 * (x 1).val = r.val; omega
  have y2 : (y 2).val = j := by subst hy; show j + 1 * (x 2).val = j; omega
  have y3 : (y 3).val = (x 3).val := by subst hy; show 0 + 1 * (x 3).val = (x 3).val; omega
  rw [shapeCast_apply (s := S256) (t := S1x1x1x256) _ _ x (fun | 0 => (⟨(x 3).val, hx3⟩ : Fin 256))
    (by
      rw [Shape.rowMajor_val_one, Shape.rowMajor_val_four]
      show (x 3).val = (((x 0).val * 1 + (x 1).val) * 1 + (x 2).val) * 256 + (x 3).val
      omega)]
  show FloatOps.addf (FloatOps.subf (FloatOps.subf (A _) (B _)) (C _)) (D _) = _
  rw [hA y y0 y1 y2, hB y y0 y1 y2, hC y y0 y1 y2, hD y y0 y1 y2]
  have e : (y 3) = (⟨(x 3).val, hx3⟩ : Fin 256) := Fin.ext y3
  unfold outAt
  rw [e]

/-- A trip's seven stores, read back: the trip's row holds the bins' values, everything else is as before. -/
theorem row_read (b : Fin k0_t2_loop.trips) (r : Fin k0_t3_loop.trips) (g : Buf (Elt F) (arg1.view.loc (c : Thread nD τ)))
    (T : Buf (Elt F) (tabM.view.loc (c : Thread nD τ))) (f : Buf (Elt F) (arg3.view.loc (c : Thread nD τ)))
    (w6 w5 w4 w3 w2 w1 w0 : FVec F S1x1x1x256 .f32)
    (h6 : ∀ x, w6 x = outAt (arg1.view.read (Elt F) g) (tabM.view.read (Elt F) T) ((Rect.unit (s := S64x7x7x256) (k0_off86 b r) S1x1x1x256.size (k0_off86_inb b r)).emb x))
    (h5 : ∀ x, w5 x = outAt (arg1.view.read (Elt F) g) (tabM.view.read (Elt F) T) ((Rect.unit (s := S64x7x7x256) (k0_off85 b r) S1x1x1x256.size (k0_off85_inb b r)).emb x))
    (h4 : ∀ x, w4 x = outAt (arg1.view.read (Elt F) g) (tabM.view.read (Elt F) T) ((Rect.unit (s := S64x7x7x256) (k0_off84 b r) S1x1x1x256.size (k0_off84_inb b r)).emb x))
    (h3 : ∀ x, w3 x = outAt (arg1.view.read (Elt F) g) (tabM.view.read (Elt F) T) ((Rect.unit (s := S64x7x7x256) (k0_off83 b r) S1x1x1x256.size (k0_off83_inb b r)).emb x))
    (h2 : ∀ x, w2 x = outAt (arg1.view.read (Elt F) g) (tabM.view.read (Elt F) T) ((Rect.unit (s := S64x7x7x256) (k0_off82 b r) S1x1x1x256.size (k0_off82_inb b r)).emb x))
    (h1 : ∀ x, w1 x = outAt (arg1.view.read (Elt F) g) (tabM.view.read (Elt F) T) ((Rect.unit (s := S64x7x7x256) (k0_off81 b r) S1x1x1x256.size (k0_off81_inb b r)).emb x))
    (h0 : ∀ x, w0 x = outAt (arg1.view.read (Elt F) g) (tabM.view.read (Elt F) T) ((Rect.unit (s := S64x7x7x256) (k0_off80 b r) S1x1x1x256.size (k0_off80_inb b r)).emb x))
    (y : S64x7x7x256.Idx) :
    arg3.view.read (Elt F) (arg3.view.writes (Elt F) f [⟨Rect.unit (k0_off86 b r) S1x1x1x256.size (k0_off86_inb b r), w6⟩,
      ⟨Rect.unit (k0_off85 b r) S1x1x1x256.size (k0_off85_inb b r), w5⟩,
      ⟨Rect.unit (k0_off84 b r) S1x1x1x256.size (k0_off84_inb b r), w4⟩,
      ⟨Rect.unit (k0_off83 b r) S1x1x1x256.size (k0_off83_inb b r), w3⟩,
      ⟨Rect.unit (k0_off82 b r) S1x1x1x256.size (k0_off82_inb b r), w2⟩,
      ⟨Rect.unit (k0_off81 b r) S1x1x1x256.size (k0_off81_inb b r), w1⟩,
      ⟨Rect.unit (k0_off80 b r) S1x1x1x256.size (k0_off80_inb b r), w0⟩])
        y =
      if (y 0).val = b.val ∧ (y 1).val = r.val then outAt (arg1.view.read (Elt F) g) (tabM.view.read (Elt F) T) y else arg3.view.read (Elt F) f y := by
  have hy2 : (y 2).val < 7 := (y 2).isLt
  have hy3 : (y 3).val < 256 := (y 3).isLt
  split
  · next h =>
    obtain ⟨y0, y1⟩ := h
    refine View.read_writes_apply_of_pieces (Val := Elt F) (e := .f32) arg3.view f (outAt (arg1.view.read (Elt F) g) (tabM.view.read (Elt F) T)) _ ?_ y ?_
    · exact List.forall_mem_cons.mpr ⟨h6, List.forall_mem_cons.mpr ⟨h5, List.forall_mem_cons.mpr ⟨h4, List.forall_mem_cons.mpr ⟨h3,
        List.forall_mem_cons.mpr ⟨h2, List.forall_mem_cons.mpr ⟨h1, List.forall_mem_cons.mpr ⟨h0, fun _ h => absurd h List.not_mem_nil⟩⟩⟩⟩⟩⟩⟩
    · have key : ∀ (j : ℕ) (off : Fin 4 → ℕ) (inb : ∀ a, off a + S1x1x1x256.size a ≤ S64x7x7x256.size a), off = ![b.val, r.val, j, 0] →
          (y 2).val = j → y ∈ (Rect.unit (s := S64x7x7x256) off S1x1x1x256.size inb).set := by
        intro j off inb e e2
        rw [Rect.mem_set_unit]
        subst e
        intro a
        fin_cases a
        · show b.val ≤ (y 0).val ∧ (y 0).val < b.val + 1
          omega
        · show r.val ≤ (y 1).val ∧ (y 1).val < r.val + 1
          omega
        · show j ≤ (y 2).val ∧ (y 2).val < j + 1
          omega
        · show 0 ≤ (y 3).val ∧ (y 3).val < 0 + 256
          omega
      have hc : (y 2).val = 6 ∨ (y 2).val = 5 ∨ (y 2).val = 4 ∨ (y 2).val = 3 ∨ (y 2).val = 2 ∨ (y 2).val = 1 ∨ (y 2).val = 0 := by omega
      rcases hc with h | h | h | h | h | h | h
      · exact ⟨_, List.mem_cons_self, key 6 (k0_off86 b r) (k0_off86_inb b r) (off86_eq b r) h⟩
      · exact ⟨_, List.mem_cons_of_mem _ (List.mem_cons_self), key 5 (k0_off85 b r) (k0_off85_inb b r) (off85_eq b r) h⟩
      · exact ⟨_, List.mem_cons_of_mem _ (List.mem_cons_of_mem _ (List.mem_cons_self)), key 4 (k0_off84 b r) (k0_off84_inb b r) (off84_eq b r) h⟩
      · exact ⟨_, List.mem_cons_of_mem _ (List.mem_cons_of_mem _ (List.mem_cons_of_mem _ (List.mem_cons_self))), key 3 (k0_off83 b r) (k0_off83_inb b r) (off83_eq b r) h⟩
      · exact ⟨_, List.mem_cons_of_mem _ (List.mem_cons_of_mem _ (List.mem_cons_of_mem _ (List.mem_cons_of_mem _ (List.mem_cons_self)))), key 2 (k0_off82 b r) (k0_off82_inb b r) (off82_eq b r) h⟩
      · exact ⟨_, List.mem_cons_of_mem _ (List.mem_cons_of_mem _ (List.mem_cons_of_mem _ (List.mem_cons_of_mem _ (List.mem_cons_of_mem _ (List.mem_cons_self))))), key 1 (k0_off81 b r) (k0_off81_inb b r) (off81_eq b r) h⟩
      · exact ⟨_, List.mem_cons_of_mem _ (List.mem_cons_of_mem _ (List.mem_cons_of_mem _ (List.mem_cons_of_mem _ (List.mem_cons_of_mem _ (List.mem_cons_of_mem _ (List.mem_cons_self)))))), key 0 (k0_off80 b r) (k0_off80_inb b r) (off80_eq b r) h⟩
  · next h =>
    have key : ∀ (j : ℕ) (off : Fin 4 → ℕ) (inb : ∀ a, off a + S1x1x1x256.size a ≤ S64x7x7x256.size a), off = ![b.val, r.val, j, 0] →
        y ∉ (Rect.unit (s := S64x7x7x256) off S1x1x1x256.size inb).set := by
      intro j off inb e hm
      rw [Rect.mem_set_unit] at hm
      subst e
      have m0 : b.val ≤ (y 0).val ∧ (y 0).val < b.val + 1 := hm 0
      have m1 : r.val ≤ (y 1).val ∧ (y 1).val < r.val + 1 := hm 1
      exact h ⟨by omega, by omega⟩
    refine View.read_writes_apply_of_forall_not_mem _ _ y _ ?_
    exact List.forall_mem_cons.mpr ⟨key 6 (k0_off86 b r) (k0_off86_inb b r) (off86_eq b r), List.forall_mem_cons.mpr ⟨key 5 (k0_off85 b r) (k0_off85_inb b r) (off85_eq b r), List.forall_mem_cons.mpr ⟨key 4 (k0_off84 b r) (k0_off84_inb b r) (off84_eq b r), List.forall_mem_cons.mpr ⟨key 3 (k0_off83 b r) (k0_off83_inb b r) (off83_eq b r), List.forall_mem_cons.mpr ⟨key 2 (k0_off82 b r) (k0_off82_inb b r) (off82_eq b r), List.forall_mem_cons.mpr ⟨key 1 (k0_off81 b r) (k0_off81_inb b r) (off81_eq b r), List.forall_mem_cons.mpr ⟨key 0 (k0_off80 b r) (k0_off80_inb b r) (off80_eq b r), fun _ h => absurd h List.not_mem_nil⟩⟩⟩⟩⟩⟩⟩

end Trip

end Cert.KernelIdeal.Hand

end
-- ==== Proof.IdealGather.lean ====
/- The box and row loops of the kernel: each row trip reads its 28 index words from SMEM, gathers the 28 table rows they name
   and stores seven bins. The invariants say, element by element, what the output block holds. -/
module

public import proofs.«01_k».proof.Proof.Gen.KernelIdeal.Frame
public import proofs.«01_k».proof.Proof.Gen.KernelIdeal.Loops
public import proofs.«01_k».proof.Proof.IdealBins
public import Idealize.ShloMosaic.Lib.Writes
public import Idealize.ShloMosaic.Lib.Pipeline.Frame
public import Idealize.ShloMosaic.Lib.Tactic
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section Trip

variable (c : Dev nD) (i : grid0.Coords) (arg1 : Memref sig .tc .smem S64x1x196 .i32) (harg1 : arg1.IsWhole)
  (arg3 : Memref sig .tc .vmem S64x7x7x256 .f32) (harg3 : arg3.IsWhole)

set_option maxHeartbeats 4000000 in
/-- One row's trip: the index block and the table stay, the output block's row is stored. -/
theorem rowRun (b : Fin k0_t2_loop.trips) (arg10 : BitVec 32) (r : Fin k0_t3_loop.trips) (g) (hg : WordsOK c arg1 g) (T) (f) :
    iprop(idxP c arg1 g ∗ tabP (F := F) c T ∗ outP c arg3 f)
      ⊢ wp frame (wpE (defs₀ (F := F)) 𝒱₀ (c : Thread nD τ) none) Set.univ (rowTrip i arg1 harg1 arg3 harg3 b arg10 r)
        (fun _ => iprop(idxP c arg1 g ∗ tabP c T ∗ ∃ f', outP c arg3 f' ∗ ⌜∀ y : S64x7x7x256.Idx, arg3.view.read (Elt F) f' y = if (y 0).val = b.val ∧ (y 1).val = r.val then outAt (arg1.view.read (Elt F) g) (tabM.view.read (Elt F) T) y else arg3.view.read (Elt F) f y⌝)) := by
  have hb : ∀ (R : LoadRect S64x1x196) j, (arg1.view.readAt (Elt F) R g j).toNat ≤ 40400 := fun R j => by
    rw [View.readAt_apply]; exact hg _
  iintro ⟨Hg, HT, HO⟩
  dsimp only [rowTrip]
  sl_unfold [k0_t3_body]
  sl_exec (disch := (exact chk_of _ (hb _ _)))
  sl_step
  isplitl [Hg]; · iexact Hg
  isplitl [HT]; · iexact HT
  iexists _
  isplitl [HO]; · iexact HO
  ipureintro
  exact row_read c arg1 arg3 b r g T f _ _ _ _ _ _ _
    (fun x => bin_piece (F := F) b r 6 _ _ _ _ (off86_eq b r) _ _ _ _
      (fun y y0 y1 y2 => look_eq c arg1 y 0 T g hg (n := 24) (k0_off72 b r) (k0_off72_inb b r) (by rw [off72_eq, y0, y1]) (by rw [y2]; rfl) _ _ _ rfl)
      (fun y y0 y1 y2 => look_eq c arg1 y 1 T g hg (n := 25) (k0_off74 b r) (k0_off74_inb b r) (by rw [off74_eq, y0, y1]) (by rw [y2]; rfl) _ _ _ rfl)
      (fun y y0 y1 y2 => look_eq c arg1 y 2 T g hg (n := 26) (k0_off76 b r) (k0_off76_inb b r) (by rw [off76_eq, y0, y1]) (by rw [y2]; rfl) _ _ _ rfl)
      (fun y y0 y1 y2 => look_eq c arg1 y 3 T g hg (n := 27) (k0_off78 b r) (k0_off78_inb b r) (by rw [off78_eq, y0, y1]) (by rw [y2]; rfl) _ _ _ rfl) x)
    (fun x => bin_piece (F := F) b r 5 _ _ _ _ (off85_eq b r) _ _ _ _
      (fun y y0 y1 y2 => look_eq c arg1 y 0 T g hg (n := 20) (k0_off64 b r) (k0_off64_inb b r) (by rw [off64_eq, y0, y1]) (by rw [y2]; rfl) _ _ _ rfl)
      (fun y y0 y1 y2 => look_eq c arg1 y 1 T g hg (n := 21) (k0_off66 b r) (k0_off66_inb b r) (by rw [off66_eq, y0, y1]) (by rw [y2]; rfl) _ _ _ rfl)
      (fun y y0 y1 y2 => look_eq c arg1 y 2 T g hg (n := 22) (k0_off68 b r) (k0_off68_inb b r) (by rw [off68_eq, y0, y1]) (by rw [y2]; rfl) _ _ _ rfl)
      (fun y y0 y1 y2 => look_eq c arg1 y 3 T g hg (n := 23) (k0_off70 b r) (k0_off70_inb b r) (by rw [off70_eq, y0, y1]) (by rw [y2]; rfl) _ _ _ rfl) x)
    (fun x => bin_piece (F := F) b r 4 _ _ _ _ (off84_eq b r) _ _ _ _
      (fun y y0 y1 y2 => look_eq c arg1 y 0 T g hg (n := 16) (k0_off56 b r) (k0_off56_inb b r) (by rw [off56_eq, y0, y1]) (by rw [y2]; rfl) _ _ _ rfl)
      (fun y y0 y1 y2 => look_eq c arg1 y 1 T g hg (n := 17) (k0_off58 b r) (k0_off58_inb b r) (by rw [off58_eq, y0, y1]) (by rw [y2]; rfl) _ _ _ rfl)
      (fun y y0 y1 y2 => look_eq c arg1 y 2 T g hg (n := 18) (k0_off60 b r) (k0_off60_inb b r) (by rw [off60_eq, y0, y1]) (by rw [y2]; rfl) _ _ _ rfl)
      (fun y y0 y1 y2 => look_eq c arg1 y 3 T g hg (n := 19) (k0_off62 b r) (k0_off62_inb b r) (by rw [off62_eq, y0, y1]) (by rw [y2]; rfl) _ _ _ rfl) x)
    (fun x => bin_piece (F := F) b r 3 _ _ _ _ (off83_eq b r) _ _ _ _
      (fun y y0 y1 y2 => look_eq c arg1 y 0 T g hg (n := 12) (k0_off48 b r) (k0_off48_inb b r) (by rw [off48_eq, y0, y1]) (by rw [y2]; rfl) _ _ _ rfl)
      (fun y y0 y1 y2 => look_eq c arg1 y 1 T g hg (n := 13) (k0_off50 b r) (k0_off50_inb b r) (by rw [off50_eq, y0, y1]) (by rw [y2]; rfl) _ _ _ rfl)
      (fun y y0 y1 y2 => look_eq c arg1 y 2 T g hg (n := 14) (k0_off52 b r) (k0_off52_inb b r) (by rw [off52_eq, y0, y1]) (by rw [y2]; rfl) _ _ _ rfl)
      (fun y y0 y1 y2 => look_eq c arg1 y 3 T g hg (n := 15) (k0_off54 b r) (k0_off54_inb b r) (by rw [off54_eq, y0, y1]) (by rw [y2]; rfl) _ _ _ rfl) x)
    (fun x => bin_piece (F := F) b r 2 _ _ _ _ (off82_eq b r) _ _ _ _
      (fun y y0 y1 y2 => look_eq c arg1 y 0 T g hg (n := 8) (k0_off40 b r) (k0_off40_inb b r) (by rw [off40_eq, y0, y1]) (by rw [y2]; rfl) _ _ _ rfl)
      (fun y y0 y1 y2 => look_eq c arg1 y 1 T g hg (n := 9) (k0_off42 b r) (k0_off42_inb b r) (by rw [off42_eq, y0, y1]) (by rw [y2]; rfl) _ _ _ rfl)
      (fun y y0 y1 y2 => look_eq c arg1 y 2 T g hg (n := 10) (k0_off44 b r) (k0_off44_inb b r) (by rw [off44_eq, y0, y1]) (by rw [y2]; rfl) _ _ _ rfl)
      (fun y y0 y1 y2 => look_eq c arg1 y 3 T g hg (n := 11) (k0_off46 b r) (k0_off46_inb b r) (by rw [off46_eq, y0, y1]) (by rw [y2]; rfl) _ _ _ rfl) x)
    (fun x => bin_piece (F := F) b r 1 _ _ _ _ (off81_eq b r) _ _ _ _
      (fun y y0 y1 y2 => look_eq c arg1 y 0 T g hg (n := 4) (k0_off32 b r) (k0_off32_inb b r) (by rw [off32_eq, y0, y1]) (by rw [y2]; rfl) _ _ _ rfl)
      (fun y y0 y1 y2 => look_eq c arg1 y 1 T g hg (n := 5) (k0_off34 b r) (k0_off34_inb b r) (by rw [off34_eq, y0, y1]) (by rw [y2]; rfl) _ _ _ rfl)
      (fun y y0 y1 y2 => look_eq c arg1 y 2 T g hg (n := 6) (k0_off36 b r) (k0_off36_inb b r) (by rw [off36_eq, y0, y1]) (by rw [y2]; rfl) _ _ _ rfl)
      (fun y y0 y1 y2 => look_eq c arg1 y 3 T g hg (n := 7) (k0_off38 b r) (k0_off38_inb b r) (by rw [off38_eq, y0, y1]) (by rw [y2]; rfl) _ _ _ rfl) x)
    (fun x => bin_piece (F := F) b r 0 _ _ _ _ (off80_eq b r) _ _ _ _
      (fun y y0 y1 y2 => look_eq c arg1 y 0 T g hg (n := 0) (k0_off24 b r) (k0_off24_inb b r) (by rw [off24_eq, y0, y1]) (by rw [y2]; rfl) _ _ _ rfl)
      (fun y y0 y1 y2 => look_eq c arg1 y 1 T g hg (n := 1) (k0_off26 b r) (k0_off26_inb b r) (by rw [off26_eq, y0, y1]) (by rw [y2]; rfl) _ _ _ rfl)
      (fun y y0 y1 y2 => look_eq c arg1 y 2 T g hg (n := 2) (k0_off28 b r) (k0_off28_inb b r) (by rw [off28_eq, y0, y1]) (by rw [y2]; rfl) _ _ _ rfl)
      (fun y y0 y1 y2 => look_eq c arg1 y 3 T g hg (n := 3) (k0_off30 b r) (k0_off30_inb b r) (by rw [off30_eq, y0, y1]) (by rw [y2]; rfl) _ _ _ rfl) x)

end Trip

end Cert.KernelIdeal.Hand

end
-- ==== Proof.IdealRows.lean ====
/- The row loop and the box loop: their invariants. -/
module

public import proofs.«01_k».proof.Proof.Gen.KernelIdeal.Frame
public import proofs.«01_k».proof.Proof.Gen.KernelIdeal.Loops
public import proofs.«01_k».proof.Proof.IdealGather
public import Idealize.ShloMosaic.Lib.Writes
public import Idealize.ShloMosaic.Lib.Pipeline.Frame
public import Idealize.ShloMosaic.Lib.Tactic
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section Loops

variable (c : Dev nD) (i : grid0.Coords) (arg1 : Memref sig .tc .smem S64x1x196 .i32) (harg1 : arg1.IsWhole)
  (arg3 : Memref sig .tc .vmem S64x7x7x256 .f32) (harg3 : arg3.IsWhole)

/-- The loop over the rows of bins has seven trips. -/
theorem trips3 : k0_t3_loop.trips = 7 := by decide +kernel
/-- The loop over the boxes has sixty-four. -/
theorem trips2 : k0_t2_loop.trips = 64 := by decide +kernel

/-- The output block holds the bins' values of the boxes before `b` and of the rows of box `b` before `r`. -/
def OutAt (b r : ℕ) (g : Buf (Elt F) (arg1.view.loc (c : Thread nD τ))) (T : Buf (Elt F) (tabM.view.loc (c : Thread nD τ)))
    (f : Buf (Elt F) (arg3.view.loc (c : Thread nD τ))) : Prop :=
  ∀ y : S64x7x7x256.Idx, ((y 0).val < b ∨ (y 0).val = b ∧ (y 1).val < r) → arg3.view.read (Elt F) f y = outAt (arg1.view.read (Elt F) g) (tabM.view.read (Elt F) T) y

variable (g : Buf (Elt F) (arg1.view.loc (c : Thread nD τ))) (T : Buf (Elt F) (tabM.view.loc (c : Thread nD τ)))

/-- The row loop's resources before trip `k`. -/
abbrev rowInv (b : ℕ) (k : ℕ) : sProp 𝕄 :=
  iprop(⌜WordsOK (F := F) c arg1 g⌝ ∗ idxP c arg1 g ∗ tabP (F := F) c T
    ∗ ∃ f, outP c arg3 f ∗ ⌜OutAt c arg1 arg3 b k g T f⌝)

/-- The box loop's resources before trip `k`. -/
abbrev boxInv (k : ℕ) : sProp 𝕄 :=
  iprop(⌜WordsOK (F := F) c arg1 g⌝ ∗ idxP c arg1 g ∗ tabP (F := F) c T
    ∗ ∃ f, outP c arg3 f ∗ ⌜OutAt c arg1 arg3 k 0 g T f⌝)

/-- One row's trip keeps the row loop's invariant. -/
theorem rowInv_step (b : Fin k0_t2_loop.trips) (arg10 : BitVec 32) (r : Fin k0_t3_loop.trips) :
    rowInv c arg1 arg3 g T b.val r.val ⊢ wp frame (wpE (defs₀ (F := F)) 𝒱₀ (c : Thread nD τ) none) Set.univ (rowTrip i arg1 harg1 arg3 harg3 b arg10 r)
        (fun _ => rowInv c arg1 arg3 g T b.val (r.val + 1)) := by
  iintro ⟨%hg, Hg, HT, %f', HO, %hf'⟩
  iapply (wp_wand_r Idealize.ShloMosaic.frame (wpE (defs₀ (F := F)) 𝒱₀ (c : Thread nD τ) none) Set.univ)
  isplitl [Hg HT HO]
  · iapply (rowRun c i arg1 harg1 arg3 harg3 b arg10 r g hg T f')
    isplitl [Hg]; · iexact Hg
    isplitl [HT]; · iexact HT
    iexact HO
  · iintro %_ ⟨Hg, HT, %f'', HO, %h⟩
    isplitr; · ipureintro; exact hg
    isplitl [Hg]; · iexact Hg
    isplitl [HT]; · iexact HT
    iexists f''
    isplitl [HO]; · iexact HO
    ipureintro
    intro y hy
    rw [h y]
    by_cases hp : (y 0).val = b.val ∧ (y 1).val = r.val
    · rw [if_pos hp]
    · rw [if_neg hp]; exact hf' y (by omega)

set_option warn.classDefReducibility false in
/-- The row loop's invariant, for the run. -/
@[sl_loop] def loopInvRow (b : Fin k0_t2_loop.trips) (arg10 : BitVec 32) :
    LoopInvTy_k0_t3 (F := F) Unit ℕ (Pipeline.UD sig nD τ) ℕ 𝒱₀ c none Set.univ i arg1 harg1 fmM (Memref.isWhole_whole _) arg3 harg3 tabM (Memref.isWhole_whole _) accM (Memref.isWhole_whole _)
      triA (Memref.isWhole_whole _) triB (Memref.isWhole_whole _) bufM (Memref.isWhole_whole _) cc0_scratch5 b arg10 where
  inv k _ := rowInv c arg1 arg3 g T b.val k
  step k _ := rowInv_step c i arg1 harg1 arg3 harg3 g T b arg10 k

abbrev boxTrip (b : Fin k0_t2_loop.trips) : Prog (TpuEff nD τ sig (Elt F) Λ₀ .tc) Unit :=
  k0_t2_body (F := F) i arg1 harg1 fmM (Memref.isWhole_whole _) arg3 harg3 tabM (Memref.isWhole_whole _) accM (Memref.isWhole_whole _)
    triA (Memref.isWhole_whole _) triB (Memref.isWhole_whole _) bufM (Memref.isWhole_whole _) cc0_scratch5 b ()

set_option maxHeartbeats 1000000 in
/-- One box's trip keeps the box loop's invariant. -/
theorem boxInv_step (b : Fin k0_t2_loop.trips) :
    boxInv c arg1 arg3 g T b.val ⊢ wp frame (wpE (defs₀ (F := F)) 𝒱₀ (c : Thread nD τ) none) Set.univ (boxTrip i arg1 harg1 arg3 harg3 b)
        (fun _ => boxInv c arg1 arg3 g T (b.val + 1)) := by
  iintro ⟨%hg, Hg, HT, %f', HO, %hf'⟩
  dsimp only [boxTrip]
  sl_unfold [k0_t2_body]
  sl_exec
  sl_step
  isplitr; · ipureintro; exact hg
  isplitl [Hg]; · iexact Hg
  isplitl [HT]; · iexact HT
  iexists _
  isplitl [HO]; · iexact HO
  ipureintro
  intro y hy
  have h1 : (y 1).val < 7 := (y 1).isLt
  refine hL4 y ?_
  rw [show Scf.trips k0_t3_loop.lb k0_t3_loop.ub k0_t3_loop.st = 7 from trips3]
  omega

set_option warn.classDefReducibility false in
/-- The box loop's invariant, for the run. -/
def loopInvBox :
    LoopInvTy_k0_t2 (F := F) Unit ℕ (Pipeline.UD sig nD τ) ℕ 𝒱₀ c none Set.univ i arg1 harg1 fmM (Memref.isWhole_whole _) arg3 harg3 tabM (Memref.isWhole_whole _) accM (Memref.isWhole_whole _)
      triA (Memref.isWhole_whole _) triB (Memref.isWhole_whole _) bufM (Memref.isWhole_whole _) cc0_scratch5 where
  inv k _ := boxInv c arg1 arg3 g T k
  step k _ := boxInv_step c i arg1 harg1 arg3 harg3 g T k

end Loops

end Cert.KernelIdeal.Hand

end
-- ==== Proof.IdealRing.lean ====
/- The table loop of the kernel: its offsets, the names of its slices, and the values it builds. -/
module

public import proofs.«01_k».proof.Proof.Gen.KernelIdeal.Frame
public import proofs.«01_k».proof.Proof.Gen.KernelIdeal.Loops
public import proofs.«01_k».proof.Proof.IdealBins
public import Idealize.ShloMosaic.Lib.Ring
public import Idealize.ShloMosaic.Lib.Writes
public import Idealize.ShloMosaic.Lib.Pipeline.Frame
public import Idealize.ShloMosaic.Lib.Tactic
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-! ## Offsets -/

abbrev blkOff (b : Fin 25) : Fin 4 → Nat := ![0, 0, 8 * b.val, 0]
/-- A block lies inside the feature map. -/
theorem blkOff_inb (b : Fin 25) : ∀ a, blkOff b a + S1x256x8x200.size a ≤ S1x256x200x200.size a := by
  have := b.isLt; intro a; fin_cases a
  · show 0 + 1 ≤ 1; omega
  · show 0 + 256 ≤ 256; omega
  · show 8 * b.val + 8 ≤ 200; omega
  · show 0 + 200 ≤ 200; omega
abbrev slotOff (s : Fin 2) : Fin 4 → Nat := ![s.val, 0, 0, 0]
/-- A slot lies inside the buffer. -/
theorem slotOff_inb (s : Fin 2) : ∀ a, slotOff s a + S1x256x8x200.size a ≤ S2x256x8x200.size a := by
  have := s.isLt; intro a; fin_cases a
  · show s.val + 1 ≤ 2; omega
  · show 0 + 256 ≤ 256; omega
  · show 0 + 8 ≤ 8; omega
  · show 0 + 200 ≤ 200; omega
abbrev semOff (s : Fin 2) : Fin 1 → Nat := ![s.val]
/-- A slot's counter lies inside the counters' array. -/
theorem semOff_inb (s : Fin 2) : ∀ a, semOff s a + S1.size a ≤ S2.size a := by
  have := s.isLt; intro a; fin_cases a; show s.val + 1 ≤ 2; omega

/-- Eight-row block `b` of the feature map, as the body slices and squeezes it. -/
def blk (b : Fin 25) : Memref sig .tc .hbm S256x8x200 .f32 :=
  (fmM.slice (Rect.unit (s := S1x256x200x200) (blkOff b) S1x256x8x200.size (blkOff_inb b)) (fun _ => rfl)).squeeze S256x8x200 squeezes_S1x256x8x200_S256x8x200
/-- Slot `s` of the buffer, as the body slices and squeezes it. -/
def rslot (s : Fin 2) : Memref sig .tc .vmem S256x8x200 .f32 :=
  (bufM.slice (Rect.unit (s := S2x256x8x200) (slotOff s) S1x256x8x200.size (slotOff_inb s)) (fun _ => rfl)).squeeze S256x8x200 squeezes_S1x256x8x200_S256x8x200
/-- Slot `s`'s semaphore. -/
def csm (s : Fin 2) : DmaSems sig S_ := (cc0_scratch5.slice (Rect.unit (s := S2) (semOff s) S1.size (semOff_inb s))).squeeze S_ squeezes_S1_S_

instance (s : Fin 2) : ClosedOff (slotOff s) := ⟨slotOff s, rfl⟩
instance (b : Fin 25) : ClosedOff (blkOff b) := ⟨blkOff b, rfl⟩

/-- The counter that trip `k` waits on is its slot's. -/
theorem off1_eq : ∀ k : Fin k0_t1_loop.trips, k0_off1 k = semOff (Ring.sl 2 k.val) := by decide +kernel
/-- The slot that trip `k` waits for. -/
theorem off2_eq : ∀ k : Fin k0_t1_loop.trips, k0_off2 k = slotOff (Ring.sl 2 k.val) := by decide +kernel
/-- The block that trip `k` waits for. -/
theorem off3_eq : ∀ k : Fin k0_t1_loop.trips, k0_off3 k = blkOff (Ring.bk 25 k.val) := by decide +kernel
/-- The counter of the copy that trip `k` starts is the next slot's. -/
theorem off4_eq : ∀ k : Fin k0_t1_loop.trips, k0_off4 k = semOff (Ring.sl 2 (k.val + 1)) := by decide +kernel
/-- The slot that trip `k` copies into is the next one. -/
theorem off5_eq : ∀ k : Fin k0_t1_loop.trips, k0_off5 k = slotOff (Ring.sl 2 (k.val + 1)) := by decide +kernel
/-- The block that trip `k` copies is the next one. -/
theorem off6_eq : ∀ k : Fin k0_t1_loop.trips, k.val + 1 < 25 → k0_off6 k = blkOff (Ring.bk 25 (k.val + 1)) := by decide +kernel
/-- Where trip `k` stores table row 0 of its eight. -/
theorem off7_0 : ∀ k : Fin k0_t1_loop.trips, k0_off7 k 0#32 = ![1608 * k.val + 0, 0, 0] := by decide +kernel
instance (k : Fin k0_t1_loop.trips) : ClosedOff (k0_off7 k 0#32) := ⟨_, off7_0 k⟩
/-- Where trip `k` stores table row 1 of its eight. -/
theorem off7_1 : ∀ k : Fin k0_t1_loop.trips, k0_off7 k 201#32 = ![1608 * k.val + 201, 0, 0] := by decide +kernel
instance (k : Fin k0_t1_loop.trips) : ClosedOff (k0_off7 k 201#32) := ⟨_, off7_1 k⟩
/-- Where trip `k` stores table row 2 of its eight. -/
theorem off7_2 : ∀ k : Fin k0_t1_loop.trips, k0_off7 k 402#32 = ![1608 * k.val + 402, 0, 0] := by decide +kernel
instance (k : Fin k0_t1_loop.trips) : ClosedOff (k0_off7 k 402#32) := ⟨_, off7_2 k⟩
/-- Where trip `k` stores table row 3 of its eight. -/
theorem off7_3 : ∀ k : Fin k0_t1_loop.trips, k0_off7 k 603#32 = ![1608 * k.val + 603, 0, 0] := by decide +kernel
instance (k : Fin k0_t1_loop.trips) : ClosedOff (k0_off7 k 603#32) := ⟨_, off7_3 k⟩
/-- Where trip `k` stores table row 4 of its eight. -/
theorem off7_4 : ∀ k : Fin k0_t1_loop.trips, k0_off7 k 804#32 = ![1608 * k.val + 804, 0, 0] := by decide +kernel
instance (k : Fin k0_t1_loop.trips) : ClosedOff (k0_off7 k 804#32) := ⟨_, off7_4 k⟩
/-- Where trip `k` stores table row 5 of its eight. -/
theorem off7_5 : ∀ k : Fin k0_t1_loop.trips, k0_off7 k 1005#32 = ![1608 * k.val + 1005, 0, 0] := by decide +kernel
instance (k : Fin k0_t1_loop.trips) : ClosedOff (k0_off7 k 1005#32) := ⟨_, off7_5 k⟩
/-- Where trip `k` stores table row 6 of its eight. -/
theorem off7_6 : ∀ k : Fin k0_t1_loop.trips, k0_off7 k 1206#32 = ![1608 * k.val + 1206, 0, 0] := by decide +kernel
instance (k : Fin k0_t1_loop.trips) : ClosedOff (k0_off7 k 1206#32) := ⟨_, off7_6 k⟩
/-- Where trip `k` stores table row 7 of its eight. -/
theorem off7_7 : ∀ k : Fin k0_t1_loop.trips, k0_off7 k 1407#32 = ![1608 * k.val + 1407, 0, 0] := by decide +kernel
instance (k : Fin k0_t1_loop.trips) : ClosedOff (k0_off7 k 1407#32) := ⟨_, off7_7 k⟩
/-- Where the first part of row 0 of the trip's slot is read. -/
theorem off8_eq : ∀ k : Fin k0_t1_loop.trips, k0_off8 k = ![(Ring.sl 2 k.val).val, 0, 0, 0] := by decide +kernel
instance (k : Fin k0_t1_loop.trips) : ClosedOff (k0_off8 k) := ⟨_, off8_eq k⟩
/-- Where the second part of row 0 of the trip's slot is read. -/
theorem off9_eq : ∀ k : Fin k0_t1_loop.trips, k0_off9 k = ![(Ring.sl 2 k.val).val, 0, 0, 128] := by decide +kernel
instance (k : Fin k0_t1_loop.trips) : ClosedOff (k0_off9 k) := ⟨_, off9_eq k⟩
/-- Where the first part of row 1 of the trip's slot is read. -/
theorem off10_eq : ∀ k : Fin k0_t1_loop.trips, k0_off10 k = ![(Ring.sl 2 k.val).val, 0, 1, 0] := by decide +kernel
instance (k : Fin k0_t1_loop.trips) : ClosedOff (k0_off10 k) := ⟨_, off10_eq k⟩
/-- Where the second part of row 1 of the trip's slot is read. -/
theorem off11_eq : ∀ k : Fin k0_t1_loop.trips, k0_off11 k = ![(Ring.sl 2 k.val).val, 0, 1, 128] := by decide +kernel
instance (k : Fin k0_t1_loop.trips) : ClosedOff (k0_off11 k) := ⟨_, off11_eq k⟩
/-- Where the first part of row 2 of the trip's slot is read. -/
theorem off12_eq : ∀ k : Fin k0_t1_loop.trips, k0_off12 k = ![(Ring.sl 2 k.val).val, 0, 2, 0] := by decide +kernel
instance (k : Fin k0_t1_loop.trips) : ClosedOff (k0_off12 k) := ⟨_, off12_eq k⟩
/-- Where the second part of row 2 of the trip's slot is read. -/
theorem off13_eq : ∀ k : Fin k0_t1_loop.trips, k0_off13 k = ![(Ring.sl 2 k.val).val, 0, 2, 128] := by decide +kernel
instance (k : Fin k0_t1_loop.trips) : ClosedOff (k0_off13 k) := ⟨_, off13_eq k⟩
/-- Where the first part of row 3 of the trip's slot is read. -/
theorem off14_eq : ∀ k : Fin k0_t1_loop.trips, k0_off14 k = ![(Ring.sl 2 k.val).val, 0, 3, 0] := by decide +kernel
instance (k : Fin k0_t1_loop.trips) : ClosedOff (k0_off14 k) := ⟨_, off14_eq k⟩
/-- Where the second part of row 3 of the trip's slot is read. -/
theorem off15_eq : ∀ k : Fin k0_t1_loop.trips, k0_off15 k = ![(Ring.sl 2 k.val).val, 0, 3, 128] := by decide +kernel
instance (k : Fin k0_t1_loop.trips) : ClosedOff (k0_off15 k) := ⟨_, off15_eq k⟩
/-- Where the first part of row 4 of the trip's slot is read. -/
theorem off16_eq : ∀ k : Fin k0_t1_loop.trips, k0_off16 k = ![(Ring.sl 2 k.val).val, 0, 4, 0] := by decide +kernel
instance (k : Fin k0_t1_loop.trips) : ClosedOff (k0_off16 k) := ⟨_, off16_eq k⟩
/-- Where the second part of row 4 of the trip's slot is read. -/
theorem off17_eq : ∀ k : Fin k0_t1_loop.trips, k0_off17 k = ![(Ring.sl 2 k.val).val, 0, 4, 128] := by decide +kernel
instance (k : Fin k0_t1_loop.trips) : ClosedOff (k0_off17 k) := ⟨_, off17_eq k⟩
/-- Where the first part of row 5 of the trip's slot is read. -/
theorem off18_eq : ∀ k : Fin k0_t1_loop.trips, k0_off18 k = ![(Ring.sl 2 k.val).val, 0, 5, 0] := by decide +kernel
instance (k : Fin k0_t1_loop.trips) : ClosedOff (k0_off18 k) := ⟨_, off18_eq k⟩
/-- Where the second part of row 5 of the trip's slot is read. -/
theorem off19_eq : ∀ k : Fin k0_t1_loop.trips, k0_off19 k = ![(Ring.sl 2 k.val).val, 0, 5, 128] := by decide +kernel
instance (k : Fin k0_t1_loop.trips) : ClosedOff (k0_off19 k) := ⟨_, off19_eq k⟩
/-- Where the first part of row 6 of the trip's slot is read. -/
theorem off20_eq : ∀ k : Fin k0_t1_loop.trips, k0_off20 k = ![(Ring.sl 2 k.val).val, 0, 6, 0] := by decide +kernel
instance (k : Fin k0_t1_loop.trips) : ClosedOff (k0_off20 k) := ⟨_, off20_eq k⟩
/-- Where the second part of row 6 of the trip's slot is read. -/
theorem off21_eq : ∀ k : Fin k0_t1_loop.trips, k0_off21 k = ![(Ring.sl 2 k.val).val, 0, 6, 128] := by decide +kernel
instance (k : Fin k0_t1_loop.trips) : ClosedOff (k0_off21 k) := ⟨_, off21_eq k⟩
/-- Where the first part of row 7 of the trip's slot is read. -/
theorem off22_eq : ∀ k : Fin k0_t1_loop.trips, k0_off22 k = ![(Ring.sl 2 k.val).val, 0, 7, 0] := by decide +kernel
instance (k : Fin k0_t1_loop.trips) : ClosedOff (k0_off22 k) := ⟨_, off22_eq k⟩
/-- Where the second part of row 7 of the trip's slot is read. -/
theorem off23_eq : ∀ k : Fin k0_t1_loop.trips, k0_off23 k = ![(Ring.sl 2 k.val).val, 0, 7, 128] := by decide +kernel
instance (k : Fin k0_t1_loop.trips) : ClosedOff (k0_off23 k) := ⟨_, off23_eq k⟩
/-- A trip before the last starts a copy. -/
theorem cond2_of_lt : ∀ k : Fin k0_t1_loop.trips, k.val + 1 < 25 → k0_cond2 k = 1#1 := by decide +kernel
/-- The last trip starts none. -/
theorem cond2_of_ge : ∀ k : Fin k0_t1_loop.trips, ¬ k.val + 1 < 25 → ¬ k0_cond2 k = 1#1 := by decide +kernel

/-! ## The body's slices by their names -/

/-- A counter cut out at a slot's offset is the slot's counter. -/
theorem csm_congr {off : Fin 1 → Nat} {s : Fin 2} (e : off = semOff s) (hh) :
    (cc0_scratch5.slice (Rect.unit (s := S2) off S1.size hh)).squeeze S_ squeezes_S1_S_ = csm s :=
  congrArg (fun A : DmaSems sig S1 => A.squeeze S_ squeezes_S1_S_) (SemArray.slice_unit_congr _ e _ _)
/-- A slice at a slot's offset is the slot. -/
theorem rslot_congr {off : Fin 4 → Nat} {s : Fin 2} (e : off = slotOff s) (hh hs) :
    (bufM.slice (Rect.unit (s := S2x256x8x200) off S1x256x8x200.size hh) hs).squeeze S256x8x200 squeezes_S1x256x8x200_S256x8x200 = rslot s :=
  congrArg (fun M : Memref sig .tc .vmem S1x256x8x200 .f32 => M.squeeze S256x8x200 squeezes_S1x256x8x200_S256x8x200) (Memref.slice_unit_congr _ e _ _ _ _)
/-- A slice at a block's offset is the block. -/
theorem blk_congr {off : Fin 4 → Nat} {b : Fin 25} (e : off = blkOff b) (hh hs) :
    (fmM.slice (Rect.unit (s := S1x256x200x200) off S1x256x8x200.size hh) hs).squeeze S256x8x200 squeezes_S1x256x8x200_S256x8x200 = blk b :=
  congrArg (fun M : Memref sig .tc .hbm S1x256x8x200 .f32 => M.squeeze S256x8x200 squeezes_S1x256x8x200_S256x8x200) (Memref.slice_unit_congr _ e _ _ _ _)

/-- The counter of the copy before the loop is the first one. -/
@[sl_canon] theorem semL0 (hh) : (cc0_scratch5.slice (Rect.unit (s := S2) ![0] S1.size hh)).squeeze S_ squeezes_S1_S_ = csm 0 := csm_congr (by decide) _
@[sl_canon] theorem slotL0 (hh hs) : (bufM.slice (Rect.unit (s := S2x256x8x200) ![0, 0, 0, 0] S1x256x8x200.size hh) hs).squeeze S256x8x200 squeezes_S1x256x8x200_S256x8x200 = rslot 0 := rslot_congr (by decide) _ _
@[sl_canon] theorem blkL0 (hh hs) : (fmM.slice (Rect.unit (s := S1x256x200x200) ![0, 0, 0, 0] S1x256x8x200.size hh) hs).squeeze S256x8x200 squeezes_S1x256x8x200_S256x8x200 = blk 0 := blk_congr (by decide) _ _
@[sl_canon] theorem semW (k : Fin k0_t1_loop.trips) (hh) :
    (cc0_scratch5.slice (Rect.unit (s := S2) (k0_off1 k) S1.size hh)).squeeze S_ squeezes_S1_S_ = csm (Ring.sl 2 k.val) := csm_congr (off1_eq k) _
/-- The slot that a trip waits for, by name. -/
@[sl_canon] theorem slotW (k : Fin k0_t1_loop.trips) (hh hs) :
    (bufM.slice (Rect.unit (s := S2x256x8x200) (k0_off2 k) S1x256x8x200.size hh) hs).squeeze S256x8x200 squeezes_S1x256x8x200_S256x8x200 = rslot (Ring.sl 2 k.val) := rslot_congr (off2_eq k) _ _
/-- The block that a trip waits for, by name. -/
@[sl_canon] theorem blkW (k : Fin k0_t1_loop.trips) (hh hs) :
    (fmM.slice (Rect.unit (s := S1x256x200x200) (k0_off3 k) S1x256x8x200.size hh) hs).squeeze S256x8x200 squeezes_S1x256x8x200_S256x8x200 = blk (Ring.bk 25 k.val) := blk_congr (off3_eq k) _ _
/-- The counter of the copy that a trip starts, by name. -/
@[sl_canon] theorem semI (k : Fin k0_t1_loop.trips) (hh) :
    (cc0_scratch5.slice (Rect.unit (s := S2) (k0_off4 k) S1.size hh)).squeeze S_ squeezes_S1_S_ = csm (Ring.sl 2 (k.val + 1)) := csm_congr (off4_eq k) _
/-- The slot that it copies into, by name. -/
@[sl_canon] theorem slotI (k : Fin k0_t1_loop.trips) (hh hs) :
    (bufM.slice (Rect.unit (s := S2x256x8x200) (k0_off5 k) S1x256x8x200.size hh) hs).squeeze S256x8x200 squeezes_S1x256x8x200_S256x8x200 = rslot (Ring.sl 2 (k.val + 1)) := rslot_congr (off5_eq k) _ _
/-- The block that it copies, by name. -/
@[sl_canon] theorem blkI (k : Fin k0_t1_loop.trips) (hk : k.val + 1 < 25) (hh hs) :
    (fmM.slice (Rect.unit (s := S1x256x200x200) (k0_off6 k) S1x256x8x200.size hh) hs).squeeze S256x8x200 squeezes_S1x256x8x200_S256x8x200 = blk (Ring.bk 25 (k.val + 1)) := blk_congr (off6_eq k hk) _ _

/-! ## The values -/

/-- Row `r` of the feature map, its first 128 columns, -/
def xaOf (fm : S1x256x200x200.Idx → F .f32) (r : ℕ) : Vec F S1x256x1x128 .f32 := fun x =>
  fm (fun | 0 => (0 : Fin 1) | 1 => (x 1 : Fin 256) | 2 => (⟨r % 200, Nat.mod_lt _ (by decide)⟩ : Fin 200)
          | 3 => (⟨(x 3).val, by have : (x 3).val < 128 := (x 3).isLt; show _ < 200; omega⟩ : Fin 200))
/-- and its last 72. -/
def xbOf (fm : S1x256x200x200.Idx → F .f32) (r : ℕ) : Vec F S1x256x1x72 .f32 := fun x =>
  fm (fun | 0 => (0 : Fin 1) | 1 => (x 1 : Fin 256) | 2 => (⟨r % 200, Nat.mod_lt _ (by decide)⟩ : Fin 200)
          | 3 => (⟨128 + (x 3).val, by have : (x 3).val < 72 := (x 3).isLt; show _ < 200; omega⟩ : Fin 200))
/-- The accumulator before row `r`: the column prefix sums of the rows before it, added up. -/
def accN (fm : S1x256x200x200.Idx → F .f32) : ℕ → FVec F S201x256 .f32
  | 0 => k0_pay29
  | r + 1 => k0_pay7 (xaOf fm r) (xbOf fm r) k0_pay30 k0_pay31 (accN fm r)
/-- The table. -/
def tabOf (fm : S1x256x200x200.Idx → F .f32) : S40401x1x256.Idx → F .f32 := fun y =>
  accN fm ((y 0).val / 201) (fun | 0 => (⟨(y 0).val % 201, Nat.mod_lt _ (by decide)⟩ : Fin 201) | 1 => (y 2 : Fin 256))

/-! ## The pieces -/

section Pieces
variable (c : Dev nD) (XA : Buf (Elt F) (fmM.view.loc (c : Thread nD τ)))

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
/-- Block `b` at home: held on its elements at the feature map's contents. -/
abbrev homeP (b : Fin 25) : sProp 𝕄 := (blk b).view.loc (c : Thread nD τ) ↦[(blk b).view.set]{fullShare} XA
/-- What block `b`'s transfer leaves in slot `s`. -/
abbrev landed (s : Fin 2) (b : Fin 25) (f : Buf (Elt F) ((rslot s).view.loc (c : Thread nD τ))) : Buf (Elt F) ((rslot s).view.loc (c : Thread nD τ)) :=
  (rslot s).view.writes (Elt F) f [⟨Rect.whole S256x8x200, ReadAs.same.apply ((blk b).view.read (Elt F) XA)⟩]
/-- A block's transfer moves this many units on its cell. -/
abbrev NN : ℕ := 65536
/-- Slot `s` in flight with block `b`. -/
abbrev flightP (s : Fin 2) (b : Fin 25) (f : Buf (Elt F) ((rslot s).view.loc (c : Thread nD τ))) : sProp 𝕄 :=
  Transfers.Flight countersEmb (c : Thread nD τ) (SemLoc.dma (csm s).sem) () NN iprop(slotP c s (landed c XA s b f) ∗ homeP c XA b)
/-- The blocks at home before trip `k`: all but the `k`-th. -/
abbrev homes (k : ℕ) : sProp 𝕄 := bigSep (Finset.univ.filter fun b : Fin 25 => b.val ≠ k) (homeP c XA)
/-- The blocks at home all through trip `k`. -/
abbrev homes2 (k : ℕ) : sProp 𝕄 := bigSep (Finset.univ.filter fun b : Fin 25 => b.val ≠ k ∧ b.val ≠ k + 1) (homeP c XA)

/-- The blocks at home before a trip are the next block and the rest. -/
theorem homes_here (k : ℕ) (hk : k + 1 < 25) : homes c XA k = iprop(homeP c XA (Ring.bk 25 (k + 1)) ∗ homes2 c XA k) := by
  have e : (Finset.univ.filter fun b : Fin 25 => b.val ≠ k) = insert (Ring.bk 25 (k + 1)) (Finset.univ.filter fun b : Fin 25 => b.val ≠ k ∧ b.val ≠ k + 1) := by
    ext b
    have hb : (Ring.bk 25 (k + 1)).val = k + 1 := Ring.bk_val hk
    simp only [Finset.mem_filter, Finset.mem_univ, true_and, Finset.mem_insert, Fin.ext_iff, hb]
    omega
  have hn : Ring.bk 25 (k + 1) ∉ (Finset.univ.filter fun b : Fin 25 => b.val ≠ k ∧ b.val ≠ k + 1) := by
    have hb : (Ring.bk 25 (k + 1)).val = k + 1 := Ring.bk_val hk
    simp only [Finset.mem_filter, Finset.mem_univ, true_and, hb]
    omega
  unfold homes homes2
  rw [e, bigSep_insert hn]; rfl
/-- The blocks at home after a trip are the trip's block and the same rest. -/
theorem homes_next (k : ℕ) (hk : k < 25) : homes c XA (k + 1) = iprop(homeP c XA (Ring.bk 25 k) ∗ homes2 c XA k) := by
  have hb : (Ring.bk 25 k).val = k := Ring.bk_val hk
  have e : (Finset.univ.filter fun b : Fin 25 => b.val ≠ k + 1) = insert (Ring.bk 25 k) (Finset.univ.filter fun b : Fin 25 => b.val ≠ k ∧ b.val ≠ k + 1) := by
    ext b
    simp only [Finset.mem_filter, Finset.mem_univ, true_and, Finset.mem_insert, Fin.ext_iff, hb]
    omega
  have hn : Ring.bk 25 k ∉ (Finset.univ.filter fun b : Fin 25 => b.val ≠ k ∧ b.val ≠ k + 1) := by
    simp only [Finset.mem_filter, Finset.mem_univ, true_and, hb]
    omega
  unfold homes homes2
  rw [e, bigSep_insert hn]; rfl
/-- At the last trip no next block is taken away. -/
theorem homes_last (k : ℕ) (hk : ¬ k + 1 < 25) : homes2 c XA k = homes c XA k := by
  unfold homes homes2
  congr 1
  ext b
  have := b.isLt
  simp only [Finset.mem_filter, Finset.mem_univ, true_and]
  omega

/-- Slots repeat every second trip. -/
theorem sl2_add2 (k : ℕ) : Ring.sl 2 (k + 1 + 1) = Ring.sl 2 k := by rw [show k + 1 + 1 = k + 2 from rfl, Ring.sl_add]
end Pieces

end Cert.KernelIdeal.Hand

end
-- ==== Proof.IdealVals.lean ====
/- The values one trip of the table loop reads and stores. -/
module

public import proofs.«01_k».proof.Proof.Gen.KernelIdeal.Frame
public import proofs.«01_k».proof.Proof.Gen.KernelIdeal.Loops
public import proofs.«01_k».proof.Proof.IdealRing
public import Idealize.ShloMosaic.Lib.Ring
public import Idealize.ShloMosaic.Lib.Writes
public import Idealize.ShloMosaic.Lib.Pipeline.Frame
public import Idealize.ShloMosaic.Lib.Tactic
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-! ## Reading a slot -/

section Vals
variable (c : Dev nD) (XA : Buf (Elt F) (fmM.view.loc (c : Thread nD τ)))

/-- The feature map as the program reads it. -/
abbrev fmOf : S1x256x200x200.Idx → F .f32 := fmM.view.read (Elt F) XA

/-- Block `b` read through its slice: the map's rows `8 * b` on. -/
theorem blk_read (b : Fin 25) (z : S256x8x200.Idx) :
    (blk b).view.read (Elt F) XA z = fmOf c XA (fun | 0 => (0 : Fin 1) | 1 => (z 0 : Fin 256) | 2 => (⟨8 * b.val + (z 1).val, by have := b.isLt; have : (z 1).val < 8 := (z 1).isLt; show _ < 200; omega⟩ : Fin 200) | 3 => (z 2 : Fin 200)) := by
  have h0 : (z 0).val < 256 := (z 0).isLt
  have h1 : (z 1).val < 8 := (z 1).isLt
  have h2 : (z 2).val < 200 := (z 2).isLt
  unfold blk
  rw [Memref.read_squeeze_slice fmM _ (fun _ => rfl) squeezes_S1x256x8x200_S256x8x200 squeezes_S1x256x8x200_S256x8x200.numel_eq XA]
  rw [shapeCast_apply (s := S1x256x8x200) (t := S256x8x200) _ _ z (fun | 0 => (0 : Fin 1) | 1 => (z 0 : Fin 256) | 2 => (z 1 : Fin 8) | 3 => (z 2 : Fin 200))
    (by
      rw [Shape.rowMajor_val_four, Shape.rowMajor_val_three]
      show ((0 * 256 + (z 0).val) * 8 + (z 1).val) * 200 + (z 2).val = ((z 0).val * 8 + (z 1).val) * 200 + (z 2).val
      omega)]
  rw [View.readAt_apply]
  refine congrArg (fmOf c XA) (funext fun a => Fin.ext ?_)
  fin_cases a
  · show 0 + 1 * 0 = 0; rfl
  · show 0 + 1 * (z 0).val = (z 0).val; omega
  · show 8 * b.val + 1 * (z 1).val = 8 * b.val + (z 1).val; omega
  · show 0 + 1 * (z 2).val = (z 2).val; omega

/-- The buffer read inside slot `s` is the slot read. -/
theorem rslot_read (s : Fin 2) (f : Buf (Elt F) (bufM.view.loc (c : Thread nD τ))) (z : S256x8x200.Idx) (y : S2x256x8x200.Idx)
    (h0 : (y 0).val = s.val) (h1 : (y 1).val = (z 0).val) (h2 : (y 2).val = (z 1).val) (h3 : (y 3).val = (z 2).val) :
    bufM.view.read (Elt F) f y = (rslot s).view.read (Elt F) f z := by
  unfold rslot
  rw [Memref.read_squeeze_slice bufM _ (fun _ => rfl) squeezes_S1x256x8x200_S256x8x200 squeezes_S1x256x8x200_S256x8x200.numel_eq f]
  rw [shapeCast_apply (s := S1x256x8x200) (t := S256x8x200) _ _ z (fun | 0 => (0 : Fin 1) | 1 => (z 0 : Fin 256) | 2 => (z 1 : Fin 8) | 3 => (z 2 : Fin 200))
    (by
      rw [Shape.rowMajor_val_four, Shape.rowMajor_val_three]
      show ((0 * 256 + (z 0).val) * 8 + (z 1).val) * 200 + (z 2).val = ((z 0).val * 8 + (z 1).val) * 200 + (z 2).val
      omega)]
  rw [View.readAt_apply]
  refine congrArg (bufM.view.read (Elt F) f) (funext fun a => Fin.ext ?_)
  fin_cases a
  · show (y 0).val = s.val + 1 * 0; omega
  · show (y 1).val = 0 + 1 * (z 0).val; omega
  · show (y 2).val = 0 + 1 * (z 1).val; omega
  · show (y 3).val = 0 + 1 * (z 2).val; omega

/-- A landed slot reads the block. -/
theorem landed_read (s : Fin 2) (b : Fin 25) (f) (z : S256x8x200.Idx) :
    (rslot s).view.read (Elt F) (landed c XA s b f) z = (blk b).view.read (Elt F) XA z := by
  refine View.read_writes_apply_of_pieces (Val := Elt F) (e := .f32) (rslot s).view f (fun z => (blk b).view.read (Elt F) XA z) _ ?_ z ?_
  · refine List.forall_mem_cons.mpr ⟨fun x => ?_, fun _ h => absurd h List.not_mem_nil⟩
    rw [Rect.emb_whole_apply]
  · exact ⟨_, List.mem_cons_self, by rw [Rect.set_whole]; exact Finset.mem_univ z⟩

/-- A load of row `kk` of a landed slot, its first 128 columns. -/
theorem slot_xa0 (s : Fin 2) (b : Fin 25) (f : Buf (Elt F) (bufM.view.loc (c : Thread nD τ)))
    (hf : ∀ z, (rslot s).view.read (Elt F) f z = (blk b).view.read (Elt F) XA z) (kk : ℕ) (hkk : kk < 8) (r : ℕ) (hr : r = 8 * b.val + kk)
    (off : Fin 4 → ℕ) (inb : ∀ a, off a + S1x256x1x128.size a ≤ S2x256x8x200.size a) (h : off = ![s.val, 0, kk, 0]) :
    bufM.view.readAt (Elt F) (Rect.unit (s := S2x256x8x200) off S1x256x1x128.size inb).toLoadRect f = xaOf (fmOf c XA) r := by
  have := b.isLt
  funext x
  have h0 : (x 0).val < 1 := (x 0).isLt
  have h1 : (x 1).val < 256 := (x 1).isLt
  have h2 : (x 2).val < 1 := (x 2).isLt
  have h3 : (x 3).val < 128 := (x 3).isLt
  subst h
  rw [View.readAt_apply, rslot_read c s f (fun | 0 => (⟨(x 1).val, h1⟩ : Fin 256) | 1 => (⟨kk, hkk⟩ : Fin 8) | 2 => (⟨(x 3).val, by omega⟩ : Fin 200)) _
    (by show s.val + 1 * (x 0).val = s.val; omega) (by show 0 + 1 * (x 1).val = (x 1).val; omega) (by show kk + 1 * (x 2).val = kk; omega) (by show 0 + 1 * (x 3).val = (x 3).val; omega),
    hf, blk_read]
  unfold xaOf
  refine congrArg (fmOf c XA) (funext fun a => Fin.ext ?_)
  fin_cases a
  · rfl
  · rfl
  · show 8 * b.val + kk = r % 200; omega
  · rfl

/-- A load of row `kk` of a landed slot, its last 72 columns. -/
theorem slot_xb0 (s : Fin 2) (b : Fin 25) (f : Buf (Elt F) (bufM.view.loc (c : Thread nD τ)))
    (hf : ∀ z, (rslot s).view.read (Elt F) f z = (blk b).view.read (Elt F) XA z) (kk : ℕ) (hkk : kk < 8) (r : ℕ) (hr : r = 8 * b.val + kk)
    (off : Fin 4 → ℕ) (inb : ∀ a, off a + S1x256x1x72.size a ≤ S2x256x8x200.size a) (h : off = ![s.val, 0, kk, 128]) :
    bufM.view.readAt (Elt F) (Rect.unit (s := S2x256x8x200) off S1x256x1x72.size inb).toLoadRect f = xbOf (fmOf c XA) r := by
  have := b.isLt
  funext x
  have h0 : (x 0).val < 1 := (x 0).isLt
  have h1 : (x 1).val < 256 := (x 1).isLt
  have h2 : (x 2).val < 1 := (x 2).isLt
  have h3 : (x 3).val < 72 := (x 3).isLt
  subst h
  rw [View.readAt_apply, rslot_read c s f (fun | 0 => (⟨(x 1).val, h1⟩ : Fin 256) | 1 => (⟨kk, hkk⟩ : Fin 8) | 2 => (⟨128 + (x 3).val, by omega⟩ : Fin 200)) _
    (by show s.val + 1 * (x 0).val = s.val; omega) (by show 0 + 1 * (x 1).val = (x 1).val; omega) (by show kk + 1 * (x 2).val = kk; omega) (by show 128 + 1 * (x 3).val = 128 + (x 3).val; omega),
    hf, blk_read]
  unfold xbOf
  refine congrArg (fmOf c XA) (funext fun a => Fin.ext ?_)
  fin_cases a
  · rfl
  · rfl
  · show 8 * b.val + kk = r % 200; omega
  · rfl

/-- A load of row `kk` of a landed slot. -/
theorem slot_xa (s : Fin 2) (b : Fin 25) (f) (kk : ℕ) (hkk : kk < 8) (r : ℕ) (hr : r = 8 * b.val + kk)
    (off : Fin 4 → ℕ) (inb : ∀ a, off a + S1x256x1x128.size a ≤ S2x256x8x200.size a) (h : off = ![s.val, 0, kk, 0]) :
    bufM.view.readAt (Elt F) (Rect.unit (s := S2x256x8x200) off S1x256x1x128.size inb).toLoadRect (landed c XA s b f) = xaOf (fmOf c XA) r :=
  slot_xa0 c XA s b (landed c XA s b f) (landed_read c XA s b f) kk hkk r hr off inb h

/-- A load of row `kk` of a landed slot. -/
theorem slot_xb (s : Fin 2) (b : Fin 25) (f) (kk : ℕ) (hkk : kk < 8) (r : ℕ) (hr : r = 8 * b.val + kk)
    (off : Fin 4 → ℕ) (inb : ∀ a, off a + S1x256x1x72.size a ≤ S2x256x8x200.size a) (h : off = ![s.val, 0, kk, 128]) :
    bufM.view.readAt (Elt F) (Rect.unit (s := S2x256x8x200) off S1x256x1x72.size inb).toLoadRect (landed c XA s b f) = xbOf (fmOf c XA) r :=
  slot_xb0 c XA s b (landed c XA s b f) (landed_read c XA s b f) kk hkk r hr off inb h

/-- One step of the accumulator. -/
theorem acc_step {fm : S1x256x200x200.Idx → F .f32} {r : ℕ} {xa : Vec F S1x256x1x128 .f32} {xb : Vec F S1x256x1x72 .f32} {tA : Vec F S129x128 .f32}
    {tB : Vec F S73x72 .f32} {A : Vec F S201x256 .f32} (hxa : xa = xaOf fm r) (hxb : xb = xbOf fm r) (htA : tA = k0_pay30) (htB : tB = k0_pay31)
    (hA : A = accN fm r) : k0_pay7 xa xb tA tB A = accN fm (r + 1) := by
  subst hxa hxb htA htB hA; rfl

/-- The same step as the program spells it for another row. -/
theorem acc_stepB {fm : S1x256x200x200.Idx → F .f32} {r : ℕ} {xa : Vec F S1x256x1x128 .f32} {xb : Vec F S1x256x1x72 .f32} {tA : Vec F S129x128 .f32}
    {tB : Vec F S73x72 .f32} {A : Vec F S201x256 .f32} (hxa : xa = xaOf fm r) (hxb : xb = xbOf fm r) (htA : tA = k0_pay30) (htB : tB = k0_pay31)
    (hA : A = accN fm r) : k0_pay11 (k0_pay9 xa) (k0_pay10 xb) tA tB A = accN fm (r + 1) :=
  (show k0_pay11 (k0_pay9 xa) (k0_pay10 xb) tA tB A = k0_pay7 xa xb tA tB A from rfl).trans (acc_step hxa hxb htA htB hA)

/-- The same step as the program spells it for another row. -/
theorem acc_stepC {fm : S1x256x200x200.Idx → F .f32} {r : ℕ} {xa : Vec F S1x256x1x128 .f32} {xb : Vec F S1x256x1x72 .f32} {tA : Vec F S129x128 .f32}
    {tB : Vec F S73x72 .f32} {A : Vec F S201x256 .f32} (hxa : xa = xaOf fm r) (hxb : xb = xbOf fm r) (htA : tA = k0_pay30) (htB : tB = k0_pay31)
    (hA : A = accN fm r) : k0_pay16 (k0_pay14 xa tA) (k0_pay15 xa xb tA tB) A = accN fm (r + 1) :=
  (show k0_pay16 (k0_pay14 xa tA) (k0_pay15 xa xb tA tB) A = k0_pay7 xa xb tA tB A from rfl).trans (acc_step hxa hxb htA htB hA)

/-- The same step as the program spells it for another row. -/
theorem acc_stepD {fm : S1x256x200x200.Idx → F .f32} {r : ℕ} {xa : Vec F S1x256x1x128 .f32} {xb : Vec F S1x256x1x72 .f32} {tA : Vec F S129x128 .f32}
    {tB : Vec F S73x72 .f32} {A : Vec F S201x256 .f32} (hxa : xa = xaOf fm r) (hxb : xb = xbOf fm r) (htA : tA = k0_pay30) (htB : tB = k0_pay31)
    (hA : A = accN fm r) : k0_pay18 xa xb tA tB A = accN fm (r + 1) :=
  (show k0_pay18 xa xb tA tB A = k0_pay7 xa xb tA tB A from rfl).trans (acc_step hxa hxb htA htB hA)

/-- The same step as the program spells it for another row. -/
theorem acc_stepE {fm : S1x256x200x200.Idx → F .f32} {r : ℕ} {xa : Vec F S1x256x1x128 .f32} {xb : Vec F S1x256x1x72 .f32} {tA : Vec F S129x128 .f32}
    {tB : Vec F S73x72 .f32} {A : Vec F S201x256 .f32} (hxa : xa = xaOf fm r) (hxb : xb = xbOf fm r) (htA : tA = k0_pay30) (htB : tB = k0_pay31)
    (hA : A = accN fm r) : k0_pay20 xa xb tA tB A = accN fm (r + 1) :=
  (show k0_pay20 xa xb tA tB A = k0_pay7 xa xb tA tB A from rfl).trans (acc_step hxa hxb htA htB hA)

/-- The same step as the program spells it for another row. -/
theorem acc_stepF {fm : S1x256x200x200.Idx → F .f32} {r : ℕ} {xa : Vec F S1x256x1x128 .f32} {xb : Vec F S1x256x1x72 .f32} {tA : Vec F S129x128 .f32}
    {tB : Vec F S73x72 .f32} {A : Vec F S201x256 .f32} (hxa : xa = xaOf fm r) (hxb : xb = xbOf fm r) (htA : tA = k0_pay30) (htB : tB = k0_pay31)
    (hA : A = accN fm r) : k0_pay22 xa xb tA tB A = accN fm (r + 1) :=
  (show k0_pay22 xa xb tA tB A = k0_pay7 xa xb tA tB A from rfl).trans (acc_step hxa hxb htA htB hA)

/-- The same step as the program spells it for another row. -/
theorem acc_stepG {fm : S1x256x200x200.Idx → F .f32} {r : ℕ} {xa : Vec F S1x256x1x128 .f32} {xb : Vec F S1x256x1x72 .f32} {tA : Vec F S129x128 .f32}
    {tB : Vec F S73x72 .f32} {A : Vec F S201x256 .f32} (hxa : xa = xaOf fm r) (hxb : xb = xbOf fm r) (htA : tA = k0_pay30) (htB : tB = k0_pay31)
    (hA : A = accN fm r) : k0_pay25 (k0_pay24 xa) xb tA tB A = accN fm (r + 1) :=
  (show k0_pay25 (k0_pay24 xa) xb tA tB A = k0_pay7 xa xb tA tB A from rfl).trans (acc_step hxa hxb htA htB hA)

/-- The same step as the program spells it for another row. -/
theorem acc_stepH {fm : S1x256x200x200.Idx → F .f32} {r : ℕ} {xa : Vec F S1x256x1x128 .f32} {xb : Vec F S1x256x1x72 .f32} {tA : Vec F S129x128 .f32}
    {tB : Vec F S73x72 .f32} {A : Vec F S201x256 .f32} (hxa : xa = xaOf fm r) (hxb : xb = xbOf fm r) (htA : tA = k0_pay30) (htB : tB = k0_pay31)
    (hA : A = accN fm r) : k0_pay32 (k0_pay27 xb) (k0_pay28 xa tA) tB (constant S73x256 .f32 0x00000000#32) A = accN fm (r + 1) :=
  (show k0_pay32 (k0_pay27 xb) (k0_pay28 xa tA) tB (constant S73x256 .f32 0x00000000#32) A = k0_pay7 xa xb tA tB A from rfl).trans (acc_step hxa hxb htA htB hA)

/-- A stored table block at its place. -/
theorem tab_piece {fm : S1x256x200x200.Idx → F .f32} {r n : ℕ} (off : Fin 3 → ℕ) (inb : ∀ a, off a + S201x1x256.size a ≤ S40401x1x256.size a)
    (h : off = ![n, 0, 0]) (hn : n = 201 * r) {v : FVec F S201x256 .f32} (hv : v = accN fm r) (x : S201x1x256.Idx) :
    shapeCast S201x1x256 v shapeCasts_S201x256_S201x1x256 x = tabOf fm ((Rect.unit (s := S40401x1x256) off S201x1x256.size inb).emb x) := by
  subst h hv
  have h0 : (x 0).val < 201 := (x 0).isLt
  have h1 : (x 1).val < 1 := (x 1).isLt
  have h2 : (x 2).val < 256 := (x 2).isLt
  rw [shapeCast_apply (s := S201x256) (t := S201x1x256) _ _ x (fun | 0 => (⟨(x 0).val, h0⟩ : Fin 201) | 1 => (⟨(x 2).val, h2⟩ : Fin 256))
    (by
      rw [Shape.rowMajor_val_two, Shape.rowMajor_val_three]
      show (x 0).val * 256 + (x 2).val = ((x 0).val * 1 + (x 1).val) * 256 + (x 2).val
      omega)]
  unfold tabOf
  have e0 : ((Rect.unit (s := S40401x1x256) ![n, 0, 0] S201x1x256.size inb).emb x 0).val = n + 1 * (x 0).val := rfl
  have e2 : ((Rect.unit (s := S40401x1x256) ![n, 0, 0] S201x1x256.size inb).emb x 2).val = 0 + 1 * (x 2).val := rfl
  have er : ((Rect.unit (s := S40401x1x256) ![n, 0, 0] S201x1x256.size inb).emb x 0).val / 201 = r := by omega
  rw [er]
  refine congrArg (accN fm r) (funext fun a => Fin.ext ?_)
  fin_cases a
  · show (x 0).val = ((Rect.unit (s := S40401x1x256) ![n, 0, 0] S201x1x256.size inb).emb x 0).val % 201
    omega
  · show (x 2).val = ((Rect.unit (s := S40401x1x256) ![n, 0, 0] S201x1x256.size inb).emb x 2).val
    omega

/-- A trip's eight stores, read back: the table is right through the trip's last row. -/
theorem tab_read (k : Fin k0_t1_loop.trips) (fm : S1x256x200x200.Idx → F .f32) (T : Buf (Elt F) (tabM.view.loc (c : Thread nD τ)))
    (hT : ∀ y : S40401x1x256.Idx, (y 0).val < 1608 * k.val → tabM.view.read (Elt F) T y = tabOf fm y)
    (i7 i6 i5 i4 i3 i2 i1 i0)
    (v7 v6 v5 v4 v3 v2 v1 v0 : FVec F S201x256 .f32)
    (h0 : v0 = accN fm (8 * k.val)) (h1 : v1 = accN fm (8 * k.val + 1)) (h2 : v2 = accN fm (8 * k.val + 2)) (h3 : v3 = accN fm (8 * k.val + 3))
    (h4 : v4 = accN fm (8 * k.val + 4)) (h5 : v5 = accN fm (8 * k.val + 5)) (h6 : v6 = accN fm (8 * k.val + 6)) (h7 : v7 = accN fm (8 * k.val + 7))
    (y : S40401x1x256.Idx) (hy : (y 0).val < 1608 * (k.val + 1)) :
    tabM.view.read (Elt F) (tabM.view.writes (Elt F) T [⟨Rect.unit (k0_off7 k 1407#32) S201x1x256.size i7, k0_pay6 v7⟩,
      ⟨Rect.unit (k0_off7 k 1206#32) S201x1x256.size i6, k0_pay6 v6⟩, ⟨Rect.unit (k0_off7 k 1005#32) S201x1x256.size i5, k0_pay6 v5⟩,
      ⟨Rect.unit (k0_off7 k 804#32) S201x1x256.size i4, k0_pay6 v4⟩, ⟨Rect.unit (k0_off7 k 603#32) S201x1x256.size i3, k0_pay6 v3⟩,
      ⟨Rect.unit (k0_off7 k 402#32) S201x1x256.size i2, k0_pay6 v2⟩, ⟨Rect.unit (k0_off7 k 201#32) S201x1x256.size i1, k0_pay6 v1⟩,
      ⟨Rect.unit (k0_off7 k 0#32) S201x1x256.size i0, k0_pay6 v0⟩]) y = tabOf fm y := by
  have hy1 : (y 1).val < 1 := (y 1).isLt
  have hy2 : (y 2).val < 256 := (y 2).isLt
  have key : ∀ (n : ℕ) (off : Fin 3 → ℕ) (inb : ∀ a, off a + S201x1x256.size a ≤ S40401x1x256.size a), off = ![n, 0, 0] →
      (y ∈ (Rect.unit (s := S40401x1x256) off S201x1x256.size inb).set ↔ n ≤ (y 0).val ∧ (y 0).val < n + 201) := by
    intro n off inb e
    rw [Rect.mem_set_unit]
    subst e
    constructor
    · intro h; exact h 0
    · rintro ⟨ha, hb⟩ a
      fin_cases a
      · exact ⟨ha, hb⟩
      · show 0 ≤ (y 1).val ∧ (y 1).val < 0 + 1; omega
      · show 0 ≤ (y 2).val ∧ (y 2).val < 0 + 256; omega
  by_cases hlt : (y 0).val < 1608 * k.val
  · rw [← hT y hlt]
    refine View.read_writes_apply_of_forall_not_mem _ _ y _ ?_
    have kn : ∀ (n : ℕ) (off : Fin 3 → ℕ) (inb : ∀ a, off a + S201x1x256.size a ≤ S40401x1x256.size a), off = ![n, 0, 0] → 1608 * k.val ≤ n →
        y ∉ (Rect.unit (s := S40401x1x256) off S201x1x256.size inb).set := fun n off inb e hn hm => by
      have := (key n off inb e).mp hm; omega
    exact List.forall_mem_cons.mpr ⟨kn _ _ i7 (off7_7 k) (by omega), List.forall_mem_cons.mpr ⟨kn _ _ i6 (off7_6 k) (by omega),
      List.forall_mem_cons.mpr ⟨kn _ _ i5 (off7_5 k) (by omega), List.forall_mem_cons.mpr ⟨kn _ _ i4 (off7_4 k) (by omega),
      List.forall_mem_cons.mpr ⟨kn _ _ i3 (off7_3 k) (by omega), List.forall_mem_cons.mpr ⟨kn _ _ i2 (off7_2 k) (by omega),
      List.forall_mem_cons.mpr ⟨kn _ _ i1 (off7_1 k) (by omega), List.forall_mem_cons.mpr ⟨kn _ _ i0 (off7_0 k) (by omega),
      fun _ h => absurd h List.not_mem_nil⟩⟩⟩⟩⟩⟩⟩⟩
  · refine View.read_writes_apply_of_pieces (Val := Elt F) (e := .f32) tabM.view T (tabOf fm) _ ?_ y ?_
    · exact List.forall_mem_cons.mpr ⟨tab_piece _ i7 (off7_7 k) (by omega) h7, List.forall_mem_cons.mpr ⟨tab_piece _ i6 (off7_6 k) (by omega) h6,
        List.forall_mem_cons.mpr ⟨tab_piece _ i5 (off7_5 k) (by omega) h5, List.forall_mem_cons.mpr ⟨tab_piece _ i4 (off7_4 k) (by omega) h4,
        List.forall_mem_cons.mpr ⟨tab_piece _ i3 (off7_3 k) (by omega) h3, List.forall_mem_cons.mpr ⟨tab_piece _ i2 (off7_2 k) (by omega) h2,
        List.forall_mem_cons.mpr ⟨tab_piece _ i1 (off7_1 k) (by omega) h1, List.forall_mem_cons.mpr ⟨tab_piece _ i0 (off7_0 k) (by omega) h0,
        fun _ h => absurd h List.not_mem_nil⟩⟩⟩⟩⟩⟩⟩⟩
    · have hc : (1608 * k.val + 1407 ≤ (y 0).val ∧ (y 0).val < 1608 * k.val + 1407 + 201) ∨ (1608 * k.val + 1206 ≤ (y 0).val ∧ (y 0).val < 1608 * k.val + 1206 + 201)
          ∨ (1608 * k.val + 1005 ≤ (y 0).val ∧ (y 0).val < 1608 * k.val + 1005 + 201) ∨ (1608 * k.val + 804 ≤ (y 0).val ∧ (y 0).val < 1608 * k.val + 804 + 201)
          ∨ (1608 * k.val + 603 ≤ (y 0).val ∧ (y 0).val < 1608 * k.val + 603 + 201) ∨ (1608 * k.val + 402 ≤ (y 0).val ∧ (y 0).val < 1608 * k.val + 402 + 201)
          ∨ (1608 * k.val + 201 ≤ (y 0).val ∧ (y 0).val < 1608 * k.val + 201 + 201) ∨ (1608 * k.val + 0 ≤ (y 0).val ∧ (y 0).val < 1608 * k.val + 0 + 201) := by omega
      rcases hc with h | h | h | h | h | h | h | h
      · exact ⟨_, List.mem_cons_self, (key _ _ i7 (off7_7 k)).mpr h⟩
      · exact ⟨_, List.mem_cons_of_mem _ (List.mem_cons_self), (key _ _ i6 (off7_6 k)).mpr h⟩
      · exact ⟨_, List.mem_cons_of_mem _ (List.mem_cons_of_mem _ (List.mem_cons_self)), (key _ _ i5 (off7_5 k)).mpr h⟩
      · exact ⟨_, List.mem_cons_of_mem _ (List.mem_cons_of_mem _ (List.mem_cons_of_mem _ (List.mem_cons_self))), (key _ _ i4 (off7_4 k)).mpr h⟩
      · exact ⟨_, List.mem_cons_of_mem _ (List.mem_cons_of_mem _ (List.mem_cons_of_mem _ (List.mem_cons_of_mem _ (List.mem_cons_self)))), (key _ _ i3 (off7_3 k)).mpr h⟩
      · exact ⟨_, List.mem_cons_of_mem _ (List.mem_cons_of_mem _ (List.mem_cons_of_mem _ (List.mem_cons_of_mem _ (List.mem_cons_of_mem _ (List.mem_cons_self))))), (key _ _ i2 (off7_2 k)).mpr h⟩
      · exact ⟨_, List.mem_cons_of_mem _ (List.mem_cons_of_mem _ (List.mem_cons_of_mem _ (List.mem_cons_of_mem _ (List.mem_cons_of_mem _ (List.mem_cons_of_mem _ (List.mem_cons_self)))))), (key _ _ i1 (off7_1 k)).mpr h⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), (key _ _ i0 (off7_0 k)).mpr h⟩

end Vals

end Cert.KernelIdeal.Hand

end
-- ==== Proof.IdealTrip.lean ====
/- One trip of the table loop. -/
module

public import proofs.«01_k».proof.Proof.Gen.KernelIdeal.Frame
public import proofs.«01_k».proof.Proof.Gen.KernelIdeal.Loops
public import proofs.«01_k».proof.Proof.IdealVals
public import Idealize.ShloMosaic.Lib.Ring
public import Idealize.ShloMosaic.Lib.Writes
public import Idealize.ShloMosaic.Lib.VecWindow
public import Idealize.ShloMosaic.Lib.Pipeline.Frame
public import Idealize.ShloMosaic.Lib.Tactic
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section Chunk

variable (c : Dev nD) (XA : Buf (Elt F) (fmM.view.loc (c : Thread nD τ))) (i : grid0.Coords)
  (arg1 : Memref sig .tc .smem S64x1x196 .i32) (harg1 : arg1.IsWhole)
  (arg3 : Memref sig .tc .vmem S64x7x7x256 .f32) (harg3 : arg3.IsWhole) (hh : k0_cond1 i = 1#1)

abbrev accP (A : Buf (Elt F) (accM.view.loc (c : Thread nD τ))) : sProp 𝕄 := accM.view.loc (c : Thread nD τ) ↦[accM.view.set]{fullShare} A
abbrev triAP (A : Buf (Elt F) (triA.view.loc (c : Thread nD τ))) : sProp 𝕄 := triA.view.loc (c : Thread nD τ) ↦[triA.view.set]{fullShare} A
abbrev triBP (A : Buf (Elt F) (triB.view.loc (c : Thread nD τ))) : sProp 𝕄 := triB.view.loc (c : Thread nD τ) ↦[triB.view.set]{fullShare} A

abbrev chunkTrip (k : Fin k0_t1_loop.trips) : Prog (TpuEff nD τ sig (Elt F) Λ₀ .tc) Unit :=
  k0_t1_body (F := F) i arg1 harg1 fmM (Memref.isWhole_whole _) arg3 harg3 tabM (Memref.isWhole_whole _) accM (Memref.isWhole_whole _)
    triA (Memref.isWhole_whole _) triB (Memref.isWhole_whole _) bufM (Memref.isWhole_whole _) cc0_scratch5 hh k ()

/-- What the table and the accumulator hold before trip `k`. -/
def TabOK (n : ℕ) (T : Buf (Elt F) (tabM.view.loc (c : Thread nD τ))) (A : Buf (Elt F) (accM.view.loc (c : Thread nD τ))) : Prop :=
  (∀ y : S40401x1x256.Idx, (y 0).val < 1608 * n → tabM.view.read (Elt F) T y = tabOf (fmOf c XA) y) ∧ accM.view.read (Elt F) A = accN (fmOf c XA) (8 * n)

/-- The table loop has twenty-five. -/
theorem trips1 : k0_t1_loop.trips = 25 := by decide +kernel

set_option maxHeartbeats 1000000 in
/-- A trip of the table loop that is not the last: the next block goes out, eight rows are stored. -/
theorem chunkMid (k : Fin k0_t1_loop.trips) (hk : k.val + 1 < 25) (T) (A) (tA) (tB) (f0) (f1)
    (hT : TabOK c XA k.val T A) (htA : triA.view.read (Elt F) tA = k0_pay30) (htB : triB.view.read (Elt F) tB = k0_pay31) :
    iprop(tabP (F := F) c T ∗ accP c A ∗ triAP c tA ∗ triBP c tB ∗ (∃ W, owes (c : Thread nD τ) 0 W) ∗ homes c XA k.val
        ∗ flightP c XA (Ring.sl 2 k.val) (Ring.bk 25 k.val) f0 ∗ slotP c (Ring.sl 2 (k.val + 1)) f1 ∗ cellP c (Ring.sl 2 (k.val + 1)))
      ⊢ wp frame (wpE (defs₀ (F := F)) 𝒱₀ (c : Thread nD τ) none) Set.univ (chunkTrip i arg1 harg1 arg3 harg3 hh k)
        (fun _ => iprop(∃ T' A', tabP c T' ∗ accP c A' ∗ ⌜TabOK c XA (k.val + 1) T' A'⌝ ∗ triAP c tA ∗ triBP c tB ∗ (∃ W, owes (c : Thread nD τ) 0 W) ∗ homes c XA (k.val + 1)
          ∗ (∃ f0, flightP c XA (Ring.sl 2 (k.val + 1)) (Ring.bk 25 (k.val + 1)) f0) ∗ (∃ f1, slotP c (Ring.sl 2 k.val) f1) ∗ cellP c (Ring.sl 2 k.val))) := by
  have hc := cond2_of_lt k hk
  have hb : (Ring.bk 25 k.val).val = k.val := Ring.bk_val (by omega)
  rw [homes_here c XA k.val hk, homes_next c XA k.val (by omega)]
  iintro ⟨HT, HA, H6, H7, ⟨%W, HW⟩, ⟨Hg, Hrest⟩, HF, HS, HC⟩
  dsimp only [chunkTrip]
  sl_unfold [k0_t1_body]
  sl_exec
  sl_step
  iexists _, _
  isplitl [HT]
  · iexact HT
  isplitl [HA]
  · iexact HA
  isplitr
  · ipureintro
    obtain ⟨hT, hA⟩ := hT
    have ra : triA.view.readAt (Elt F) (Rect.unit ![0, 0] S129x128.size inb_S129x128_S129x128_0_0).toLoadRect tA = k0_pay30 := (View.readAt_full triA.view tA _).trans htA
    have rb : triB.view.readAt (Elt F) (Rect.unit ![0, 0] S73x72.size inb_S73x72_S73x72_0_0).toLoadRect tB = k0_pay31 := (View.readAt_full triB.view tB _).trans htB
    have e0 : accM.view.readAt (Elt F) (Rect.unit ![0, 0] S201x256.size inb_S201x256_S201x256_0_0).toLoadRect A = accN (fmOf c XA) (8 * k.val) := (View.readAt_full accM.view A _).trans hA
    have xa0 : chunkMid.sl.v67 c XA i hh k = xaOf (fmOf c XA) (8 * k.val + 0) :=
      slot_xa c XA (Ring.sl 2 k.val) (Ring.bk 25 k.val) _ 0 (by omega) _ (by omega) _ _ (off8_eq k)
    have xb0 : chunkMid.sl.v70 c XA i hh k = xbOf (fmOf c XA) (8 * k.val + 0) :=
      slot_xb c XA (Ring.sl 2 k.val) (Ring.bk 25 k.val) _ 0 (by omega) _ (by omega) _ _ (off9_eq k)
    have xa1 : chunkMid.sl.v93 c XA i hh k = xaOf (fmOf c XA) (8 * k.val + 1) :=
      slot_xa c XA (Ring.sl 2 k.val) (Ring.bk 25 k.val) _ 1 (by omega) _ (by omega) _ _ (off10_eq k)
    have xb1 : chunkMid.sl.v96 c XA i hh k = xbOf (fmOf c XA) (8 * k.val + 1) :=
      slot_xb c XA (Ring.sl 2 k.val) (Ring.bk 25 k.val) _ 1 (by omega) _ (by omega) _ _ (off11_eq k)
    have xa2 : chunkMid.sl.v119 c XA i hh k = xaOf (fmOf c XA) (8 * k.val + 2) :=
      slot_xa c XA (Ring.sl 2 k.val) (Ring.bk 25 k.val) _ 2 (by omega) _ (by omega) _ _ (off12_eq k)
    have xb2 : chunkMid.sl.v122 c XA i hh k = xbOf (fmOf c XA) (8 * k.val + 2) :=
      slot_xb c XA (Ring.sl 2 k.val) (Ring.bk 25 k.val) _ 2 (by omega) _ (by omega) _ _ (off13_eq k)
    have xa3 : chunkMid.sl.v145 c XA i hh k = xaOf (fmOf c XA) (8 * k.val + 3) :=
      slot_xa c XA (Ring.sl 2 k.val) (Ring.bk 25 k.val) _ 3 (by omega) _ (by omega) _ _ (off14_eq k)
    have xb3 : chunkMid.sl.v148 c XA i hh k = xbOf (fmOf c XA) (8 * k.val + 3) :=
      slot_xb c XA (Ring.sl 2 k.val) (Ring.bk 25 k.val) _ 3 (by omega) _ (by omega) _ _ (off15_eq k)
    have xa4 : chunkMid.sl.v171 c XA i hh k = xaOf (fmOf c XA) (8 * k.val + 4) :=
      slot_xa c XA (Ring.sl 2 k.val) (Ring.bk 25 k.val) _ 4 (by omega) _ (by omega) _ _ (off16_eq k)
    have xb4 : chunkMid.sl.v174 c XA i hh k = xbOf (fmOf c XA) (8 * k.val + 4) :=
      slot_xb c XA (Ring.sl 2 k.val) (Ring.bk 25 k.val) _ 4 (by omega) _ (by omega) _ _ (off17_eq k)
    have xa5 : chunkMid.sl.v197 c XA i hh k = xaOf (fmOf c XA) (8 * k.val + 5) :=
      slot_xa c XA (Ring.sl 2 k.val) (Ring.bk 25 k.val) _ 5 (by omega) _ (by omega) _ _ (off18_eq k)
    have xb5 : chunkMid.sl.v200 c XA i hh k = xbOf (fmOf c XA) (8 * k.val + 5) :=
      slot_xb c XA (Ring.sl 2 k.val) (Ring.bk 25 k.val) _ 5 (by omega) _ (by omega) _ _ (off19_eq k)
    have xa6 : chunkMid.sl.v223 c XA i hh k = xaOf (fmOf c XA) (8 * k.val + 6) :=
      slot_xa c XA (Ring.sl 2 k.val) (Ring.bk 25 k.val) _ 6 (by omega) _ (by omega) _ _ (off20_eq k)
    have xb6 : chunkMid.sl.v226 c XA i hh k = xbOf (fmOf c XA) (8 * k.val + 6) :=
      slot_xb c XA (Ring.sl 2 k.val) (Ring.bk 25 k.val) _ 6 (by omega) _ (by omega) _ _ (off21_eq k)
    have xa7 : chunkMid.sl.v249 c XA i hh k = xaOf (fmOf c XA) (8 * k.val + 7) :=
      slot_xa c XA (Ring.sl 2 k.val) (Ring.bk 25 k.val) _ 7 (by omega) _ (by omega) _ _ (off22_eq k)
    have xb7 : chunkMid.sl.v252 c XA i hh k = xbOf (fmOf c XA) (8 * k.val + 7) :=
      slot_xb c XA (Ring.sl 2 k.val) (Ring.bk 25 k.val) _ 7 (by omega) _ (by omega) _ _ (off23_eq k)
    have e1 : chunkMid.sl.v86 c XA i hh k A tA tB = accN (fmOf c XA) (8 * k.val + 1) := by
      unfold chunkMid.sl.v86 chunkMid.sl.HA_1
      rw [View.readCov_full]
      exact acc_step xa0 xb0 ra rb e0
    have e2 : chunkMid.sl.v112 c XA i hh k A tA tB = accN (fmOf c XA) (8 * k.val + 2) := by
      unfold chunkMid.sl.v112 chunkMid.sl.HA_2
      rw [View.readCov_full]
      exact acc_stepB xa1 xb1 ra rb e1
    have e3 : chunkMid.sl.v138 c XA i hh k A tA tB = accN (fmOf c XA) (8 * k.val + 3) := by
      unfold chunkMid.sl.v138 chunkMid.sl.HA_3
      rw [View.readCov_full]
      exact acc_stepC xa2 xb2 ra rb e2
    have e4 : chunkMid.sl.v164 c XA i hh k A tA tB = accN (fmOf c XA) (8 * k.val + 4) := by
      unfold chunkMid.sl.v164 chunkMid.sl.HA_4
      rw [View.readCov_full]
      exact acc_stepD xa3 xb3 ra rb e3
    have e5 : chunkMid.sl.v190 c XA i hh k A tA tB = accN (fmOf c XA) (8 * k.val + 5) := by
      unfold chunkMid.sl.v190 chunkMid.sl.HA_5
      rw [View.readCov_full]
      exact acc_stepE xa4 xb4 ra rb e4
    have e6 : chunkMid.sl.v216 c XA i hh k A tA tB = accN (fmOf c XA) (8 * k.val + 6) := by
      unfold chunkMid.sl.v216 chunkMid.sl.HA_6
      rw [View.readCov_full]
      exact acc_stepF xa5 xb5 ra rb e5
    have e7 : chunkMid.sl.v242 c XA i hh k A tA tB = accN (fmOf c XA) (8 * k.val + 7) := by
      unfold chunkMid.sl.v242 chunkMid.sl.HA_7
      rw [View.readCov_full]
      exact acc_stepG xa6 xb6 ra rb e6
    refine ⟨fun y hy => tab_read c k (fmOf c XA) T hT _ _ _ _ _ _ _ _ _ _ _ _ _ _ _ _ e0 e1 e2 e3 e4 e5 e6 e7 y hy, ?_⟩
    rw [View.read_writes_full]
    exact acc_stepH xa7 xb7 ra rb e7
  isplitl [H6]
  · iexact H6
  isplitl [H7]
  · iexact H7
  isplitl [HW]
  · iexists _; iexact HW
  isplitl [HF_src Hrest]
  · isplitl [HF_src]
    · iexact HF_src
    · iexact Hrest
  isplitl [HC]
  · iexists f1; iexact HC
  isplitl [HF_dst]
  · iexists _; iexact HF_dst
  iexact HF

set_option maxHeartbeats 1000000 in
/-- A trip of the table loop that is the last: nothing goes out, eight rows are stored. -/
theorem chunkLast (k : Fin k0_t1_loop.trips) (hk : ¬ k.val + 1 < 25) (T) (A) (tA) (tB) (f0) (f1)
    (hT : TabOK c XA k.val T A) (htA : triA.view.read (Elt F) tA = k0_pay30) (htB : triB.view.read (Elt F) tB = k0_pay31) :
    iprop(tabP (F := F) c T ∗ accP c A ∗ triAP c tA ∗ triBP c tB ∗ (∃ W, owes (c : Thread nD τ) 0 W) ∗ homes c XA k.val
        ∗ flightP c XA (Ring.sl 2 k.val) (Ring.bk 25 k.val) f0 ∗ slotP c (Ring.sl 2 (k.val + 1)) f1 ∗ cellP c (Ring.sl 2 (k.val + 1)))
      ⊢ wp frame (wpE (defs₀ (F := F)) 𝒱₀ (c : Thread nD τ) none) Set.univ (chunkTrip i arg1 harg1 arg3 harg3 hh k)
        (fun _ => iprop(∃ T' A', tabP c T' ∗ accP c A' ∗ ⌜TabOK c XA (k.val + 1) T' A'⌝ ∗ triAP c tA ∗ triBP c tB ∗ (∃ W, owes (c : Thread nD τ) 0 W) ∗ homeP c XA (Ring.bk 25 k.val) ∗ homes c XA k.val
          ∗ slotP c (Ring.sl 2 (k.val + 1)) f1 ∗ cellP c (Ring.sl 2 (k.val + 1)) ∗ (∃ f1, slotP c (Ring.sl 2 k.val) f1) ∗ cellP c (Ring.sl 2 k.val))) := by
  have hc := cond2_of_ge k hk
  have hb : (Ring.bk 25 k.val).val = k.val := Ring.bk_val (lt_of_lt_of_eq k.isLt trips1)
  iintro ⟨HT, HA, H6, H7, ⟨%W, HW⟩, Hrest, HF, HS, HC⟩
  dsimp only [chunkTrip]
  sl_unfold [k0_t1_body]
  sl_exec
  sl_step
  iexists _, _
  isplitl [HT]
  · iexact HT
  isplitl [HA]
  · iexact HA
  isplitr
  · ipureintro
    obtain ⟨hT, hA⟩ := hT
    have ra : triA.view.readAt (Elt F) (Rect.unit ![0, 0] S129x128.size inb_S129x128_S129x128_0_0).toLoadRect tA = k0_pay30 := (View.readAt_full triA.view tA _).trans htA
    have rb : triB.view.readAt (Elt F) (Rect.unit ![0, 0] S73x72.size inb_S73x72_S73x72_0_0).toLoadRect tB = k0_pay31 := (View.readAt_full triB.view tB _).trans htB
    have e0 : accM.view.readAt (Elt F) (Rect.unit ![0, 0] S201x256.size inb_S201x256_S201x256_0_0).toLoadRect A = accN (fmOf c XA) (8 * k.val) := (View.readAt_full accM.view A _).trans hA
    have xa0 : chunkLast.sl.v67 c XA i hh k = xaOf (fmOf c XA) (8 * k.val + 0) :=
      slot_xa c XA (Ring.sl 2 k.val) (Ring.bk 25 k.val) _ 0 (by omega) _ (by omega) _ _ (off8_eq k)
    have xb0 : chunkLast.sl.v70 c XA i hh k = xbOf (fmOf c XA) (8 * k.val + 0) :=
      slot_xb c XA (Ring.sl 2 k.val) (Ring.bk 25 k.val) _ 0 (by omega) _ (by omega) _ _ (off9_eq k)
    have xa1 : chunkLast.sl.v93 c XA i hh k = xaOf (fmOf c XA) (8 * k.val + 1) :=
      slot_xa c XA (Ring.sl 2 k.val) (Ring.bk 25 k.val) _ 1 (by omega) _ (by omega) _ _ (off10_eq k)
    have xb1 : chunkLast.sl.v96 c XA i hh k = xbOf (fmOf c XA) (8 * k.val + 1) :=
      slot_xb c XA (Ring.sl 2 k.val) (Ring.bk 25 k.val) _ 1 (by omega) _ (by omega) _ _ (off11_eq k)
    have xa2 : chunkLast.sl.v119 c XA i hh k = xaOf (fmOf c XA) (8 * k.val + 2) :=
      slot_xa c XA (Ring.sl 2 k.val) (Ring.bk 25 k.val) _ 2 (by omega) _ (by omega) _ _ (off12_eq k)
    have xb2 : chunkLast.sl.v122 c XA i hh k = xbOf (fmOf c XA) (8 * k.val + 2) :=
      slot_xb c XA (Ring.sl 2 k.val) (Ring.bk 25 k.val) _ 2 (by omega) _ (by omega) _ _ (off13_eq k)
    have xa3 : chunkLast.sl.v145 c XA i hh k = xaOf (fmOf c XA) (8 * k.val + 3) :=
      slot_xa c XA (Ring.sl 2 k.val) (Ring.bk 25 k.val) _ 3 (by omega) _ (by omega) _ _ (off14_eq k)
    have xb3 : chunkLast.sl.v148 c XA i hh k = xbOf (fmOf c XA) (8 * k.val + 3) :=
      slot_xb c XA (Ring.sl 2 k.val) (Ring.bk 25 k.val) _ 3 (by omega) _ (by omega) _ _ (off15_eq k)
    have xa4 : chunkLast.sl.v171 c XA i hh k = xaOf (fmOf c XA) (8 * k.val + 4) :=
      slot_xa c XA (Ring.sl 2 k.val) (Ring.bk 25 k.val) _ 4 (by omega) _ (by omega) _ _ (off16_eq k)
    have xb4 : chunkLast.sl.v174 c XA i hh k = xbOf (fmOf c XA) (8 * k.val + 4) :=
      slot_xb c XA (Ring.sl 2 k.val) (Ring.bk 25 k.val) _ 4 (by omega) _ (by omega) _ _ (off17_eq k)
    have xa5 : chunkLast.sl.v197 c XA i hh k = xaOf (fmOf c XA) (8 * k.val + 5) :=
      slot_xa c XA (Ring.sl 2 k.val) (Ring.bk 25 k.val) _ 5 (by omega) _ (by omega) _ _ (off18_eq k)
    have xb5 : chunkLast.sl.v200 c XA i hh k = xbOf (fmOf c XA) (8 * k.val + 5) :=
      slot_xb c XA (Ring.sl 2 k.val) (Ring.bk 25 k.val) _ 5 (by omega) _ (by omega) _ _ (off19_eq k)
    have xa6 : chunkLast.sl.v223 c XA i hh k = xaOf (fmOf c XA) (8 * k.val + 6) :=
      slot_xa c XA (Ring.sl 2 k.val) (Ring.bk 25 k.val) _ 6 (by omega) _ (by omega) _ _ (off20_eq k)
    have xb6 : chunkLast.sl.v226 c XA i hh k = xbOf (fmOf c XA) (8 * k.val + 6) :=
      slot_xb c XA (Ring.sl 2 k.val) (Ring.bk 25 k.val) _ 6 (by omega) _ (by omega) _ _ (off21_eq k)
    have xa7 : chunkLast.sl.v249 c XA i hh k = xaOf (fmOf c XA) (8 * k.val + 7) :=
      slot_xa c XA (Ring.sl 2 k.val) (Ring.bk 25 k.val) _ 7 (by omega) _ (by omega) _ _ (off22_eq k)
    have xb7 : chunkLast.sl.v252 c XA i hh k = xbOf (fmOf c XA) (8 * k.val + 7) :=
      slot_xb c XA (Ring.sl 2 k.val) (Ring.bk 25 k.val) _ 7 (by omega) _ (by omega) _ _ (off23_eq k)
    have e1 : chunkLast.sl.v86 c XA i hh k A tA tB = accN (fmOf c XA) (8 * k.val + 1) := by
      unfold chunkLast.sl.v86 chunkLast.sl.HA_1
      rw [View.readCov_full]
      exact acc_step xa0 xb0 ra rb e0
    have e2 : chunkLast.sl.v112 c XA i hh k A tA tB = accN (fmOf c XA) (8 * k.val + 2) := by
      unfold chunkLast.sl.v112 chunkLast.sl.HA_2
      rw [View.readCov_full]
      exact acc_stepB xa1 xb1 ra rb e1
    have e3 : chunkLast.sl.v138 c XA i hh k A tA tB = accN (fmOf c XA) (8 * k.val + 3) := by
      unfold chunkLast.sl.v138 chunkLast.sl.HA_3
      rw [View.readCov_full]
      exact acc_stepC xa2 xb2 ra rb e2
    have e4 : chunkLast.sl.v164 c XA i hh k A tA tB = accN (fmOf c XA) (8 * k.val + 4) := by
      unfold chunkLast.sl.v164 chunkLast.sl.HA_4
      rw [View.readCov_full]
      exact acc_stepD xa3 xb3 ra rb e3
    have e5 : chunkLast.sl.v190 c XA i hh k A tA tB = accN (fmOf c XA) (8 * k.val + 5) := by
      unfold chunkLast.sl.v190 chunkLast.sl.HA_5
      rw [View.readCov_full]
      exact acc_stepE xa4 xb4 ra rb e4
    have e6 : chunkLast.sl.v216 c XA i hh k A tA tB = accN (fmOf c XA) (8 * k.val + 6) := by
      unfold chunkLast.sl.v216 chunkLast.sl.HA_6
      rw [View.readCov_full]
      exact acc_stepF xa5 xb5 ra rb e5
    have e7 : chunkLast.sl.v242 c XA i hh k A tA tB = accN (fmOf c XA) (8 * k.val + 7) := by
      unfold chunkLast.sl.v242 chunkLast.sl.HA_7
      rw [View.readCov_full]
      exact acc_stepG xa6 xb6 ra rb e6
    refine ⟨fun y hy => tab_read c k (fmOf c XA) T hT _ _ _ _ _ _ _ _ _ _ _ _ _ _ _ _ e0 e1 e2 e3 e4 e5 e6 e7 y hy, ?_⟩
    rw [View.read_writes_full]
    exact acc_stepH xa7 xb7 ra rb e7
  isplitl [H6]
  · iexact H6
  isplitl [H7]
  · iexact H7
  isplitl [HW]
  · iexists _; iexact HW
  isplitl [HF_src]
  · iexact HF_src
  isplitl [Hrest]
  · iexact Hrest
  isplitl [HS]
  · iexact HS
  isplitl [HC]
  · iexact HC
  isplitl [HF_dst]
  · iexists _; iexact HF_dst
  iexact HF

end Chunk

end Cert.KernelIdeal.Hand

end
-- ==== Proof.IdealBody.lean ====
/- The kernel body: the table loop's invariant, and the body at the first grid point and at the later ones. -/
module

public import proofs.«01_k».proof.Proof.Gen.KernelIdeal.Frame
public import proofs.«01_k».proof.Proof.Gen.KernelIdeal.Loops
public import proofs.«01_k».proof.Proof.IdealRows
public import proofs.«01_k».proof.Proof.IdealTrip
public import Idealize.ShloMosaic.Lib.Writes
public import Idealize.ShloMosaic.Lib.VecWindow
public import Idealize.ShloMosaic.Lib.Pipeline.Frame
public import Idealize.ShloMosaic.Lib.Tactic
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section Ring
variable (c : Dev nD) (XA : Buf (Elt F) (fmM.view.loc (c : Thread nD τ)))

/-- The ring before trip `k`: block `k` in flight, the other slot free; after the last trip everything at rest. -/
@[irreducible] def ringI (k : ℕ) : sProp 𝕄 :=
  if k < 25 then iprop(homes c XA k ∗ (∃ f0, flightP c XA (Ring.sl 2 k) (Ring.bk 25 k) f0) ∗ (∃ f1, slotP (F := F) c (Ring.sl 2 (k + 1)) f1) ∗ cellP (F := F) c (Ring.sl 2 (k + 1)))
  else iprop(bigSep Finset.univ (homeP c XA) ∗ (∃ f0, slotP (F := F) c (Ring.sl 2 k) f0) ∗ (∃ f1, slotP (F := F) c (Ring.sl 2 (k + 1)) f1) ∗ cellP (F := F) c (Ring.sl 2 k) ∗ cellP (F := F) c (Ring.sl 2 (k + 1)))

/-- Before the last trip the ring holds the blocks at home, one copy in flight, and the other slot and its counter free. -/
theorem ringI_lt (k : ℕ) (hk : k < 25) : ringI c XA k = iprop(homes c XA k ∗ (∃ f0, flightP c XA (Ring.sl 2 k) (Ring.bk 25 k) f0) ∗ (∃ f1, slotP (F := F) c (Ring.sl 2 (k + 1)) f1) ∗ cellP (F := F) c (Ring.sl 2 (k + 1))) := by unfold ringI; exact if_pos hk
/-- After the last trip every block is home and both slots and counters are free. -/
theorem ringI_ge (k : ℕ) (hk : ¬ k < 25) : ringI c XA k = iprop(bigSep Finset.univ (homeP c XA) ∗ (∃ f0, slotP (F := F) c (Ring.sl 2 k) f0) ∗ (∃ f1, slotP (F := F) c (Ring.sl 2 (k + 1)) f1) ∗ cellP (F := F) c (Ring.sl 2 k) ∗ cellP (F := F) c (Ring.sl 2 (k + 1))) := by unfold ringI; exact if_neg hk

/-- All blocks are at home exactly when block `k` and the others are. -/
theorem homes_univ (k : ℕ) (hk : k < 25) : bigSep Finset.univ (homeP c XA) = iprop(homeP c XA (Ring.bk 25 k) ∗ homes c XA k) := by
  have hb : (Ring.bk 25 k).val = k := Ring.bk_val hk
  have e : (Finset.univ : Finset (Fin 25)) = insert (Ring.bk 25 k) (Finset.univ.filter fun b : Fin 25 => b.val ≠ k) := by
    ext b
    simp only [Finset.mem_filter, Finset.mem_univ, true_and, Finset.mem_insert, Fin.ext_iff, hb, true_iff]
    omega
  have hn : Ring.bk 25 k ∉ (Finset.univ.filter fun b : Fin 25 => b.val ≠ k) := by
    simp only [Finset.mem_filter, Finset.mem_univ, true_and, hb]
    omega
  unfold homes
  rw [e, bigSep_insert hn, ← e]; rfl

/-- The table loop's resources before trip `k`. -/
abbrev tabInv (tA : Buf (Elt F) (triA.view.loc (c : Thread nD τ))) (tB : Buf (Elt F) (triB.view.loc (c : Thread nD τ))) (k : ℕ) : sProp 𝕄 :=
  iprop((∃ T A, tabP (F := F) c T ∗ accP c A ∗ ⌜TabOK c XA k T A⌝)
    ∗ triAP c tA ∗ triBP c tB ∗ (∃ W, owes (c : Thread nD τ) 0 W) ∗ ringI c XA k)

variable (i : grid0.Coords)
  (arg1 : Memref sig .tc .smem S64x1x196 .i32) (harg1 : arg1.IsWhole)
  (arg3 : Memref sig .tc .vmem S64x7x7x256 .f32) (harg3 : arg3.IsWhole) (hh : k0_cond1 i = 1#1)
  (tA : Buf (Elt F) (triA.view.loc (c : Thread nD τ))) (tB : Buf (Elt F) (triB.view.loc (c : Thread nD τ)))

/-- One trip keeps the table loop's invariant. -/
theorem tabInv_step (htA : triA.view.read (Elt F) tA = k0_pay30) (htB : triB.view.read (Elt F) tB = k0_pay31) (k : Fin k0_t1_loop.trips) :
    tabInv c XA tA tB k.val ⊢ wp frame (wpE (defs₀ (F := F)) 𝒱₀ (c : Thread nD τ) none) Set.univ (chunkTrip i arg1 harg1 arg3 harg3 hh k)
        (fun _ => tabInv c XA tA tB (k.val + 1)) := by
  have hk25 : k.val < 25 := lt_of_lt_of_eq k.isLt trips1
  by_cases hk : k.val + 1 < 25
  · rw [tabInv, tabInv, ringI_lt c XA k.val hk25, ringI_lt c XA (k.val + 1) hk, sl2_add2]
    iintro ⟨⟨%T, %A, HT, HA, %hT⟩, H6, H7, HW, Hh, ⟨%f0, HF⟩, ⟨%f1, HS⟩, HC⟩
    iapply (wp_wand_r Idealize.ShloMosaic.frame (wpE (defs₀ (F := F)) 𝒱₀ (c : Thread nD τ) none) Set.univ)
    isplitl [HT HA H6 H7 HW Hh HF HS HC]
    · iapply (chunkMid c XA i arg1 harg1 arg3 harg3 hh k hk T A tA tB f0 f1 hT htA htB)
      isplitl [HT]; · iexact HT
      isplitl [HA]; · iexact HA
      isplitl [H6]; · iexact H6
      isplitl [H7]; · iexact H7
      isplitl [HW]; · iexact HW
      isplitl [Hh]; · iexact Hh
      isplitl [HF]; · iexact HF
      isplitl [HS]; · iexact HS
      iexact HC
    · iintro %_ ⟨%T', %A', HT, HA, %h, H6, H7, HW, Hh, HF, HS, HC⟩
      isplitl [HT HA]
      · iexists T', A'
        isplitl [HT]; · iexact HT
        isplitl [HA]; · iexact HA
        ipureintro; exact h
      isplitl [H6]; · iexact H6
      isplitl [H7]; · iexact H7
      isplitl [HW]; · iexact HW
      isplitl [Hh]; · iexact Hh
      isplitl [HF]; · iexact HF
      isplitl [HS]; · iexact HS
      iexact HC
  · rw [tabInv, tabInv, ringI_lt c XA k.val hk25, ringI_ge c XA (k.val + 1) (by omega), sl2_add2, homes_univ c XA k.val hk25]
    iintro ⟨⟨%T, %A, HT, HA, %hT⟩, H6, H7, HW, Hh, ⟨%f0, HF⟩, ⟨%f1, HS⟩, HC⟩
    iapply (wp_wand_r Idealize.ShloMosaic.frame (wpE (defs₀ (F := F)) 𝒱₀ (c : Thread nD τ) none) Set.univ)
    isplitl [HT HA H6 H7 HW Hh HF HS HC]
    · iapply (chunkLast c XA i arg1 harg1 arg3 harg3 hh k hk T A tA tB f0 f1 hT htA htB)
      isplitl [HT]; · iexact HT
      isplitl [HA]; · iexact HA
      isplitl [H6]; · iexact H6
      isplitl [H7]; · iexact H7
      isplitl [HW]; · iexact HW
      isplitl [Hh]; · iexact Hh
      isplitl [HF]; · iexact HF
      isplitl [HS]; · iexact HS
      iexact HC
    · iintro %_ ⟨%T', %A', HT, HA, %h, H6, H7, HW, Hb, Hh, HS, HC, HS', HC'⟩
      isplitl [HT HA]
      · iexists T', A'
        isplitl [HT]; · iexact HT
        isplitl [HA]; · iexact HA
        ipureintro; exact h
      isplitl [H6]; · iexact H6
      isplitl [H7]; · iexact H7
      isplitl [HW]; · iexact HW
      isplitl [Hb Hh]
      · isplitl [Hb]; · iexact Hb
        iexact Hh
      isplitl [HS]; · iexists f1; iexact HS
      isplitl [HS']; · iexact HS'
      isplitl [HC]; · iexact HC
      iexact HC'

set_option warn.classDefReducibility false in
/-- The table loop's invariant, for the run. -/
def loopInvTab (htA : triA.view.read (Elt F) tA = k0_pay30) (htB : triB.view.read (Elt F) tB = k0_pay31) :
    LoopInvTy_k0_t1 (F := F) Unit ℕ (Pipeline.UD sig nD τ) ℕ 𝒱₀ c none Set.univ i arg1 harg1 fmM (Memref.isWhole_whole _) arg3 harg3 tabM (Memref.isWhole_whole _) accM (Memref.isWhole_whole _)
      triA (Memref.isWhole_whole _) triB (Memref.isWhole_whole _) bufM (Memref.isWhole_whole _) cc0_scratch5 hh where
  inv k _ := tabInv c XA tA tB k
  step k _ := tabInv_step c XA i arg1 harg1 arg3 harg3 hh tA tB htA htB k

/-- The body. -/
abbrev bodyG : Prog (TpuEff nD τ sig (Elt F) Λ₀ .tc) PUnit :=
  cc0__roipool_kernel i arg1 harg1 fmM (Memref.isWhole_whole _) arg3 harg3 tabM (Memref.isWhole_whole _) accM (Memref.isWhole_whole _)
      triA (Memref.isWhole_whole _) triB (Memref.isWhole_whole _) bufM (Memref.isWhole_whole _) cc0_scratch5

/-- Trip 0 uses slot 0. -/
theorem sl2_0 : Ring.sl 2 0 = 0 := Fin.ext (by rfl)
/-- The trip after it uses slot 1. -/
theorem sl2_1 : Ring.sl 2 (0 + 1) = 1 := Fin.ext (by rfl)
/-- Trip 0 uses block 0. -/
theorem bk_0 : Ring.bk 25 0 = 0 := Fin.ext (by rfl)

/-- The ring before the first trip. -/
theorem ringI_zero (f0 f1) : iprop(homes c XA 0 ∗ flightP c XA 0 0 f0 ∗ slotP c 1 f1 ∗ cellP c 1) ⊢ ringI c XA 0 := by
  rw [ringI_lt c XA 0 (by omega), sl2_0, sl2_1, bk_0]
  iintro ⟨Hh, HF, Hs, Hc⟩
  isplitl [Hh]; · iexact Hh
  isplitl [HF]; · iexists f0; iexact HF
  isplitl [Hs]; · iexists f1; iexact Hs
  iexact Hc

/-- The ring after the last trip: everything is at rest. -/
theorem ringI_end : ringI c XA 25 ⊢ iprop(bigSep Finset.univ (homeP c XA) ∗ (∃ s0, slotP (F := F) c 0 s0) ∗ (∃ s1, slotP (F := F) c 1 s1) ∗ cellP (F := F) c 0 ∗ cellP (F := F) c 1) := by
  rw [ringI_ge c XA 25 (by omega), show Ring.sl 2 25 = 1 from Fin.ext (by rfl), show Ring.sl 2 (25 + 1) = 0 from Fin.ext (by rfl)]
  iintro ⟨Hh, Hs1, Hs0, Hc1, Hc0⟩
  isplitl [Hh]; · iexact Hh
  isplitl [Hs0]; · iexact Hs0
  isplitl [Hs1]; · iexact Hs1
  isplitl [Hc0]; · iexact Hc0
  iexact Hc1

/-- What the ring holds at the end of the loop, slots and counters by name. -/
theorem ringI_end' : ringI c XA k0_t1_loop.trips ⊢ iprop(bigSep Finset.univ (homeP c XA) ∗ (∃ s0, slotP (F := F) c 0 s0) ∗ (∃ s1, slotP (F := F) c 1 s1) ∗ cellP (F := F) c 0 ∗ cellP (F := F) c 1) :=
  (Entails.of_eq (by rw [trips1])).trans (ringI_end c XA)

/-- What the body leaves when the table is built: the table, the block of bins. -/
abbrev BinsOK (g : Buf (Elt F) (arg1.view.loc (c : Thread nD τ))) (f : Buf (Elt F) (arg3.view.loc (c : Thread nD τ))) : Prop :=
  ∀ y : S64x7x7x256.Idx, arg3.view.read (Elt F) f y = outAt (arg1.view.read (Elt F) g) (tabOf (fmOf c XA)) y
abbrev FullTab (T : Buf (Elt F) (tabM.view.loc (c : Thread nD τ))) : Prop := ∀ y : S40401x1x256.Idx, tabM.view.read (Elt F) T y = tabOf (fmOf c XA) y

/-- The last row stored, the table is whole. -/
theorem fullTab_of (T : Buf (Elt F) (tabM.view.loc (c : Thread nD τ))) (A) (h : TabOK c XA 25 T A) :
    FullTab c XA (tabM.view.writes (Elt F) T
      [⟨Rect.unit ![40200, 0, 0] S201x1x256.size inb_S40401x1x256_S201x1x256_40200_0_0,
        k0_pay1 (accM.view.readAt (Elt F) (Rect.unit ![0, 0] S201x256.size inb_S201x256_S201x256_0_0).toLoadRect A)⟩]) := fun y => by
  obtain ⟨hT, hA⟩ := h
  have hy0 : (y 0).val < 40401 := (y 0).isLt
  have hy1 : (y 1).val < 1 := (y 1).isLt
  have hy2 : (y 2).val < 256 := (y 2).isLt
  by_cases hlt : (y 0).val < 40200
  · rw [← hT y (by omega)]
    refine View.read_writes_apply_of_forall_not_mem _ _ y _ ?_
    refine List.forall_mem_cons.mpr ⟨fun hm => ?_, fun _ h => absurd h List.not_mem_nil⟩
    rw [Rect.mem_set_unit] at hm
    have := (hm 0).1
    have e : (![40200, 0, 0] : Fin 3 → ℕ) 0 = 40200 := rfl
    omega
  · refine View.read_writes_apply_of_pieces (Val := Elt F) (e := .f32) tabM.view T (tabOf (fmOf c XA)) _ ?_ y ?_
    · exact List.forall_mem_cons.mpr ⟨tab_piece (r := 200) _ inb_S40401x1x256_S201x1x256_40200_0_0 rfl (by omega) ((View.readAt_full accM.view A _).trans hA),
        fun _ h => absurd h List.not_mem_nil⟩
    · refine ⟨_, List.mem_cons_self, ?_⟩
      rw [Rect.mem_set_unit]
      intro a
      fin_cases a
      · show 40200 ≤ (y 0).val ∧ (y 0).val < 40200 + 201; omega
      · show 0 ≤ (y 1).val ∧ (y 1).val < 0 + 1; omega
      · show 0 ≤ (y 2).val ∧ (y 2).val < 0 + 256; omega

/-- The boxes' loop done, every bin is right. -/
theorem binsOK_of (g T) (hT : FullTab c XA T) (f) (h : OutAt (F := F) c arg1 arg3 k0_t2_loop.trips 0 g T f) : BinsOK c XA arg1 arg3 g f := fun y => by
  have e : (fun x => tabM.view.read (Elt F) T x) = tabOf (fmOf c XA) := funext hT
  rw [← e]
  exact h y (Or.inl (lt_of_lt_of_eq (y 0).isLt trips2.symm))

set_option maxHeartbeats 1000000 in
/-- The body at a later point: the table is there, the block of bins is stored. -/
theorem bodyLater (hn : ¬ k0_cond1 i = 1#1) (g) (hg : WordsOK (F := F) c arg1 g) (T) (hT : FullTab c XA T) (f) :
    iprop(idxP c arg1 g ∗ tabP (F := F) c T ∗ outP c arg3 f)
      ⊢ wp frame (wpE (defs₀ (F := F)) 𝒱₀ (c : Thread nD τ) none) Set.univ (bodyG i arg1 harg1 arg3 harg3)
        (fun _ => iprop(idxP c arg1 g ∗ tabP c T ∗ ∃ f', outP c arg3 f' ∗ ⌜BinsOK c XA arg1 arg3 g f'⌝)) := by
  have h00 : OutAt c arg1 arg3 0 0 g T f := fun y hy => absurd hy (by omega)
  iintro ⟨Hg, HT, HO⟩
  dsimp only [bodyG]
  rw [cc0__roipool_kernel_eq_skeleton]; unfold cc0__roipool_kernel_skel
  let L := loopInvBox c i arg1 harg1 arg3 harg3 g T
  sl_exec
  sl_step
  have hB : BinsOK c XA arg1 arg3 g fL0 := binsOK_of c XA arg1 arg3 g T hT fL0 hL4
  isplitl [Hg]; · iexact Hg
  isplitl [HT]; · iexact HT
  iexists fL0
  isplitl [HO]; · iexact HO
  ipureintro; exact hB

attribute [local sl_canon] sl2_0 sl2_1 bk_0 in
set_option maxHeartbeats 1000000 in
/-- The body at the first point: the table is built, the block of bins is stored. -/
theorem bodyFirst (hh : k0_cond1 i = 1#1) (g) (hg : WordsOK (F := F) c arg1 g) (T A f s0 s1 W) :
    iprop(idxP c arg1 g ∗ tabP (F := F) c T ∗ outP c arg3 f ∗ accP c A ∗ triAP c tA ∗ triBP c tB ∗ slotP c 0 s0 ∗ slotP c 1 s1 ∗ cellP (F := F) c 0 ∗ cellP (F := F) c 1
        ∗ bigSep Finset.univ (homeP c XA) ∗ owes (c : Thread nD τ) 0 W)
      ⊢ wp frame (wpE (defs₀ (F := F)) 𝒱₀ (c : Thread nD τ) none) Set.univ (bodyG i arg1 harg1 arg3 harg3)
        (fun _ => iprop(idxP c arg1 g ∗ (∃ T', tabP c T' ∗ ⌜FullTab c XA T'⌝) ∗ (∃ f', outP c arg3 f' ∗ ⌜BinsOK c XA arg1 arg3 g f'⌝)
          ∗ (∃ A, accP (F := F) c A) ∗ (∃ tA, triAP (F := F) c tA) ∗ (∃ tB, triBP (F := F) c tB) ∗ (∃ s0, slotP (F := F) c 0 s0) ∗ (∃ s1, slotP (F := F) c 1 s1)
          ∗ cellP (F := F) c 0 ∗ cellP (F := F) c 1 ∗ bigSep Finset.univ (homeP c XA) ∗ ∃ W, owes (c : Thread nD τ) 0 W)) := by
  rw [homes_univ c XA 0 (by omega), bk_0]
  iintro ⟨Hg, HT, HO, HA, H6, H7, Hs0, Hs1, Hc0, Hc1, ⟨Hb, Hh⟩, HW⟩
  dsimp only [bodyG]
  rw [cc0__roipool_kernel_eq_skeleton]; unfold cc0__roipool_kernel_skel
  sl_exec
  have hTab : TabOK c XA 0 T (accM.view.writes (Elt F) accM.view.junk bodyFirst.sl.HA_1) := by
    refine ⟨fun y hy => absurd hy (by omega), ?_⟩
    unfold bodyFirst.sl.HA_1
    rw [View.read_writes_full]
    rfl
  have hA30 : triA.view.read (Elt F) (triA.view.writes (Elt F) triA.view.junk bodyFirst.sl.H6_1) = k0_pay30 := by
    unfold bodyFirst.sl.H6_1
    rw [View.read_writes_full]
  have hB31 : triB.view.read (Elt F) (triB.view.writes (Elt F) triB.view.junk bodyFirst.sl.H7_1) = k0_pay31 := by
    unfold bodyFirst.sl.H7_1
    rw [View.read_writes_full]
  ihave HR := (ringI_zero c XA s0 s1) $$ [Hh Hs1 Hc1 Hc0]
  · isplitl [Hh]; · iexact Hh
    isplitl [Hc0]; · iexact Hc0
    isplitl [Hs1]; · iexact Hs1
    iexact Hc1
  let L := loopInvTab c XA i arg1 harg1 arg3 harg3 hh (triA.view.writes (Elt F) triA.view.junk bodyFirst.sl.H6_1) (triB.view.writes (Elt F) triB.view.junk bodyFirst.sl.H7_1) hA30 hB31
  sl_exec
  set T1 : Buf (Elt F) (tabM.view.loc (c : Thread nD τ)) := tabM.view.writes (Elt F) TL0
    [⟨Rect.unit ![40200, 0, 0] S201x1x256.size inb_S40401x1x256_S201x1x256_40200_0_0,
      k0_pay1 (accM.view.readAt (Elt F) (Rect.unit ![0, 0] S201x256.size inb_S201x256_S201x256_0_0).toLoadRect AL1)⟩] with hT1
  have hF : FullTab c XA T1 := fullTab_of c XA TL0 AL1 (trips1 ▸ hL2)
  have h00 : OutAt c arg1 arg3 0 0 g T1 f := fun y hy => absurd hy (by omega)
  ihave HR := (ringI_end' c XA) $$ HR
  icases HR with ⟨Hhome, ⟨%s0', Hs0⟩, ⟨%s1', Hs1⟩, Hc0, Hc1⟩
  clear_value T1
  let L2 := loopInvBox c i arg1 harg1 arg3 harg3 g T1
  sl_exec
  sl_step
  have hB : BinsOK c XA arg1 arg3 g fL0 := binsOK_of c XA arg1 arg3 g T1 hF fL0 hL4
  rw [← bk_0, ← homes_univ c XA 0 (by omega)]
  isplitl [Hg]; · iexact Hg
  isplitl [HT]
  · iexists T1
    isplitl [HT]; · iexact HT
    ipureintro; exact hF
  isplitl [HO]
  · iexists fL0
    isplitl [HO]; · iexact HO
    ipureintro; exact hB
  isplitl [HA]; · iexists _; iexact HA
  isplitl [H6]; · iexists _; iexact H6
  isplitl [H7]; · iexists _; iexact H7
  isplitl [Hs0]; · iexists _; iexact Hs0
  isplitl [Hs1]; · iexists _; iexact Hs1
  isplitl [Hc0]; · iexact Hc0
  isplitl [Hc1]; · iexact Hc1
  isplitl [Hhome]; · iexact Hhome
  iexists _; iexact HW

end Ring

end Cert.KernelIdeal.Hand

end
-- ==== Proof.IdealRegion.lean ====
/- The launch: the buffers cut into the ring's pieces, the pipeline's proof data, the body at each point, the run. -/
module

public import proofs.«01_k».proof.Proof.Gen.KernelIdeal.Frame
public import proofs.«01_k».proof.Proof.Gen.KernelIdeal.Loops
public import proofs.«01_k».proof.Proof.IdealBody
public import Idealize.ShloMosaic.Lib.Pipeline.FrameSuffix
public import Idealize.ShloMosaic.Lib.Pipeline.FrameBody
public import Idealize.ShloMosaic.Lib.Writes
public import Idealize.ShloMosaic.Lib.VecWindow
public import Idealize.ShloMosaic.Lib.Pipeline.Frame
public import Idealize.ShloMosaic.Lib.Tactic
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-! ## The feature map's blocks and the buffer's slots -/

abbrev Gb (b : Fin 25) : Finset S1x256x200x200.Idx := (Rect.unit (s := S1x256x200x200) (blkOff b) S1x256x8x200.size (blkOff_inb b)).set
abbrev Sb (s : Fin 2) : Finset S2x256x8x200.Idx := (Rect.unit (s := S2x256x8x200) (slotOff s) S1x256x8x200.size (slotOff_inb s)).set

/-- A block's cells, seen through its slice, are the block's set. -/
theorem blk_set (b : Fin 25) : (blk b : Memref sig .tc .hbm _ _).view.set = Gb b := (View.set_reshape _ _).trans (View.set_slice_whole _ _)
/-- A slot's cells, seen through its slice, are the slot's set. -/
theorem slot_set (s : Fin 2) : (rslot s : Memref sig .tc .vmem _ _).view.set = Sb s := (View.set_reshape _ _).trans (View.set_slice_whole _ _)

/-- Block `b` is the rows `8 b, …, 8 b + 7`. -/
theorem mem_Gb (b : Fin 25) (y : S1x256x200x200.Idx) : y ∈ Gb b ↔ (y 2).val / 8 = b.val := by
  rw [Rect.mem_set_unit]
  have h0 : (y 0).val < 1 := (y 0).isLt
  have h1 : (y 1).val < 256 := (y 1).isLt
  have h3 : (y 3).val < 200 := (y 3).isLt
  constructor
  · intro H
    have a2 : 8 * b.val ≤ (y 2).val ∧ (y 2).val < 8 * b.val + 8 := H 2
    omega
  · intro H a
    fin_cases a
    · show 0 ≤ (y 0).val ∧ (y 0).val < 0 + 1; omega
    · show 0 ≤ (y 1).val ∧ (y 1).val < 0 + 256; omega
    · show 8 * b.val ≤ (y 2).val ∧ (y 2).val < 8 * b.val + 8; omega
    · show 0 ≤ (y 3).val ∧ (y 3).val < 0 + 200; omega
/-- Slot `s` is the buffer's plane `s`. -/
theorem mem_Sb (s : Fin 2) (y : S2x256x8x200.Idx) : y ∈ Sb s ↔ (y 0).val = s.val := by
  rw [Rect.mem_set_unit]
  have h1 : (y 1).val < 256 := (y 1).isLt
  have h2 : (y 2).val < 8 := (y 2).isLt
  have h3 : (y 3).val < 200 := (y 3).isLt
  constructor
  · intro H
    have a0 : s.val ≤ (y 0).val ∧ (y 0).val < s.val + 1 := H 0
    omega
  · intro H a
    fin_cases a
    · show s.val ≤ (y 0).val ∧ (y 0).val < s.val + 1; omega
    · show 0 ≤ (y 1).val ∧ (y 1).val < 0 + 256; omega
    · show 0 ≤ (y 2).val ∧ (y 2).val < 0 + 8; omega
    · show 0 ≤ (y 3).val ∧ (y 3).val < 0 + 200; omega
/-- Two blocks share no cell. -/
theorem Gb_disjoint : ∀ b b' : Fin 25, b ≠ b' → Disjoint (Gb b) (Gb b') := fun b b' hne =>
  Finset.disjoint_left.mpr fun y hy hy' => hne (Fin.ext (((mem_Gb b y).mp hy).symm.trans ((mem_Gb b' y).mp hy')))
/-- The blocks make up the feature map. -/
theorem Gb_cover : (Finset.univ : Finset (Fin 25)).biUnion Gb = Finset.univ :=
  Finset.eq_univ_of_forall fun y => Finset.mem_biUnion.mpr ⟨⟨(y 2).val / 8, by have : (y 2).val < 200 := (y 2).isLt; omega⟩, Finset.mem_univ _, (mem_Gb _ y).mpr rfl⟩
/-- The two slots share no cell. -/
theorem Sb_disjoint : ∀ s s' : Fin 2, s ≠ s' → Disjoint (Sb s) (Sb s') := fun s s' hne =>
  Finset.disjoint_left.mpr fun y hy hy' => hne (Fin.ext (((mem_Sb s y).mp hy).symm.trans ((mem_Sb s' y).mp hy')))
/-- The slots make up the buffer. -/
theorem Sb_cover : (Finset.univ : Finset (Fin 2)).biUnion Sb = Finset.univ :=
  Finset.eq_univ_of_forall fun y => Finset.mem_biUnion.mpr ⟨⟨(y 0).val, (y 0).isLt⟩, Finset.mem_univ _, (mem_Sb _ y).mpr rfl⟩

/-- A separating product over two indices is the product of its two factors. -/
theorem bigSep_two (Φ : Fin 2 → sProp 𝕄) : bigSep Finset.univ Φ = iprop(Φ 0 ∗ Φ 1) :=
  bigSep_univ_eq_bigSepL [(0 : Fin 2), (1 : Fin 2)] (by decide) (by decide) Φ

/-- The feature map whole is its blocks at home. -/
theorem fm_eq (c : Dev nD) (XA : Buf (Elt F) (fmM.view.loc (c : Thread nD τ))) :
    (((c : Thread nD τ).loc main_arg0) ↦{fullShare} XA : sProp 𝕄) = bigSep Finset.univ (homeP c XA) := by
  rw [Ring.pointsTo_blocks (ℓ := (c : Thread nD τ).loc main_arg0) Gb Gb_disjoint Gb_cover]
  exact bigSep_congr fun b _ => by rw [← blk_set]; rfl
/-- Owning a slot is owning the slot's cells of the buffer. -/
theorem slotP_eq (c : Dev nD) (s : Fin 2) (f) : slotP c s f = (((c : Thread nD τ).loc cc0_scratch4) ↦[Sb s]{fullShare} f : sProp 𝕄) :=
  congrArg (fun S => (_ ↦[S]{fullShare} f : sProp 𝕄)) (slot_set s)
/-- The buffer whole is its two slots, -/
theorem buf_cut (c : Dev nD) :
    iprop(∃ f : Buf (Elt F) ((c : Thread nD τ).loc cc0_scratch4), ((c : Thread nD τ).loc cc0_scratch4) ↦{fullShare} f)
      ⊢ (iprop((∃ f, slotP c 0 f) ∗ ∃ f, slotP c 1 f) : sProp 𝕄) := by
  iintro ⟨%f, H⟩
  ihave H2 := (Entails.of_eq ((Ring.pointsTo_blocks (Ix := Unit) (Name := ℕ) (U := Pipeline.UD sig nD τ) (Lvl := ℕ) (q := fullShare) (ℓ := (c : Thread nD τ).loc cc0_scratch4) Sb Sb_disjoint Sb_cover f).trans (bigSep_two _))) $$ H
  icases H2 with ⟨H0, H1⟩
  isplitl [H0]
  · iexists f; iapply (Entails.of_eq (slotP_eq c 0 f).symm); iexact H0
  · iexists f; iapply (Entails.of_eq (slotP_eq c 1 f).symm); iexact H1
/-- and back. -/
theorem buf_glue (c : Dev nD) :
    iprop((∃ f, slotP c 0 f) ∗ ∃ f, slotP c 1 f)
      ⊢ (iprop(∃ f : Buf (Elt F) ((c : Thread nD τ).loc cc0_scratch4), ((c : Thread nD τ).loc cc0_scratch4) ↦{fullShare} f) : sProp 𝕄) := by
  iintro ⟨⟨%f0, H0⟩, ⟨%f1, H1⟩⟩
  iapply (Ring.pointsTo_blocks_join_exists (ℓ := (c : Thread nD τ).loc cc0_scratch4) Sb Sb_disjoint Sb_cover f0)
  irw [bigSep_two]
  isplitl [H0]
  · iexists f0; iapply (Entails.of_eq (slotP_eq c 0 f0)); iexact H0
  · iexists f1; iapply (Entails.of_eq (slotP_eq c 1 f1)); iexact H1

/-- Owning the table is owning its whole buffer. -/
theorem tabP_eq (c : Dev nD) (f) : tabP c f = (((c : Thread nD τ).loc cc0_scratch0) ↦{fullShare} f : sProp 𝕄) :=
  congrArg (fun S => (_ ↦[S]{fullShare} f : sProp 𝕄)) (View.set_whole _)
/-- Owning the accumulator is owning its whole buffer. -/
theorem accP_eq (c : Dev nD) (f) : accP c f = (((c : Thread nD τ).loc cc0_scratch1) ↦{fullShare} f : sProp 𝕄) :=
  congrArg (fun S => (_ ↦[S]{fullShare} f : sProp 𝕄)) (View.set_whole _)
/-- Owning the first triangular matrix is owning its whole buffer. -/
theorem triAP_eq (c : Dev nD) (f) : triAP c f = (((c : Thread nD τ).loc cc0_scratch2) ↦{fullShare} f : sProp 𝕄) :=
  congrArg (fun S => (_ ↦[S]{fullShare} f : sProp 𝕄)) (View.set_whole _)
/-- Owning the second triangular matrix is owning its whole buffer. -/
theorem triBP_eq (c : Dev nD) (f) : triBP c f = (((c : Thread nD τ).loc cc0_scratch3) ↦{fullShare} f : sProp 𝕄) :=
  congrArg (fun S => (_ ↦[S]{fullShare} f : sProp 𝕄)) (View.set_whole _)

/-! ## The kernel's own cells and its operand in HBM -/

abbrev osem0 : Fin 2 → SemLoc sig := fun s => SemLoc.dma (csm s).sem
/-- The region's own counters are apart from the pipeline's. -/
theorem ownSemFacts0 : Pipeline.OwnSemFacts spec0 osem0 := by decide
/-- The region's own counters are the ring's two. -/
theorem ownSems0_two (c : Dev nD) :
    (Pipeline.ownSems0 (Ix := Unit) (Name := ℕ) (U := Pipeline.UD sig nD τ) (Lvl := ℕ) (Val := Elt F) (τ := τ) osem0 c : sProp 𝕄) = iprop(cellP c 0 ∗ cellP c 1) := by
  unfold Pipeline.ownSems0; rw [bigSep_two]
/-- The feature map: unscoped and no window's array. -/
def H0 : Finset (Ref sig .tc) := {main_arg0}
/-- The feature map is among the references that the windows leave alone. -/
theorem H0_sub : H0 ⊆ Pipeline.restRefs sig spec0 := by decide

section Launch
variable (m : (ℓ : Loc nD τ sig) → Buf (Elt F) ℓ) (ρ : Dev nD → PrngReg)

/-- Holding the feature map is holding all its blocks. -/
theorem H0_pts (c : Dev nD) :
    (bigSep H0 (fun b => ((c : Thread nD τ).loc b) ↦{fullShare} V m c b) : sProp 𝕄) = bigSep Finset.univ (homeP c (V m c main_arg0)) := by
  rw [BI.bigSep_eq_bigSepL_of_eq [main_arg0] (by decide) (by decide), ← fm_eq]; rfl

/-- What passes from point to point, `b` saying whether the table is built. -/
def PhiT (c : Dev nD) (b : Prop) : sProp 𝕄 :=
  iprop((∃ T, tabP (F := F) c T ∗ ⌜b → FullTab c (V m c main_arg0) T⌝) ∗ (∃ A, accP (F := F) c A) ∗ (∃ tA, triAP (F := F) c tA) ∗ (∃ tB, triBP (F := F) c tB)
    ∗ (∃ s0, slotP (F := F) c 0 s0) ∗ (∃ s1, slotP (F := F) c 1 s1) ∗ (∃ r, prngReg c r) ∗ cellP (F := F) c 0 ∗ cellP (F := F) c 1
    ∗ bigSep Finset.univ (homeP c (V m c main_arg0)))

/-- The launch's resources give it, nothing said of the table; -/
theorem PhiT_in (c : Dev nD) (b : Prop) (hb : ¬ b) : Pipeline.ΦD osem0 spec0 H0 (V m) c ⊢ PhiT m c b := by
  rw [Pipeline.ΦD_eq, scopedRest0_eq, ownSems0_two, H0_pts]
  unfold PhiT
  iintro ⟨⟨⟨%T, HT⟩, ⟨%A, HA⟩, ⟨%tA, H6⟩, ⟨%tB, H7⟩, HB⟩, Hp, ⟨Hc0, Hc1⟩, Hh⟩
  ihave HB := (buf_cut c) $$ HB
  icases HB with ⟨Hs0, Hs1⟩
  isplitl [HT]
  · iexists T
    isplitl [HT]; · iapply (Entails.of_eq (tabP_eq c T).symm); iexact HT
    ipureintro; exact fun h => absurd h hb
  isplitl [HA]; · iexists A; iapply (Entails.of_eq (accP_eq c A).symm); iexact HA
  isplitl [H6]; · iexists tA; iapply (Entails.of_eq (triAP_eq c tA).symm); iexact H6
  isplitl [H7]; · iexists tB; iapply (Entails.of_eq (triBP_eq c tB).symm); iexact H7
  isplitl [Hs0]; · iexact Hs0
  isplitl [Hs1]; · iexact Hs1
  isplitl [Hp]; · iexact Hp
  isplitl [Hc0]; · iexact Hc0
  isplitl [Hc1]; · iexact Hc1
  iexact Hh
/-- and it gives them back. -/
theorem PhiT_out (c : Dev nD) (b : Prop) : PhiT m c b ⊢ Pipeline.ΦD osem0 spec0 H0 (V m) c := by
  rw [Pipeline.ΦD_eq, scopedRest0_eq, ownSems0_two, H0_pts]
  unfold PhiT
  iintro ⟨⟨%T, HT, -⟩, ⟨%A, HA⟩, ⟨%tA, H6⟩, ⟨%tB, H7⟩, Hs0, Hs1, Hp, Hc0, Hc1, Hh⟩
  ihave HB := (buf_glue c) $$ [Hs0 Hs1]
  · isplitl [Hs0]; · iexact Hs0
    iexact Hs1
  isplitl [HT HA H6 H7 HB]
  · isplitl [HT]; · iexists T; iapply (Entails.of_eq (tabP_eq c T)); iexact HT
    isplitl [HA]; · iexists A; iapply (Entails.of_eq (accP_eq c A)); iexact HA
    isplitl [H6]; · iexists tA; iapply (Entails.of_eq (triAP_eq c tA)); iexact H6
    isplitl [H7]; · iexists tB; iapply (Entails.of_eq (triBP_eq c tB)); iexact H7
    iexact HB
  isplitl [Hp]; · iexact Hp
  isplitl [Hc0 Hc1]
  · isplitl [Hc0]; · iexact Hc0
    iexact Hc1
  iexact Hh

/-! ## The proof data -/

/-- The bins of point `t`'s boxes, off the index block and the table. -/
def binsAt (c : Dev nD) (t : Fin cfg0.N) : (cfg0.win 1).block.Idx → Elt F (cfg0.win 1).elt :=
  outAt (iblk m c 0 t) (tabOf (fmOf c (V m c main_arg0)))

/-- What the body leaves in each window's buffer at point `t`. -/
def afterW (c : Dev nD) : (w : Fin cfg0.W) → (t : Fin cfg0.N) → (cfg0.win w).block.Idx → Elt F (cfg0.win w).elt
  | 0 => fun t => iblk m c 0 t
  | 1 => fun t => binsAt m c t

def dats (_ : Fin 1) (c : Dev nD) : Dat τ (Elt F) Unit ℕ (Pipeline.UD sig nD τ) ℕ cfg0 c where
  A w := V m c (Pipeline.arrRef spec0 w)
  after w t := afterW m c w t
  Φ p := PhiT m c (0 < p.val)
  q _ := fullShare
  owed _ := 0

/-- Each window starts from what its array holds at the launch. -/
theorem A_eq (c : Dev nD) (w : Fin cfg0.W) : (dats m 0 c).A w = V m c (Pipeline.arrRef spec0 w) := by dsimp only [dats]

/-- Window 0's buffer holds its block at every point. -/
theorem before_idx (c : Dev nD) (t : Fin cfg0.N) (d) : (dats m 0 c).before 0 t d = iblk m c 0 t :=
  ((dats m 0 c).before_in_eq_fetched 0 rfl (fun _ => rfl) (fun _ _ _ => rfl) (fun t => by show iblk m c 0 t = _; unfold Dat.blockOf iblk; rw [A_eq]; try rfl) t d).trans
    (by unfold Dat.fetched Dat.blockOf iblk; rw [A_eq]; try rfl)

/-- The host's index words, as the region finds them, name rows of the table. -/
def IdxOK : Prop := ∀ (c : Dev nD) (t : Fin cfg0.N) y, (iblk m c 0 t y).toNat ≤ 40400

/-- The table is built at the first grid point and at no other. -/
theorem cond1_iff : ∀ t : Fin cfg0.N, k0_cond1 (grid0.coords t) = 1#1 ↔ t.val = 0 := by decide +kernel

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t) ∗ owns (c : Thread nD τ) (st0_1 t) fullShare (binsAt m c t))

set_option maxHeartbeats 1000000 in
/-- The body at every point: the table built at the first, found at the others; the bins' block stored. -/
theorem sound_body (hI : IdxOK m) (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost
  rw [show (dats m 0 c).owesAt () t.succ = (dats m 0 c).owesAt () t.castSucc from rfl,
    show (dats m 0 c).Φ t.castSucc = PhiT m c (0 < t.val) from rfl, show (dats m 0 c).Φ t.succ = PhiT m c (0 < t.val + 1) from rfl]
  unfold Dat.owesAt Pipeline.owesWithin
  rw [show (dats m 0 c).owed t.castSucc = 0 from rfl]
  simp only [before_idx]
  unfold PhiT owns
  iintro ⟨⟨⟨%T, HT, %hT⟩, ⟨%A, HA⟩, ⟨%tA, H6⟩, ⟨%tB, H7⟩, ⟨%s0, Hs0⟩, ⟨%s1, Hs1⟩, Hp, Hc0, Hc1, Hh⟩, ⟨%W, %hW, HO⟩, ⟨%d0, %g, %hg, Hg⟩, ⟨%d1, %f, -, Hf⟩⟩
  have hw : WordsOK (F := F) c (st0_0 t) g := fun y => by rw [hg]; exact hI c t y
  by_cases h0 : t.val = 0
  · iapply (wp_wand_r Idealize.ShloMosaic.frame (wpE (defs₀ (F := F)) 𝒱₀ (c : Thread nD τ) none) Set.univ)
    isplitl [HT HA H6 H7 Hs0 Hs1 Hc0 Hc1 Hh HO Hg Hf]
    · iapply (bodyFirst c (V m c main_arg0) (grid0.coords t) (st0_0 t) (hstage0_0 ((cfg0.slots t 0).cast nbuf0_0)) (st0_1 t) (hstage0_1 ((cfg0.slots t 1).cast nbuf0_1)) tA tB
        ((cond1_iff t).mpr h0) g hw T A f s0 s1 W)
      isplitl [Hg]; · iexact Hg
      isplitl [HT]; · iexact HT
      isplitl [Hf]; · iexact Hf
      isplitl [HA]; · iexact HA
      isplitl [H6]; · iexact H6
      isplitl [H7]; · iexact H7
      isplitl [Hs0]; · iexact Hs0
      isplitl [Hs1]; · iexact Hs1
      isplitl [Hc0]; · iexact Hc0
      isplitl [Hc1]; · iexact Hc1
      isplitl [Hh]; · iexact Hh
      iexact HO
    · iintro %_ ⟨Hg, ⟨%T', HT, %hT'⟩, ⟨%f', Hf, %hf⟩, HA, H6, H7, Hs0, Hs1, Hc0, Hc1, Hh, ⟨%W', HO⟩⟩
      isplitl [HT HA H6 H7 Hs0 Hs1 Hp Hc0 Hc1 Hh]
      · isplitl [HT]
        · iexists T'
          isplitl [HT]; · iexact HT
          ipureintro; exact fun _ => hT'
        isplitl [HA]; · iexact HA
        isplitl [H6]; · iexact H6
        isplitl [H7]; · iexact H7
        isplitl [Hs0]; · iexact Hs0
        isplitl [Hs1]; · iexact Hs1
        isplitl [Hp]; · iexact Hp
        isplitl [Hc0]; · iexact Hc0
        isplitl [Hc1]; · iexact Hc1
        iexact Hh
      isplitl [HO]
      · iexists W'; isplitr; · ipureintro; exact fun _ _ => Or.inl trivial
        iexact HO
      isplitl [Hg]
      · iexists g; isplitr; · ipureintro; exact hg
        iexact Hg
      iexists f'; isplitr; · ipureintro; exact (funext hf).trans (by rw [hg]; rfl)
      iexact Hf
  · iapply (wp_wand_r Idealize.ShloMosaic.frame (wpE (defs₀ (F := F)) 𝒱₀ (c : Thread nD τ) none) Set.univ)
    isplitl [HT Hg Hf]
    · iapply (bodyLater c (V m c main_arg0) (grid0.coords t) (st0_0 t) (hstage0_0 ((cfg0.slots t 0).cast nbuf0_0)) (st0_1 t) (hstage0_1 ((cfg0.slots t 1).cast nbuf0_1))
        (fun h => h0 ((cond1_iff t).mp h)) g hw T (hT (Nat.pos_of_ne_zero h0)) f)
      isplitl [Hg]; · iexact Hg
      isplitl [HT]; · iexact HT
      iexact Hf
    · iintro %_ ⟨Hg, HT, ⟨%f', Hf, %hf⟩⟩
      isplitl [HT HA H6 H7 Hs0 Hs1 Hp Hc0 Hc1 Hh]
      · isplitl [HT]
        · iexists T
          isplitl [HT]; · iexact HT
          ipureintro; exact fun _ => hT (Nat.pos_of_ne_zero h0)
        isplitl [HA]; · iexists A; iexact HA
        isplitl [H6]; · iexists tA; iexact H6
        isplitl [H7]; · iexists tB; iexact H7
        isplitl [Hs0]; · iexists s0; iexact Hs0
        isplitl [Hs1]; · iexists s1; iexact Hs1
        isplitl [Hp]; · iexact Hp
        isplitl [Hc0]; · iexact Hc0
        isplitl [Hc1]; · iexact Hc1
        iexact Hh
      isplitl [HO]
      · iexists W; isplitr; · ipureintro; exact fun _ _ => Or.inl trivial
        iexact HO
      isplitl [Hg]
      · iexists g; isplitr; · ipureintro; exact hg
        iexact Hg
      iexists f'; isplitr; · ipureintro; exact (funext hf).trans (by rw [hg]; rfl)
      iexact Hf

/-- The body called at point `t` is the body at point `t`. -/
theorem defs₀_row (t : Fin cfg0.N) : defs₀ (F := F) .tc cfg0.body (cfg0.bodyArgs t (cfg0.slots t)) = bodyAt0 t := by
  unfold defs₀; rw [Defs.onTc_tc]

/-- The library's body obligation: the triple restated. -/
theorem body_obligation (hI : IdxOK m) (c : Dev nD) :
    BodyObligation (dats (F := F) m 0 c) (defs₀ (F := F)) 𝒱₀ () Set.univ := fun t => by
  rw [bigSep_W0, bigSep_W0, defs₀_row]
  exact triple_restated (sound_body m hI c t) rfl .rfl fun _ => .rfl

/-! ## The run -/

set_option maxHeartbeats 800000 in
theorem hmainD : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] [hostOps1] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- The lines after the region touch the windows' arrays and the other unscoped buffers, the feature map not. -/
theorem sfx_subD : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  refine Pipeline.sub_tailRefsBut _ _ _ op ((List.forall_iff_forall_mem.mp hostOps1_sub) op hop) (fun k => k.elim0) fun b hb => ?_
  rw [H0, Finset.mem_singleton] at hb
  subst hb
  simp only [hostOps1, List.mem_cons, List.mem_nil_iff, or_false] at hop
  rcases hop with rfl | rfl | rfl | rfl
  all_goals
    simp only [StableHlo.unary_bufs, StableHlo.binary_bufs, Finset.mem_insert, Finset.mem_singleton, not_or]
    refine ⟨StableHlo.devRef_ne_of_ne (by decide), ?_⟩
    first | exact StableHlo.devRef_ne_of_ne (by decide) | exact ⟨StableHlo.devRef_ne_of_ne (by decide), StableHlo.devRef_ne_of_ne (by decide)⟩

set_option backward.isDefEq.respectTransparency.types false in
/-- From any memory with zero counters whose index words name rows of the table, every fair run terminates; the output array
    holds what the pipeline wrote back, everything else unscoped what the host lines left, and every counter is zero. -/
theorem run_main (hI : IdxOK m) :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_dma_around (Q' := fun r => Pipeline.FramePost cfgs (dats m) 0 (Pipeline.afterTail₀ cfgs (dats m) 0 (V0 m) [hostOps1]) r ∧ r.2.sem = fun _ => 0)
    cfgs (dats m) (0 : Fin 1) launch0 osem0 defs₀ 𝒱₀ ownSemFacts0 H0 H0_sub m ρ main
    (hbody := fun c => (body_obligation m hI c).loose) (hshare := fun c => (dats m 0 c).share_full fun _ => rfl)
    (howed := fun _ _ => rfl) (V₀ := V0 m) (opss := [hostOps1]) (hsub := sfx_subD) (hfresh := sfx_fresh) (hkeep := sfx_keeps) (hmain := hmainD m) (hA := A_eq m)
    (hin := fun c => PhiT_in m c _ (by simp)) (hout := fun c => PhiT_out m c _) (hQ' := fun _ h => h)

end Launch

end Cert.KernelIdeal.Hand

end
-- ==== Proof.IdealHostVals.lean ====
/- The host's index words before the region, word by word, and their range. -/
module

public import proofs.«01_k».proof.Proof.IdealHost
public import proofs.«01_k».proof.Proof.IdealRegion
public import Idealize.ShloMosaic.Lib.Pointwise
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- What the region's launch finds is the host's sixteen stretches' contents. -/
theorem V0_eq (m : (ℓ : Loc nD τ sig) → Buf (Elt F) ℓ) (c : Dev nD) : V0 m c = HS16 (fun b => m (c, b)) := by
  unfold V0 HS16 HS15 HS14 HS13 HS12 HS11 HS10 HS9 HS8 HS7 HS6 HS5 HS4 HS3 HS2 HS1 HS0
  simp only [List.flatten_cons, List.flatten_nil, StableHlo.after_append, StableHlo.after_nil]

/-- The first column's corner. -/
theorem rv7_at (A : (⟨S1024x4, .f32⟩ : BufTy).Contents (Elt F)) (n : Fin 1024) : rv7 A (ix1 n) = Roi.cl0 (rv4 A (ix2 n 0)) := by
  unfold rv7 rv6 Roi.cl0
  pointwise <;> rfl

/-- The first row's corner. -/
theorem rv10_at (A : (⟨S1024x4, .f32⟩ : BufTy).Contents (Elt F)) (n : Fin 1024) : rv10 A (ix1 n) = Roi.cl0 (rv4 A (ix2 n 1)) := by
  unfold rv10 rv9 Roi.cl0
  pointwise <;> rfl

/-- The second column's corner. -/
theorem rv17_at (A : (⟨S1024x4, .f32⟩ : BufTy).Contents (Elt F)) (n : Fin 1024) :
    rv17 A (ix1 n) = Roi.cl1 (Roi.cl0 (rv4 A (ix2 n 0))) (rv4 A (ix2 n 2)) := by
  rw [← rv7_at]
  unfold rv17 rv16 rv14 Roi.cl1
  pointwise <;> rfl

/-- The second row's corner. -/
theorem rv24_at (A : (⟨S1024x4, .f32⟩ : BufTy).Contents (Elt F)) (n : Fin 1024) :
    rv24 A (ix1 n) = Roi.cl1 (Roi.cl0 (rv4 A (ix2 n 1))) (rv4 A (ix2 n 3)) := by
  rw [← rv10_at]
  unfold rv24 rv23 rv21 Roi.cl1
  pointwise <;> rfl

/-- Bin `i`'s first row. -/
theorem rv37_at (A : (⟨S1024x4, .f32⟩ : BufTy).Contents (Elt F)) (n : Fin 1024) (i : Fin 7) :
    rv37 A (ix2 n i) = Roi.stW (rv10 A (ix1 n)) (rv25 A (ix1 n)) i := by
  have h34 : rv34 A (ix2 n i) = IntOp.muli (BitVec.ofNat 32 i) (rv25 A (ix1 n)) := by
    unfold rv34; pointwise <;> rfl
  have h35 : rv35 A (ix2 n i) = Roi.fd7 (rv34 A (ix2 n i)) := by
    unfold rv35 Roi.fd7 Roi.sgn; pointwise <;> rfl
  unfold Roi.stW
  rw [← h34, ← h35]
  unfold rv37
  pointwise <;> rfl

/-- One past bin `i`'s last row. -/
theorem rv52_at (A : (⟨S1024x4, .f32⟩ : BufTy).Contents (Elt F)) (n : Fin 1024) (i : Fin 7) :
    rv52 A (ix2 n i) = Roi.enW (rv10 A (ix1 n)) (rv25 A (ix1 n)) i := by
  have h34 : rv49 A (ix2 n i) = IntOp.subi (IntOp.addi (IntOp.muli (IntOp.addi (BitVec.ofNat 32 i) 1#32) (rv25 A (ix1 n))) 7#32) 1#32 := by
    unfold rv49; pointwise <;> rfl
  have h35 : rv50 A (ix2 n i) = Roi.fd7 (rv49 A (ix2 n i)) := by
    unfold rv50 Roi.fd7 Roi.sgn; pointwise <;> rfl
  unfold Roi.enW
  rw [← h34, ← h35]
  unfold rv52
  pointwise <;> rfl

/-- Bin `i`'s first column. -/
theorem rv61_at (A : (⟨S1024x4, .f32⟩ : BufTy).Contents (Elt F)) (n : Fin 1024) (i : Fin 7) :
    rv61 A (ix2 n i) = Roi.stW (rv7 A (ix1 n)) (rv26 A (ix1 n)) i := by
  have h34 : rv58 A (ix2 n i) = IntOp.muli (BitVec.ofNat 32 i) (rv26 A (ix1 n)) := by
    unfold rv58; pointwise <;> rfl
  have h35 : rv59 A (ix2 n i) = Roi.fd7 (rv58 A (ix2 n i)) := by
    unfold rv59 Roi.fd7 Roi.sgn; pointwise <;> rfl
  unfold Roi.stW
  rw [← h34, ← h35]
  unfold rv61
  pointwise <;> rfl

/-- One past bin `i`'s last column. -/
theorem rv76_at (A : (⟨S1024x4, .f32⟩ : BufTy).Contents (Elt F)) (n : Fin 1024) (i : Fin 7) :
    rv76 A (ix2 n i) = Roi.enW (rv7 A (ix1 n)) (rv26 A (ix1 n)) i := by
  have h34 : rv73 A (ix2 n i) = IntOp.subi (IntOp.addi (IntOp.muli (IntOp.addi (BitVec.ofNat 32 i) 1#32) (rv26 A (ix1 n))) 7#32) 1#32 := by
    unfold rv73; pointwise <;> rfl
  have h35 : rv74 A (ix2 n i) = Roi.fd7 (rv73 A (ix2 n i)) := by
    unfold rv74 Roi.fd7 Roi.sgn; pointwise <;> rfl
  unfold Roi.enW
  rw [← h34, ← h35]
  unfold rv76
  pointwise <;> rfl

/-- The rows' extent and the columns'. -/
theorem rv25_at (A : (⟨S1024x4, .f32⟩ : BufTy).Contents (Elt F)) (n : Fin 1024) :
    rv25 A (ix1 n) = IntOp.subi (rv24 A (ix1 n)) (rv10 A (ix1 n)) := rfl
/-- The columns' extent. -/
theorem rv26_at (A : (⟨S1024x4, .f32⟩ : BufTy).Contents (Elt F)) (n : Fin 1024) :
    rv26 A (ix1 n) = IntOp.subi (rv17 A (ix1 n)) (rv7 A (ix1 n)) := rfl

/-- The flat position of the table's cell `(a, b)`, as a word. -/
def flatW (a b : BitVec 32) : BitVec 32 := IntOp.addi (IntOp.muli a 201#32) b

/-- The four words of a bin. -/
theorem rv83_at (A : (⟨S1024x4, .f32⟩ : BufTy).Contents (Elt F)) (n : Fin 1024) (i j : Fin 7) :
    rv83 A (ix3 n i j) = flatW (rv52 A (ix2 n i)) (rv76 A (ix2 n j)) := by
  unfold rv83 flatW; pointwise <;> rfl
/-- The second. -/
theorem rv90_at (A : (⟨S1024x4, .f32⟩ : BufTy).Contents (Elt F)) (n : Fin 1024) (i j : Fin 7) :
    rv90 A (ix3 n i j) = flatW (rv37 A (ix2 n i)) (rv76 A (ix2 n j)) := by
  unfold rv90 flatW; pointwise <;> rfl
/-- The third. -/
theorem rv97_at (A : (⟨S1024x4, .f32⟩ : BufTy).Contents (Elt F)) (n : Fin 1024) (i j : Fin 7) :
    rv97 A (ix3 n i j) = flatW (rv52 A (ix2 n i)) (rv61 A (ix2 n j)) := by
  unfold rv97 flatW; pointwise <;> rfl
/-- The fourth. -/
theorem rv104_at (A : (⟨S1024x4, .f32⟩ : BufTy).Contents (Elt F)) (n : Fin 1024) (i j : Fin 7) :
    rv104 A (ix3 n i j) = flatW (rv37 A (ix2 n i)) (rv61 A (ix2 n j)) := by
  unfold rv104 flatW; pointwise <;> rfl

/-- The area of a bin. -/
theorem rv118_at (A : (⟨S1024x4, .f32⟩ : BufTy).Contents (Elt F)) (n : Fin 1024) (i j : Fin 7) :
    rv118 A (ix3 n i j) = FloatOps.sitofp .f32 (IntOp.muli (IntOp.subi (rv52 A (ix2 n i)) (rv37 A (ix2 n i)))
      (IntOp.subi (rv76 A (ix2 n j)) (rv61 A (ix2 n j)))) := by
  unfold rv118; pointwise <;> rfl

/-- The word `k` of a bin. -/
def binW (A : (⟨S1024x4, .f32⟩ : BufTy).Contents (Elt F)) (n : Fin 1024) (i j : Fin 7) (k : Fin 4) : BitVec 32 :=
  flatW (if k.val % 2 = 0 then rv52 A (ix2 n i) else rv37 A (ix2 n i)) (if k.val < 2 then rv76 A (ix2 n j) else rv61 A (ix2 n j))

/-- The concatenated words. -/
theorem rv109_at (A : (⟨S1024x4, .f32⟩ : BufTy).Contents (Elt F)) (n : Fin 1024) (i j : Fin 7) (k : Fin 4) :
    rv109 A (ix4 n i j k) = binW A n i j k := by
  unfold rv109 binW
  fin_cases k
  · exact (rv83_at A n i j) ▸ (by pointwise <;> rfl)
  · exact (rv90_at A n i j) ▸ (by pointwise <;> rfl)
  · exact (rv97_at A n i j) ▸ (by pointwise <;> rfl)
  · exact (rv104_at A n i j) ▸ (by pointwise <;> rfl)

/-- The index words in the region's layout. -/
theorem rv110_at (A : (⟨S1024x4, .f32⟩ : BufTy).Contents (Elt F)) (n : Fin 1024) (i j : Fin 7) (k : Fin 4)
    (y : S1024x1x196.Idx) (h0 : (y 0).val = n.val) (h2 : (y 2).val = 28 * i.val + 4 * j.val + k.val) :
    rv110 A y = binW A n i j k := by
  unfold rv110
  rw [shapeCast_apply _ _ y (ix4 n i j k) ?_, rv109_at]
  rw [Shape.rowMajor_val_four, Shape.rowMajor_val_three]
  have h1 : (y 1).val < 1 := (y 1).isLt
  simp
  omega

/-- Every index word is a cell of the table. -/
theorem binW_le (A : (⟨S1024x4, .f32⟩ : BufTy).Contents (Elt F)) (n : Fin 1024) (i j : Fin 7) (k : Fin 4) :
    (binW A n i j k).toNat ≤ 40400 := by
  have hr := Roi.axis_range (rv4 A (ix2 n 1)) (rv4 A (ix2 n 3)) i i.isLt
  have hc := Roi.axis_range (rv4 A (ix2 n 0)) (rv4 A (ix2 n 2)) j j.isLt
  unfold binW flatW
  rw [rv52_at, rv37_at, rv76_at, rv61_at, rv25_at, rv26_at, rv24_at, rv17_at, rv10_at, rv7_at]
  rw [Roi.flat_toNat]
  · split_ifs <;> omega
  · split_ifs <;> omega
  · split_ifs <;> omega

/-- Every word of the region's index array is a cell of the table. -/
theorem rv110_le (A : (⟨S1024x4, .f32⟩ : BufTy).Contents (Elt F)) (y : S1024x1x196.Idx) : (rv110 A y).toNat ≤ 40400 := by
  have h2 : (y 2).val < 196 := (y 2).isLt
  rw [rv110_at A (y 0) ⟨(y 2).val / 28, by omega⟩ ⟨(y 2).val / 4 % 7, by omega⟩ ⟨(y 2).val % 4, by omega⟩ y rfl (by simp only; omega)]
  exact binW_le A _ _ _ _

/-- The region's index array at its launch. -/
theorem V_idx (m : (ℓ : Loc nD τ sig) → Buf (Elt F) ℓ) (c : Dev nD) : V m c main_v110 = rv110 (m (c, Proc.devRef .tc main_arg1)) := by
  show V0 m c (Proc.devRef .tc main_v110) = _
  rw [V0_eq]
  exact HS16_main_v110 _

/-- The bins' areas at the region's launch. -/
theorem V_area (m : (ℓ : Loc nD τ sig) → Buf (Elt F) ℓ) (c : Dev nD) : V m c main_v118 = rv118 (m (c, Proc.devRef .tc main_arg1)) := by
  show V0 m c (Proc.devRef .tc main_v118) = _
  rw [V0_eq]
  exact HS16_main_v118 _

/-- The words the region reads are cells of the table, whatever the boxes. -/
theorem idxOK (m : (ℓ : Loc nD τ sig) → Buf (Elt F) ℓ) : IdxOK m := by
  intro c t y
  have h := rv110_le (F := F) (m (c, Proc.devRef .tc main_arg1)) (((cfg0.win 0).blk t).view.emb y)
  rw [← V_idx m c] at h
  exact h

end Cert.KernelIdeal.Hand

end
-- ==== Proof.IdealLaunched.lean ====
/- The run from any memory: the arguments end as launched and every counter is back at zero. -/
module

public import proofs.«01_k».proof.Proof.IdealHostVals

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ) (ρ : Dev nD → PrngReg)

/-- The lines after the region leave a buffer they do not write as they found it. -/
theorem tail_keeps (W : Valuation τ sig (Elt F)) (b : Ref sig .tc) (h : ∀ x ∈ [main_v120, main_v121, main_v122, main_v123], b ≠ x) :
    StableHlo.after ([hostOps1].flatten) W (Proc.devRef .tc b) = W (Proc.devRef .tc b) := by
  refine StableHlo.after_of_forall_not_mem (b := Proc.devRef .tc b) _ _ (List.forall_iff_forall_mem.mp ?_)
  simp only [hostOps1, List.flatten_cons, List.flatten_nil, List.append_nil, List.Forall, StableHlo.unary_writes,
    StableHlo.binary_writes, Finset.mem_singleton]
  simp only [List.mem_cons, List.mem_nil_iff, or_false, forall_eq_or_imp, forall_eq] at h
  exact ⟨StableHlo.devRef_ne_of_ne h.1, StableHlo.devRef_ne_of_ne h.2.1, StableHlo.devRef_ne_of_ne h.2.2.1, StableHlo.devRef_ne_of_ne h.2.2.2⟩

/-- An argument the launch finds in place ends in place. -/
theorem arg_ends (b : Ref sig .tc) (hb : b ∈ Pipeline.restRefs sig spec0) (h : ∀ x ∈ [main_v120, main_v121, main_v122, main_v123], b ≠ x)
    (hw : ∀ w, Pipeline.arrRef spec0 w ≠ b) (hV : ∀ c : Dev nD, V m c b = m ((c : Thread nD τ).loc b))
    (r) (hr : Pipeline.FramePost cfgs (dats m) 0 (Pipeline.afterTail₀ cfgs (dats m) 0 (V0 m) [hostOps1]) r) (c : Dev nD) :
    r.2.mem ((c.tc : Thread nD τ).loc b) = m ((c.tc : Thread nD τ).loc b) := by
  refine ((hr c).2 b hb).trans ?_
  unfold Pipeline.afterTail₀
  rw [tail_keeps _ b h, Pipeline.withArrays_of_ne _ c (V0 m c) _ b hw]
  exact hV c

/-- The first argument ends as launched. -/
theorem arg0_ends (r) (hr : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0) :=
  arg_ends m main_arg0 (Pipeline.mem_restRefs_of main_arg0 (by decide) (by decide)) (by decide)
    (by exact (by decide : ∀ w, Pipeline.arrRef spec0 w ≠ main_arg0)) (V_main_arg0 m) r hr c

/-- The second argument ends as launched. -/
theorem arg1_ends (r) (hr : Pipeline.FramePost cfgs (dats m) 0 (Pipeline.afterTail₀ cfgs (dats m) 0 (V0 m) [hostOps1]) r) (c : Dev nD) :
    r.2.mem ((c.tc : Thread nD τ).loc main_arg1) = m ((c.tc : Thread nD τ).loc main_arg1) :=
  arg_ends m main_arg1 (Pipeline.mem_restRefs_of main_arg1 (by decide) (by decide)) (by decide)
    (by exact (by decide : ∀ w, Pipeline.arrRef spec0 w ≠ main_arg1)) (V_main_arg1 m) r hr c

/-- From any memory with zero counters every fair run terminates, the arguments end as launched and every counter is zero. -/
theorem quiet_run : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨arg0_ends m r h.1 c, arg1_ends m r h.1 c⟩, h.2⟩) (run_main m ρ (idxOK m))

end Cert.KernelIdeal.Hand

end
-- ==== Proof.IdealTable.lean ====
/- The table over the extended reals: row by row it is the feature map's rectangle sums. -/
module

public import proofs.«01_k».proof.Proof.IdealRing
public import proofs.«01_k».proof.Proof.IdealBins
public import proofs.«01_k».proof.Proof.Prefix
public import proofs.«01_k».proof.Proof.Words
public import Idealize.ShloMosaic.Lib.Pointwise
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The upper triangle is one below the diagonal. -/
theorem tri_at (k : Fin 129) (l : Fin 128) : (k0_pay30 (F := Ideal)) (ix2 k l) = if l.val < k.val then (1 : EReal) else 0 := by
  unfold k0_pay30
  pointwise
  exact Roi.select_lt l.val k.val (by omega) (by omega) 1 0

/-- The lower triangle likewise. -/
theorem tri'_at (k : Fin 73) (l : Fin 72) : (k0_pay31 (F := Ideal)) (ix2 k l) = if l.val < k.val then (1 : EReal) else 0 := by
  unfold k0_pay31
  pointwise
  exact Roi.select_lt l.val k.val (by omega) (by omega) 1 0

/-- One row's step, in the first rows. -/
theorem step_lo (xa xb tA tB acc) (k : Fin 201) (ch : Fin 256) (hk : k.val < 128) :
    k0_pay7 (F := Ideal) xa xb tA tB acc (ix2 k ch) = acc (ix2 k ch) + ∑ l : Fin 128, tA (ix2 (⟨k.val, by omega⟩ : Fin 129) l) * xa (ix4 0 ch 0 l) := by
  unfold k0_pay7
  pointwise
  rw [dif_pos hk]

/-- One row's step, in the last rows. -/
theorem step_hi (xa xb tA tB acc) (k : Fin 201) (ch : Fin 256) (hk : ¬ k.val < 128) :
    k0_pay7 (F := Ideal) xa xb tA tB acc (ix2 k ch) = acc (ix2 k ch) + (∑ l : Fin 128, tA (ix2 (128 : Fin 129) l) * xa (ix4 0 ch 0 l) + ∑ l : Fin 72, tB (ix2 (⟨k.val - 128, by omega⟩ : Fin 73) l) * xb (ix4 0 ch 0 l)) := by
  unfold k0_pay7
  pointwise
  rw [dif_neg hk]

/-- The first 128 cells of a row. -/
theorem xa_at (fm : S1x256x200x200.Idx → Ideal .f32) (r : ℕ) (ch : Fin 256) (l : Fin 128) :
    xaOf fm r (ix4 0 ch 0 l) = Roi.cell fm ch r l.val := by
  refine congrArg fm (funext fun a => ?_)
  match a with
  | ⟨0, _⟩ => rfl
  | ⟨1, _⟩ => rfl
  | ⟨2, _⟩ => rfl
  | ⟨3, _⟩ => exact Fin.ext (show l.val = l.val % 200 by rw [Nat.mod_eq_of_lt (by omega)])

/-- The last 72. -/
theorem xb_at (fm : S1x256x200x200.Idx → Ideal .f32) (r : ℕ) (ch : Fin 256) (l : Fin 72) :
    xbOf fm r (ix4 0 ch 0 l) = Roi.cell fm ch r (128 + l.val) := by
  refine congrArg fm (funext fun a => ?_)
  match a with
  | ⟨0, _⟩ => rfl
  | ⟨1, _⟩ => rfl
  | ⟨2, _⟩ => rfl
  | ⟨3, _⟩ => exact Fin.ext (show 128 + l.val = (128 + l.val) % 200 by rw [Nat.mod_eq_of_lt (by omega)])

/-- One row adds its prefix sums. -/
theorem step_at (fm : S1x256x200x200.Idx → Ideal .f32) (r : ℕ) (acc : FVec Ideal S201x256 .f32) (k : Fin 201) (ch : Fin 256) :
    k0_pay7 (F := Ideal) (xaOf fm r) (xbOf fm r) (k0_pay30 (F := Ideal)) (k0_pay31 (F := Ideal)) acc (ix2 k ch) = acc (ix2 k ch) + Roi.rowSum fm ch r k.val := by
  have hk := k.isLt
  by_cases h : k.val < 128
  · rw [step_lo _ _ _ _ _ _ _ h]
    congr 1
    simp only [tri_at, xa_at]
    exact Roi.tri_sum 128 k.val (by omega) (Roi.cell fm ch r)
  · rw [step_hi _ _ _ _ _ _ _ h]
    congr 1
    simp only [tri_at, tri'_at, xa_at, xb_at]
    have h1 := Roi.tri_sum 128 128 le_rfl (Roi.cell fm ch r)
    have h2 := Roi.tri_sum 72 (k.val - 128) (by omega) (fun l => Roi.cell fm ch r (128 + l))
    refine (congrArg₂ (· + ·) h1 h2).trans ?_
    unfold Roi.rowSum
    conv_rhs => rw [show k.val = 128 + (k.val - 128) by omega]
    rw [Finset.sum_range_add]

/-- The accumulator before row `r` holds the rectangles of the first `r` rows. -/
theorem acc_at (fm : S1x256x200x200.Idx → Ideal .f32) (r : ℕ) (k : Fin 201) (ch : Fin 256) :
    accN fm r (ix2 k ch) = Roi.rect fm ch r k.val := by
  induction r with
  | zero =>
    unfold accN k0_pay29 Roi.rect
    pointwise
    simp
  | succ r ih =>
    refine (step_at fm r (accN fm r) k ch).trans ?_
    rw [ih]
    unfold Roi.rect
    rw [Finset.sum_range_succ]

/-- The table's row for the cell `(a, b)` holds the rectangle of the first `a` rows and `b` columns. -/
theorem tab_at (fm : S1x256x200x200.Idx → Ideal .f32) (a b : BitVec 32) (ha : a.toNat ≤ 200) (hb : b.toNat ≤ 200) (ch : Fin 256) :
    tabAt (tabOf fm) (IntOp.addi (IntOp.muli a 201#32) b) ch = Roi.rect fm ch a.toNat b.toNat := by
  have hw := Roi.flat_toNat a b ha hb
  generalize IntOp.addi (IntOp.muli a 201#32) b = w at hw
  have hm : w.toNat % 40401 = a.toNat * 201 + b.toNat := by rw [hw]; exact Nat.mod_eq_of_lt (by omega)
  have h1 : (w.toNat % 40401) / 201 = a.toNat := by omega
  have h2 : (w.toNat % 40401) % 201 = b.toNat := by omega
  have := acc_at fm ((w.toNat % 40401) / 201) ⟨(w.toNat % 40401) % 201, Nat.mod_lt _ (by decide)⟩ ch
  rw [show (⟨(w.toNat % 40401) % 201, Nat.mod_lt _ (by decide)⟩ : Fin 201).val = b.toNat from h2] at this
  rw [h1] at this
  refine Eq.trans ?_ this
  unfold tabAt tabOf
  show accN fm ((w.toNat % 40401) / 201) _ = _
  rw [h1]
  refine congrArg _ (funext fun x => ?_)
  match x with
  | ⟨0, _⟩ => rfl
  | ⟨1, _⟩ => rfl

end Cert.KernelIdeal.Hand

end
-- ==== Proof.IdealOut.lean ====
/- The ideal kernel's result, index by index: a bin's mean. -/
module

public import proofs.«01_k».proof.Proof.IdealLaunched
public import proofs.«01_k».proof.Proof.IdealTable
public import proofs.«01_k».proof.Proof.Spec
public import Idealize.ShloMosaic.Lib.Pipeline.Value
public import Idealize.ShloMosaic.Lib.Pipeline.ValueKit.Geometry
public import Idealize.ShloMosaic.Lib.Pointwise
public import Idealize.ShloMosaic.Lib.StableHlo.RunRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ) (ρ : Dev nD → PrngReg)

/-- The boxes a device was launched with. -/
abbrev boxA (c : Dev nD) : (⟨S1024x4, .f32⟩ : BufTy).Contents (Elt Ideal) := m (c, Proc.devRef .tc main_arg1)
/-- The feature map it was launched with. -/
abbrev fmA (c : Dev nD) : S1x256x200x200.Idx → Ideal .f32 := m (c, Proc.devRef .tc main_arg0)

/-- A bin's first row, from the boxes' words. -/
theorem lo_row (A : (⟨S1024x4, .f32⟩ : BufTy).Contents (Elt Ideal)) (n : Fin 1024) (i : Fin 7) :
    rv37 A (ix2 n i) = Roi.lo (rv4 A (ix2 n 1)) (rv4 A (ix2 n 3)) i := by
  rw [rv37_at, rv25_at, rv24_at, rv10_at]; rfl
/-- One past its last row. -/
theorem hi_row (A : (⟨S1024x4, .f32⟩ : BufTy).Contents (Elt Ideal)) (n : Fin 1024) (i : Fin 7) :
    rv52 A (ix2 n i) = Roi.hi (rv4 A (ix2 n 1)) (rv4 A (ix2 n 3)) i := by
  rw [rv52_at, rv25_at, rv24_at, rv10_at]; rfl
/-- A bin's first column. -/
theorem lo_col (A : (⟨S1024x4, .f32⟩ : BufTy).Contents (Elt Ideal)) (n : Fin 1024) (j : Fin 7) :
    rv61 A (ix2 n j) = Roi.lo (rv4 A (ix2 n 0)) (rv4 A (ix2 n 2)) j := by
  rw [rv61_at, rv26_at, rv17_at, rv7_at]; rfl
/-- One past its last column. -/
theorem hi_col (A : (⟨S1024x4, .f32⟩ : BufTy).Contents (Elt Ideal)) (n : Fin 1024) (j : Fin 7) :
    rv76 A (ix2 n j) = Roi.hi (rv4 A (ix2 n 0)) (rv4 A (ix2 n 2)) j := by
  rw [rv76_at, rv26_at, rv17_at, rv7_at]; rfl

/-- The bins' sums: what the region leaves in its output array. -/
def sumsG (c : Dev nD) : S1024x7x7x256.Idx → Ideal .f32 := fun y =>
  Roi.binSum (fmA m c) (y 3) (rv37 (boxA m c) (ix2 (y 0) (y 1))) (rv52 (boxA m c) (ix2 (y 0) (y 1)))
    (rv61 (boxA m c) (ix2 (y 0) (y 2))) (rv76 (boxA m c) (ix2 (y 0) (y 2)))

/-- The two windows move down the boxes together, and stay put on every other axis. -/
theorem index_facts : ∀ t : Fin cfg0.N, (cfg0.win 0).index t (0 : Fin 3) = t.val ∧ (cfg0.win 0).index t (2 : Fin 3) = 0
    ∧ (cfg0.win 1).index t (0 : Fin 4) = t.val ∧ (cfg0.win 1).index t (1 : Fin 4) = 0 ∧ (cfg0.win 1).index t (2 : Fin 4) = 0
    ∧ (cfg0.win 1).index t (3 : Fin 4) = 0 := by decide +kernel

/-- Where the index block of point `t` sits in its array. -/
theorem emb0 (t : Fin cfg0.N) (y : S64x1x196.Idx) :
    ((((cfg0.win 0).blk t).view.emb y : S1024x1x196.Idx) 0).val = t.val * 64 + (y 0).val
      ∧ ((((cfg0.win 0).blk t).view.emb y : S1024x1x196.Idx) 2).val = (y 2).val := by
  have hi := index_facts t
  have h0 := Pipeline.Window.rect_emb_val (cfg0.win 0) t y (0 : Fin 3)
  have h2 := Pipeline.Window.rect_emb_val (cfg0.win 0) t y (2 : Fin 3)
  rw [hi.1] at h0
  rw [hi.2.1, Nat.zero_mul, Nat.zero_add] at h2
  exact ⟨h0, h2⟩

/-- Where the output block of point `t` sits in its array. -/
theorem emb1 (t : Fin cfg0.N) (y : S64x7x7x256.Idx) :
    ((((cfg0.win 1).blk t).view.emb y : S1024x7x7x256.Idx) 0).val = t.val * 64 + (y 0).val
      ∧ ((((cfg0.win 1).blk t).view.emb y : S1024x7x7x256.Idx) 1) = y 1
      ∧ ((((cfg0.win 1).blk t).view.emb y : S1024x7x7x256.Idx) 2) = y 2
      ∧ ((((cfg0.win 1).blk t).view.emb y : S1024x7x7x256.Idx) 3) = y 3 := by
  have hi := index_facts t
  have h0 := Pipeline.Window.rect_emb_val (cfg0.win 1) t y (0 : Fin 4)
  have h1 := Pipeline.Window.rect_emb_val (cfg0.win 1) t y (1 : Fin 4)
  have h2 := Pipeline.Window.rect_emb_val (cfg0.win 1) t y (2 : Fin 4)
  have h3 := Pipeline.Window.rect_emb_val (cfg0.win 1) t y (3 : Fin 4)
  rw [hi.2.2.1] at h0
  rw [hi.2.2.2.1, Nat.zero_mul, Nat.zero_add] at h1
  rw [hi.2.2.2.2.1, Nat.zero_mul, Nat.zero_add] at h2
  rw [hi.2.2.2.2.2, Nat.zero_mul, Nat.zero_add] at h3
  exact ⟨h0, Fin.ext h1, Fin.ext h2, Fin.ext h3⟩

/-- Where in the index block the word of a bin's corner lies. -/
def wordIx (y : S64x7x7x256.Idx) (q : Fin 4) : S64x1x196.Idx :=
  fun | 0 => y 0 | 1 => (0 : Fin 1) | 2 => (⟨28 * (y 1).val + 4 * (y 2).val + q.val, by
    have h1 : (y 1).val < 7 := (y 1).isLt
    have h2 : (y 2).val < 7 := (y 2).isLt
    have := q.isLt; show _ < 196; omega⟩ : Fin 196)

/-- The word that a bin of point `t`'s block reads is the bin's word. -/
theorem word_at (c : Dev nD) (t : Fin cfg0.N) (y : S64x7x7x256.Idx) (q : Fin 4) (n : Fin 1024) (hn : n.val = t.val * 64 + (y 0).val) :
    wordAt (iblk m c 0 t) y q = binW (boxA m c) n (y 1) (y 2) q := by
  have e := emb0 t (wordIx y q)
  refine Eq.trans ?_ (rv110_at (boxA m c) n (y 1) (y 2) q (((cfg0.win 0).blk t).view.emb (wordIx y q)) (e.1.trans hn.symm) e.2)
  rw [← V_idx m c]
  rfl

/-- A table entry at a bin's word is the rectangle sum at the word's cell. -/
theorem look_word (fm : S1x256x200x200.Idx → Ideal .f32) (a b : BitVec 32) (ha : a.toNat ≤ 200) (hb : b.toNat ≤ 200) (ch : Fin 256) :
    tabAt (tabOf fm) (flatW a b) ch = Roi.rect fm ch a.toNat b.toNat := tab_at fm a b ha hb ch

/-- What the body leaves at point `t` for a box and a bin is the bin's sum. -/
theorem bins_core (c : Dev nD) (t : Fin cfg0.N) (y : S64x7x7x256.Idx) (n : Fin 1024) (i j : Fin 7) (ch : Fin 256)
    (e0 : n.val = t.val * 64 + (y 0).val) (h1 : y 1 = i) (h2 : y 2 = j) (h3 : y 3 = ch) :
    binsAt m c t y = Roi.binSum (fmA m c) ch (rv37 (boxA m c) (ix2 n i)) (rv52 (boxA m c) (ix2 n i)) (rv61 (boxA m c) (ix2 n j)) (rv76 (boxA m c) (ix2 n j)) := by
  have hfm : fmOf c (V m c main_arg0) = fmA m c := by
    rw [V_main_arg0]; rfl
  unfold binsAt
  rw [hfm]
  unfold outAt
  rw [word_at m c t y 0 n e0, word_at m c t y 1 n e0, word_at m c t y 2 n e0, word_at m c t y 3 n e0, h1, h2, h3]
  have a : (rv37 (boxA m c) (ix2 n i)).toNat ≤ 200 := by rw [lo_row]; exact Roi.lo_le _ _ _
  have b : (rv52 (boxA m c) (ix2 n i)).toNat ≤ 200 := by rw [hi_row]; exact Roi.hi_le _ _ _
  have c' : (rv61 (boxA m c) (ix2 n j)).toNat ≤ 200 := by rw [lo_col]; exact Roi.lo_le _ _ _
  have d : (rv76 (boxA m c) (ix2 n j)).toNat ≤ 200 := by rw [hi_col]; exact Roi.hi_le _ _ _
  show FloatOps.addf (FloatOps.subf (FloatOps.subf (tabAt (tabOf (fmA m c)) (flatW (rv52 (boxA m c) (ix2 n i)) (rv76 (boxA m c) (ix2 n j))) ch)
    (tabAt (tabOf (fmA m c)) (flatW (rv37 (boxA m c) (ix2 n i)) (rv76 (boxA m c) (ix2 n j))) ch))
    (tabAt (tabOf (fmA m c)) (flatW (rv52 (boxA m c) (ix2 n i)) (rv61 (boxA m c) (ix2 n j))) ch))
    (tabAt (tabOf (fmA m c)) (flatW (rv37 (boxA m c) (ix2 n i)) (rv61 (boxA m c) (ix2 n j))) ch) = _
  rw [look_word _ _ _ b d, look_word _ _ _ a d, look_word _ _ _ b c', look_word _ _ _ a c']
  rfl

/-- What the body leaves at point `t` is block `t` of the bins' sums. -/
theorem bins_at (c : Dev nD) (t : Fin cfg0.N) (y : S64x7x7x256.Idx) : binsAt m c t y = sumsG m c (((cfg0.win 1).blk t).view.emb y) :=
  bins_core m c t y _ _ _ _ (emb1 t y).1 (emb1 t y).2.1.symm (emb1 t y).2.2.1.symm (emb1 t y).2.2.2.symm

/-- The region's output array ends at the bins' sums. -/
theorem out_eq (c : Dev nD) : (dats m 0 c).arrAt 1 cfg0.N = sumsG m c :=
  (dats m 0 c).arrAt_eq_of_covers 1 (sumsG m c) (by decide +kernel) fun t _ y => bins_at m c t y

/-- What the lines after the region make of sums and areas. -/
def tailT (a : S1024x7x7x256.Idx → Ideal .f32) (b : S1024x7x7.Idx → Ideal .f32) : FVec Ideal S1024x256x7x7 .f32 :=
  Host.divf (F := Ideal) (φ := .f32) (transpose S1024x256x7x7 [0, 3, 1, 2] a transposes_S1024x7x7x256_S1024x256x7x7_0_3_1_2)
    (broadcastInDim S1024x256x7x7 ![0, 1, 2, 3] bcast_S1024x1x7x7_S1024x256x7x7_0_1_2_3 (broadcastInDim S1024x1x7x7 ![0, 2, 3] bcast_S1024x7x7_S1024x1x7x7_0_2_3 b))

/-- The bins' sums over their areas. -/
def meansG (c : Dev nD) : FVec Ideal S1024x256x7x7 .f32 := tailT (sumsG m c) (rv118 (boxA m c))

/-- They are the bins' means. -/
theorem means_at (c : Dev nD) (n : Fin 1024) (ch : Fin 256) (i j : Fin 7) :
    meansG m c (ix4 n ch i j) = Roi.binMean (fmA m c) (rv4 (boxA m c)) n ch i j := by
  have h1 : transpose S1024x256x7x7 [0, 3, 1, 2] (sumsG m c) transposes_S1024x7x7x256_S1024x256x7x7_0_3_1_2 (ix4 n ch i j) = sumsG m c (ix4 n i j ch) := by
    pointwise
  have h2 : (broadcastInDim S1024x256x7x7 ![0, 1, 2, 3] bcast_S1024x1x7x7_S1024x256x7x7_0_1_2_3 (broadcastInDim S1024x1x7x7 ![0, 2, 3] bcast_S1024x7x7_S1024x1x7x7_0_2_3 (rv118 (boxA m c)))) (ix4 n ch i j) = rv118 (boxA m c) (ix3 n i j) := by
    pointwise
  show FloatOps.hostDivf (transpose S1024x256x7x7 [0, 3, 1, 2] (sumsG m c) transposes_S1024x7x7x256_S1024x256x7x7_0_3_1_2 (ix4 n ch i j)) ((broadcastInDim S1024x256x7x7 ![0, 1, 2, 3] bcast_S1024x1x7x7_S1024x256x7x7_0_1_2_3 (broadcastInDim S1024x1x7x7 ![0, 2, 3] bcast_S1024x7x7_S1024x1x7x7_0_2_3 (rv118 (boxA m c)))) (ix4 n ch i j)) = _
  rw [h1, h2, rv118_at]
  unfold sumsG
  show FloatOps.hostDivf (Roi.binSum (fmA m c) ch (rv37 (boxA m c) (ix2 n i)) (rv52 (boxA m c) (ix2 n i)) (rv61 (boxA m c) (ix2 n j)) (rv76 (boxA m c) (ix2 n j))) _ = _
  rw [lo_row, hi_row, lo_col, hi_col]
  rfl

/-- The lines after the region, read at the result. -/
theorem tail_read (W : Valuation τ sig (Elt Ideal)) : StableHlo.after ([hostOps1].flatten) W (Proc.devRef .tc main_v123) =
    tailT (W (Proc.devRef .tc main_v119)) (W (Proc.devRef .tc main_v118)) := by
  simp only [List.flatten_cons, List.flatten_nil, List.append_nil]
  after_reads_simp
  rfl

/-- The result ends at the bins' means. -/
theorem result_ends (r) (hr : Pipeline.FramePost cfgs (dats m) 0 (Pipeline.afterTail₀ cfgs (dats m) 0 (V0 m) [hostOps1]) r) (c : Dev nD) :
    r.2.mem ((c.tc : Thread nD τ).loc main_v123) = meansG m c := by
  refine ((hr c).2 main_v123 (Pipeline.mem_restRefs_of main_v123 (by decide) (by decide))).trans ?_
  unfold Pipeline.afterTail₀
  rw [tail_read]
  have h1 := Pipeline.withArrays_arr spec0 (by decide) c (V0 m c) (fun w => (dats m 0 c).arrAt w cfg0.N) 1
  have h2 := Pipeline.withArrays_of_ne spec0 c (V0 m c) (fun w => (dats m 0 c).arrAt w cfg0.N) main_v118 (by decide)
  have h1' := h1.trans (out_eq m c)
  have h2' := h2.trans (V_area m c)
  exact congrArg₂ tailT h1' h2'

/-- The run, with the result read. -/
theorem value_run : θ_run defs (onTc (τ := τ) (main (F := Ideal))) ⟨m, fun _ => 0, ρ⟩ (fun r =>
    ∀ c : Dev nD, r.2.mem ((c.tc : Thread nD τ).loc main_v123) = meansG m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨result_ends m r h.1 c, arg0_ends m r h.1 c, arg1_ends m r h.1 c⟩) (run_main m ρ (idxOK m))

end Cert.KernelIdeal.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.RefRun
public import proofs.«01_k».proof.Proof.RefVals
public import proofs.«01_k».proof.Proof.Launched
public import proofs.«01_k».proof.Proof.IdealLaunched
public import proofs.«01_k».proof.Proof.IdealOut

@[expose] public section

noncomputable section

namespace Cert.Proof

open Idealize.ShloMosaic Idealize.SL.Sem

/-- The kernel runs at the machine's words, leaves its arguments and ends with every counter at zero. -/
theorem frame_kernel : Cert.quiescent_Kernel (hKernel := Cert.Kernel.Gen.facts) := fun m ρ _ =>
  Cert.Kernel.Hand.quiet_run m ρ

/-- So does the ideal kernel, over the extended reals. -/
theorem frame_kernelIdeal : Cert.quiescent_KernelIdeal (hKernelIdeal := Cert.KernelIdeal.Gen.facts) := fun m ρ _ =>
  Cert.KernelIdeal.Hand.quiet_run m ρ

/-- So does the reference, which has no counter at all. -/
theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Hand.run (F := Ideal) m ρ)

/-- An index of the result is its four coordinates. -/
theorem ix4_split (y : Cert.KernelIdeal.S1024x256x7x7.Idx) : ∃ (n : Fin 1024) (ch : Fin 256) (i j : Fin 7), y = ix4 n ch i j :=
  ⟨y 0, y 1, y 2, y 3, funext fun a => match a with
    | ⟨0, _⟩ => rfl
    | ⟨1, _⟩ => rfl
    | ⟨2, _⟩ => rfl
    | ⟨3, _⟩ => rfl⟩

/-- From equal arguments the reference computes the means the ideal kernel leaves. -/
theorem results_agree (m : (ℓ : Loc Cert.KernelIdeal.nD Cert.KernelIdeal.τ Cert.KernelIdeal.sig) → Buf (Elt Ideal) ℓ)
    (c : Dev Cert.KernelIdeal.nD) (W : Valuation Cert.ReferenceIdeal.τ Cert.ReferenceIdeal.sig (Elt Ideal))
    (h0 : W (Proc.devRef .tc Cert.ReferenceIdeal.main_arg0) = Cert.KernelIdeal.Hand.fmA m c)
    (h1 : W (Proc.devRef .tc Cert.ReferenceIdeal.main_arg1) = Cert.KernelIdeal.Hand.boxA m c) :
    Host.divf (Cert.ReferenceIdeal.Hand.res_main_v159 W) (Cert.ReferenceIdeal.Hand.areaT W) = Cert.KernelIdeal.Hand.meansG m c := by
  have hb : Cert.ReferenceIdeal.Hand.boxW W = Cert.KernelIdeal.Hand.rv4 (Cert.KernelIdeal.Hand.boxA m c) := by
    rw [← h1]; rfl
  funext y
  obtain ⟨n, ch, i, j, rfl⟩ := ix4_split y
  rw [Cert.ReferenceIdeal.Hand.result_at, h0, hb]
  exact (Cert.KernelIdeal.Hand.means_at m c n ch i j).symm

/-- Over the extended reals the kernel and the reference, run from equal arguments, leave equal results. -/
theorem algebraic : Cert.algebraic_KernelIdeal_ReferenceIdeal (hKernelIdeal := Cert.KernelIdeal.Gen.facts)
    (hReferenceIdeal := Cert.ReferenceIdeal.Gen.facts) := fun m g m' g' _ hargs =>
  ⟨fun c => Cert.KernelIdeal.Hand.meansG m c, Cert.KernelIdeal.Hand.value_run m g,
    (θ_run Cert.ReferenceIdeal.defs _ _).mono (fun r h c => ⟨(h c).1.trans (results_agree m c _ (hargs c).1 (hargs c).2), (h c).2⟩)
      (Cert.ReferenceIdeal.Hand.run (F := Ideal) m' g')⟩

/-- The certificate. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
